-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S2x44x2x2048 Cert.KernelIdeal.S2x44x1x2048
  ∧ IdealRules.bf16_pair.Statement Cert.KernelIdeal.S16x128 Cert.KernelIdeal.S8x128
  ∧ IdealRules.bf16_pair.PackStatement Cert.KernelIdeal.S8x128
  ∧ IdealRules.bf16_pair.Statement Cert.KernelIdeal.S88x128 Cert.KernelIdeal.S44x128
  ∧ IdealRules.bf16_pair.PackStatement Cert.KernelIdeal.S44x128
  ∧ IdealRules.bf16_pair.Statement Cert.KernelIdeal.S1x44x2x128 Cert.KernelIdeal.S1x44x1x128
  ∧ IdealRules.bf16_pair.Statement Cert.KernelIdeal.S1x1x2x256 Cert.KernelIdeal.S1x1x1x256
  ∧ IdealRules.bf16_pair.Statement Cert.KernelIdeal.S2x256 Cert.KernelIdeal.S1x256
  ∧ IdealRules.bf16_pair.PackStatement Cert.KernelIdeal.S128x256
  ∧ IdealRules.bf16_pair.Statement Cert.KernelIdeal.S256x256 Cert.KernelIdeal.S128x256
  ∧ IdealRules.truncf_extf.Statement Cert.KernelIdeal.S32x256 .f32 .bf16

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1x11264 : Shape := ⟨3, ![16, 1, 11264]⟩
abbrev S11264x2048 : Shape := ⟨2, ![11264, 2048]⟩
abbrev S88x4096 : Shape := ⟨2, ![88, 4096]⟩
abbrev S16x11264 : Shape := ⟨2, ![16, 11264]⟩
abbrev S16x4096 : Shape := ⟨2, ![16, 4096]⟩
abbrev S2x44x2048 : Shape := ⟨3, ![2, 44, 2048]⟩
abbrev S88x32x256 : Shape := ⟨3, ![88, 32, 256]⟩
abbrev S3 : Shape := ⟨1, ![3]⟩
abbrev S2x22 : Shape := ⟨2, ![2, 22]⟩
abbrev S1 : Shape := ⟨1, ![1]⟩
abbrev S_ : Shape := ⟨0, ![]⟩
abbrev S1x1 : Shape := ⟨2, ![1, 1]⟩
abbrev S512x2048 : Shape := ⟨2, ![512, 2048]⟩
abbrev S32x256 : Shape := ⟨2, ![32, 256]⟩
abbrev S8x128 : Shape := ⟨2, ![8, 128]⟩
abbrev S16x128 : Shape := ⟨2, ![16, 128]⟩
abbrev S8x128x1 : Shape := ⟨3, ![8, 128, 1]⟩
abbrev S1x16x128 : Shape := ⟨3, ![1, 16, 128]⟩
abbrev S44x128 : Shape := ⟨2, ![44, 128]⟩
abbrev S88x128 : Shape := ⟨2, ![88, 128]⟩
abbrev S44x128x1 : Shape := ⟨3, ![44, 128, 1]⟩
abbrev S1x44x128 : Shape := ⟨3, ![1, 44, 128]⟩
abbrev S128x256 : Shape := ⟨2, ![128, 256]⟩
abbrev S256x256 : Shape := ⟨2, ![256, 256]⟩
abbrev S1x1x256 : Shape := ⟨3, ![1, 1, 256]⟩
abbrev S1x256 : Shape := ⟨2, ![1, 256]⟩
abbrev S1x32x256 : Shape := ⟨3, ![1, 32, 256]⟩
abbrev S16x128x1 : Shape := ⟨3, ![16, 128, 1]⟩
abbrev S16x1x4096 : Shape := ⟨3, ![16, 1, 4096]⟩

abbrev nBuf : Space → Nat
  | .hbm => 8
  | .vmem => 9
  | .smem => 0
  | _ => 0

abbrev bufTy : (tb : Table) → Fin (tcTables nBuf tb) → BufTy
  | .hbm, ⟨0, _⟩ => ⟨S16x1x11264, .bf16⟩
  | .hbm, ⟨1, _⟩ => ⟨S11264x2048, .i8⟩
  | .hbm, ⟨2, _⟩ => ⟨S88x4096, .bf16⟩
  | .hbm, ⟨3, _⟩ => ⟨S11264x2048, .i8⟩
  | .hbm, ⟨4, _⟩ => ⟨S88x4096, .bf16⟩
  | .hbm, ⟨5, _⟩ => ⟨S16x11264, .bf16⟩
  | .hbm, ⟨6, _⟩ => ⟨S16x4096, .bf16⟩
  | .hbm, ⟨7, _⟩ => ⟨S16x1x4096, .bf16⟩
  | .local _ .vmem, ⟨0, _⟩ => ⟨S16x4096, .bf16⟩
  | .local _ .vmem, ⟨1, _⟩ => ⟨S16x11264, .bf16⟩
  | .local _ .vmem, ⟨2, _⟩ => ⟨S11264x2048, .i8⟩
  | .local _ .vmem, ⟨3, _⟩ => ⟨S11264x2048, .i8⟩
  | .local _ .vmem, ⟨4, _⟩ => ⟨S88x4096, .bf16⟩
  | .local _ .vmem, ⟨5, _⟩ => ⟨S88x4096, .bf16⟩
  | .local _ .vmem, ⟨6, _⟩ => ⟨S2x44x2048, .i32⟩
  | .local _ .vmem, ⟨7, _⟩ => ⟨S2x44x2048, .i32⟩
  | .local _ .vmem, ⟨8, _⟩ => ⟨S88x32x256, .bf16⟩
  | _, _ => ⟨S16x1x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_sem0_0 : DmaSem sig := 0

abbrev nD : Nat := 1
abbrev τ : Topo := Topo.v7x

variable {F : FTy → Type} [BitOps F]

abbrev grid0 : Pipeline.Grid := .none

@[reducible] def k0_t1_loop : Scf.Loop 32 :=
  let c0_i32_6216_r0 : BitVec 32 := 0#32
  let c22_i32_r0 : BitVec 32 := 22#32
  let v16247_r0 : BitVec 32 := Scalar.addi c0_i32_6216_r0 c22_i32_r0
  let c1_i32_6217_r0 : BitVec 32 := 1#32
  ⟨c0_i32_6216_r0, v16247_r0, c1_i32_6217_r0⟩
def k0_off1 (k0_t1 : Fin k0_t1_loop.trips) : Fin 2 → Nat :=
  let c0_i32_6892_r0 : BitVec 32 := 0#32
  let c0_i32_6216_r0 : BitVec 32 := 0#32
  let c1_i32_6217_r0 : BitVec 32 := 1#32
  let arg16_r0 : BitVec 32 := Scf.iv c0_i32_6216_r0 c1_i32_6217_r0 k0_t1
  ![0, arg16_r0.toNat]
def k0_off2 (k0_t1 : Fin k0_t1_loop.trips) : Fin 2 → Nat :=
  let c0_i32_6216_r0 : BitVec 32 := 0#32
  let c1_i32_6217_r0 : BitVec 32 := 1#32
  let arg16_r0 : BitVec 32 := Scf.iv c0_i32_6216_r0 c1_i32_6217_r0 k0_t1
  let c512_i32_6891_r0 : BitVec 32 := 512#32
  let v18354_r0 : BitVec 32 := Scalar.muli arg16_r0 c512_i32_6891_r0
  let c0_i32_6893_r0 : BitVec 32 := 0#32
  ![v18354_r0.toNat, 0]
def k0_off3 (k0_t1 : Fin k0_t1_loop.trips) : Fin 2 → Nat :=
  let c1_i32_6895_r0 : BitVec 32 := 1#32
  let c0_i32_6216_r0 : BitVec 32 := 0#32
  let c1_i32_6217_r0 : BitVec 32 := 1#32
  let arg16_r0 : BitVec 32 := Scf.iv c0_i32_6216_r0 c1_i32_6217_r0 k0_t1
  ![1, arg16_r0.toNat]
def k0_mult1 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let c0_i32_6899_r0 : BitVec 32 := 0#32
  let v18364_r0 : BitVec 32 := Scalar.addi v18363_r0 c0_i32_6899_r0
  let c128_i32_6907_r0 : BitVec 32 := 128#32
  let v18382_r0 : BitVec 32 := Scalar.muli v18364_r0 c128_i32_6907_r0
  v18382_r0
def k0_off4 (k0_t1 : Fin k0_t1_loop.trips) (c0_i32_6899_r0 : BitVec 32) : Fin 2 → Nat :=
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let v18364_r0 : BitVec 32 := Scalar.addi v18363_r0 c0_i32_6899_r0
  let c128_i32_6907_r0 : BitVec 32 := 128#32
  let v18382_r0 : BitVec 32 := Scalar.muli v18364_r0 c128_i32_6907_r0
  let v18383_r0 : BitVec 32 := v18382_r0
  let v18384_r0 : Index := Scalar.indexCast v18383_r0
  let c0_6908_r0 : Index := 0#32
  ![v18384_r0.toNat, 0]
def k0_off5 (k0_t1 : Fin k0_t1_loop.trips) (c0_i32_6899_r0 : BitVec 32) : Fin 3 → Nat :=
  let c0_6913_r0 : Index := 0#32
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let v18364_r0 : BitVec 32 := Scalar.addi v18363_r0 c0_i32_6899_r0
  let c0_i32_6901_r0 : BitVec 32 := 0#32
  let v18366_r0 : BitVec 1 := Scalar.cmpi .sgt v18364_r0 c0_i32_6901_r0
  let v18367_r0 : BitVec 32 := Scalar.extui v18366_r0
  let c0_i32_6902_r0 : BitVec 32 := 0#32
  let v18368_r0 : BitVec 1 := Scalar.cmpi .slt v18364_r0 c0_i32_6902_r0
  let v18369_r0 : BitVec 32 := Scalar.extui v18368_r0
  let v18370_r0 : BitVec 32 := Scalar.subi v18367_r0 v18369_r0
  let c2_i32_6900_r0 : BitVec 32 := 2#32
  let c0_i32_6903_r0 : BitVec 32 := 0#32
  let v18371_r0 : BitVec 1 := Scalar.cmpi .sgt c2_i32_6900_r0 c0_i32_6903_r0
  let v18372_r0 : BitVec 32 := Scalar.extui v18371_r0
  let c0_i32_6904_r0 : BitVec 32 := 0#32
  let v18373_r0 : BitVec 1 := Scalar.cmpi .slt c2_i32_6900_r0 c0_i32_6904_r0
  let v18374_r0 : BitVec 32 := Scalar.extui v18373_r0
  let v18375_r0 : BitVec 32 := Scalar.subi v18372_r0 v18374_r0
  let v18376_r0 : BitVec 1 := Scalar.cmpi .ne v18370_r0 v18375_r0
  let v18377_r0 : BitVec 32 := Scalar.remsi v18364_r0 c2_i32_6900_r0
  let c0_i32_6905_r0 : BitVec 32 := 0#32
  let v18378_r0 : BitVec 1 := Scalar.cmpi .ne v18377_r0 c0_i32_6905_r0
  let v18379_r0 : BitVec 1 := Scalar.andi v18376_r0 v18378_r0
  let v18365_r0 : BitVec 32 := Scalar.divsi v18364_r0 c2_i32_6900_r0
  let c1_i32_6906_r0 : BitVec 32 := 1#32
  let v18380_r0 : BitVec 32 := Scalar.subi v18365_r0 c1_i32_6906_r0
  let v18381_r0 : BitVec 32 := Scalar.select v18379_r0 v18380_r0 v18365_r0
  let v18404_r0 : Index := Scalar.indexCast v18381_r0
  let c0_6914_r0 : Index := 0#32
  ![0, v18404_r0.toNat, 0]
def k0_off6 (k0_t1 : Fin k0_t1_loop.trips) (c0_i32_6899_r0 : BitVec 32) : Fin 3 → Nat :=
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let v18364_r0 : BitVec 32 := Scalar.addi v18363_r0 c0_i32_6899_r0
  let v18420_r0 : Index := Scalar.indexCast v18364_r0
  let c0_6917_r0 : Index := 0#32
  let c0_6918_r0 : Index := 0#32
  ![v18420_r0.toNat, 0, 0]
def k0_mult2 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let c0_i32_6899_r0 : BitVec 32 := 0#32
  let v18364_r0 : BitVec 32 := Scalar.addi v18363_r0 c0_i32_6899_r0
  let c128_i32_6926_r0 : BitVec 32 := 128#32
  let v18440_r0 : BitVec 32 := Scalar.muli v18364_r0 c128_i32_6926_r0
  v18440_r0
def k0_mult3 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let c0_i32_6899_r0 : BitVec 32 := 0#32
  let v18364_r0 : BitVec 32 := Scalar.addi v18363_r0 c0_i32_6899_r0
  let c128_i32_6947_r0 : BitVec 32 := 128#32
  let v18498_r0 : BitVec 32 := Scalar.muli v18364_r0 c128_i32_6947_r0
  v18498_r0
def k0_off7 (k0_t1 : Fin k0_t1_loop.trips) (c0_i32_6899_r0 : BitVec 32) : Fin 2 → Nat :=
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let v18364_r0 : BitVec 32 := Scalar.addi v18363_r0 c0_i32_6899_r0
  let c128_i32_6947_r0 : BitVec 32 := 128#32
  let v18498_r0 : BitVec 32 := Scalar.muli v18364_r0 c128_i32_6947_r0
  let v18499_r0 : BitVec 32 := v18498_r0
  let v18500_r0 : Index := Scalar.indexCast v18499_r0
  let c256_6948_r0 : Index := 256#32
  ![v18500_r0.toNat, 256]
def k0_off8 (k0_t1 : Fin k0_t1_loop.trips) (c0_i32_6899_r0 : BitVec 32) : Fin 3 → Nat :=
  let c0_6955_r0 : Index := 0#32
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let v18364_r0 : BitVec 32 := Scalar.addi v18363_r0 c0_i32_6899_r0
  let c0_i32_6941_r0 : BitVec 32 := 0#32
  let v18482_r0 : BitVec 1 := Scalar.cmpi .sgt v18364_r0 c0_i32_6941_r0
  let v18483_r0 : BitVec 32 := Scalar.extui v18482_r0
  let c0_i32_6942_r0 : BitVec 32 := 0#32
  let v18484_r0 : BitVec 1 := Scalar.cmpi .slt v18364_r0 c0_i32_6942_r0
  let v18485_r0 : BitVec 32 := Scalar.extui v18484_r0
  let v18486_r0 : BitVec 32 := Scalar.subi v18483_r0 v18485_r0
  let c2_i32_6940_r0 : BitVec 32 := 2#32
  let c0_i32_6943_r0 : BitVec 32 := 0#32
  let v18487_r0 : BitVec 1 := Scalar.cmpi .sgt c2_i32_6940_r0 c0_i32_6943_r0
  let v18488_r0 : BitVec 32 := Scalar.extui v18487_r0
  let c0_i32_6944_r0 : BitVec 32 := 0#32
  let v18489_r0 : BitVec 1 := Scalar.cmpi .slt c2_i32_6940_r0 c0_i32_6944_r0
  let v18490_r0 : BitVec 32 := Scalar.extui v18489_r0
  let v18491_r0 : BitVec 32 := Scalar.subi v18488_r0 v18490_r0
  let v18492_r0 : BitVec 1 := Scalar.cmpi .ne v18486_r0 v18491_r0
  let v18493_r0 : BitVec 32 := Scalar.remsi v18364_r0 c2_i32_6940_r0
  let c0_i32_6945_r0 : BitVec 32 := 0#32
  let v18494_r0 : BitVec 1 := Scalar.cmpi .ne v18493_r0 c0_i32_6945_r0
  let v18495_r0 : BitVec 1 := Scalar.andi v18492_r0 v18494_r0
  let v18481_r0 : BitVec 32 := Scalar.divsi v18364_r0 c2_i32_6940_r0
  let c1_i32_6946_r0 : BitVec 32 := 1#32
  let v18496_r0 : BitVec 32 := Scalar.subi v18481_r0 c1_i32_6946_r0
  let v18497_r0 : BitVec 32 := Scalar.select v18495_r0 v18496_r0 v18481_r0
  let v18520_r0 : Index := Scalar.indexCast v18497_r0
  let c256_6956_r0 : Index := 256#32
  ![0, v18520_r0.toNat, 256]
def k0_mult4 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let c0_i32_6899_r0 : BitVec 32 := 0#32
  let v18364_r0 : BitVec 32 := Scalar.addi v18363_r0 c0_i32_6899_r0
  let c128_i32_6968_r0 : BitVec 32 := 128#32
  let v18556_r0 : BitVec 32 := Scalar.muli v18364_r0 c128_i32_6968_r0
  v18556_r0
def k0_mult5 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let c0_i32_6899_r0 : BitVec 32 := 0#32
  let v18364_r0 : BitVec 32 := Scalar.addi v18363_r0 c0_i32_6899_r0
  let c128_i32_6989_r0 : BitVec 32 := 128#32
  let v18614_r0 : BitVec 32 := Scalar.muli v18364_r0 c128_i32_6989_r0
  v18614_r0
def k0_off9 (k0_t1 : Fin k0_t1_loop.trips) (c0_i32_6899_r0 : BitVec 32) : Fin 2 → Nat :=
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let v18364_r0 : BitVec 32 := Scalar.addi v18363_r0 c0_i32_6899_r0
  let c128_i32_6989_r0 : BitVec 32 := 128#32
  let v18614_r0 : BitVec 32 := Scalar.muli v18364_r0 c128_i32_6989_r0
  let v18615_r0 : BitVec 32 := v18614_r0
  let v18616_r0 : Index := Scalar.indexCast v18615_r0
  let c512_6990_r0 : Index := 512#32
  ![v18616_r0.toNat, 512]
def k0_off10 (k0_t1 : Fin k0_t1_loop.trips) (c0_i32_6899_r0 : BitVec 32) : Fin 3 → Nat :=
  let c0_6997_r0 : Index := 0#32
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let v18364_r0 : BitVec 32 := Scalar.addi v18363_r0 c0_i32_6899_r0
  let c0_i32_6983_r0 : BitVec 32 := 0#32
  let v18598_r0 : BitVec 1 := Scalar.cmpi .sgt v18364_r0 c0_i32_6983_r0
  let v18599_r0 : BitVec 32 := Scalar.extui v18598_r0
  let c0_i32_6984_r0 : BitVec 32 := 0#32
  let v18600_r0 : BitVec 1 := Scalar.cmpi .slt v18364_r0 c0_i32_6984_r0
  let v18601_r0 : BitVec 32 := Scalar.extui v18600_r0
  let v18602_r0 : BitVec 32 := Scalar.subi v18599_r0 v18601_r0
  let c2_i32_6982_r0 : BitVec 32 := 2#32
  let c0_i32_6985_r0 : BitVec 32 := 0#32
  let v18603_r0 : BitVec 1 := Scalar.cmpi .sgt c2_i32_6982_r0 c0_i32_6985_r0
  let v18604_r0 : BitVec 32 := Scalar.extui v18603_r0
  let c0_i32_6986_r0 : BitVec 32 := 0#32
  let v18605_r0 : BitVec 1 := Scalar.cmpi .slt c2_i32_6982_r0 c0_i32_6986_r0
  let v18606_r0 : BitVec 32 := Scalar.extui v18605_r0
  let v18607_r0 : BitVec 32 := Scalar.subi v18604_r0 v18606_r0
  let v18608_r0 : BitVec 1 := Scalar.cmpi .ne v18602_r0 v18607_r0
  let v18609_r0 : BitVec 32 := Scalar.remsi v18364_r0 c2_i32_6982_r0
  let c0_i32_6987_r0 : BitVec 32 := 0#32
  let v18610_r0 : BitVec 1 := Scalar.cmpi .ne v18609_r0 c0_i32_6987_r0
  let v18611_r0 : BitVec 1 := Scalar.andi v18608_r0 v18610_r0
  let v18597_r0 : BitVec 32 := Scalar.divsi v18364_r0 c2_i32_6982_r0
  let c1_i32_6988_r0 : BitVec 32 := 1#32
  let v18612_r0 : BitVec 32 := Scalar.subi v18597_r0 c1_i32_6988_r0
  let v18613_r0 : BitVec 32 := Scalar.select v18611_r0 v18612_r0 v18597_r0
  let v18636_r0 : Index := Scalar.indexCast v18613_r0
  let c512_6998_r0 : Index := 512#32
  ![0, v18636_r0.toNat, 512]
def k0_mult6 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let c0_i32_6899_r0 : BitVec 32 := 0#32
  let v18364_r0 : BitVec 32 := Scalar.addi v18363_r0 c0_i32_6899_r0
  let c128_i32_7010_r0 : BitVec 32 := 128#32
  let v18672_r0 : BitVec 32 := Scalar.muli v18364_r0 c128_i32_7010_r0
  v18672_r0
def k0_mult7 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let c0_i32_6899_r0 : BitVec 32 := 0#32
  let v18364_r0 : BitVec 32 := Scalar.addi v18363_r0 c0_i32_6899_r0
  let c128_i32_7031_r0 : BitVec 32 := 128#32
  let v18730_r0 : BitVec 32 := Scalar.muli v18364_r0 c128_i32_7031_r0
  v18730_r0
def k0_off11 (k0_t1 : Fin k0_t1_loop.trips) (c0_i32_6899_r0 : BitVec 32) : Fin 2 → Nat :=
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let v18364_r0 : BitVec 32 := Scalar.addi v18363_r0 c0_i32_6899_r0
  let c128_i32_7031_r0 : BitVec 32 := 128#32
  let v18730_r0 : BitVec 32 := Scalar.muli v18364_r0 c128_i32_7031_r0
  let v18731_r0 : BitVec 32 := v18730_r0
  let v18732_r0 : Index := Scalar.indexCast v18731_r0
  let c768_7032_r0 : Index := 768#32
  ![v18732_r0.toNat, 768]
def k0_off12 (k0_t1 : Fin k0_t1_loop.trips) (c0_i32_6899_r0 : BitVec 32) : Fin 3 → Nat :=
  let c0_7039_r0 : Index := 0#32
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let v18364_r0 : BitVec 32 := Scalar.addi v18363_r0 c0_i32_6899_r0
  let c0_i32_7025_r0 : BitVec 32 := 0#32
  let v18714_r0 : BitVec 1 := Scalar.cmpi .sgt v18364_r0 c0_i32_7025_r0
  let v18715_r0 : BitVec 32 := Scalar.extui v18714_r0
  let c0_i32_7026_r0 : BitVec 32 := 0#32
  let v18716_r0 : BitVec 1 := Scalar.cmpi .slt v18364_r0 c0_i32_7026_r0
  let v18717_r0 : BitVec 32 := Scalar.extui v18716_r0
  let v18718_r0 : BitVec 32 := Scalar.subi v18715_r0 v18717_r0
  let c2_i32_7024_r0 : BitVec 32 := 2#32
  let c0_i32_7027_r0 : BitVec 32 := 0#32
  let v18719_r0 : BitVec 1 := Scalar.cmpi .sgt c2_i32_7024_r0 c0_i32_7027_r0
  let v18720_r0 : BitVec 32 := Scalar.extui v18719_r0
  let c0_i32_7028_r0 : BitVec 32 := 0#32
  let v18721_r0 : BitVec 1 := Scalar.cmpi .slt c2_i32_7024_r0 c0_i32_7028_r0
  let v18722_r0 : BitVec 32 := Scalar.extui v18721_r0
  let v18723_r0 : BitVec 32 := Scalar.subi v18720_r0 v18722_r0
  let v18724_r0 : BitVec 1 := Scalar.cmpi .ne v18718_r0 v18723_r0
  let v18725_r0 : BitVec 32 := Scalar.remsi v18364_r0 c2_i32_7024_r0
  let c0_i32_7029_r0 : BitVec 32 := 0#32
  let v18726_r0 : BitVec 1 := Scalar.cmpi .ne v18725_r0 c0_i32_7029_r0
  let v18727_r0 : BitVec 1 := Scalar.andi v18724_r0 v18726_r0
  let v18713_r0 : BitVec 32 := Scalar.divsi v18364_r0 c2_i32_7024_r0
  let c1_i32_7030_r0 : BitVec 32 := 1#32
  let v18728_r0 : BitVec 32 := Scalar.subi v18713_r0 c1_i32_7030_r0
  let v18729_r0 : BitVec 32 := Scalar.select v18727_r0 v18728_r0 v18713_r0
  let v18752_r0 : Index := Scalar.indexCast v18729_r0
  let c768_7040_r0 : Index := 768#32
  ![0, v18752_r0.toNat, 768]
def k0_mult8 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let c0_i32_6899_r0 : BitVec 32 := 0#32
  let v18364_r0 : BitVec 32 := Scalar.addi v18363_r0 c0_i32_6899_r0
  let c128_i32_7052_r0 : BitVec 32 := 128#32
  let v18788_r0 : BitVec 32 := Scalar.muli v18364_r0 c128_i32_7052_r0
  v18788_r0
def k0_mult9 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let c0_i32_6899_r0 : BitVec 32 := 0#32
  let v18364_r0 : BitVec 32 := Scalar.addi v18363_r0 c0_i32_6899_r0
  let c128_i32_7073_r0 : BitVec 32 := 128#32
  let v18846_r0 : BitVec 32 := Scalar.muli v18364_r0 c128_i32_7073_r0
  v18846_r0
def k0_off13 (k0_t1 : Fin k0_t1_loop.trips) (c0_i32_6899_r0 : BitVec 32) : Fin 2 → Nat :=
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let v18364_r0 : BitVec 32 := Scalar.addi v18363_r0 c0_i32_6899_r0
  let c128_i32_7073_r0 : BitVec 32 := 128#32
  let v18846_r0 : BitVec 32 := Scalar.muli v18364_r0 c128_i32_7073_r0
  let v18847_r0 : BitVec 32 := v18846_r0
  let v18848_r0 : Index := Scalar.indexCast v18847_r0
  let c1024_7074_r0 : Index := 1024#32
  ![v18848_r0.toNat, 1024]
def k0_off14 (k0_t1 : Fin k0_t1_loop.trips) (c0_i32_6899_r0 : BitVec 32) : Fin 3 → Nat :=
  let c0_7081_r0 : Index := 0#32
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let v18364_r0 : BitVec 32 := Scalar.addi v18363_r0 c0_i32_6899_r0
  let c0_i32_7067_r0 : BitVec 32 := 0#32
  let v18830_r0 : BitVec 1 := Scalar.cmpi .sgt v18364_r0 c0_i32_7067_r0
  let v18831_r0 : BitVec 32 := Scalar.extui v18830_r0
  let c0_i32_7068_r0 : BitVec 32 := 0#32
  let v18832_r0 : BitVec 1 := Scalar.cmpi .slt v18364_r0 c0_i32_7068_r0
  let v18833_r0 : BitVec 32 := Scalar.extui v18832_r0
  let v18834_r0 : BitVec 32 := Scalar.subi v18831_r0 v18833_r0
  let c2_i32_7066_r0 : BitVec 32 := 2#32
  let c0_i32_7069_r0 : BitVec 32 := 0#32
  let v18835_r0 : BitVec 1 := Scalar.cmpi .sgt c2_i32_7066_r0 c0_i32_7069_r0
  let v18836_r0 : BitVec 32 := Scalar.extui v18835_r0
  let c0_i32_7070_r0 : BitVec 32 := 0#32
  let v18837_r0 : BitVec 1 := Scalar.cmpi .slt c2_i32_7066_r0 c0_i32_7070_r0
  let v18838_r0 : BitVec 32 := Scalar.extui v18837_r0
  let v18839_r0 : BitVec 32 := Scalar.subi v18836_r0 v18838_r0
  let v18840_r0 : BitVec 1 := Scalar.cmpi .ne v18834_r0 v18839_r0
  let v18841_r0 : BitVec 32 := Scalar.remsi v18364_r0 c2_i32_7066_r0
  let c0_i32_7071_r0 : BitVec 32 := 0#32
  let v18842_r0 : BitVec 1 := Scalar.cmpi .ne v18841_r0 c0_i32_7071_r0
  let v18843_r0 : BitVec 1 := Scalar.andi v18840_r0 v18842_r0
  let v18829_r0 : BitVec 32 := Scalar.divsi v18364_r0 c2_i32_7066_r0
  let c1_i32_7072_r0 : BitVec 32 := 1#32
  let v18844_r0 : BitVec 32 := Scalar.subi v18829_r0 c1_i32_7072_r0
  let v18845_r0 : BitVec 32 := Scalar.select v18843_r0 v18844_r0 v18829_r0
  let v18868_r0 : Index := Scalar.indexCast v18845_r0
  let c1024_7082_r0 : Index := 1024#32
  ![0, v18868_r0.toNat, 1024]
def k0_mult10 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let c0_i32_6899_r0 : BitVec 32 := 0#32
  let v18364_r0 : BitVec 32 := Scalar.addi v18363_r0 c0_i32_6899_r0
  let c128_i32_7094_r0 : BitVec 32 := 128#32
  let v18904_r0 : BitVec 32 := Scalar.muli v18364_r0 c128_i32_7094_r0
  v18904_r0
def k0_mult11 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let c0_i32_6899_r0 : BitVec 32 := 0#32
  let v18364_r0 : BitVec 32 := Scalar.addi v18363_r0 c0_i32_6899_r0
  let c128_i32_7115_r0 : BitVec 32 := 128#32
  let v18962_r0 : BitVec 32 := Scalar.muli v18364_r0 c128_i32_7115_r0
  v18962_r0
def k0_off15 (k0_t1 : Fin k0_t1_loop.trips) (c0_i32_6899_r0 : BitVec 32) : Fin 2 → Nat :=
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let v18364_r0 : BitVec 32 := Scalar.addi v18363_r0 c0_i32_6899_r0
  let c128_i32_7115_r0 : BitVec 32 := 128#32
  let v18962_r0 : BitVec 32 := Scalar.muli v18364_r0 c128_i32_7115_r0
  let v18963_r0 : BitVec 32 := v18962_r0
  let v18964_r0 : Index := Scalar.indexCast v18963_r0
  let c1280_7116_r0 : Index := 1280#32
  ![v18964_r0.toNat, 1280]
def k0_off16 (k0_t1 : Fin k0_t1_loop.trips) (c0_i32_6899_r0 : BitVec 32) : Fin 3 → Nat :=
  let c0_7123_r0 : Index := 0#32
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let v18364_r0 : BitVec 32 := Scalar.addi v18363_r0 c0_i32_6899_r0
  let c0_i32_7109_r0 : BitVec 32 := 0#32
  let v18946_r0 : BitVec 1 := Scalar.cmpi .sgt v18364_r0 c0_i32_7109_r0
  let v18947_r0 : BitVec 32 := Scalar.extui v18946_r0
  let c0_i32_7110_r0 : BitVec 32 := 0#32
  let v18948_r0 : BitVec 1 := Scalar.cmpi .slt v18364_r0 c0_i32_7110_r0
  let v18949_r0 : BitVec 32 := Scalar.extui v18948_r0
  let v18950_r0 : BitVec 32 := Scalar.subi v18947_r0 v18949_r0
  let c2_i32_7108_r0 : BitVec 32 := 2#32
  let c0_i32_7111_r0 : BitVec 32 := 0#32
  let v18951_r0 : BitVec 1 := Scalar.cmpi .sgt c2_i32_7108_r0 c0_i32_7111_r0
  let v18952_r0 : BitVec 32 := Scalar.extui v18951_r0
  let c0_i32_7112_r0 : BitVec 32 := 0#32
  let v18953_r0 : BitVec 1 := Scalar.cmpi .slt c2_i32_7108_r0 c0_i32_7112_r0
  let v18954_r0 : BitVec 32 := Scalar.extui v18953_r0
  let v18955_r0 : BitVec 32 := Scalar.subi v18952_r0 v18954_r0
  let v18956_r0 : BitVec 1 := Scalar.cmpi .ne v18950_r0 v18955_r0
  let v18957_r0 : BitVec 32 := Scalar.remsi v18364_r0 c2_i32_7108_r0
  let c0_i32_7113_r0 : BitVec 32 := 0#32
  let v18958_r0 : BitVec 1 := Scalar.cmpi .ne v18957_r0 c0_i32_7113_r0
  let v18959_r0 : BitVec 1 := Scalar.andi v18956_r0 v18958_r0
  let v18945_r0 : BitVec 32 := Scalar.divsi v18364_r0 c2_i32_7108_r0
  let c1_i32_7114_r0 : BitVec 32 := 1#32
  let v18960_r0 : BitVec 32 := Scalar.subi v18945_r0 c1_i32_7114_r0
  let v18961_r0 : BitVec 32 := Scalar.select v18959_r0 v18960_r0 v18945_r0
  let v18984_r0 : Index := Scalar.indexCast v18961_r0
  let c1280_7124_r0 : Index := 1280#32
  ![0, v18984_r0.toNat, 1280]
def k0_mult12 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let c0_i32_6899_r0 : BitVec 32 := 0#32
  let v18364_r0 : BitVec 32 := Scalar.addi v18363_r0 c0_i32_6899_r0
  let c128_i32_7136_r0 : BitVec 32 := 128#32
  let v19020_r0 : BitVec 32 := Scalar.muli v18364_r0 c128_i32_7136_r0
  v19020_r0
def k0_mult13 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let c0_i32_6899_r0 : BitVec 32 := 0#32
  let v18364_r0 : BitVec 32 := Scalar.addi v18363_r0 c0_i32_6899_r0
  let c128_i32_7157_r0 : BitVec 32 := 128#32
  let v19078_r0 : BitVec 32 := Scalar.muli v18364_r0 c128_i32_7157_r0
  v19078_r0
def k0_off17 (k0_t1 : Fin k0_t1_loop.trips) (c0_i32_6899_r0 : BitVec 32) : Fin 2 → Nat :=
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let v18364_r0 : BitVec 32 := Scalar.addi v18363_r0 c0_i32_6899_r0
  let c128_i32_7157_r0 : BitVec 32 := 128#32
  let v19078_r0 : BitVec 32 := Scalar.muli v18364_r0 c128_i32_7157_r0
  let v19079_r0 : BitVec 32 := v19078_r0
  let v19080_r0 : Index := Scalar.indexCast v19079_r0
  let c1536_7158_r0 : Index := 1536#32
  ![v19080_r0.toNat, 1536]
def k0_off18 (k0_t1 : Fin k0_t1_loop.trips) (c0_i32_6899_r0 : BitVec 32) : Fin 3 → Nat :=
  let c0_7165_r0 : Index := 0#32
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let v18364_r0 : BitVec 32 := Scalar.addi v18363_r0 c0_i32_6899_r0
  let c0_i32_7151_r0 : BitVec 32 := 0#32
  let v19062_r0 : BitVec 1 := Scalar.cmpi .sgt v18364_r0 c0_i32_7151_r0
  let v19063_r0 : BitVec 32 := Scalar.extui v19062_r0
  let c0_i32_7152_r0 : BitVec 32 := 0#32
  let v19064_r0 : BitVec 1 := Scalar.cmpi .slt v18364_r0 c0_i32_7152_r0
  let v19065_r0 : BitVec 32 := Scalar.extui v19064_r0
  let v19066_r0 : BitVec 32 := Scalar.subi v19063_r0 v19065_r0
  let c2_i32_7150_r0 : BitVec 32 := 2#32
  let c0_i32_7153_r0 : BitVec 32 := 0#32
  let v19067_r0 : BitVec 1 := Scalar.cmpi .sgt c2_i32_7150_r0 c0_i32_7153_r0
  let v19068_r0 : BitVec 32 := Scalar.extui v19067_r0
  let c0_i32_7154_r0 : BitVec 32 := 0#32
  let v19069_r0 : BitVec 1 := Scalar.cmpi .slt c2_i32_7150_r0 c0_i32_7154_r0
  let v19070_r0 : BitVec 32 := Scalar.extui v19069_r0
  let v19071_r0 : BitVec 32 := Scalar.subi v19068_r0 v19070_r0
  let v19072_r0 : BitVec 1 := Scalar.cmpi .ne v19066_r0 v19071_r0
  let v19073_r0 : BitVec 32 := Scalar.remsi v18364_r0 c2_i32_7150_r0
  let c0_i32_7155_r0 : BitVec 32 := 0#32
  let v19074_r0 : BitVec 1 := Scalar.cmpi .ne v19073_r0 c0_i32_7155_r0
  let v19075_r0 : BitVec 1 := Scalar.andi v19072_r0 v19074_r0
  let v19061_r0 : BitVec 32 := Scalar.divsi v18364_r0 c2_i32_7150_r0
  let c1_i32_7156_r0 : BitVec 32 := 1#32
  let v19076_r0 : BitVec 32 := Scalar.subi v19061_r0 c1_i32_7156_r0
  let v19077_r0 : BitVec 32 := Scalar.select v19075_r0 v19076_r0 v19061_r0
  let v19100_r0 : Index := Scalar.indexCast v19077_r0
  let c1536_7166_r0 : Index := 1536#32
  ![0, v19100_r0.toNat, 1536]
def k0_mult14 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let c0_i32_6899_r0 : BitVec 32 := 0#32
  let v18364_r0 : BitVec 32 := Scalar.addi v18363_r0 c0_i32_6899_r0
  let c128_i32_7178_r0 : BitVec 32 := 128#32
  let v19136_r0 : BitVec 32 := Scalar.muli v18364_r0 c128_i32_7178_r0
  v19136_r0
def k0_mult15 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let c0_i32_6899_r0 : BitVec 32 := 0#32
  let v18364_r0 : BitVec 32 := Scalar.addi v18363_r0 c0_i32_6899_r0
  let c128_i32_7199_r0 : BitVec 32 := 128#32
  let v19194_r0 : BitVec 32 := Scalar.muli v18364_r0 c128_i32_7199_r0
  v19194_r0
def k0_off19 (k0_t1 : Fin k0_t1_loop.trips) (c0_i32_6899_r0 : BitVec 32) : Fin 2 → Nat :=
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let v18364_r0 : BitVec 32 := Scalar.addi v18363_r0 c0_i32_6899_r0
  let c128_i32_7199_r0 : BitVec 32 := 128#32
  let v19194_r0 : BitVec 32 := Scalar.muli v18364_r0 c128_i32_7199_r0
  let v19195_r0 : BitVec 32 := v19194_r0
  let v19196_r0 : Index := Scalar.indexCast v19195_r0
  let c1792_7200_r0 : Index := 1792#32
  ![v19196_r0.toNat, 1792]
def k0_off20 (k0_t1 : Fin k0_t1_loop.trips) (c0_i32_6899_r0 : BitVec 32) : Fin 3 → Nat :=
  let c0_7207_r0 : Index := 0#32
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let v18364_r0 : BitVec 32 := Scalar.addi v18363_r0 c0_i32_6899_r0
  let c0_i32_7193_r0 : BitVec 32 := 0#32
  let v19178_r0 : BitVec 1 := Scalar.cmpi .sgt v18364_r0 c0_i32_7193_r0
  let v19179_r0 : BitVec 32 := Scalar.extui v19178_r0
  let c0_i32_7194_r0 : BitVec 32 := 0#32
  let v19180_r0 : BitVec 1 := Scalar.cmpi .slt v18364_r0 c0_i32_7194_r0
  let v19181_r0 : BitVec 32 := Scalar.extui v19180_r0
  let v19182_r0 : BitVec 32 := Scalar.subi v19179_r0 v19181_r0
  let c2_i32_7192_r0 : BitVec 32 := 2#32
  let c0_i32_7195_r0 : BitVec 32 := 0#32
  let v19183_r0 : BitVec 1 := Scalar.cmpi .sgt c2_i32_7192_r0 c0_i32_7195_r0
  let v19184_r0 : BitVec 32 := Scalar.extui v19183_r0
  let c0_i32_7196_r0 : BitVec 32 := 0#32
  let v19185_r0 : BitVec 1 := Scalar.cmpi .slt c2_i32_7192_r0 c0_i32_7196_r0
  let v19186_r0 : BitVec 32 := Scalar.extui v19185_r0
  let v19187_r0 : BitVec 32 := Scalar.subi v19184_r0 v19186_r0
  let v19188_r0 : BitVec 1 := Scalar.cmpi .ne v19182_r0 v19187_r0
  let v19189_r0 : BitVec 32 := Scalar.remsi v18364_r0 c2_i32_7192_r0
  let c0_i32_7197_r0 : BitVec 32 := 0#32
  let v19190_r0 : BitVec 1 := Scalar.cmpi .ne v19189_r0 c0_i32_7197_r0
  let v19191_r0 : BitVec 1 := Scalar.andi v19188_r0 v19190_r0
  let v19177_r0 : BitVec 32 := Scalar.divsi v18364_r0 c2_i32_7192_r0
  let c1_i32_7198_r0 : BitVec 32 := 1#32
  let v19192_r0 : BitVec 32 := Scalar.subi v19177_r0 c1_i32_7198_r0
  let v19193_r0 : BitVec 32 := Scalar.select v19191_r0 v19192_r0 v19177_r0
  let v19216_r0 : Index := Scalar.indexCast v19193_r0
  let c1792_7208_r0 : Index := 1792#32
  ![0, v19216_r0.toNat, 1792]
def k0_mult16 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let c0_i32_6899_r0 : BitVec 32 := 0#32
  let v18364_r0 : BitVec 32 := Scalar.addi v18363_r0 c0_i32_6899_r0
  let c128_i32_7220_r0 : BitVec 32 := 128#32
  let v19252_r0 : BitVec 32 := Scalar.muli v18364_r0 c128_i32_7220_r0
  v19252_r0
def k0_mult17 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7234_r0 : BitVec 32 := 4#32
  let v19293_r0 : BitVec 32 := Scalar.muli arg16_r0 c4_i32_7234_r0
  let c1_i32_7235_r0 : BitVec 32 := 1#32
  let v19294_r0 : BitVec 32 := Scalar.addi v19293_r0 c1_i32_7235_r0
  let c128_i32_7243_r0 : BitVec 32 := 128#32
  let v19312_r0 : BitVec 32 := Scalar.muli v19294_r0 c128_i32_7243_r0
  v19312_r0
def k0_off21 (k0_t1 : Fin k0_t1_loop.trips) (c1_i32_7235_r0 : BitVec 32) : Fin 3 → Nat :=
  let c1_7251_r0 : Index := 1#32
  let c0_i32_6216_r0 : BitVec 32 := 0#32
  let c1_i32_6217_r0 : BitVec 32 := 1#32
  let arg16_r0 : BitVec 32 := Scf.iv c0_i32_6216_r0 c1_i32_6217_r0 k0_t1
  let c4_i32_7234_r0 : BitVec 32 := 4#32
  let v19293_r0 : BitVec 32 := Scalar.muli arg16_r0 c4_i32_7234_r0
  let v19294_r0 : BitVec 32 := Scalar.addi v19293_r0 c1_i32_7235_r0
  let c0_i32_7237_r0 : BitVec 32 := 0#32
  let v19296_r0 : BitVec 1 := Scalar.cmpi .sgt v19294_r0 c0_i32_7237_r0
  let v19297_r0 : BitVec 32 := Scalar.extui v19296_r0
  let c0_i32_7238_r0 : BitVec 32 := 0#32
  let v19298_r0 : BitVec 1 := Scalar.cmpi .slt v19294_r0 c0_i32_7238_r0
  let v19299_r0 : BitVec 32 := Scalar.extui v19298_r0
  let v19300_r0 : BitVec 32 := Scalar.subi v19297_r0 v19299_r0
  let c2_i32_7236_r0 : BitVec 32 := 2#32
  let c0_i32_7239_r0 : BitVec 32 := 0#32
  let v19301_r0 : BitVec 1 := Scalar.cmpi .sgt c2_i32_7236_r0 c0_i32_7239_r0
  let v19302_r0 : BitVec 32 := Scalar.extui v19301_r0
  let c0_i32_7240_r0 : BitVec 32 := 0#32
  let v19303_r0 : BitVec 1 := Scalar.cmpi .slt c2_i32_7236_r0 c0_i32_7240_r0
  let v19304_r0 : BitVec 32 := Scalar.extui v19303_r0
  let v19305_r0 : BitVec 32 := Scalar.subi v19302_r0 v19304_r0
  let v19306_r0 : BitVec 1 := Scalar.cmpi .ne v19300_r0 v19305_r0
  let v19307_r0 : BitVec 32 := Scalar.remsi v19294_r0 c2_i32_7236_r0
  let c0_i32_7241_r0 : BitVec 32 := 0#32
  let v19308_r0 : BitVec 1 := Scalar.cmpi .ne v19307_r0 c0_i32_7241_r0
  let v19309_r0 : BitVec 1 := Scalar.andi v19306_r0 v19308_r0
  let v19295_r0 : BitVec 32 := Scalar.divsi v19294_r0 c2_i32_7236_r0
  let c1_i32_7242_r0 : BitVec 32 := 1#32
  let v19310_r0 : BitVec 32 := Scalar.subi v19295_r0 c1_i32_7242_r0
  let v19311_r0 : BitVec 32 := Scalar.select v19309_r0 v19310_r0 v19295_r0
  let v19334_r0 : Index := Scalar.indexCast v19311_r0
  let c0_7252_r0 : Index := 0#32
  ![1, v19334_r0.toNat, 0]
def k0_mult18 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7234_r0 : BitVec 32 := 4#32
  let v19293_r0 : BitVec 32 := Scalar.muli arg16_r0 c4_i32_7234_r0
  let c1_i32_7235_r0 : BitVec 32 := 1#32
  let v19294_r0 : BitVec 32 := Scalar.addi v19293_r0 c1_i32_7235_r0
  let c128_i32_7264_r0 : BitVec 32 := 128#32
  let v19370_r0 : BitVec 32 := Scalar.muli v19294_r0 c128_i32_7264_r0
  v19370_r0
def k0_mult19 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7234_r0 : BitVec 32 := 4#32
  let v19293_r0 : BitVec 32 := Scalar.muli arg16_r0 c4_i32_7234_r0
  let c1_i32_7235_r0 : BitVec 32 := 1#32
  let v19294_r0 : BitVec 32 := Scalar.addi v19293_r0 c1_i32_7235_r0
  let c128_i32_7285_r0 : BitVec 32 := 128#32
  let v19428_r0 : BitVec 32 := Scalar.muli v19294_r0 c128_i32_7285_r0
  v19428_r0
def k0_off22 (k0_t1 : Fin k0_t1_loop.trips) (c1_i32_7235_r0 : BitVec 32) : Fin 3 → Nat :=
  let c1_7293_r0 : Index := 1#32
  let c0_i32_6216_r0 : BitVec 32 := 0#32
  let c1_i32_6217_r0 : BitVec 32 := 1#32
  let arg16_r0 : BitVec 32 := Scf.iv c0_i32_6216_r0 c1_i32_6217_r0 k0_t1
  let c4_i32_7234_r0 : BitVec 32 := 4#32
  let v19293_r0 : BitVec 32 := Scalar.muli arg16_r0 c4_i32_7234_r0
  let v19294_r0 : BitVec 32 := Scalar.addi v19293_r0 c1_i32_7235_r0
  let c0_i32_7279_r0 : BitVec 32 := 0#32
  let v19412_r0 : BitVec 1 := Scalar.cmpi .sgt v19294_r0 c0_i32_7279_r0
  let v19413_r0 : BitVec 32 := Scalar.extui v19412_r0
  let c0_i32_7280_r0 : BitVec 32 := 0#32
  let v19414_r0 : BitVec 1 := Scalar.cmpi .slt v19294_r0 c0_i32_7280_r0
  let v19415_r0 : BitVec 32 := Scalar.extui v19414_r0
  let v19416_r0 : BitVec 32 := Scalar.subi v19413_r0 v19415_r0
  let c2_i32_7278_r0 : BitVec 32 := 2#32
  let c0_i32_7281_r0 : BitVec 32 := 0#32
  let v19417_r0 : BitVec 1 := Scalar.cmpi .sgt c2_i32_7278_r0 c0_i32_7281_r0
  let v19418_r0 : BitVec 32 := Scalar.extui v19417_r0
  let c0_i32_7282_r0 : BitVec 32 := 0#32
  let v19419_r0 : BitVec 1 := Scalar.cmpi .slt c2_i32_7278_r0 c0_i32_7282_r0
  let v19420_r0 : BitVec 32 := Scalar.extui v19419_r0
  let v19421_r0 : BitVec 32 := Scalar.subi v19418_r0 v19420_r0
  let v19422_r0 : BitVec 1 := Scalar.cmpi .ne v19416_r0 v19421_r0
  let v19423_r0 : BitVec 32 := Scalar.remsi v19294_r0 c2_i32_7278_r0
  let c0_i32_7283_r0 : BitVec 32 := 0#32
  let v19424_r0 : BitVec 1 := Scalar.cmpi .ne v19423_r0 c0_i32_7283_r0
  let v19425_r0 : BitVec 1 := Scalar.andi v19422_r0 v19424_r0
  let v19411_r0 : BitVec 32 := Scalar.divsi v19294_r0 c2_i32_7278_r0
  let c1_i32_7284_r0 : BitVec 32 := 1#32
  let v19426_r0 : BitVec 32 := Scalar.subi v19411_r0 c1_i32_7284_r0
  let v19427_r0 : BitVec 32 := Scalar.select v19425_r0 v19426_r0 v19411_r0
  let v19450_r0 : Index := Scalar.indexCast v19427_r0
  let c256_7294_r0 : Index := 256#32
  ![1, v19450_r0.toNat, 256]
def k0_mult20 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7234_r0 : BitVec 32 := 4#32
  let v19293_r0 : BitVec 32 := Scalar.muli arg16_r0 c4_i32_7234_r0
  let c1_i32_7235_r0 : BitVec 32 := 1#32
  let v19294_r0 : BitVec 32 := Scalar.addi v19293_r0 c1_i32_7235_r0
  let c128_i32_7306_r0 : BitVec 32 := 128#32
  let v19486_r0 : BitVec 32 := Scalar.muli v19294_r0 c128_i32_7306_r0
  v19486_r0
def k0_mult21 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7234_r0 : BitVec 32 := 4#32
  let v19293_r0 : BitVec 32 := Scalar.muli arg16_r0 c4_i32_7234_r0
  let c1_i32_7235_r0 : BitVec 32 := 1#32
  let v19294_r0 : BitVec 32 := Scalar.addi v19293_r0 c1_i32_7235_r0
  let c128_i32_7327_r0 : BitVec 32 := 128#32
  let v19544_r0 : BitVec 32 := Scalar.muli v19294_r0 c128_i32_7327_r0
  v19544_r0
def k0_off23 (k0_t1 : Fin k0_t1_loop.trips) (c1_i32_7235_r0 : BitVec 32) : Fin 3 → Nat :=
  let c1_7335_r0 : Index := 1#32
  let c0_i32_6216_r0 : BitVec 32 := 0#32
  let c1_i32_6217_r0 : BitVec 32 := 1#32
  let arg16_r0 : BitVec 32 := Scf.iv c0_i32_6216_r0 c1_i32_6217_r0 k0_t1
  let c4_i32_7234_r0 : BitVec 32 := 4#32
  let v19293_r0 : BitVec 32 := Scalar.muli arg16_r0 c4_i32_7234_r0
  let v19294_r0 : BitVec 32 := Scalar.addi v19293_r0 c1_i32_7235_r0
  let c0_i32_7321_r0 : BitVec 32 := 0#32
  let v19528_r0 : BitVec 1 := Scalar.cmpi .sgt v19294_r0 c0_i32_7321_r0
  let v19529_r0 : BitVec 32 := Scalar.extui v19528_r0
  let c0_i32_7322_r0 : BitVec 32 := 0#32
  let v19530_r0 : BitVec 1 := Scalar.cmpi .slt v19294_r0 c0_i32_7322_r0
  let v19531_r0 : BitVec 32 := Scalar.extui v19530_r0
  let v19532_r0 : BitVec 32 := Scalar.subi v19529_r0 v19531_r0
  let c2_i32_7320_r0 : BitVec 32 := 2#32
  let c0_i32_7323_r0 : BitVec 32 := 0#32
  let v19533_r0 : BitVec 1 := Scalar.cmpi .sgt c2_i32_7320_r0 c0_i32_7323_r0
  let v19534_r0 : BitVec 32 := Scalar.extui v19533_r0
  let c0_i32_7324_r0 : BitVec 32 := 0#32
  let v19535_r0 : BitVec 1 := Scalar.cmpi .slt c2_i32_7320_r0 c0_i32_7324_r0
  let v19536_r0 : BitVec 32 := Scalar.extui v19535_r0
  let v19537_r0 : BitVec 32 := Scalar.subi v19534_r0 v19536_r0
  let v19538_r0 : BitVec 1 := Scalar.cmpi .ne v19532_r0 v19537_r0
  let v19539_r0 : BitVec 32 := Scalar.remsi v19294_r0 c2_i32_7320_r0
  let c0_i32_7325_r0 : BitVec 32 := 0#32
  let v19540_r0 : BitVec 1 := Scalar.cmpi .ne v19539_r0 c0_i32_7325_r0
  let v19541_r0 : BitVec 1 := Scalar.andi v19538_r0 v19540_r0
  let v19527_r0 : BitVec 32 := Scalar.divsi v19294_r0 c2_i32_7320_r0
  let c1_i32_7326_r0 : BitVec 32 := 1#32
  let v19542_r0 : BitVec 32 := Scalar.subi v19527_r0 c1_i32_7326_r0
  let v19543_r0 : BitVec 32 := Scalar.select v19541_r0 v19542_r0 v19527_r0
  let v19566_r0 : Index := Scalar.indexCast v19543_r0
  let c512_7336_r0 : Index := 512#32
  ![1, v19566_r0.toNat, 512]
def k0_mult22 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7234_r0 : BitVec 32 := 4#32
  let v19293_r0 : BitVec 32 := Scalar.muli arg16_r0 c4_i32_7234_r0
  let c1_i32_7235_r0 : BitVec 32 := 1#32
  let v19294_r0 : BitVec 32 := Scalar.addi v19293_r0 c1_i32_7235_r0
  let c128_i32_7348_r0 : BitVec 32 := 128#32
  let v19602_r0 : BitVec 32 := Scalar.muli v19294_r0 c128_i32_7348_r0
  v19602_r0
def k0_mult23 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7234_r0 : BitVec 32 := 4#32
  let v19293_r0 : BitVec 32 := Scalar.muli arg16_r0 c4_i32_7234_r0
  let c1_i32_7235_r0 : BitVec 32 := 1#32
  let v19294_r0 : BitVec 32 := Scalar.addi v19293_r0 c1_i32_7235_r0
  let c128_i32_7369_r0 : BitVec 32 := 128#32
  let v19660_r0 : BitVec 32 := Scalar.muli v19294_r0 c128_i32_7369_r0
  v19660_r0
def k0_off24 (k0_t1 : Fin k0_t1_loop.trips) (c1_i32_7235_r0 : BitVec 32) : Fin 3 → Nat :=
  let c1_7377_r0 : Index := 1#32
  let c0_i32_6216_r0 : BitVec 32 := 0#32
  let c1_i32_6217_r0 : BitVec 32 := 1#32
  let arg16_r0 : BitVec 32 := Scf.iv c0_i32_6216_r0 c1_i32_6217_r0 k0_t1
  let c4_i32_7234_r0 : BitVec 32 := 4#32
  let v19293_r0 : BitVec 32 := Scalar.muli arg16_r0 c4_i32_7234_r0
  let v19294_r0 : BitVec 32 := Scalar.addi v19293_r0 c1_i32_7235_r0
  let c0_i32_7363_r0 : BitVec 32 := 0#32
  let v19644_r0 : BitVec 1 := Scalar.cmpi .sgt v19294_r0 c0_i32_7363_r0
  let v19645_r0 : BitVec 32 := Scalar.extui v19644_r0
  let c0_i32_7364_r0 : BitVec 32 := 0#32
  let v19646_r0 : BitVec 1 := Scalar.cmpi .slt v19294_r0 c0_i32_7364_r0
  let v19647_r0 : BitVec 32 := Scalar.extui v19646_r0
  let v19648_r0 : BitVec 32 := Scalar.subi v19645_r0 v19647_r0
  let c2_i32_7362_r0 : BitVec 32 := 2#32
  let c0_i32_7365_r0 : BitVec 32 := 0#32
  let v19649_r0 : BitVec 1 := Scalar.cmpi .sgt c2_i32_7362_r0 c0_i32_7365_r0
  let v19650_r0 : BitVec 32 := Scalar.extui v19649_r0
  let c0_i32_7366_r0 : BitVec 32 := 0#32
  let v19651_r0 : BitVec 1 := Scalar.cmpi .slt c2_i32_7362_r0 c0_i32_7366_r0
  let v19652_r0 : BitVec 32 := Scalar.extui v19651_r0
  let v19653_r0 : BitVec 32 := Scalar.subi v19650_r0 v19652_r0
  let v19654_r0 : BitVec 1 := Scalar.cmpi .ne v19648_r0 v19653_r0
  let v19655_r0 : BitVec 32 := Scalar.remsi v19294_r0 c2_i32_7362_r0
  let c0_i32_7367_r0 : BitVec 32 := 0#32
  let v19656_r0 : BitVec 1 := Scalar.cmpi .ne v19655_r0 c0_i32_7367_r0
  let v19657_r0 : BitVec 1 := Scalar.andi v19654_r0 v19656_r0
  let v19643_r0 : BitVec 32 := Scalar.divsi v19294_r0 c2_i32_7362_r0
  let c1_i32_7368_r0 : BitVec 32 := 1#32
  let v19658_r0 : BitVec 32 := Scalar.subi v19643_r0 c1_i32_7368_r0
  let v19659_r0 : BitVec 32 := Scalar.select v19657_r0 v19658_r0 v19643_r0
  let v19682_r0 : Index := Scalar.indexCast v19659_r0
  let c768_7378_r0 : Index := 768#32
  ![1, v19682_r0.toNat, 768]
def k0_mult24 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7234_r0 : BitVec 32 := 4#32
  let v19293_r0 : BitVec 32 := Scalar.muli arg16_r0 c4_i32_7234_r0
  let c1_i32_7235_r0 : BitVec 32 := 1#32
  let v19294_r0 : BitVec 32 := Scalar.addi v19293_r0 c1_i32_7235_r0
  let c128_i32_7390_r0 : BitVec 32 := 128#32
  let v19718_r0 : BitVec 32 := Scalar.muli v19294_r0 c128_i32_7390_r0
  v19718_r0
def k0_mult25 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7234_r0 : BitVec 32 := 4#32
  let v19293_r0 : BitVec 32 := Scalar.muli arg16_r0 c4_i32_7234_r0
  let c1_i32_7235_r0 : BitVec 32 := 1#32
  let v19294_r0 : BitVec 32 := Scalar.addi v19293_r0 c1_i32_7235_r0
  let c128_i32_7411_r0 : BitVec 32 := 128#32
  let v19776_r0 : BitVec 32 := Scalar.muli v19294_r0 c128_i32_7411_r0
  v19776_r0
def k0_off25 (k0_t1 : Fin k0_t1_loop.trips) (c1_i32_7235_r0 : BitVec 32) : Fin 3 → Nat :=
  let c1_7419_r0 : Index := 1#32
  let c0_i32_6216_r0 : BitVec 32 := 0#32
  let c1_i32_6217_r0 : BitVec 32 := 1#32
  let arg16_r0 : BitVec 32 := Scf.iv c0_i32_6216_r0 c1_i32_6217_r0 k0_t1
  let c4_i32_7234_r0 : BitVec 32 := 4#32
  let v19293_r0 : BitVec 32 := Scalar.muli arg16_r0 c4_i32_7234_r0
  let v19294_r0 : BitVec 32 := Scalar.addi v19293_r0 c1_i32_7235_r0
  let c0_i32_7405_r0 : BitVec 32 := 0#32
  let v19760_r0 : BitVec 1 := Scalar.cmpi .sgt v19294_r0 c0_i32_7405_r0
  let v19761_r0 : BitVec 32 := Scalar.extui v19760_r0
  let c0_i32_7406_r0 : BitVec 32 := 0#32
  let v19762_r0 : BitVec 1 := Scalar.cmpi .slt v19294_r0 c0_i32_7406_r0
  let v19763_r0 : BitVec 32 := Scalar.extui v19762_r0
  let v19764_r0 : BitVec 32 := Scalar.subi v19761_r0 v19763_r0
  let c2_i32_7404_r0 : BitVec 32 := 2#32
  let c0_i32_7407_r0 : BitVec 32 := 0#32
  let v19765_r0 : BitVec 1 := Scalar.cmpi .sgt c2_i32_7404_r0 c0_i32_7407_r0
  let v19766_r0 : BitVec 32 := Scalar.extui v19765_r0
  let c0_i32_7408_r0 : BitVec 32 := 0#32
  let v19767_r0 : BitVec 1 := Scalar.cmpi .slt c2_i32_7404_r0 c0_i32_7408_r0
  let v19768_r0 : BitVec 32 := Scalar.extui v19767_r0
  let v19769_r0 : BitVec 32 := Scalar.subi v19766_r0 v19768_r0
  let v19770_r0 : BitVec 1 := Scalar.cmpi .ne v19764_r0 v19769_r0
  let v19771_r0 : BitVec 32 := Scalar.remsi v19294_r0 c2_i32_7404_r0
  let c0_i32_7409_r0 : BitVec 32 := 0#32
  let v19772_r0 : BitVec 1 := Scalar.cmpi .ne v19771_r0 c0_i32_7409_r0
  let v19773_r0 : BitVec 1 := Scalar.andi v19770_r0 v19772_r0
  let v19759_r0 : BitVec 32 := Scalar.divsi v19294_r0 c2_i32_7404_r0
  let c1_i32_7410_r0 : BitVec 32 := 1#32
  let v19774_r0 : BitVec 32 := Scalar.subi v19759_r0 c1_i32_7410_r0
  let v19775_r0 : BitVec 32 := Scalar.select v19773_r0 v19774_r0 v19759_r0
  let v19798_r0 : Index := Scalar.indexCast v19775_r0
  let c1024_7420_r0 : Index := 1024#32
  ![1, v19798_r0.toNat, 1024]
def k0_mult26 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7234_r0 : BitVec 32 := 4#32
  let v19293_r0 : BitVec 32 := Scalar.muli arg16_r0 c4_i32_7234_r0
  let c1_i32_7235_r0 : BitVec 32 := 1#32
  let v19294_r0 : BitVec 32 := Scalar.addi v19293_r0 c1_i32_7235_r0
  let c128_i32_7432_r0 : BitVec 32 := 128#32
  let v19834_r0 : BitVec 32 := Scalar.muli v19294_r0 c128_i32_7432_r0
  v19834_r0
def k0_mult27 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7234_r0 : BitVec 32 := 4#32
  let v19293_r0 : BitVec 32 := Scalar.muli arg16_r0 c4_i32_7234_r0
  let c1_i32_7235_r0 : BitVec 32 := 1#32
  let v19294_r0 : BitVec 32 := Scalar.addi v19293_r0 c1_i32_7235_r0
  let c128_i32_7453_r0 : BitVec 32 := 128#32
  let v19892_r0 : BitVec 32 := Scalar.muli v19294_r0 c128_i32_7453_r0
  v19892_r0
def k0_off26 (k0_t1 : Fin k0_t1_loop.trips) (c1_i32_7235_r0 : BitVec 32) : Fin 3 → Nat :=
  let c1_7461_r0 : Index := 1#32
  let c0_i32_6216_r0 : BitVec 32 := 0#32
  let c1_i32_6217_r0 : BitVec 32 := 1#32
  let arg16_r0 : BitVec 32 := Scf.iv c0_i32_6216_r0 c1_i32_6217_r0 k0_t1
  let c4_i32_7234_r0 : BitVec 32 := 4#32
  let v19293_r0 : BitVec 32 := Scalar.muli arg16_r0 c4_i32_7234_r0
  let v19294_r0 : BitVec 32 := Scalar.addi v19293_r0 c1_i32_7235_r0
  let c0_i32_7447_r0 : BitVec 32 := 0#32
  let v19876_r0 : BitVec 1 := Scalar.cmpi .sgt v19294_r0 c0_i32_7447_r0
  let v19877_r0 : BitVec 32 := Scalar.extui v19876_r0
  let c0_i32_7448_r0 : BitVec 32 := 0#32
  let v19878_r0 : BitVec 1 := Scalar.cmpi .slt v19294_r0 c0_i32_7448_r0
  let v19879_r0 : BitVec 32 := Scalar.extui v19878_r0
  let v19880_r0 : BitVec 32 := Scalar.subi v19877_r0 v19879_r0
  let c2_i32_7446_r0 : BitVec 32 := 2#32
  let c0_i32_7449_r0 : BitVec 32 := 0#32
  let v19881_r0 : BitVec 1 := Scalar.cmpi .sgt c2_i32_7446_r0 c0_i32_7449_r0
  let v19882_r0 : BitVec 32 := Scalar.extui v19881_r0
  let c0_i32_7450_r0 : BitVec 32 := 0#32
  let v19883_r0 : BitVec 1 := Scalar.cmpi .slt c2_i32_7446_r0 c0_i32_7450_r0
  let v19884_r0 : BitVec 32 := Scalar.extui v19883_r0
  let v19885_r0 : BitVec 32 := Scalar.subi v19882_r0 v19884_r0
  let v19886_r0 : BitVec 1 := Scalar.cmpi .ne v19880_r0 v19885_r0
  let v19887_r0 : BitVec 32 := Scalar.remsi v19294_r0 c2_i32_7446_r0
  let c0_i32_7451_r0 : BitVec 32 := 0#32
  let v19888_r0 : BitVec 1 := Scalar.cmpi .ne v19887_r0 c0_i32_7451_r0
  let v19889_r0 : BitVec 1 := Scalar.andi v19886_r0 v19888_r0
  let v19875_r0 : BitVec 32 := Scalar.divsi v19294_r0 c2_i32_7446_r0
  let c1_i32_7452_r0 : BitVec 32 := 1#32
  let v19890_r0 : BitVec 32 := Scalar.subi v19875_r0 c1_i32_7452_r0
  let v19891_r0 : BitVec 32 := Scalar.select v19889_r0 v19890_r0 v19875_r0
  let v19914_r0 : Index := Scalar.indexCast v19891_r0
  let c1280_7462_r0 : Index := 1280#32
  ![1, v19914_r0.toNat, 1280]
def k0_mult28 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7234_r0 : BitVec 32 := 4#32
  let v19293_r0 : BitVec 32 := Scalar.muli arg16_r0 c4_i32_7234_r0
  let c1_i32_7235_r0 : BitVec 32 := 1#32
  let v19294_r0 : BitVec 32 := Scalar.addi v19293_r0 c1_i32_7235_r0
  let c128_i32_7474_r0 : BitVec 32 := 128#32
  let v19950_r0 : BitVec 32 := Scalar.muli v19294_r0 c128_i32_7474_r0
  v19950_r0
def k0_mult29 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7234_r0 : BitVec 32 := 4#32
  let v19293_r0 : BitVec 32 := Scalar.muli arg16_r0 c4_i32_7234_r0
  let c1_i32_7235_r0 : BitVec 32 := 1#32
  let v19294_r0 : BitVec 32 := Scalar.addi v19293_r0 c1_i32_7235_r0
  let c128_i32_7495_r0 : BitVec 32 := 128#32
  let v20008_r0 : BitVec 32 := Scalar.muli v19294_r0 c128_i32_7495_r0
  v20008_r0
def k0_off27 (k0_t1 : Fin k0_t1_loop.trips) (c1_i32_7235_r0 : BitVec 32) : Fin 3 → Nat :=
  let c1_7503_r0 : Index := 1#32
  let c0_i32_6216_r0 : BitVec 32 := 0#32
  let c1_i32_6217_r0 : BitVec 32 := 1#32
  let arg16_r0 : BitVec 32 := Scf.iv c0_i32_6216_r0 c1_i32_6217_r0 k0_t1
  let c4_i32_7234_r0 : BitVec 32 := 4#32
  let v19293_r0 : BitVec 32 := Scalar.muli arg16_r0 c4_i32_7234_r0
  let v19294_r0 : BitVec 32 := Scalar.addi v19293_r0 c1_i32_7235_r0
  let c0_i32_7489_r0 : BitVec 32 := 0#32
  let v19992_r0 : BitVec 1 := Scalar.cmpi .sgt v19294_r0 c0_i32_7489_r0
  let v19993_r0 : BitVec 32 := Scalar.extui v19992_r0
  let c0_i32_7490_r0 : BitVec 32 := 0#32
  let v19994_r0 : BitVec 1 := Scalar.cmpi .slt v19294_r0 c0_i32_7490_r0
  let v19995_r0 : BitVec 32 := Scalar.extui v19994_r0
  let v19996_r0 : BitVec 32 := Scalar.subi v19993_r0 v19995_r0
  let c2_i32_7488_r0 : BitVec 32 := 2#32
  let c0_i32_7491_r0 : BitVec 32 := 0#32
  let v19997_r0 : BitVec 1 := Scalar.cmpi .sgt c2_i32_7488_r0 c0_i32_7491_r0
  let v19998_r0 : BitVec 32 := Scalar.extui v19997_r0
  let c0_i32_7492_r0 : BitVec 32 := 0#32
  let v19999_r0 : BitVec 1 := Scalar.cmpi .slt c2_i32_7488_r0 c0_i32_7492_r0
  let v20000_r0 : BitVec 32 := Scalar.extui v19999_r0
  let v20001_r0 : BitVec 32 := Scalar.subi v19998_r0 v20000_r0
  let v20002_r0 : BitVec 1 := Scalar.cmpi .ne v19996_r0 v20001_r0
  let v20003_r0 : BitVec 32 := Scalar.remsi v19294_r0 c2_i32_7488_r0
  let c0_i32_7493_r0 : BitVec 32 := 0#32
  let v20004_r0 : BitVec 1 := Scalar.cmpi .ne v20003_r0 c0_i32_7493_r0
  let v20005_r0 : BitVec 1 := Scalar.andi v20002_r0 v20004_r0
  let v19991_r0 : BitVec 32 := Scalar.divsi v19294_r0 c2_i32_7488_r0
  let c1_i32_7494_r0 : BitVec 32 := 1#32
  let v20006_r0 : BitVec 32 := Scalar.subi v19991_r0 c1_i32_7494_r0
  let v20007_r0 : BitVec 32 := Scalar.select v20005_r0 v20006_r0 v19991_r0
  let v20030_r0 : Index := Scalar.indexCast v20007_r0
  let c1536_7504_r0 : Index := 1536#32
  ![1, v20030_r0.toNat, 1536]
def k0_mult30 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7234_r0 : BitVec 32 := 4#32
  let v19293_r0 : BitVec 32 := Scalar.muli arg16_r0 c4_i32_7234_r0
  let c1_i32_7235_r0 : BitVec 32 := 1#32
  let v19294_r0 : BitVec 32 := Scalar.addi v19293_r0 c1_i32_7235_r0
  let c128_i32_7516_r0 : BitVec 32 := 128#32
  let v20066_r0 : BitVec 32 := Scalar.muli v19294_r0 c128_i32_7516_r0
  v20066_r0
def k0_mult31 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7234_r0 : BitVec 32 := 4#32
  let v19293_r0 : BitVec 32 := Scalar.muli arg16_r0 c4_i32_7234_r0
  let c1_i32_7235_r0 : BitVec 32 := 1#32
  let v19294_r0 : BitVec 32 := Scalar.addi v19293_r0 c1_i32_7235_r0
  let c128_i32_7537_r0 : BitVec 32 := 128#32
  let v20124_r0 : BitVec 32 := Scalar.muli v19294_r0 c128_i32_7537_r0
  v20124_r0
def k0_off28 (k0_t1 : Fin k0_t1_loop.trips) (c1_i32_7235_r0 : BitVec 32) : Fin 3 → Nat :=
  let c1_7545_r0 : Index := 1#32
  let c0_i32_6216_r0 : BitVec 32 := 0#32
  let c1_i32_6217_r0 : BitVec 32 := 1#32
  let arg16_r0 : BitVec 32 := Scf.iv c0_i32_6216_r0 c1_i32_6217_r0 k0_t1
  let c4_i32_7234_r0 : BitVec 32 := 4#32
  let v19293_r0 : BitVec 32 := Scalar.muli arg16_r0 c4_i32_7234_r0
  let v19294_r0 : BitVec 32 := Scalar.addi v19293_r0 c1_i32_7235_r0
  let c0_i32_7531_r0 : BitVec 32 := 0#32
  let v20108_r0 : BitVec 1 := Scalar.cmpi .sgt v19294_r0 c0_i32_7531_r0
  let v20109_r0 : BitVec 32 := Scalar.extui v20108_r0
  let c0_i32_7532_r0 : BitVec 32 := 0#32
  let v20110_r0 : BitVec 1 := Scalar.cmpi .slt v19294_r0 c0_i32_7532_r0
  let v20111_r0 : BitVec 32 := Scalar.extui v20110_r0
  let v20112_r0 : BitVec 32 := Scalar.subi v20109_r0 v20111_r0
  let c2_i32_7530_r0 : BitVec 32 := 2#32
  let c0_i32_7533_r0 : BitVec 32 := 0#32
  let v20113_r0 : BitVec 1 := Scalar.cmpi .sgt c2_i32_7530_r0 c0_i32_7533_r0
  let v20114_r0 : BitVec 32 := Scalar.extui v20113_r0
  let c0_i32_7534_r0 : BitVec 32 := 0#32
  let v20115_r0 : BitVec 1 := Scalar.cmpi .slt c2_i32_7530_r0 c0_i32_7534_r0
  let v20116_r0 : BitVec 32 := Scalar.extui v20115_r0
  let v20117_r0 : BitVec 32 := Scalar.subi v20114_r0 v20116_r0
  let v20118_r0 : BitVec 1 := Scalar.cmpi .ne v20112_r0 v20117_r0
  let v20119_r0 : BitVec 32 := Scalar.remsi v19294_r0 c2_i32_7530_r0
  let c0_i32_7535_r0 : BitVec 32 := 0#32
  let v20120_r0 : BitVec 1 := Scalar.cmpi .ne v20119_r0 c0_i32_7535_r0
  let v20121_r0 : BitVec 1 := Scalar.andi v20118_r0 v20120_r0
  let v20107_r0 : BitVec 32 := Scalar.divsi v19294_r0 c2_i32_7530_r0
  let c1_i32_7536_r0 : BitVec 32 := 1#32
  let v20122_r0 : BitVec 32 := Scalar.subi v20107_r0 c1_i32_7536_r0
  let v20123_r0 : BitVec 32 := Scalar.select v20121_r0 v20122_r0 v20107_r0
  let v20146_r0 : Index := Scalar.indexCast v20123_r0
  let c1792_7546_r0 : Index := 1792#32
  ![1, v20146_r0.toNat, 1792]
def k0_mult32 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7234_r0 : BitVec 32 := 4#32
  let v19293_r0 : BitVec 32 := Scalar.muli arg16_r0 c4_i32_7234_r0
  let c1_i32_7235_r0 : BitVec 32 := 1#32
  let v19294_r0 : BitVec 32 := Scalar.addi v19293_r0 c1_i32_7235_r0
  let c128_i32_7558_r0 : BitVec 32 := 128#32
  let v20182_r0 : BitVec 32 := Scalar.muli v19294_r0 c128_i32_7558_r0
  v20182_r0
def k0_mult33 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7572_r0 : BitVec 32 := 4#32
  let v20223_r0 : BitVec 32 := Scalar.muli arg16_r0 c4_i32_7572_r0
  let c2_i32_7573_r0 : BitVec 32 := 2#32
  let v20224_r0 : BitVec 32 := Scalar.addi v20223_r0 c2_i32_7573_r0
  let c128_i32_7581_r0 : BitVec 32 := 128#32
  let v20242_r0 : BitVec 32 := Scalar.muli v20224_r0 c128_i32_7581_r0
  v20242_r0
def k0_mult34 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7572_r0 : BitVec 32 := 4#32
  let v20223_r0 : BitVec 32 := Scalar.muli arg16_r0 c4_i32_7572_r0
  let c2_i32_7573_r0 : BitVec 32 := 2#32
  let v20224_r0 : BitVec 32 := Scalar.addi v20223_r0 c2_i32_7573_r0
  let c128_i32_7602_r0 : BitVec 32 := 128#32
  let v20300_r0 : BitVec 32 := Scalar.muli v20224_r0 c128_i32_7602_r0
  v20300_r0
def k0_mult35 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7572_r0 : BitVec 32 := 4#32
  let v20223_r0 : BitVec 32 := Scalar.muli arg16_r0 c4_i32_7572_r0
  let c2_i32_7573_r0 : BitVec 32 := 2#32
  let v20224_r0 : BitVec 32 := Scalar.addi v20223_r0 c2_i32_7573_r0
  let c128_i32_7623_r0 : BitVec 32 := 128#32
  let v20358_r0 : BitVec 32 := Scalar.muli v20224_r0 c128_i32_7623_r0
  v20358_r0
def k0_mult36 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7572_r0 : BitVec 32 := 4#32
  let v20223_r0 : BitVec 32 := Scalar.muli arg16_r0 c4_i32_7572_r0
  let c2_i32_7573_r0 : BitVec 32 := 2#32
  let v20224_r0 : BitVec 32 := Scalar.addi v20223_r0 c2_i32_7573_r0
  let c128_i32_7644_r0 : BitVec 32 := 128#32
  let v20416_r0 : BitVec 32 := Scalar.muli v20224_r0 c128_i32_7644_r0
  v20416_r0
def k0_mult37 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7572_r0 : BitVec 32 := 4#32
  let v20223_r0 : BitVec 32 := Scalar.muli arg16_r0 c4_i32_7572_r0
  let c2_i32_7573_r0 : BitVec 32 := 2#32
  let v20224_r0 : BitVec 32 := Scalar.addi v20223_r0 c2_i32_7573_r0
  let c128_i32_7665_r0 : BitVec 32 := 128#32
  let v20474_r0 : BitVec 32 := Scalar.muli v20224_r0 c128_i32_7665_r0
  v20474_r0
def k0_mult38 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7572_r0 : BitVec 32 := 4#32
  let v20223_r0 : BitVec 32 := Scalar.muli arg16_r0 c4_i32_7572_r0
  let c2_i32_7573_r0 : BitVec 32 := 2#32
  let v20224_r0 : BitVec 32 := Scalar.addi v20223_r0 c2_i32_7573_r0
  let c128_i32_7686_r0 : BitVec 32 := 128#32
  let v20532_r0 : BitVec 32 := Scalar.muli v20224_r0 c128_i32_7686_r0
  v20532_r0
def k0_mult39 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7572_r0 : BitVec 32 := 4#32
  let v20223_r0 : BitVec 32 := Scalar.muli arg16_r0 c4_i32_7572_r0
  let c2_i32_7573_r0 : BitVec 32 := 2#32
  let v20224_r0 : BitVec 32 := Scalar.addi v20223_r0 c2_i32_7573_r0
  let c128_i32_7707_r0 : BitVec 32 := 128#32
  let v20590_r0 : BitVec 32 := Scalar.muli v20224_r0 c128_i32_7707_r0
  v20590_r0
def k0_mult40 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7572_r0 : BitVec 32 := 4#32
  let v20223_r0 : BitVec 32 := Scalar.muli arg16_r0 c4_i32_7572_r0
  let c2_i32_7573_r0 : BitVec 32 := 2#32
  let v20224_r0 : BitVec 32 := Scalar.addi v20223_r0 c2_i32_7573_r0
  let c128_i32_7728_r0 : BitVec 32 := 128#32
  let v20648_r0 : BitVec 32 := Scalar.muli v20224_r0 c128_i32_7728_r0
  v20648_r0
def k0_mult41 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7572_r0 : BitVec 32 := 4#32
  let v20223_r0 : BitVec 32 := Scalar.muli arg16_r0 c4_i32_7572_r0
  let c2_i32_7573_r0 : BitVec 32 := 2#32
  let v20224_r0 : BitVec 32 := Scalar.addi v20223_r0 c2_i32_7573_r0
  let c128_i32_7749_r0 : BitVec 32 := 128#32
  let v20706_r0 : BitVec 32 := Scalar.muli v20224_r0 c128_i32_7749_r0
  v20706_r0
def k0_mult42 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7572_r0 : BitVec 32 := 4#32
  let v20223_r0 : BitVec 32 := Scalar.muli arg16_r0 c4_i32_7572_r0
  let c2_i32_7573_r0 : BitVec 32 := 2#32
  let v20224_r0 : BitVec 32 := Scalar.addi v20223_r0 c2_i32_7573_r0
  let c128_i32_7770_r0 : BitVec 32 := 128#32
  let v20764_r0 : BitVec 32 := Scalar.muli v20224_r0 c128_i32_7770_r0
  v20764_r0
def k0_mult43 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7572_r0 : BitVec 32 := 4#32
  let v20223_r0 : BitVec 32 := Scalar.muli arg16_r0 c4_i32_7572_r0
  let c2_i32_7573_r0 : BitVec 32 := 2#32
  let v20224_r0 : BitVec 32 := Scalar.addi v20223_r0 c2_i32_7573_r0
  let c128_i32_7791_r0 : BitVec 32 := 128#32
  let v20822_r0 : BitVec 32 := Scalar.muli v20224_r0 c128_i32_7791_r0
  v20822_r0
def k0_mult44 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7572_r0 : BitVec 32 := 4#32
  let v20223_r0 : BitVec 32 := Scalar.muli arg16_r0 c4_i32_7572_r0
  let c2_i32_7573_r0 : BitVec 32 := 2#32
  let v20224_r0 : BitVec 32 := Scalar.addi v20223_r0 c2_i32_7573_r0
  let c128_i32_7812_r0 : BitVec 32 := 128#32
  let v20880_r0 : BitVec 32 := Scalar.muli v20224_r0 c128_i32_7812_r0
  v20880_r0
def k0_mult45 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7572_r0 : BitVec 32 := 4#32
  let v20223_r0 : BitVec 32 := Scalar.muli arg16_r0 c4_i32_7572_r0
  let c2_i32_7573_r0 : BitVec 32 := 2#32
  let v20224_r0 : BitVec 32 := Scalar.addi v20223_r0 c2_i32_7573_r0
  let c128_i32_7833_r0 : BitVec 32 := 128#32
  let v20938_r0 : BitVec 32 := Scalar.muli v20224_r0 c128_i32_7833_r0
  v20938_r0
def k0_mult46 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7572_r0 : BitVec 32 := 4#32
  let v20223_r0 : BitVec 32 := Scalar.muli arg16_r0 c4_i32_7572_r0
  let c2_i32_7573_r0 : BitVec 32 := 2#32
  let v20224_r0 : BitVec 32 := Scalar.addi v20223_r0 c2_i32_7573_r0
  let c128_i32_7854_r0 : BitVec 32 := 128#32
  let v20996_r0 : BitVec 32 := Scalar.muli v20224_r0 c128_i32_7854_r0
  v20996_r0
def k0_mult47 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7572_r0 : BitVec 32 := 4#32
  let v20223_r0 : BitVec 32 := Scalar.muli arg16_r0 c4_i32_7572_r0
  let c2_i32_7573_r0 : BitVec 32 := 2#32
  let v20224_r0 : BitVec 32 := Scalar.addi v20223_r0 c2_i32_7573_r0
  let c128_i32_7875_r0 : BitVec 32 := 128#32
  let v21054_r0 : BitVec 32 := Scalar.muli v20224_r0 c128_i32_7875_r0
  v21054_r0
def k0_mult48 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7572_r0 : BitVec 32 := 4#32
  let v20223_r0 : BitVec 32 := Scalar.muli arg16_r0 c4_i32_7572_r0
  let c2_i32_7573_r0 : BitVec 32 := 2#32
  let v20224_r0 : BitVec 32 := Scalar.addi v20223_r0 c2_i32_7573_r0
  let c128_i32_7896_r0 : BitVec 32 := 128#32
  let v21112_r0 : BitVec 32 := Scalar.muli v20224_r0 c128_i32_7896_r0
  v21112_r0
def k0_mult49 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7910_r0 : BitVec 32 := 4#32
  let v21153_r0 : BitVec 32 := Scalar.muli arg16_r0 c4_i32_7910_r0
  let c3_i32_7911_r0 : BitVec 32 := 3#32
  let v21154_r0 : BitVec 32 := Scalar.addi v21153_r0 c3_i32_7911_r0
  let c128_i32_7919_r0 : BitVec 32 := 128#32
  let v21172_r0 : BitVec 32 := Scalar.muli v21154_r0 c128_i32_7919_r0
  v21172_r0
def k0_mult50 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7910_r0 : BitVec 32 := 4#32
  let v21153_r0 : BitVec 32 := Scalar.muli arg16_r0 c4_i32_7910_r0
  let c3_i32_7911_r0 : BitVec 32 := 3#32
  let v21154_r0 : BitVec 32 := Scalar.addi v21153_r0 c3_i32_7911_r0
  let c128_i32_7940_r0 : BitVec 32 := 128#32
  let v21230_r0 : BitVec 32 := Scalar.muli v21154_r0 c128_i32_7940_r0
  v21230_r0
def k0_mult51 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7910_r0 : BitVec 32 := 4#32
  let v21153_r0 : BitVec 32 := Scalar.muli arg16_r0 c4_i32_7910_r0
  let c3_i32_7911_r0 : BitVec 32 := 3#32
  let v21154_r0 : BitVec 32 := Scalar.addi v21153_r0 c3_i32_7911_r0
  let c128_i32_7961_r0 : BitVec 32 := 128#32
  let v21288_r0 : BitVec 32 := Scalar.muli v21154_r0 c128_i32_7961_r0
  v21288_r0
def k0_mult52 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7910_r0 : BitVec 32 := 4#32
  let v21153_r0 : BitVec 32 := Scalar.muli arg16_r0 c4_i32_7910_r0
  let c3_i32_7911_r0 : BitVec 32 := 3#32
  let v21154_r0 : BitVec 32 := Scalar.addi v21153_r0 c3_i32_7911_r0
  let c128_i32_7982_r0 : BitVec 32 := 128#32
  let v21346_r0 : BitVec 32 := Scalar.muli v21154_r0 c128_i32_7982_r0
  v21346_r0
def k0_mult53 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7910_r0 : BitVec 32 := 4#32
  let v21153_r0 : BitVec 32 := Scalar.muli arg16_r0 c4_i32_7910_r0
  let c3_i32_7911_r0 : BitVec 32 := 3#32
  let v21154_r0 : BitVec 32 := Scalar.addi v21153_r0 c3_i32_7911_r0
  let c128_i32_8003_r0 : BitVec 32 := 128#32
  let v21404_r0 : BitVec 32 := Scalar.muli v21154_r0 c128_i32_8003_r0
  v21404_r0
def k0_mult54 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7910_r0 : BitVec 32 := 4#32
  let v21153_r0 : BitVec 32 := Scalar.muli arg16_r0 c4_i32_7910_r0
  let c3_i32_7911_r0 : BitVec 32 := 3#32
  let v21154_r0 : BitVec 32 := Scalar.addi v21153_r0 c3_i32_7911_r0
  let c128_i32_8024_r0 : BitVec 32 := 128#32
  let v21462_r0 : BitVec 32 := Scalar.muli v21154_r0 c128_i32_8024_r0
  v21462_r0
def k0_mult55 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7910_r0 : BitVec 32 := 4#32
  let v21153_r0 : BitVec 32 := Scalar.muli arg16_r0 c4_i32_7910_r0
  let c3_i32_7911_r0 : BitVec 32 := 3#32
  let v21154_r0 : BitVec 32 := Scalar.addi v21153_r0 c3_i32_7911_r0
  let c128_i32_8045_r0 : BitVec 32 := 128#32
  let v21520_r0 : BitVec 32 := Scalar.muli v21154_r0 c128_i32_8045_r0
  v21520_r0
def k0_mult56 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7910_r0 : BitVec 32 := 4#32
  let v21153_r0 : BitVec 32 := Scalar.muli arg16_r0 c4_i32_7910_r0
  let c3_i32_7911_r0 : BitVec 32 := 3#32
  let v21154_r0 : BitVec 32 := Scalar.addi v21153_r0 c3_i32_7911_r0
  let c128_i32_8066_r0 : BitVec 32 := 128#32
  let v21578_r0 : BitVec 32 := Scalar.muli v21154_r0 c128_i32_8066_r0
  v21578_r0
def k0_mult57 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7910_r0 : BitVec 32 := 4#32
  let v21153_r0 : BitVec 32 := Scalar.muli arg16_r0 c4_i32_7910_r0
  let c3_i32_7911_r0 : BitVec 32 := 3#32
  let v21154_r0 : BitVec 32 := Scalar.addi v21153_r0 c3_i32_7911_r0
  let c128_i32_8087_r0 : BitVec 32 := 128#32
  let v21636_r0 : BitVec 32 := Scalar.muli v21154_r0 c128_i32_8087_r0
  v21636_r0
def k0_mult58 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7910_r0 : BitVec 32 := 4#32
  let v21153_r0 : BitVec 32 := Scalar.muli arg16_r0 c4_i32_7910_r0
  let c3_i32_7911_r0 : BitVec 32 := 3#32
  let v21154_r0 : BitVec 32 := Scalar.addi v21153_r0 c3_i32_7911_r0
  let c128_i32_8108_r0 : BitVec 32 := 128#32
  let v21694_r0 : BitVec 32 := Scalar.muli v21154_r0 c128_i32_8108_r0
  v21694_r0
def k0_mult59 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7910_r0 : BitVec 32 := 4#32
  let v21153_r0 : BitVec 32 := Scalar.muli arg16_r0 c4_i32_7910_r0
  let c3_i32_7911_r0 : BitVec 32 := 3#32
  let v21154_r0 : BitVec 32 := Scalar.addi v21153_r0 c3_i32_7911_r0
  let c128_i32_8129_r0 : BitVec 32 := 128#32
  let v21752_r0 : BitVec 32 := Scalar.muli v21154_r0 c128_i32_8129_r0
  v21752_r0
def k0_mult60 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7910_r0 : BitVec 32 := 4#32
  let v21153_r0 : BitVec 32 := Scalar.muli arg16_r0 c4_i32_7910_r0
  let c3_i32_7911_r0 : BitVec 32 := 3#32
  let v21154_r0 : BitVec 32 := Scalar.addi v21153_r0 c3_i32_7911_r0
  let c128_i32_8150_r0 : BitVec 32 := 128#32
  let v21810_r0 : BitVec 32 := Scalar.muli v21154_r0 c128_i32_8150_r0
  v21810_r0
def k0_mult61 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7910_r0 : BitVec 32 := 4#32
  let v21153_r0 : BitVec 32 := Scalar.muli arg16_r0 c4_i32_7910_r0
  let c3_i32_7911_r0 : BitVec 32 := 3#32
  let v21154_r0 : BitVec 32 := Scalar.addi v21153_r0 c3_i32_7911_r0
  let c128_i32_8171_r0 : BitVec 32 := 128#32
  let v21868_r0 : BitVec 32 := Scalar.muli v21154_r0 c128_i32_8171_r0
  v21868_r0
def k0_mult62 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7910_r0 : BitVec 32 := 4#32
  let v21153_r0 : BitVec 32 := Scalar.muli arg16_r0 c4_i32_7910_r0
  let c3_i32_7911_r0 : BitVec 32 := 3#32
  let v21154_r0 : BitVec 32 := Scalar.addi v21153_r0 c3_i32_7911_r0
  let c128_i32_8192_r0 : BitVec 32 := 128#32
  let v21926_r0 : BitVec 32 := Scalar.muli v21154_r0 c128_i32_8192_r0
  v21926_r0
def k0_mult63 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7910_r0 : BitVec 32 := 4#32
  let v21153_r0 : BitVec 32 := Scalar.muli arg16_r0 c4_i32_7910_r0
  let c3_i32_7911_r0 : BitVec 32 := 3#32
  let v21154_r0 : BitVec 32 := Scalar.addi v21153_r0 c3_i32_7911_r0
  let c128_i32_8213_r0 : BitVec 32 := 128#32
  let v21984_r0 : BitVec 32 := Scalar.muli v21154_r0 c128_i32_8213_r0
  v21984_r0
def k0_mult64 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7910_r0 : BitVec 32 := 4#32
  let v21153_r0 : BitVec 32 := Scalar.muli arg16_r0 c4_i32_7910_r0
  let c3_i32_7911_r0 : BitVec 32 := 3#32
  let v21154_r0 : BitVec 32 := Scalar.addi v21153_r0 c3_i32_7911_r0
  let c128_i32_8234_r0 : BitVec 32 := 128#32
  let v22042_r0 : BitVec 32 := Scalar.muli v21154_r0 c128_i32_8234_r0
  v22042_r0
abbrev stage0_0 : Fin 1 → Memref sig .tc .vmem S16x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== KernelIdeal.lean ====
abbrev S16x1x11264 : Shape := ⟨3, ![16, 1, 11264]⟩
abbrev S11264x2048 : Shape := ⟨2, ![11264, 2048]⟩
abbrev S88x4096 : Shape := ⟨2, ![88, 4096]⟩
abbrev S16x11264 : Shape := ⟨2, ![16, 11264]⟩
abbrev S16x4096 : Shape := ⟨2, ![16, 4096]⟩
abbrev S2x44x2048 : Shape := ⟨3, ![2, 44, 2048]⟩
abbrev S2x44x2x2048 : Shape := ⟨4, ![2, 44, 2, 2048]⟩
abbrev S2x44x1x2048 : Shape := ⟨4, ![2, 44, 1, 2048]⟩
abbrev S88x32x256 : Shape := ⟨3, ![88, 32, 256]⟩
abbrev S3 : Shape := ⟨1, ![3]⟩
abbrev S2x22 : Shape := ⟨2, ![2, 22]⟩
abbrev S1 : Shape := ⟨1, ![1]⟩
abbrev S_ : Shape := ⟨0, ![]⟩
abbrev S1x1 : Shape := ⟨2, ![1, 1]⟩
abbrev S512x2048 : Shape := ⟨2, ![512, 2048]⟩
abbrev S32x256 : Shape := ⟨2, ![32, 256]⟩
abbrev S8x128 : Shape := ⟨2, ![8, 128]⟩
abbrev S16x128 : Shape := ⟨2, ![16, 128]⟩
abbrev S8x128x1 : Shape := ⟨3, ![8, 128, 1]⟩
abbrev S1x16x128 : Shape := ⟨3, ![1, 16, 128]⟩
abbrev S44x128 : Shape := ⟨2, ![44, 128]⟩
abbrev S88x128 : Shape := ⟨2, ![88, 128]⟩
abbrev S44x128x1 : Shape := ⟨3, ![44, 128, 1]⟩
abbrev S1x44x128 : Shape := ⟨3, ![1, 44, 128]⟩
abbrev S1x44x2x128 : Shape := ⟨4, ![1, 44, 2, 128]⟩
abbrev S1x44x1x128 : Shape := ⟨4, ![1, 44, 1, 128]⟩
abbrev S128x256 : Shape := ⟨2, ![128, 256]⟩
abbrev S256x256 : Shape := ⟨2, ![256, 256]⟩
abbrev S1x1x256 : Shape := ⟨3, ![1, 1, 256]⟩
abbrev S1x1x2x256 : Shape := ⟨4, ![1, 1, 2, 256]⟩
abbrev S1x1x1x256 : Shape := ⟨4, ![1, 1, 1, 256]⟩
abbrev S1x256 : Shape := ⟨2, ![1, 256]⟩
abbrev S2x256 : Shape := ⟨2, ![2, 256]⟩
abbrev S1x32x256 : Shape := ⟨3, ![1, 32, 256]⟩
abbrev S16x128x1 : Shape := ⟨3, ![16, 128, 1]⟩
abbrev S16x1x4096 : Shape := ⟨3, ![16, 1, 4096]⟩

abbrev nBuf : Space → Nat
  | .hbm => 8
  | .vmem => 9
  | .smem => 0
  | _ => 0

abbrev bufTy : (tb : Table) → Fin (tcTables nBuf tb) → BufTy
  | .hbm, ⟨0, _⟩ => ⟨S16x1x11264, .bf16⟩
  | .hbm, ⟨1, _⟩ => ⟨S11264x2048, .i8⟩
  | .hbm, ⟨2, _⟩ => ⟨S88x4096, .bf16⟩
  | .hbm, ⟨3, _⟩ => ⟨S11264x2048, .i8⟩
  | .hbm, ⟨4, _⟩ => ⟨S88x4096, .bf16⟩
  | .hbm, ⟨5, _⟩ => ⟨S16x11264, .bf16⟩
  | .hbm, ⟨6, _⟩ => ⟨S16x4096, .bf16⟩
  | .hbm, ⟨7, _⟩ => ⟨S16x1x4096, .bf16⟩
  | .local _ .vmem, ⟨0, _⟩ => ⟨S16x4096, .bf16⟩
  | .local _ .vmem, ⟨1, _⟩ => ⟨S16x11264, .bf16⟩
  | .local _ .vmem, ⟨2, _⟩ => ⟨S11264x2048, .i8⟩
  | .local _ .vmem, ⟨3, _⟩ => ⟨S11264x2048, .i8⟩
  | .local _ .vmem, ⟨4, _⟩ => ⟨S88x4096, .bf16⟩
  | .local _ .vmem, ⟨5, _⟩ => ⟨S88x4096, .bf16⟩
  | .local _ .vmem, ⟨6, _⟩ => ⟨S2x44x2x2048, .bf16⟩
  | .local _ .vmem, ⟨7, _⟩ => ⟨S2x44x2x2048, .bf16⟩
  | .local _ .vmem, ⟨8, _⟩ => ⟨S88x32x256, .bf16⟩
  | _, _ => ⟨S16x1x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_sem0_0 : DmaSem sig := 0

abbrev nD : Nat := 1
abbrev τ : Topo := Topo.v7x

variable {F : FTy → Type} [FloatOps F]

abbrev grid0 : Pipeline.Grid := .none

@[reducible] def k0_t1_loop : Scf.Loop 32 :=
  let c0_i32_6216_r0 : BitVec 32 := 0#32
  let c22_i32_r0 : BitVec 32 := 22#32
  let v16247_r0 : BitVec 32 := Scalar.addi c0_i32_6216_r0 c22_i32_r0
  let c1_i32_6217_r0 : BitVec 32 := 1#32
  ⟨c0_i32_6216_r0, v16247_r0, c1_i32_6217_r0⟩
def k0_off1 (k0_t1 : Fin k0_t1_loop.trips) : Fin 2 → Nat :=
  let c0_i32_6892_r0 : BitVec 32 := 0#32
  let c0_i32_6216_r0 : BitVec 32 := 0#32
  let c1_i32_6217_r0 : BitVec 32 := 1#32
  let arg16_r0 : BitVec 32 := Scf.iv c0_i32_6216_r0 c1_i32_6217_r0 k0_t1
  ![0, arg16_r0.toNat]
def k0_off2 (k0_t1 : Fin k0_t1_loop.trips) : Fin 2 → Nat :=
  let c0_i32_6216_r0 : BitVec 32 := 0#32
  let c1_i32_6217_r0 : BitVec 32 := 1#32
  let arg16_r0 : BitVec 32 := Scf.iv c0_i32_6216_r0 c1_i32_6217_r0 k0_t1
  let c512_i32_6891_r0 : BitVec 32 := 512#32
  let v18354_r0 : BitVec 32 := Scalar.muli arg16_r0 c512_i32_6891_r0
  let c0_i32_6893_r0 : BitVec 32 := 0#32
  ![v18354_r0.toNat, 0]
def k0_off3 (k0_t1 : Fin k0_t1_loop.trips) : Fin 2 → Nat :=
  let c1_i32_6895_r0 : BitVec 32 := 1#32
  let c0_i32_6216_r0 : BitVec 32 := 0#32
  let c1_i32_6217_r0 : BitVec 32 := 1#32
  let arg16_r0 : BitVec 32 := Scf.iv c0_i32_6216_r0 c1_i32_6217_r0 k0_t1
  ![1, arg16_r0.toNat]
def k0_mult1 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let c0_i32_6899_r0 : BitVec 32 := 0#32
  let v18364_r0 : BitVec 32 := Scalar.addi v18363_r0 c0_i32_6899_r0
  let c128_i32_6907_r0 : BitVec 32 := 128#32
  let v18382_r0 : BitVec 32 := Scalar.muli v18364_r0 c128_i32_6907_r0
  v18382_r0
def k0_off4 (k0_t1 : Fin k0_t1_loop.trips) (c0_i32_6899_r0 : BitVec 32) : Fin 2 → Nat :=
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let v18364_r0 : BitVec 32 := Scalar.addi v18363_r0 c0_i32_6899_r0
  let c128_i32_6907_r0 : BitVec 32 := 128#32
  let v18382_r0 : BitVec 32 := Scalar.muli v18364_r0 c128_i32_6907_r0
  let v18383_r0 : BitVec 32 := v18382_r0
  let v18384_r0 : Index := Scalar.indexCast v18383_r0
  let c0_6908_r0 : Index := 0#32
  ![v18384_r0.toNat, 0]
def k0_off5 (k0_t1 : Fin k0_t1_loop.trips) (c0_i32_6899_r0 : BitVec 32) : Fin 4 → Nat :=
  let c0_6913_r0 : Index := 0#32
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let v18364_r0 : BitVec 32 := Scalar.addi v18363_r0 c0_i32_6899_r0
  let c0_i32_6901_r0 : BitVec 32 := 0#32
  let v18366_r0 : BitVec 1 := Scalar.cmpi .sgt v18364_r0 c0_i32_6901_r0
  let v18367_r0 : BitVec 32 := Scalar.extui v18366_r0
  let c0_i32_6902_r0 : BitVec 32 := 0#32
  let v18368_r0 : BitVec 1 := Scalar.cmpi .slt v18364_r0 c0_i32_6902_r0
  let v18369_r0 : BitVec 32 := Scalar.extui v18368_r0
  let v18370_r0 : BitVec 32 := Scalar.subi v18367_r0 v18369_r0
  let c2_i32_6900_r0 : BitVec 32 := 2#32
  let c0_i32_6903_r0 : BitVec 32 := 0#32
  let v18371_r0 : BitVec 1 := Scalar.cmpi .sgt c2_i32_6900_r0 c0_i32_6903_r0
  let v18372_r0 : BitVec 32 := Scalar.extui v18371_r0
  let c0_i32_6904_r0 : BitVec 32 := 0#32
  let v18373_r0 : BitVec 1 := Scalar.cmpi .slt c2_i32_6900_r0 c0_i32_6904_r0
  let v18374_r0 : BitVec 32 := Scalar.extui v18373_r0
  let v18375_r0 : BitVec 32 := Scalar.subi v18372_r0 v18374_r0
  let v18376_r0 : BitVec 1 := Scalar.cmpi .ne v18370_r0 v18375_r0
  let v18377_r0 : BitVec 32 := Scalar.remsi v18364_r0 c2_i32_6900_r0
  let c0_i32_6905_r0 : BitVec 32 := 0#32
  let v18378_r0 : BitVec 1 := Scalar.cmpi .ne v18377_r0 c0_i32_6905_r0
  let v18379_r0 : BitVec 1 := Scalar.andi v18376_r0 v18378_r0
  let v18365_r0 : BitVec 32 := Scalar.divsi v18364_r0 c2_i32_6900_r0
  let c1_i32_6906_r0 : BitVec 32 := 1#32
  let v18380_r0 : BitVec 32 := Scalar.subi v18365_r0 c1_i32_6906_r0
  let v18381_r0 : BitVec 32 := Scalar.select v18379_r0 v18380_r0 v18365_r0
  let v18404_r0 : Index := Scalar.indexCast v18381_r0
  let c0_6914_r0 : Index := 0#32
  ![0, v18404_r0.toNat, 0, 0]
def k0_off6 (k0_t1 : Fin k0_t1_loop.trips) (c0_i32_6899_r0 : BitVec 32) : Fin 3 → Nat :=
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let v18364_r0 : BitVec 32 := Scalar.addi v18363_r0 c0_i32_6899_r0
  let v18420_r0 : Index := Scalar.indexCast v18364_r0
  let c0_6917_r0 : Index := 0#32
  let c0_6918_r0 : Index := 0#32
  ![v18420_r0.toNat, 0, 0]
def k0_mult2 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let c0_i32_6899_r0 : BitVec 32 := 0#32
  let v18364_r0 : BitVec 32 := Scalar.addi v18363_r0 c0_i32_6899_r0
  let c128_i32_6926_r0 : BitVec 32 := 128#32
  let v18440_r0 : BitVec 32 := Scalar.muli v18364_r0 c128_i32_6926_r0
  v18440_r0
def k0_mult3 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let c0_i32_6899_r0 : BitVec 32 := 0#32
  let v18364_r0 : BitVec 32 := Scalar.addi v18363_r0 c0_i32_6899_r0
  let c128_i32_6947_r0 : BitVec 32 := 128#32
  let v18498_r0 : BitVec 32 := Scalar.muli v18364_r0 c128_i32_6947_r0
  v18498_r0
def k0_off7 (k0_t1 : Fin k0_t1_loop.trips) (c0_i32_6899_r0 : BitVec 32) : Fin 2 → Nat :=
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let v18364_r0 : BitVec 32 := Scalar.addi v18363_r0 c0_i32_6899_r0
  let c128_i32_6947_r0 : BitVec 32 := 128#32
  let v18498_r0 : BitVec 32 := Scalar.muli v18364_r0 c128_i32_6947_r0
  let v18499_r0 : BitVec 32 := v18498_r0
  let v18500_r0 : Index := Scalar.indexCast v18499_r0
  let c256_6948_r0 : Index := 256#32
  ![v18500_r0.toNat, 256]
def k0_off8 (k0_t1 : Fin k0_t1_loop.trips) (c0_i32_6899_r0 : BitVec 32) : Fin 4 → Nat :=
  let c0_6955_r0 : Index := 0#32
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let v18364_r0 : BitVec 32 := Scalar.addi v18363_r0 c0_i32_6899_r0
  let c0_i32_6941_r0 : BitVec 32 := 0#32
  let v18482_r0 : BitVec 1 := Scalar.cmpi .sgt v18364_r0 c0_i32_6941_r0
  let v18483_r0 : BitVec 32 := Scalar.extui v18482_r0
  let c0_i32_6942_r0 : BitVec 32 := 0#32
  let v18484_r0 : BitVec 1 := Scalar.cmpi .slt v18364_r0 c0_i32_6942_r0
  let v18485_r0 : BitVec 32 := Scalar.extui v18484_r0
  let v18486_r0 : BitVec 32 := Scalar.subi v18483_r0 v18485_r0
  let c2_i32_6940_r0 : BitVec 32 := 2#32
  let c0_i32_6943_r0 : BitVec 32 := 0#32
  let v18487_r0 : BitVec 1 := Scalar.cmpi .sgt c2_i32_6940_r0 c0_i32_6943_r0
  let v18488_r0 : BitVec 32 := Scalar.extui v18487_r0
  let c0_i32_6944_r0 : BitVec 32 := 0#32
  let v18489_r0 : BitVec 1 := Scalar.cmpi .slt c2_i32_6940_r0 c0_i32_6944_r0
  let v18490_r0 : BitVec 32 := Scalar.extui v18489_r0
  let v18491_r0 : BitVec 32 := Scalar.subi v18488_r0 v18490_r0
  let v18492_r0 : BitVec 1 := Scalar.cmpi .ne v18486_r0 v18491_r0
  let v18493_r0 : BitVec 32 := Scalar.remsi v18364_r0 c2_i32_6940_r0
  let c0_i32_6945_r0 : BitVec 32 := 0#32
  let v18494_r0 : BitVec 1 := Scalar.cmpi .ne v18493_r0 c0_i32_6945_r0
  let v18495_r0 : BitVec 1 := Scalar.andi v18492_r0 v18494_r0
  let v18481_r0 : BitVec 32 := Scalar.divsi v18364_r0 c2_i32_6940_r0
  let c1_i32_6946_r0 : BitVec 32 := 1#32
  let v18496_r0 : BitVec 32 := Scalar.subi v18481_r0 c1_i32_6946_r0
  let v18497_r0 : BitVec 32 := Scalar.select v18495_r0 v18496_r0 v18481_r0
  let v18520_r0 : Index := Scalar.indexCast v18497_r0
  let c256_6956_r0 : Index := 256#32
  ![0, v18520_r0.toNat, 0, 256]
def k0_mult4 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let c0_i32_6899_r0 : BitVec 32 := 0#32
  let v18364_r0 : BitVec 32 := Scalar.addi v18363_r0 c0_i32_6899_r0
  let c128_i32_6968_r0 : BitVec 32 := 128#32
  let v18556_r0 : BitVec 32 := Scalar.muli v18364_r0 c128_i32_6968_r0
  v18556_r0
def k0_mult5 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let c0_i32_6899_r0 : BitVec 32 := 0#32
  let v18364_r0 : BitVec 32 := Scalar.addi v18363_r0 c0_i32_6899_r0
  let c128_i32_6989_r0 : BitVec 32 := 128#32
  let v18614_r0 : BitVec 32 := Scalar.muli v18364_r0 c128_i32_6989_r0
  v18614_r0
def k0_off9 (k0_t1 : Fin k0_t1_loop.trips) (c0_i32_6899_r0 : BitVec 32) : Fin 2 → Nat :=
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let v18364_r0 : BitVec 32 := Scalar.addi v18363_r0 c0_i32_6899_r0
  let c128_i32_6989_r0 : BitVec 32 := 128#32
  let v18614_r0 : BitVec 32 := Scalar.muli v18364_r0 c128_i32_6989_r0
  let v18615_r0 : BitVec 32 := v18614_r0
  let v18616_r0 : Index := Scalar.indexCast v18615_r0
  let c512_6990_r0 : Index := 512#32
  ![v18616_r0.toNat, 512]
def k0_off10 (k0_t1 : Fin k0_t1_loop.trips) (c0_i32_6899_r0 : BitVec 32) : Fin 4 → Nat :=
  let c0_6997_r0 : Index := 0#32
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let v18364_r0 : BitVec 32 := Scalar.addi v18363_r0 c0_i32_6899_r0
  let c0_i32_6983_r0 : BitVec 32 := 0#32
  let v18598_r0 : BitVec 1 := Scalar.cmpi .sgt v18364_r0 c0_i32_6983_r0
  let v18599_r0 : BitVec 32 := Scalar.extui v18598_r0
  let c0_i32_6984_r0 : BitVec 32 := 0#32
  let v18600_r0 : BitVec 1 := Scalar.cmpi .slt v18364_r0 c0_i32_6984_r0
  let v18601_r0 : BitVec 32 := Scalar.extui v18600_r0
  let v18602_r0 : BitVec 32 := Scalar.subi v18599_r0 v18601_r0
  let c2_i32_6982_r0 : BitVec 32 := 2#32
  let c0_i32_6985_r0 : BitVec 32 := 0#32
  let v18603_r0 : BitVec 1 := Scalar.cmpi .sgt c2_i32_6982_r0 c0_i32_6985_r0
  let v18604_r0 : BitVec 32 := Scalar.extui v18603_r0
  let c0_i32_6986_r0 : BitVec 32 := 0#32
  let v18605_r0 : BitVec 1 := Scalar.cmpi .slt c2_i32_6982_r0 c0_i32_6986_r0
  let v18606_r0 : BitVec 32 := Scalar.extui v18605_r0
  let v18607_r0 : BitVec 32 := Scalar.subi v18604_r0 v18606_r0
  let v18608_r0 : BitVec 1 := Scalar.cmpi .ne v18602_r0 v18607_r0
  let v18609_r0 : BitVec 32 := Scalar.remsi v18364_r0 c2_i32_6982_r0
  let c0_i32_6987_r0 : BitVec 32 := 0#32
  let v18610_r0 : BitVec 1 := Scalar.cmpi .ne v18609_r0 c0_i32_6987_r0
  let v18611_r0 : BitVec 1 := Scalar.andi v18608_r0 v18610_r0
  let v18597_r0 : BitVec 32 := Scalar.divsi v18364_r0 c2_i32_6982_r0
  let c1_i32_6988_r0 : BitVec 32 := 1#32
  let v18612_r0 : BitVec 32 := Scalar.subi v18597_r0 c1_i32_6988_r0
  let v18613_r0 : BitVec 32 := Scalar.select v18611_r0 v18612_r0 v18597_r0
  let v18636_r0 : Index := Scalar.indexCast v18613_r0
  let c512_6998_r0 : Index := 512#32
  ![0, v18636_r0.toNat, 0, 512]
def k0_mult6 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let c0_i32_6899_r0 : BitVec 32 := 0#32
  let v18364_r0 : BitVec 32 := Scalar.addi v18363_r0 c0_i32_6899_r0
  let c128_i32_7010_r0 : BitVec 32 := 128#32
  let v18672_r0 : BitVec 32 := Scalar.muli v18364_r0 c128_i32_7010_r0
  v18672_r0
def k0_mult7 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let c0_i32_6899_r0 : BitVec 32 := 0#32
  let v18364_r0 : BitVec 32 := Scalar.addi v18363_r0 c0_i32_6899_r0
  let c128_i32_7031_r0 : BitVec 32 := 128#32
  let v18730_r0 : BitVec 32 := Scalar.muli v18364_r0 c128_i32_7031_r0
  v18730_r0
def k0_off11 (k0_t1 : Fin k0_t1_loop.trips) (c0_i32_6899_r0 : BitVec 32) : Fin 2 → Nat :=
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let v18364_r0 : BitVec 32 := Scalar.addi v18363_r0 c0_i32_6899_r0
  let c128_i32_7031_r0 : BitVec 32 := 128#32
  let v18730_r0 : BitVec 32 := Scalar.muli v18364_r0 c128_i32_7031_r0
  let v18731_r0 : BitVec 32 := v18730_r0
  let v18732_r0 : Index := Scalar.indexCast v18731_r0
  let c768_7032_r0 : Index := 768#32
  ![v18732_r0.toNat, 768]
def k0_off12 (k0_t1 : Fin k0_t1_loop.trips) (c0_i32_6899_r0 : BitVec 32) : Fin 4 → Nat :=
  let c0_7039_r0 : Index := 0#32
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let v18364_r0 : BitVec 32 := Scalar.addi v18363_r0 c0_i32_6899_r0
  let c0_i32_7025_r0 : BitVec 32 := 0#32
  let v18714_r0 : BitVec 1 := Scalar.cmpi .sgt v18364_r0 c0_i32_7025_r0
  let v18715_r0 : BitVec 32 := Scalar.extui v18714_r0
  let c0_i32_7026_r0 : BitVec 32 := 0#32
  let v18716_r0 : BitVec 1 := Scalar.cmpi .slt v18364_r0 c0_i32_7026_r0
  let v18717_r0 : BitVec 32 := Scalar.extui v18716_r0
  let v18718_r0 : BitVec 32 := Scalar.subi v18715_r0 v18717_r0
  let c2_i32_7024_r0 : BitVec 32 := 2#32
  let c0_i32_7027_r0 : BitVec 32 := 0#32
  let v18719_r0 : BitVec 1 := Scalar.cmpi .sgt c2_i32_7024_r0 c0_i32_7027_r0
  let v18720_r0 : BitVec 32 := Scalar.extui v18719_r0
  let c0_i32_7028_r0 : BitVec 32 := 0#32
  let v18721_r0 : BitVec 1 := Scalar.cmpi .slt c2_i32_7024_r0 c0_i32_7028_r0
  let v18722_r0 : BitVec 32 := Scalar.extui v18721_r0
  let v18723_r0 : BitVec 32 := Scalar.subi v18720_r0 v18722_r0
  let v18724_r0 : BitVec 1 := Scalar.cmpi .ne v18718_r0 v18723_r0
  let v18725_r0 : BitVec 32 := Scalar.remsi v18364_r0 c2_i32_7024_r0
  let c0_i32_7029_r0 : BitVec 32 := 0#32
  let v18726_r0 : BitVec 1 := Scalar.cmpi .ne v18725_r0 c0_i32_7029_r0
  let v18727_r0 : BitVec 1 := Scalar.andi v18724_r0 v18726_r0
  let v18713_r0 : BitVec 32 := Scalar.divsi v18364_r0 c2_i32_7024_r0
  let c1_i32_7030_r0 : BitVec 32 := 1#32
  let v18728_r0 : BitVec 32 := Scalar.subi v18713_r0 c1_i32_7030_r0
  let v18729_r0 : BitVec 32 := Scalar.select v18727_r0 v18728_r0 v18713_r0
  let v18752_r0 : Index := Scalar.indexCast v18729_r0
  let c768_7040_r0 : Index := 768#32
  ![0, v18752_r0.toNat, 0, 768]
def k0_mult8 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let c0_i32_6899_r0 : BitVec 32 := 0#32
  let v18364_r0 : BitVec 32 := Scalar.addi v18363_r0 c0_i32_6899_r0
  let c128_i32_7052_r0 : BitVec 32 := 128#32
  let v18788_r0 : BitVec 32 := Scalar.muli v18364_r0 c128_i32_7052_r0
  v18788_r0
def k0_mult9 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let c0_i32_6899_r0 : BitVec 32 := 0#32
  let v18364_r0 : BitVec 32 := Scalar.addi v18363_r0 c0_i32_6899_r0
  let c128_i32_7073_r0 : BitVec 32 := 128#32
  let v18846_r0 : BitVec 32 := Scalar.muli v18364_r0 c128_i32_7073_r0
  v18846_r0
def k0_off13 (k0_t1 : Fin k0_t1_loop.trips) (c0_i32_6899_r0 : BitVec 32) : Fin 2 → Nat :=
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let v18364_r0 : BitVec 32 := Scalar.addi v18363_r0 c0_i32_6899_r0
  let c128_i32_7073_r0 : BitVec 32 := 128#32
  let v18846_r0 : BitVec 32 := Scalar.muli v18364_r0 c128_i32_7073_r0
  let v18847_r0 : BitVec 32 := v18846_r0
  let v18848_r0 : Index := Scalar.indexCast v18847_r0
  let c1024_7074_r0 : Index := 1024#32
  ![v18848_r0.toNat, 1024]
def k0_off14 (k0_t1 : Fin k0_t1_loop.trips) (c0_i32_6899_r0 : BitVec 32) : Fin 4 → Nat :=
  let c0_7081_r0 : Index := 0#32
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let v18364_r0 : BitVec 32 := Scalar.addi v18363_r0 c0_i32_6899_r0
  let c0_i32_7067_r0 : BitVec 32 := 0#32
  let v18830_r0 : BitVec 1 := Scalar.cmpi .sgt v18364_r0 c0_i32_7067_r0
  let v18831_r0 : BitVec 32 := Scalar.extui v18830_r0
  let c0_i32_7068_r0 : BitVec 32 := 0#32
  let v18832_r0 : BitVec 1 := Scalar.cmpi .slt v18364_r0 c0_i32_7068_r0
  let v18833_r0 : BitVec 32 := Scalar.extui v18832_r0
  let v18834_r0 : BitVec 32 := Scalar.subi v18831_r0 v18833_r0
  let c2_i32_7066_r0 : BitVec 32 := 2#32
  let c0_i32_7069_r0 : BitVec 32 := 0#32
  let v18835_r0 : BitVec 1 := Scalar.cmpi .sgt c2_i32_7066_r0 c0_i32_7069_r0
  let v18836_r0 : BitVec 32 := Scalar.extui v18835_r0
  let c0_i32_7070_r0 : BitVec 32 := 0#32
  let v18837_r0 : BitVec 1 := Scalar.cmpi .slt c2_i32_7066_r0 c0_i32_7070_r0
  let v18838_r0 : BitVec 32 := Scalar.extui v18837_r0
  let v18839_r0 : BitVec 32 := Scalar.subi v18836_r0 v18838_r0
  let v18840_r0 : BitVec 1 := Scalar.cmpi .ne v18834_r0 v18839_r0
  let v18841_r0 : BitVec 32 := Scalar.remsi v18364_r0 c2_i32_7066_r0
  let c0_i32_7071_r0 : BitVec 32 := 0#32
  let v18842_r0 : BitVec 1 := Scalar.cmpi .ne v18841_r0 c0_i32_7071_r0
  let v18843_r0 : BitVec 1 := Scalar.andi v18840_r0 v18842_r0
  let v18829_r0 : BitVec 32 := Scalar.divsi v18364_r0 c2_i32_7066_r0
  let c1_i32_7072_r0 : BitVec 32 := 1#32
  let v18844_r0 : BitVec 32 := Scalar.subi v18829_r0 c1_i32_7072_r0
  let v18845_r0 : BitVec 32 := Scalar.select v18843_r0 v18844_r0 v18829_r0
  let v18868_r0 : Index := Scalar.indexCast v18845_r0
  let c1024_7082_r0 : Index := 1024#32
  ![0, v18868_r0.toNat, 0, 1024]
def k0_mult10 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let c0_i32_6899_r0 : BitVec 32 := 0#32
  let v18364_r0 : BitVec 32 := Scalar.addi v18363_r0 c0_i32_6899_r0
  let c128_i32_7094_r0 : BitVec 32 := 128#32
  let v18904_r0 : BitVec 32 := Scalar.muli v18364_r0 c128_i32_7094_r0
  v18904_r0
def k0_mult11 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let c0_i32_6899_r0 : BitVec 32 := 0#32
  let v18364_r0 : BitVec 32 := Scalar.addi v18363_r0 c0_i32_6899_r0
  let c128_i32_7115_r0 : BitVec 32 := 128#32
  let v18962_r0 : BitVec 32 := Scalar.muli v18364_r0 c128_i32_7115_r0
  v18962_r0
def k0_off15 (k0_t1 : Fin k0_t1_loop.trips) (c0_i32_6899_r0 : BitVec 32) : Fin 2 → Nat :=
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let v18364_r0 : BitVec 32 := Scalar.addi v18363_r0 c0_i32_6899_r0
  let c128_i32_7115_r0 : BitVec 32 := 128#32
  let v18962_r0 : BitVec 32 := Scalar.muli v18364_r0 c128_i32_7115_r0
  let v18963_r0 : BitVec 32 := v18962_r0
  let v18964_r0 : Index := Scalar.indexCast v18963_r0
  let c1280_7116_r0 : Index := 1280#32
  ![v18964_r0.toNat, 1280]
def k0_off16 (k0_t1 : Fin k0_t1_loop.trips) (c0_i32_6899_r0 : BitVec 32) : Fin 4 → Nat :=
  let c0_7123_r0 : Index := 0#32
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let v18364_r0 : BitVec 32 := Scalar.addi v18363_r0 c0_i32_6899_r0
  let c0_i32_7109_r0 : BitVec 32 := 0#32
  let v18946_r0 : BitVec 1 := Scalar.cmpi .sgt v18364_r0 c0_i32_7109_r0
  let v18947_r0 : BitVec 32 := Scalar.extui v18946_r0
  let c0_i32_7110_r0 : BitVec 32 := 0#32
  let v18948_r0 : BitVec 1 := Scalar.cmpi .slt v18364_r0 c0_i32_7110_r0
  let v18949_r0 : BitVec 32 := Scalar.extui v18948_r0
  let v18950_r0 : BitVec 32 := Scalar.subi v18947_r0 v18949_r0
  let c2_i32_7108_r0 : BitVec 32 := 2#32
  let c0_i32_7111_r0 : BitVec 32 := 0#32
  let v18951_r0 : BitVec 1 := Scalar.cmpi .sgt c2_i32_7108_r0 c0_i32_7111_r0
  let v18952_r0 : BitVec 32 := Scalar.extui v18951_r0
  let c0_i32_7112_r0 : BitVec 32 := 0#32
  let v18953_r0 : BitVec 1 := Scalar.cmpi .slt c2_i32_7108_r0 c0_i32_7112_r0
  let v18954_r0 : BitVec 32 := Scalar.extui v18953_r0
  let v18955_r0 : BitVec 32 := Scalar.subi v18952_r0 v18954_r0
  let v18956_r0 : BitVec 1 := Scalar.cmpi .ne v18950_r0 v18955_r0
  let v18957_r0 : BitVec 32 := Scalar.remsi v18364_r0 c2_i32_7108_r0
  let c0_i32_7113_r0 : BitVec 32 := 0#32
  let v18958_r0 : BitVec 1 := Scalar.cmpi .ne v18957_r0 c0_i32_7113_r0
  let v18959_r0 : BitVec 1 := Scalar.andi v18956_r0 v18958_r0
  let v18945_r0 : BitVec 32 := Scalar.divsi v18364_r0 c2_i32_7108_r0
  let c1_i32_7114_r0 : BitVec 32 := 1#32
  let v18960_r0 : BitVec 32 := Scalar.subi v18945_r0 c1_i32_7114_r0
  let v18961_r0 : BitVec 32 := Scalar.select v18959_r0 v18960_r0 v18945_r0
  let v18984_r0 : Index := Scalar.indexCast v18961_r0
  let c1280_7124_r0 : Index := 1280#32
  ![0, v18984_r0.toNat, 0, 1280]
def k0_mult12 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let c0_i32_6899_r0 : BitVec 32 := 0#32
  let v18364_r0 : BitVec 32 := Scalar.addi v18363_r0 c0_i32_6899_r0
  let c128_i32_7136_r0 : BitVec 32 := 128#32
  let v19020_r0 : BitVec 32 := Scalar.muli v18364_r0 c128_i32_7136_r0
  v19020_r0
def k0_mult13 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let c0_i32_6899_r0 : BitVec 32 := 0#32
  let v18364_r0 : BitVec 32 := Scalar.addi v18363_r0 c0_i32_6899_r0
  let c128_i32_7157_r0 : BitVec 32 := 128#32
  let v19078_r0 : BitVec 32 := Scalar.muli v18364_r0 c128_i32_7157_r0
  v19078_r0
def k0_off17 (k0_t1 : Fin k0_t1_loop.trips) (c0_i32_6899_r0 : BitVec 32) : Fin 2 → Nat :=
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let v18364_r0 : BitVec 32 := Scalar.addi v18363_r0 c0_i32_6899_r0
  let c128_i32_7157_r0 : BitVec 32 := 128#32
  let v19078_r0 : BitVec 32 := Scalar.muli v18364_r0 c128_i32_7157_r0
  let v19079_r0 : BitVec 32 := v19078_r0
  let v19080_r0 : Index := Scalar.indexCast v19079_r0
  let c1536_7158_r0 : Index := 1536#32
  ![v19080_r0.toNat, 1536]
def k0_off18 (k0_t1 : Fin k0_t1_loop.trips) (c0_i32_6899_r0 : BitVec 32) : Fin 4 → Nat :=
  let c0_7165_r0 : Index := 0#32
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let v18364_r0 : BitVec 32 := Scalar.addi v18363_r0 c0_i32_6899_r0
  let c0_i32_7151_r0 : BitVec 32 := 0#32
  let v19062_r0 : BitVec 1 := Scalar.cmpi .sgt v18364_r0 c0_i32_7151_r0
  let v19063_r0 : BitVec 32 := Scalar.extui v19062_r0
  let c0_i32_7152_r0 : BitVec 32 := 0#32
  let v19064_r0 : BitVec 1 := Scalar.cmpi .slt v18364_r0 c0_i32_7152_r0
  let v19065_r0 : BitVec 32 := Scalar.extui v19064_r0
  let v19066_r0 : BitVec 32 := Scalar.subi v19063_r0 v19065_r0
  let c2_i32_7150_r0 : BitVec 32 := 2#32
  let c0_i32_7153_r0 : BitVec 32 := 0#32
  let v19067_r0 : BitVec 1 := Scalar.cmpi .sgt c2_i32_7150_r0 c0_i32_7153_r0
  let v19068_r0 : BitVec 32 := Scalar.extui v19067_r0
  let c0_i32_7154_r0 : BitVec 32 := 0#32
  let v19069_r0 : BitVec 1 := Scalar.cmpi .slt c2_i32_7150_r0 c0_i32_7154_r0
  let v19070_r0 : BitVec 32 := Scalar.extui v19069_r0
  let v19071_r0 : BitVec 32 := Scalar.subi v19068_r0 v19070_r0
  let v19072_r0 : BitVec 1 := Scalar.cmpi .ne v19066_r0 v19071_r0
  let v19073_r0 : BitVec 32 := Scalar.remsi v18364_r0 c2_i32_7150_r0
  let c0_i32_7155_r0 : BitVec 32 := 0#32
  let v19074_r0 : BitVec 1 := Scalar.cmpi .ne v19073_r0 c0_i32_7155_r0
  let v19075_r0 : BitVec 1 := Scalar.andi v19072_r0 v19074_r0
  let v19061_r0 : BitVec 32 := Scalar.divsi v18364_r0 c2_i32_7150_r0
  let c1_i32_7156_r0 : BitVec 32 := 1#32
  let v19076_r0 : BitVec 32 := Scalar.subi v19061_r0 c1_i32_7156_r0
  let v19077_r0 : BitVec 32 := Scalar.select v19075_r0 v19076_r0 v19061_r0
  let v19100_r0 : Index := Scalar.indexCast v19077_r0
  let c1536_7166_r0 : Index := 1536#32
  ![0, v19100_r0.toNat, 0, 1536]
def k0_mult14 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let c0_i32_6899_r0 : BitVec 32 := 0#32
  let v18364_r0 : BitVec 32 := Scalar.addi v18363_r0 c0_i32_6899_r0
  let c128_i32_7178_r0 : BitVec 32 := 128#32
  let v19136_r0 : BitVec 32 := Scalar.muli v18364_r0 c128_i32_7178_r0
  v19136_r0
def k0_mult15 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let c0_i32_6899_r0 : BitVec 32 := 0#32
  let v18364_r0 : BitVec 32 := Scalar.addi v18363_r0 c0_i32_6899_r0
  let c128_i32_7199_r0 : BitVec 32 := 128#32
  let v19194_r0 : BitVec 32 := Scalar.muli v18364_r0 c128_i32_7199_r0
  v19194_r0
def k0_off19 (k0_t1 : Fin k0_t1_loop.trips) (c0_i32_6899_r0 : BitVec 32) : Fin 2 → Nat :=
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let v18364_r0 : BitVec 32 := Scalar.addi v18363_r0 c0_i32_6899_r0
  let c128_i32_7199_r0 : BitVec 32 := 128#32
  let v19194_r0 : BitVec 32 := Scalar.muli v18364_r0 c128_i32_7199_r0
  let v19195_r0 : BitVec 32 := v19194_r0
  let v19196_r0 : Index := Scalar.indexCast v19195_r0
  let c1792_7200_r0 : Index := 1792#32
  ![v19196_r0.toNat, 1792]
def k0_off20 (k0_t1 : Fin k0_t1_loop.trips) (c0_i32_6899_r0 : BitVec 32) : Fin 4 → Nat :=
  let c0_7207_r0 : Index := 0#32
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let v18364_r0 : BitVec 32 := Scalar.addi v18363_r0 c0_i32_6899_r0
  let c0_i32_7193_r0 : BitVec 32 := 0#32
  let v19178_r0 : BitVec 1 := Scalar.cmpi .sgt v18364_r0 c0_i32_7193_r0
  let v19179_r0 : BitVec 32 := Scalar.extui v19178_r0
  let c0_i32_7194_r0 : BitVec 32 := 0#32
  let v19180_r0 : BitVec 1 := Scalar.cmpi .slt v18364_r0 c0_i32_7194_r0
  let v19181_r0 : BitVec 32 := Scalar.extui v19180_r0
  let v19182_r0 : BitVec 32 := Scalar.subi v19179_r0 v19181_r0
  let c2_i32_7192_r0 : BitVec 32 := 2#32
  let c0_i32_7195_r0 : BitVec 32 := 0#32
  let v19183_r0 : BitVec 1 := Scalar.cmpi .sgt c2_i32_7192_r0 c0_i32_7195_r0
  let v19184_r0 : BitVec 32 := Scalar.extui v19183_r0
  let c0_i32_7196_r0 : BitVec 32 := 0#32
  let v19185_r0 : BitVec 1 := Scalar.cmpi .slt c2_i32_7192_r0 c0_i32_7196_r0
  let v19186_r0 : BitVec 32 := Scalar.extui v19185_r0
  let v19187_r0 : BitVec 32 := Scalar.subi v19184_r0 v19186_r0
  let v19188_r0 : BitVec 1 := Scalar.cmpi .ne v19182_r0 v19187_r0
  let v19189_r0 : BitVec 32 := Scalar.remsi v18364_r0 c2_i32_7192_r0
  let c0_i32_7197_r0 : BitVec 32 := 0#32
  let v19190_r0 : BitVec 1 := Scalar.cmpi .ne v19189_r0 c0_i32_7197_r0
  let v19191_r0 : BitVec 1 := Scalar.andi v19188_r0 v19190_r0
  let v19177_r0 : BitVec 32 := Scalar.divsi v18364_r0 c2_i32_7192_r0
  let c1_i32_7198_r0 : BitVec 32 := 1#32
  let v19192_r0 : BitVec 32 := Scalar.subi v19177_r0 c1_i32_7198_r0
  let v19193_r0 : BitVec 32 := Scalar.select v19191_r0 v19192_r0 v19177_r0
  let v19216_r0 : Index := Scalar.indexCast v19193_r0
  let c1792_7208_r0 : Index := 1792#32
  ![0, v19216_r0.toNat, 0, 1792]
def k0_mult16 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_6898_r0 : BitVec 32 := 4#32
  let v18363_r0 : BitVec 32 := Scalar.muli arg16_r0 c4_i32_6898_r0
  let c0_i32_6899_r0 : BitVec 32 := 0#32
  let v18364_r0 : BitVec 32 := Scalar.addi v18363_r0 c0_i32_6899_r0
  let c128_i32_7220_r0 : BitVec 32 := 128#32
  let v19252_r0 : BitVec 32 := Scalar.muli v18364_r0 c128_i32_7220_r0
  v19252_r0
def k0_mult17 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7234_r0 : BitVec 32 := 4#32
  let v19293_r0 : BitVec 32 := Scalar.muli arg16_r0 c4_i32_7234_r0
  let c1_i32_7235_r0 : BitVec 32 := 1#32
  let v19294_r0 : BitVec 32 := Scalar.addi v19293_r0 c1_i32_7235_r0
  let c128_i32_7243_r0 : BitVec 32 := 128#32
  let v19312_r0 : BitVec 32 := Scalar.muli v19294_r0 c128_i32_7243_r0
  v19312_r0
def k0_off21 (k0_t1 : Fin k0_t1_loop.trips) (c1_i32_7235_r0 : BitVec 32) : Fin 4 → Nat :=
  let c1_7251_r0 : Index := 1#32
  let c0_i32_6216_r0 : BitVec 32 := 0#32
  let c1_i32_6217_r0 : BitVec 32 := 1#32
  let arg16_r0 : BitVec 32 := Scf.iv c0_i32_6216_r0 c1_i32_6217_r0 k0_t1
  let c4_i32_7234_r0 : BitVec 32 := 4#32
  let v19293_r0 : BitVec 32 := Scalar.muli arg16_r0 c4_i32_7234_r0
  let v19294_r0 : BitVec 32 := Scalar.addi v19293_r0 c1_i32_7235_r0
  let c0_i32_7237_r0 : BitVec 32 := 0#32
  let v19296_r0 : BitVec 1 := Scalar.cmpi .sgt v19294_r0 c0_i32_7237_r0
  let v19297_r0 : BitVec 32 := Scalar.extui v19296_r0
  let c0_i32_7238_r0 : BitVec 32 := 0#32
  let v19298_r0 : BitVec 1 := Scalar.cmpi .slt v19294_r0 c0_i32_7238_r0
  let v19299_r0 : BitVec 32 := Scalar.extui v19298_r0
  let v19300_r0 : BitVec 32 := Scalar.subi v19297_r0 v19299_r0
  let c2_i32_7236_r0 : BitVec 32 := 2#32
  let c0_i32_7239_r0 : BitVec 32 := 0#32
  let v19301_r0 : BitVec 1 := Scalar.cmpi .sgt c2_i32_7236_r0 c0_i32_7239_r0
  let v19302_r0 : BitVec 32 := Scalar.extui v19301_r0
  let c0_i32_7240_r0 : BitVec 32 := 0#32
  let v19303_r0 : BitVec 1 := Scalar.cmpi .slt c2_i32_7236_r0 c0_i32_7240_r0
  let v19304_r0 : BitVec 32 := Scalar.extui v19303_r0
  let v19305_r0 : BitVec 32 := Scalar.subi v19302_r0 v19304_r0
  let v19306_r0 : BitVec 1 := Scalar.cmpi .ne v19300_r0 v19305_r0
  let v19307_r0 : BitVec 32 := Scalar.remsi v19294_r0 c2_i32_7236_r0
  let c0_i32_7241_r0 : BitVec 32 := 0#32
  let v19308_r0 : BitVec 1 := Scalar.cmpi .ne v19307_r0 c0_i32_7241_r0
  let v19309_r0 : BitVec 1 := Scalar.andi v19306_r0 v19308_r0
  let v19295_r0 : BitVec 32 := Scalar.divsi v19294_r0 c2_i32_7236_r0
  let c1_i32_7242_r0 : BitVec 32 := 1#32
  let v19310_r0 : BitVec 32 := Scalar.subi v19295_r0 c1_i32_7242_r0
  let v19311_r0 : BitVec 32 := Scalar.select v19309_r0 v19310_r0 v19295_r0
  let v19334_r0 : Index := Scalar.indexCast v19311_r0
  let c0_7252_r0 : Index := 0#32
  ![1, v19334_r0.toNat, 0, 0]
def k0_mult18 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7234_r0 : BitVec 32 := 4#32
  let v19293_r0 : BitVec 32 := Scalar.muli arg16_r0 c4_i32_7234_r0
  let c1_i32_7235_r0 : BitVec 32 := 1#32
  let v19294_r0 : BitVec 32 := Scalar.addi v19293_r0 c1_i32_7235_r0
  let c128_i32_7264_r0 : BitVec 32 := 128#32
  let v19370_r0 : BitVec 32 := Scalar.muli v19294_r0 c128_i32_7264_r0
  v19370_r0
def k0_mult19 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7234_r0 : BitVec 32 := 4#32
  let v19293_r0 : BitVec 32 := Scalar.muli arg16_r0 c4_i32_7234_r0
  let c1_i32_7235_r0 : BitVec 32 := 1#32
  let v19294_r0 : BitVec 32 := Scalar.addi v19293_r0 c1_i32_7235_r0
  let c128_i32_7285_r0 : BitVec 32 := 128#32
  let v19428_r0 : BitVec 32 := Scalar.muli v19294_r0 c128_i32_7285_r0
  v19428_r0
def k0_off22 (k0_t1 : Fin k0_t1_loop.trips) (c1_i32_7235_r0 : BitVec 32) : Fin 4 → Nat :=
  let c1_7293_r0 : Index := 1#32
  let c0_i32_6216_r0 : BitVec 32 := 0#32
  let c1_i32_6217_r0 : BitVec 32 := 1#32
  let arg16_r0 : BitVec 32 := Scf.iv c0_i32_6216_r0 c1_i32_6217_r0 k0_t1
  let c4_i32_7234_r0 : BitVec 32 := 4#32
  let v19293_r0 : BitVec 32 := Scalar.muli arg16_r0 c4_i32_7234_r0
  let v19294_r0 : BitVec 32 := Scalar.addi v19293_r0 c1_i32_7235_r0
  let c0_i32_7279_r0 : BitVec 32 := 0#32
  let v19412_r0 : BitVec 1 := Scalar.cmpi .sgt v19294_r0 c0_i32_7279_r0
  let v19413_r0 : BitVec 32 := Scalar.extui v19412_r0
  let c0_i32_7280_r0 : BitVec 32 := 0#32
  let v19414_r0 : BitVec 1 := Scalar.cmpi .slt v19294_r0 c0_i32_7280_r0
  let v19415_r0 : BitVec 32 := Scalar.extui v19414_r0
  let v19416_r0 : BitVec 32 := Scalar.subi v19413_r0 v19415_r0
  let c2_i32_7278_r0 : BitVec 32 := 2#32
  let c0_i32_7281_r0 : BitVec 32 := 0#32
  let v19417_r0 : BitVec 1 := Scalar.cmpi .sgt c2_i32_7278_r0 c0_i32_7281_r0
  let v19418_r0 : BitVec 32 := Scalar.extui v19417_r0
  let c0_i32_7282_r0 : BitVec 32 := 0#32
  let v19419_r0 : BitVec 1 := Scalar.cmpi .slt c2_i32_7278_r0 c0_i32_7282_r0
  let v19420_r0 : BitVec 32 := Scalar.extui v19419_r0
  let v19421_r0 : BitVec 32 := Scalar.subi v19418_r0 v19420_r0
  let v19422_r0 : BitVec 1 := Scalar.cmpi .ne v19416_r0 v19421_r0
  let v19423_r0 : BitVec 32 := Scalar.remsi v19294_r0 c2_i32_7278_r0
  let c0_i32_7283_r0 : BitVec 32 := 0#32
  let v19424_r0 : BitVec 1 := Scalar.cmpi .ne v19423_r0 c0_i32_7283_r0
  let v19425_r0 : BitVec 1 := Scalar.andi v19422_r0 v19424_r0
  let v19411_r0 : BitVec 32 := Scalar.divsi v19294_r0 c2_i32_7278_r0
  let c1_i32_7284_r0 : BitVec 32 := 1#32
  let v19426_r0 : BitVec 32 := Scalar.subi v19411_r0 c1_i32_7284_r0
  let v19427_r0 : BitVec 32 := Scalar.select v19425_r0 v19426_r0 v19411_r0
  let v19450_r0 : Index := Scalar.indexCast v19427_r0
  let c256_7294_r0 : Index := 256#32
  ![1, v19450_r0.toNat, 0, 256]
def k0_mult20 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7234_r0 : BitVec 32 := 4#32
  let v19293_r0 : BitVec 32 := Scalar.muli arg16_r0 c4_i32_7234_r0
  let c1_i32_7235_r0 : BitVec 32 := 1#32
  let v19294_r0 : BitVec 32 := Scalar.addi v19293_r0 c1_i32_7235_r0
  let c128_i32_7306_r0 : BitVec 32 := 128#32
  let v19486_r0 : BitVec 32 := Scalar.muli v19294_r0 c128_i32_7306_r0
  v19486_r0
def k0_mult21 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7234_r0 : BitVec 32 := 4#32
  let v19293_r0 : BitVec 32 := Scalar.muli arg16_r0 c4_i32_7234_r0
  let c1_i32_7235_r0 : BitVec 32 := 1#32
  let v19294_r0 : BitVec 32 := Scalar.addi v19293_r0 c1_i32_7235_r0
  let c128_i32_7327_r0 : BitVec 32 := 128#32
  let v19544_r0 : BitVec 32 := Scalar.muli v19294_r0 c128_i32_7327_r0
  v19544_r0
def k0_off23 (k0_t1 : Fin k0_t1_loop.trips) (c1_i32_7235_r0 : BitVec 32) : Fin 4 → Nat :=
  let c1_7335_r0 : Index := 1#32
  let c0_i32_6216_r0 : BitVec 32 := 0#32
  let c1_i32_6217_r0 : BitVec 32 := 1#32
  let arg16_r0 : BitVec 32 := Scf.iv c0_i32_6216_r0 c1_i32_6217_r0 k0_t1
  let c4_i32_7234_r0 : BitVec 32 := 4#32
  let v19293_r0 : BitVec 32 := Scalar.muli arg16_r0 c4_i32_7234_r0
  let v19294_r0 : BitVec 32 := Scalar.addi v19293_r0 c1_i32_7235_r0
  let c0_i32_7321_r0 : BitVec 32 := 0#32
  let v19528_r0 : BitVec 1 := Scalar.cmpi .sgt v19294_r0 c0_i32_7321_r0
  let v19529_r0 : BitVec 32 := Scalar.extui v19528_r0
  let c0_i32_7322_r0 : BitVec 32 := 0#32
  let v19530_r0 : BitVec 1 := Scalar.cmpi .slt v19294_r0 c0_i32_7322_r0
  let v19531_r0 : BitVec 32 := Scalar.extui v19530_r0
  let v19532_r0 : BitVec 32 := Scalar.subi v19529_r0 v19531_r0
  let c2_i32_7320_r0 : BitVec 32 := 2#32
  let c0_i32_7323_r0 : BitVec 32 := 0#32
  let v19533_r0 : BitVec 1 := Scalar.cmpi .sgt c2_i32_7320_r0 c0_i32_7323_r0
  let v19534_r0 : BitVec 32 := Scalar.extui v19533_r0
  let c0_i32_7324_r0 : BitVec 32 := 0#32
  let v19535_r0 : BitVec 1 := Scalar.cmpi .slt c2_i32_7320_r0 c0_i32_7324_r0
  let v19536_r0 : BitVec 32 := Scalar.extui v19535_r0
  let v19537_r0 : BitVec 32 := Scalar.subi v19534_r0 v19536_r0
  let v19538_r0 : BitVec 1 := Scalar.cmpi .ne v19532_r0 v19537_r0
  let v19539_r0 : BitVec 32 := Scalar.remsi v19294_r0 c2_i32_7320_r0
  let c0_i32_7325_r0 : BitVec 32 := 0#32
  let v19540_r0 : BitVec 1 := Scalar.cmpi .ne v19539_r0 c0_i32_7325_r0
  let v19541_r0 : BitVec 1 := Scalar.andi v19538_r0 v19540_r0
  let v19527_r0 : BitVec 32 := Scalar.divsi v19294_r0 c2_i32_7320_r0
  let c1_i32_7326_r0 : BitVec 32 := 1#32
  let v19542_r0 : BitVec 32 := Scalar.subi v19527_r0 c1_i32_7326_r0
  let v19543_r0 : BitVec 32 := Scalar.select v19541_r0 v19542_r0 v19527_r0
  let v19566_r0 : Index := Scalar.indexCast v19543_r0
  let c512_7336_r0 : Index := 512#32
  ![1, v19566_r0.toNat, 0, 512]
def k0_mult22 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7234_r0 : BitVec 32 := 4#32
  let v19293_r0 : BitVec 32 := Scalar.muli arg16_r0 c4_i32_7234_r0
  let c1_i32_7235_r0 : BitVec 32 := 1#32
  let v19294_r0 : BitVec 32 := Scalar.addi v19293_r0 c1_i32_7235_r0
  let c128_i32_7348_r0 : BitVec 32 := 128#32
  let v19602_r0 : BitVec 32 := Scalar.muli v19294_r0 c128_i32_7348_r0
  v19602_r0
def k0_mult23 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7234_r0 : BitVec 32 := 4#32
  let v19293_r0 : BitVec 32 := Scalar.muli arg16_r0 c4_i32_7234_r0
  let c1_i32_7235_r0 : BitVec 32 := 1#32
  let v19294_r0 : BitVec 32 := Scalar.addi v19293_r0 c1_i32_7235_r0
  let c128_i32_7369_r0 : BitVec 32 := 128#32
  let v19660_r0 : BitVec 32 := Scalar.muli v19294_r0 c128_i32_7369_r0
  v19660_r0
def k0_off24 (k0_t1 : Fin k0_t1_loop.trips) (c1_i32_7235_r0 : BitVec 32) : Fin 4 → Nat :=
  let c1_7377_r0 : Index := 1#32
  let c0_i32_6216_r0 : BitVec 32 := 0#32
  let c1_i32_6217_r0 : BitVec 32 := 1#32
  let arg16_r0 : BitVec 32 := Scf.iv c0_i32_6216_r0 c1_i32_6217_r0 k0_t1
  let c4_i32_7234_r0 : BitVec 32 := 4#32
  let v19293_r0 : BitVec 32 := Scalar.muli arg16_r0 c4_i32_7234_r0
  let v19294_r0 : BitVec 32 := Scalar.addi v19293_r0 c1_i32_7235_r0
  let c0_i32_7363_r0 : BitVec 32 := 0#32
  let v19644_r0 : BitVec 1 := Scalar.cmpi .sgt v19294_r0 c0_i32_7363_r0
  let v19645_r0 : BitVec 32 := Scalar.extui v19644_r0
  let c0_i32_7364_r0 : BitVec 32 := 0#32
  let v19646_r0 : BitVec 1 := Scalar.cmpi .slt v19294_r0 c0_i32_7364_r0
  let v19647_r0 : BitVec 32 := Scalar.extui v19646_r0
  let v19648_r0 : BitVec 32 := Scalar.subi v19645_r0 v19647_r0
  let c2_i32_7362_r0 : BitVec 32 := 2#32
  let c0_i32_7365_r0 : BitVec 32 := 0#32
  let v19649_r0 : BitVec 1 := Scalar.cmpi .sgt c2_i32_7362_r0 c0_i32_7365_r0
  let v19650_r0 : BitVec 32 := Scalar.extui v19649_r0
  let c0_i32_7366_r0 : BitVec 32 := 0#32
  let v19651_r0 : BitVec 1 := Scalar.cmpi .slt c2_i32_7362_r0 c0_i32_7366_r0
  let v19652_r0 : BitVec 32 := Scalar.extui v19651_r0
  let v19653_r0 : BitVec 32 := Scalar.subi v19650_r0 v19652_r0
  let v19654_r0 : BitVec 1 := Scalar.cmpi .ne v19648_r0 v19653_r0
  let v19655_r0 : BitVec 32 := Scalar.remsi v19294_r0 c2_i32_7362_r0
  let c0_i32_7367_r0 : BitVec 32 := 0#32
  let v19656_r0 : BitVec 1 := Scalar.cmpi .ne v19655_r0 c0_i32_7367_r0
  let v19657_r0 : BitVec 1 := Scalar.andi v19654_r0 v19656_r0
  let v19643_r0 : BitVec 32 := Scalar.divsi v19294_r0 c2_i32_7362_r0
  let c1_i32_7368_r0 : BitVec 32 := 1#32
  let v19658_r0 : BitVec 32 := Scalar.subi v19643_r0 c1_i32_7368_r0
  let v19659_r0 : BitVec 32 := Scalar.select v19657_r0 v19658_r0 v19643_r0
  let v19682_r0 : Index := Scalar.indexCast v19659_r0
  let c768_7378_r0 : Index := 768#32
  ![1, v19682_r0.toNat, 0, 768]
def k0_mult24 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7234_r0 : BitVec 32 := 4#32
  let v19293_r0 : BitVec 32 := Scalar.muli arg16_r0 c4_i32_7234_r0
  let c1_i32_7235_r0 : BitVec 32 := 1#32
  let v19294_r0 : BitVec 32 := Scalar.addi v19293_r0 c1_i32_7235_r0
  let c128_i32_7390_r0 : BitVec 32 := 128#32
  let v19718_r0 : BitVec 32 := Scalar.muli v19294_r0 c128_i32_7390_r0
  v19718_r0
def k0_mult25 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7234_r0 : BitVec 32 := 4#32
  let v19293_r0 : BitVec 32 := Scalar.muli arg16_r0 c4_i32_7234_r0
  let c1_i32_7235_r0 : BitVec 32 := 1#32
  let v19294_r0 : BitVec 32 := Scalar.addi v19293_r0 c1_i32_7235_r0
  let c128_i32_7411_r0 : BitVec 32 := 128#32
  let v19776_r0 : BitVec 32 := Scalar.muli v19294_r0 c128_i32_7411_r0
  v19776_r0
def k0_off25 (k0_t1 : Fin k0_t1_loop.trips) (c1_i32_7235_r0 : BitVec 32) : Fin 4 → Nat :=
  let c1_7419_r0 : Index := 1#32
  let c0_i32_6216_r0 : BitVec 32 := 0#32
  let c1_i32_6217_r0 : BitVec 32 := 1#32
  let arg16_r0 : BitVec 32 := Scf.iv c0_i32_6216_r0 c1_i32_6217_r0 k0_t1
  let c4_i32_7234_r0 : BitVec 32 := 4#32
  let v19293_r0 : BitVec 32 := Scalar.muli arg16_r0 c4_i32_7234_r0
  let v19294_r0 : BitVec 32 := Scalar.addi v19293_r0 c1_i32_7235_r0
  let c0_i32_7405_r0 : BitVec 32 := 0#32
  let v19760_r0 : BitVec 1 := Scalar.cmpi .sgt v19294_r0 c0_i32_7405_r0
  let v19761_r0 : BitVec 32 := Scalar.extui v19760_r0
  let c0_i32_7406_r0 : BitVec 32 := 0#32
  let v19762_r0 : BitVec 1 := Scalar.cmpi .slt v19294_r0 c0_i32_7406_r0
  let v19763_r0 : BitVec 32 := Scalar.extui v19762_r0
  let v19764_r0 : BitVec 32 := Scalar.subi v19761_r0 v19763_r0
  let c2_i32_7404_r0 : BitVec 32 := 2#32
  let c0_i32_7407_r0 : BitVec 32 := 0#32
  let v19765_r0 : BitVec 1 := Scalar.cmpi .sgt c2_i32_7404_r0 c0_i32_7407_r0
  let v19766_r0 : BitVec 32 := Scalar.extui v19765_r0
  let c0_i32_7408_r0 : BitVec 32 := 0#32
  let v19767_r0 : BitVec 1 := Scalar.cmpi .slt c2_i32_7404_r0 c0_i32_7408_r0
  let v19768_r0 : BitVec 32 := Scalar.extui v19767_r0
  let v19769_r0 : BitVec 32 := Scalar.subi v19766_r0 v19768_r0
  let v19770_r0 : BitVec 1 := Scalar.cmpi .ne v19764_r0 v19769_r0
  let v19771_r0 : BitVec 32 := Scalar.remsi v19294_r0 c2_i32_7404_r0
  let c0_i32_7409_r0 : BitVec 32 := 0#32
  let v19772_r0 : BitVec 1 := Scalar.cmpi .ne v19771_r0 c0_i32_7409_r0
  let v19773_r0 : BitVec 1 := Scalar.andi v19770_r0 v19772_r0
  let v19759_r0 : BitVec 32 := Scalar.divsi v19294_r0 c2_i32_7404_r0
  let c1_i32_7410_r0 : BitVec 32 := 1#32
  let v19774_r0 : BitVec 32 := Scalar.subi v19759_r0 c1_i32_7410_r0
  let v19775_r0 : BitVec 32 := Scalar.select v19773_r0 v19774_r0 v19759_r0
  let v19798_r0 : Index := Scalar.indexCast v19775_r0
  let c1024_7420_r0 : Index := 1024#32
  ![1, v19798_r0.toNat, 0, 1024]
def k0_mult26 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7234_r0 : BitVec 32 := 4#32
  let v19293_r0 : BitVec 32 := Scalar.muli arg16_r0 c4_i32_7234_r0
  let c1_i32_7235_r0 : BitVec 32 := 1#32
  let v19294_r0 : BitVec 32 := Scalar.addi v19293_r0 c1_i32_7235_r0
  let c128_i32_7432_r0 : BitVec 32 := 128#32
  let v19834_r0 : BitVec 32 := Scalar.muli v19294_r0 c128_i32_7432_r0
  v19834_r0
def k0_mult27 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7234_r0 : BitVec 32 := 4#32
  let v19293_r0 : BitVec 32 := Scalar.muli arg16_r0 c4_i32_7234_r0
  let c1_i32_7235_r0 : BitVec 32 := 1#32
  let v19294_r0 : BitVec 32 := Scalar.addi v19293_r0 c1_i32_7235_r0
  let c128_i32_7453_r0 : BitVec 32 := 128#32
  let v19892_r0 : BitVec 32 := Scalar.muli v19294_r0 c128_i32_7453_r0
  v19892_r0
def k0_off26 (k0_t1 : Fin k0_t1_loop.trips) (c1_i32_7235_r0 : BitVec 32) : Fin 4 → Nat :=
  let c1_7461_r0 : Index := 1#32
  let c0_i32_6216_r0 : BitVec 32 := 0#32
  let c1_i32_6217_r0 : BitVec 32 := 1#32
  let arg16_r0 : BitVec 32 := Scf.iv c0_i32_6216_r0 c1_i32_6217_r0 k0_t1
  let c4_i32_7234_r0 : BitVec 32 := 4#32
  let v19293_r0 : BitVec 32 := Scalar.muli arg16_r0 c4_i32_7234_r0
  let v19294_r0 : BitVec 32 := Scalar.addi v19293_r0 c1_i32_7235_r0
  let c0_i32_7447_r0 : BitVec 32 := 0#32
  let v19876_r0 : BitVec 1 := Scalar.cmpi .sgt v19294_r0 c0_i32_7447_r0
  let v19877_r0 : BitVec 32 := Scalar.extui v19876_r0
  let c0_i32_7448_r0 : BitVec 32 := 0#32
  let v19878_r0 : BitVec 1 := Scalar.cmpi .slt v19294_r0 c0_i32_7448_r0
  let v19879_r0 : BitVec 32 := Scalar.extui v19878_r0
  let v19880_r0 : BitVec 32 := Scalar.subi v19877_r0 v19879_r0
  let c2_i32_7446_r0 : BitVec 32 := 2#32
  let c0_i32_7449_r0 : BitVec 32 := 0#32
  let v19881_r0 : BitVec 1 := Scalar.cmpi .sgt c2_i32_7446_r0 c0_i32_7449_r0
  let v19882_r0 : BitVec 32 := Scalar.extui v19881_r0
  let c0_i32_7450_r0 : BitVec 32 := 0#32
  let v19883_r0 : BitVec 1 := Scalar.cmpi .slt c2_i32_7446_r0 c0_i32_7450_r0
  let v19884_r0 : BitVec 32 := Scalar.extui v19883_r0
  let v19885_r0 : BitVec 32 := Scalar.subi v19882_r0 v19884_r0
  let v19886_r0 : BitVec 1 := Scalar.cmpi .ne v19880_r0 v19885_r0
  let v19887_r0 : BitVec 32 := Scalar.remsi v19294_r0 c2_i32_7446_r0
  let c0_i32_7451_r0 : BitVec 32 := 0#32
  let v19888_r0 : BitVec 1 := Scalar.cmpi .ne v19887_r0 c0_i32_7451_r0
  let v19889_r0 : BitVec 1 := Scalar.andi v19886_r0 v19888_r0
  let v19875_r0 : BitVec 32 := Scalar.divsi v19294_r0 c2_i32_7446_r0
  let c1_i32_7452_r0 : BitVec 32 := 1#32
  let v19890_r0 : BitVec 32 := Scalar.subi v19875_r0 c1_i32_7452_r0
  let v19891_r0 : BitVec 32 := Scalar.select v19889_r0 v19890_r0 v19875_r0
  let v19914_r0 : Index := Scalar.indexCast v19891_r0
  let c1280_7462_r0 : Index := 1280#32
  ![1, v19914_r0.toNat, 0, 1280]
def k0_mult28 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7234_r0 : BitVec 32 := 4#32
  let v19293_r0 : BitVec 32 := Scalar.muli arg16_r0 c4_i32_7234_r0
  let c1_i32_7235_r0 : BitVec 32 := 1#32
  let v19294_r0 : BitVec 32 := Scalar.addi v19293_r0 c1_i32_7235_r0
  let c128_i32_7474_r0 : BitVec 32 := 128#32
  let v19950_r0 : BitVec 32 := Scalar.muli v19294_r0 c128_i32_7474_r0
  v19950_r0
def k0_mult29 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7234_r0 : BitVec 32 := 4#32
  let v19293_r0 : BitVec 32 := Scalar.muli arg16_r0 c4_i32_7234_r0
  let c1_i32_7235_r0 : BitVec 32 := 1#32
  let v19294_r0 : BitVec 32 := Scalar.addi v19293_r0 c1_i32_7235_r0
  let c128_i32_7495_r0 : BitVec 32 := 128#32
  let v20008_r0 : BitVec 32 := Scalar.muli v19294_r0 c128_i32_7495_r0
  v20008_r0
def k0_off27 (k0_t1 : Fin k0_t1_loop.trips) (c1_i32_7235_r0 : BitVec 32) : Fin 4 → Nat :=
  let c1_7503_r0 : Index := 1#32
  let c0_i32_6216_r0 : BitVec 32 := 0#32
  let c1_i32_6217_r0 : BitVec 32 := 1#32
  let arg16_r0 : BitVec 32 := Scf.iv c0_i32_6216_r0 c1_i32_6217_r0 k0_t1
  let c4_i32_7234_r0 : BitVec 32 := 4#32
  let v19293_r0 : BitVec 32 := Scalar.muli arg16_r0 c4_i32_7234_r0
  let v19294_r0 : BitVec 32 := Scalar.addi v19293_r0 c1_i32_7235_r0
  let c0_i32_7489_r0 : BitVec 32 := 0#32
  let v19992_r0 : BitVec 1 := Scalar.cmpi .sgt v19294_r0 c0_i32_7489_r0
  let v19993_r0 : BitVec 32 := Scalar.extui v19992_r0
  let c0_i32_7490_r0 : BitVec 32 := 0#32
  let v19994_r0 : BitVec 1 := Scalar.cmpi .slt v19294_r0 c0_i32_7490_r0
  let v19995_r0 : BitVec 32 := Scalar.extui v19994_r0
  let v19996_r0 : BitVec 32 := Scalar.subi v19993_r0 v19995_r0
  let c2_i32_7488_r0 : BitVec 32 := 2#32
  let c0_i32_7491_r0 : BitVec 32 := 0#32
  let v19997_r0 : BitVec 1 := Scalar.cmpi .sgt c2_i32_7488_r0 c0_i32_7491_r0
  let v19998_r0 : BitVec 32 := Scalar.extui v19997_r0
  let c0_i32_7492_r0 : BitVec 32 := 0#32
  let v19999_r0 : BitVec 1 := Scalar.cmpi .slt c2_i32_7488_r0 c0_i32_7492_r0
  let v20000_r0 : BitVec 32 := Scalar.extui v19999_r0
  let v20001_r0 : BitVec 32 := Scalar.subi v19998_r0 v20000_r0
  let v20002_r0 : BitVec 1 := Scalar.cmpi .ne v19996_r0 v20001_r0
  let v20003_r0 : BitVec 32 := Scalar.remsi v19294_r0 c2_i32_7488_r0
  let c0_i32_7493_r0 : BitVec 32 := 0#32
  let v20004_r0 : BitVec 1 := Scalar.cmpi .ne v20003_r0 c0_i32_7493_r0
  let v20005_r0 : BitVec 1 := Scalar.andi v20002_r0 v20004_r0
  let v19991_r0 : BitVec 32 := Scalar.divsi v19294_r0 c2_i32_7488_r0
  let c1_i32_7494_r0 : BitVec 32 := 1#32
  let v20006_r0 : BitVec 32 := Scalar.subi v19991_r0 c1_i32_7494_r0
  let v20007_r0 : BitVec 32 := Scalar.select v20005_r0 v20006_r0 v19991_r0
  let v20030_r0 : Index := Scalar.indexCast v20007_r0
  let c1536_7504_r0 : Index := 1536#32
  ![1, v20030_r0.toNat, 0, 1536]
def k0_mult30 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7234_r0 : BitVec 32 := 4#32
  let v19293_r0 : BitVec 32 := Scalar.muli arg16_r0 c4_i32_7234_r0
  let c1_i32_7235_r0 : BitVec 32 := 1#32
  let v19294_r0 : BitVec 32 := Scalar.addi v19293_r0 c1_i32_7235_r0
  let c128_i32_7516_r0 : BitVec 32 := 128#32
  let v20066_r0 : BitVec 32 := Scalar.muli v19294_r0 c128_i32_7516_r0
  v20066_r0
def k0_mult31 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7234_r0 : BitVec 32 := 4#32
  let v19293_r0 : BitVec 32 := Scalar.muli arg16_r0 c4_i32_7234_r0
  let c1_i32_7235_r0 : BitVec 32 := 1#32
  let v19294_r0 : BitVec 32 := Scalar.addi v19293_r0 c1_i32_7235_r0
  let c128_i32_7537_r0 : BitVec 32 := 128#32
  let v20124_r0 : BitVec 32 := Scalar.muli v19294_r0 c128_i32_7537_r0
  v20124_r0
def k0_off28 (k0_t1 : Fin k0_t1_loop.trips) (c1_i32_7235_r0 : BitVec 32) : Fin 4 → Nat :=
  let c1_7545_r0 : Index := 1#32
  let c0_i32_6216_r0 : BitVec 32 := 0#32
  let c1_i32_6217_r0 : BitVec 32 := 1#32
  let arg16_r0 : BitVec 32 := Scf.iv c0_i32_6216_r0 c1_i32_6217_r0 k0_t1
  let c4_i32_7234_r0 : BitVec 32 := 4#32
  let v19293_r0 : BitVec 32 := Scalar.muli arg16_r0 c4_i32_7234_r0
  let v19294_r0 : BitVec 32 := Scalar.addi v19293_r0 c1_i32_7235_r0
  let c0_i32_7531_r0 : BitVec 32 := 0#32
  let v20108_r0 : BitVec 1 := Scalar.cmpi .sgt v19294_r0 c0_i32_7531_r0
  let v20109_r0 : BitVec 32 := Scalar.extui v20108_r0
  let c0_i32_7532_r0 : BitVec 32 := 0#32
  let v20110_r0 : BitVec 1 := Scalar.cmpi .slt v19294_r0 c0_i32_7532_r0
  let v20111_r0 : BitVec 32 := Scalar.extui v20110_r0
  let v20112_r0 : BitVec 32 := Scalar.subi v20109_r0 v20111_r0
  let c2_i32_7530_r0 : BitVec 32 := 2#32
  let c0_i32_7533_r0 : BitVec 32 := 0#32
  let v20113_r0 : BitVec 1 := Scalar.cmpi .sgt c2_i32_7530_r0 c0_i32_7533_r0
  let v20114_r0 : BitVec 32 := Scalar.extui v20113_r0
  let c0_i32_7534_r0 : BitVec 32 := 0#32
  let v20115_r0 : BitVec 1 := Scalar.cmpi .slt c2_i32_7530_r0 c0_i32_7534_r0
  let v20116_r0 : BitVec 32 := Scalar.extui v20115_r0
  let v20117_r0 : BitVec 32 := Scalar.subi v20114_r0 v20116_r0
  let v20118_r0 : BitVec 1 := Scalar.cmpi .ne v20112_r0 v20117_r0
  let v20119_r0 : BitVec 32 := Scalar.remsi v19294_r0 c2_i32_7530_r0
  let c0_i32_7535_r0 : BitVec 32 := 0#32
  let v20120_r0 : BitVec 1 := Scalar.cmpi .ne v20119_r0 c0_i32_7535_r0
  let v20121_r0 : BitVec 1 := Scalar.andi v20118_r0 v20120_r0
  let v20107_r0 : BitVec 32 := Scalar.divsi v19294_r0 c2_i32_7530_r0
  let c1_i32_7536_r0 : BitVec 32 := 1#32
  let v20122_r0 : BitVec 32 := Scalar.subi v20107_r0 c1_i32_7536_r0
  let v20123_r0 : BitVec 32 := Scalar.select v20121_r0 v20122_r0 v20107_r0
  let v20146_r0 : Index := Scalar.indexCast v20123_r0
  let c1792_7546_r0 : Index := 1792#32
  ![1, v20146_r0.toNat, 0, 1792]
def k0_mult32 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7234_r0 : BitVec 32 := 4#32
  let v19293_r0 : BitVec 32 := Scalar.muli arg16_r0 c4_i32_7234_r0
  let c1_i32_7235_r0 : BitVec 32 := 1#32
  let v19294_r0 : BitVec 32 := Scalar.addi v19293_r0 c1_i32_7235_r0
  let c128_i32_7558_r0 : BitVec 32 := 128#32
  let v20182_r0 : BitVec 32 := Scalar.muli v19294_r0 c128_i32_7558_r0
  v20182_r0
def k0_mult33 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7572_r0 : BitVec 32 := 4#32
  let v20223_r0 : BitVec 32 := Scalar.muli arg16_r0 c4_i32_7572_r0
  let c2_i32_7573_r0 : BitVec 32 := 2#32
  let v20224_r0 : BitVec 32 := Scalar.addi v20223_r0 c2_i32_7573_r0
  let c128_i32_7581_r0 : BitVec 32 := 128#32
  let v20242_r0 : BitVec 32 := Scalar.muli v20224_r0 c128_i32_7581_r0
  v20242_r0
def k0_mult34 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7572_r0 : BitVec 32 := 4#32
  let v20223_r0 : BitVec 32 := Scalar.muli arg16_r0 c4_i32_7572_r0
  let c2_i32_7573_r0 : BitVec 32 := 2#32
  let v20224_r0 : BitVec 32 := Scalar.addi v20223_r0 c2_i32_7573_r0
  let c128_i32_7602_r0 : BitVec 32 := 128#32
  let v20300_r0 : BitVec 32 := Scalar.muli v20224_r0 c128_i32_7602_r0
  v20300_r0
def k0_mult35 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7572_r0 : BitVec 32 := 4#32
  let v20223_r0 : BitVec 32 := Scalar.muli arg16_r0 c4_i32_7572_r0
  let c2_i32_7573_r0 : BitVec 32 := 2#32
  let v20224_r0 : BitVec 32 := Scalar.addi v20223_r0 c2_i32_7573_r0
  let c128_i32_7623_r0 : BitVec 32 := 128#32
  let v20358_r0 : BitVec 32 := Scalar.muli v20224_r0 c128_i32_7623_r0
  v20358_r0
def k0_mult36 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7572_r0 : BitVec 32 := 4#32
  let v20223_r0 : BitVec 32 := Scalar.muli arg16_r0 c4_i32_7572_r0
  let c2_i32_7573_r0 : BitVec 32 := 2#32
  let v20224_r0 : BitVec 32 := Scalar.addi v20223_r0 c2_i32_7573_r0
  let c128_i32_7644_r0 : BitVec 32 := 128#32
  let v20416_r0 : BitVec 32 := Scalar.muli v20224_r0 c128_i32_7644_r0
  v20416_r0
def k0_mult37 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7572_r0 : BitVec 32 := 4#32
  let v20223_r0 : BitVec 32 := Scalar.muli arg16_r0 c4_i32_7572_r0
  let c2_i32_7573_r0 : BitVec 32 := 2#32
  let v20224_r0 : BitVec 32 := Scalar.addi v20223_r0 c2_i32_7573_r0
  let c128_i32_7665_r0 : BitVec 32 := 128#32
  let v20474_r0 : BitVec 32 := Scalar.muli v20224_r0 c128_i32_7665_r0
  v20474_r0
def k0_mult38 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7572_r0 : BitVec 32 := 4#32
  let v20223_r0 : BitVec 32 := Scalar.muli arg16_r0 c4_i32_7572_r0
  let c2_i32_7573_r0 : BitVec 32 := 2#32
  let v20224_r0 : BitVec 32 := Scalar.addi v20223_r0 c2_i32_7573_r0
  let c128_i32_7686_r0 : BitVec 32 := 128#32
  let v20532_r0 : BitVec 32 := Scalar.muli v20224_r0 c128_i32_7686_r0
  v20532_r0
def k0_mult39 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7572_r0 : BitVec 32 := 4#32
  let v20223_r0 : BitVec 32 := Scalar.muli arg16_r0 c4_i32_7572_r0
  let c2_i32_7573_r0 : BitVec 32 := 2#32
  let v20224_r0 : BitVec 32 := Scalar.addi v20223_r0 c2_i32_7573_r0
  let c128_i32_7707_r0 : BitVec 32 := 128#32
  let v20590_r0 : BitVec 32 := Scalar.muli v20224_r0 c128_i32_7707_r0
  v20590_r0
def k0_mult40 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7572_r0 : BitVec 32 := 4#32
  let v20223_r0 : BitVec 32 := Scalar.muli arg16_r0 c4_i32_7572_r0
  let c2_i32_7573_r0 : BitVec 32 := 2#32
  let v20224_r0 : BitVec 32 := Scalar.addi v20223_r0 c2_i32_7573_r0
  let c128_i32_7728_r0 : BitVec 32 := 128#32
  let v20648_r0 : BitVec 32 := Scalar.muli v20224_r0 c128_i32_7728_r0
  v20648_r0
def k0_mult41 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7572_r0 : BitVec 32 := 4#32
  let v20223_r0 : BitVec 32 := Scalar.muli arg16_r0 c4_i32_7572_r0
  let c2_i32_7573_r0 : BitVec 32 := 2#32
  let v20224_r0 : BitVec 32 := Scalar.addi v20223_r0 c2_i32_7573_r0
  let c128_i32_7749_r0 : BitVec 32 := 128#32
  let v20706_r0 : BitVec 32 := Scalar.muli v20224_r0 c128_i32_7749_r0
  v20706_r0
def k0_mult42 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7572_r0 : BitVec 32 := 4#32
  let v20223_r0 : BitVec 32 := Scalar.muli arg16_r0 c4_i32_7572_r0
  let c2_i32_7573_r0 : BitVec 32 := 2#32
  let v20224_r0 : BitVec 32 := Scalar.addi v20223_r0 c2_i32_7573_r0
  let c128_i32_7770_r0 : BitVec 32 := 128#32
  let v20764_r0 : BitVec 32 := Scalar.muli v20224_r0 c128_i32_7770_r0
  v20764_r0
def k0_mult43 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7572_r0 : BitVec 32 := 4#32
  let v20223_r0 : BitVec 32 := Scalar.muli arg16_r0 c4_i32_7572_r0
  let c2_i32_7573_r0 : BitVec 32 := 2#32
  let v20224_r0 : BitVec 32 := Scalar.addi v20223_r0 c2_i32_7573_r0
  let c128_i32_7791_r0 : BitVec 32 := 128#32
  let v20822_r0 : BitVec 32 := Scalar.muli v20224_r0 c128_i32_7791_r0
  v20822_r0
def k0_mult44 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7572_r0 : BitVec 32 := 4#32
  let v20223_r0 : BitVec 32 := Scalar.muli arg16_r0 c4_i32_7572_r0
  let c2_i32_7573_r0 : BitVec 32 := 2#32
  let v20224_r0 : BitVec 32 := Scalar.addi v20223_r0 c2_i32_7573_r0
  let c128_i32_7812_r0 : BitVec 32 := 128#32
  let v20880_r0 : BitVec 32 := Scalar.muli v20224_r0 c128_i32_7812_r0
  v20880_r0
def k0_mult45 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7572_r0 : BitVec 32 := 4#32
  let v20223_r0 : BitVec 32 := Scalar.muli arg16_r0 c4_i32_7572_r0
  let c2_i32_7573_r0 : BitVec 32 := 2#32
  let v20224_r0 : BitVec 32 := Scalar.addi v20223_r0 c2_i32_7573_r0
  let c128_i32_7833_r0 : BitVec 32 := 128#32
  let v20938_r0 : BitVec 32 := Scalar.muli v20224_r0 c128_i32_7833_r0
  v20938_r0
def k0_mult46 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7572_r0 : BitVec 32 := 4#32
  let v20223_r0 : BitVec 32 := Scalar.muli arg16_r0 c4_i32_7572_r0
  let c2_i32_7573_r0 : BitVec 32 := 2#32
  let v20224_r0 : BitVec 32 := Scalar.addi v20223_r0 c2_i32_7573_r0
  let c128_i32_7854_r0 : BitVec 32 := 128#32
  let v20996_r0 : BitVec 32 := Scalar.muli v20224_r0 c128_i32_7854_r0
  v20996_r0
def k0_mult47 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7572_r0 : BitVec 32 := 4#32
  let v20223_r0 : BitVec 32 := Scalar.muli arg16_r0 c4_i32_7572_r0
  let c2_i32_7573_r0 : BitVec 32 := 2#32
  let v20224_r0 : BitVec 32 := Scalar.addi v20223_r0 c2_i32_7573_r0
  let c128_i32_7875_r0 : BitVec 32 := 128#32
  let v21054_r0 : BitVec 32 := Scalar.muli v20224_r0 c128_i32_7875_r0
  v21054_r0
def k0_mult48 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7572_r0 : BitVec 32 := 4#32
  let v20223_r0 : BitVec 32 := Scalar.muli arg16_r0 c4_i32_7572_r0
  let c2_i32_7573_r0 : BitVec 32 := 2#32
  let v20224_r0 : BitVec 32 := Scalar.addi v20223_r0 c2_i32_7573_r0
  let c128_i32_7896_r0 : BitVec 32 := 128#32
  let v21112_r0 : BitVec 32 := Scalar.muli v20224_r0 c128_i32_7896_r0
  v21112_r0
def k0_mult49 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7910_r0 : BitVec 32 := 4#32
  let v21153_r0 : BitVec 32 := Scalar.muli arg16_r0 c4_i32_7910_r0
  let c3_i32_7911_r0 : BitVec 32 := 3#32
  let v21154_r0 : BitVec 32 := Scalar.addi v21153_r0 c3_i32_7911_r0
  let c128_i32_7919_r0 : BitVec 32 := 128#32
  let v21172_r0 : BitVec 32 := Scalar.muli v21154_r0 c128_i32_7919_r0
  v21172_r0
def k0_mult50 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7910_r0 : BitVec 32 := 4#32
  let v21153_r0 : BitVec 32 := Scalar.muli arg16_r0 c4_i32_7910_r0
  let c3_i32_7911_r0 : BitVec 32 := 3#32
  let v21154_r0 : BitVec 32 := Scalar.addi v21153_r0 c3_i32_7911_r0
  let c128_i32_7940_r0 : BitVec 32 := 128#32
  let v21230_r0 : BitVec 32 := Scalar.muli v21154_r0 c128_i32_7940_r0
  v21230_r0
def k0_mult51 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7910_r0 : BitVec 32 := 4#32
  let v21153_r0 : BitVec 32 := Scalar.muli arg16_r0 c4_i32_7910_r0
  let c3_i32_7911_r0 : BitVec 32 := 3#32
  let v21154_r0 : BitVec 32 := Scalar.addi v21153_r0 c3_i32_7911_r0
  let c128_i32_7961_r0 : BitVec 32 := 128#32
  let v21288_r0 : BitVec 32 := Scalar.muli v21154_r0 c128_i32_7961_r0
  v21288_r0
def k0_mult52 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7910_r0 : BitVec 32 := 4#32
  let v21153_r0 : BitVec 32 := Scalar.muli arg16_r0 c4_i32_7910_r0
  let c3_i32_7911_r0 : BitVec 32 := 3#32
  let v21154_r0 : BitVec 32 := Scalar.addi v21153_r0 c3_i32_7911_r0
  let c128_i32_7982_r0 : BitVec 32 := 128#32
  let v21346_r0 : BitVec 32 := Scalar.muli v21154_r0 c128_i32_7982_r0
  v21346_r0
def k0_mult53 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7910_r0 : BitVec 32 := 4#32
  let v21153_r0 : BitVec 32 := Scalar.muli arg16_r0 c4_i32_7910_r0
  let c3_i32_7911_r0 : BitVec 32 := 3#32
  let v21154_r0 : BitVec 32 := Scalar.addi v21153_r0 c3_i32_7911_r0
  let c128_i32_8003_r0 : BitVec 32 := 128#32
  let v21404_r0 : BitVec 32 := Scalar.muli v21154_r0 c128_i32_8003_r0
  v21404_r0
def k0_mult54 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7910_r0 : BitVec 32 := 4#32
  let v21153_r0 : BitVec 32 := Scalar.muli arg16_r0 c4_i32_7910_r0
  let c3_i32_7911_r0 : BitVec 32 := 3#32
  let v21154_r0 : BitVec 32 := Scalar.addi v21153_r0 c3_i32_7911_r0
  let c128_i32_8024_r0 : BitVec 32 := 128#32
  let v21462_r0 : BitVec 32 := Scalar.muli v21154_r0 c128_i32_8024_r0
  v21462_r0
def k0_mult55 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7910_r0 : BitVec 32 := 4#32
  let v21153_r0 : BitVec 32 := Scalar.muli arg16_r0 c4_i32_7910_r0
  let c3_i32_7911_r0 : BitVec 32 := 3#32
  let v21154_r0 : BitVec 32 := Scalar.addi v21153_r0 c3_i32_7911_r0
  let c128_i32_8045_r0 : BitVec 32 := 128#32
  let v21520_r0 : BitVec 32 := Scalar.muli v21154_r0 c128_i32_8045_r0
  v21520_r0
def k0_mult56 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7910_r0 : BitVec 32 := 4#32
  let v21153_r0 : BitVec 32 := Scalar.muli arg16_r0 c4_i32_7910_r0
  let c3_i32_7911_r0 : BitVec 32 := 3#32
  let v21154_r0 : BitVec 32 := Scalar.addi v21153_r0 c3_i32_7911_r0
  let c128_i32_8066_r0 : BitVec 32 := 128#32
  let v21578_r0 : BitVec 32 := Scalar.muli v21154_r0 c128_i32_8066_r0
  v21578_r0
def k0_mult57 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7910_r0 : BitVec 32 := 4#32
  let v21153_r0 : BitVec 32 := Scalar.muli arg16_r0 c4_i32_7910_r0
  let c3_i32_7911_r0 : BitVec 32 := 3#32
  let v21154_r0 : BitVec 32 := Scalar.addi v21153_r0 c3_i32_7911_r0
  let c128_i32_8087_r0 : BitVec 32 := 128#32
  let v21636_r0 : BitVec 32 := Scalar.muli v21154_r0 c128_i32_8087_r0
  v21636_r0
def k0_mult58 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7910_r0 : BitVec 32 := 4#32
  let v21153_r0 : BitVec 32 := Scalar.muli arg16_r0 c4_i32_7910_r0
  let c3_i32_7911_r0 : BitVec 32 := 3#32
  let v21154_r0 : BitVec 32 := Scalar.addi v21153_r0 c3_i32_7911_r0
  let c128_i32_8108_r0 : BitVec 32 := 128#32
  let v21694_r0 : BitVec 32 := Scalar.muli v21154_r0 c128_i32_8108_r0
  v21694_r0
def k0_mult59 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7910_r0 : BitVec 32 := 4#32
  let v21153_r0 : BitVec 32 := Scalar.muli arg16_r0 c4_i32_7910_r0
  let c3_i32_7911_r0 : BitVec 32 := 3#32
  let v21154_r0 : BitVec 32 := Scalar.addi v21153_r0 c3_i32_7911_r0
  let c128_i32_8129_r0 : BitVec 32 := 128#32
  let v21752_r0 : BitVec 32 := Scalar.muli v21154_r0 c128_i32_8129_r0
  v21752_r0
def k0_mult60 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7910_r0 : BitVec 32 := 4#32
  let v21153_r0 : BitVec 32 := Scalar.muli arg16_r0 c4_i32_7910_r0
  let c3_i32_7911_r0 : BitVec 32 := 3#32
  let v21154_r0 : BitVec 32 := Scalar.addi v21153_r0 c3_i32_7911_r0
  let c128_i32_8150_r0 : BitVec 32 := 128#32
  let v21810_r0 : BitVec 32 := Scalar.muli v21154_r0 c128_i32_8150_r0
  v21810_r0
def k0_mult61 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7910_r0 : BitVec 32 := 4#32
  let v21153_r0 : BitVec 32 := Scalar.muli arg16_r0 c4_i32_7910_r0
  let c3_i32_7911_r0 : BitVec 32 := 3#32
  let v21154_r0 : BitVec 32 := Scalar.addi v21153_r0 c3_i32_7911_r0
  let c128_i32_8171_r0 : BitVec 32 := 128#32
  let v21868_r0 : BitVec 32 := Scalar.muli v21154_r0 c128_i32_8171_r0
  v21868_r0
def k0_mult62 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7910_r0 : BitVec 32 := 4#32
  let v21153_r0 : BitVec 32 := Scalar.muli arg16_r0 c4_i32_7910_r0
  let c3_i32_7911_r0 : BitVec 32 := 3#32
  let v21154_r0 : BitVec 32 := Scalar.addi v21153_r0 c3_i32_7911_r0
  let c128_i32_8192_r0 : BitVec 32 := 128#32
  let v21926_r0 : BitVec 32 := Scalar.muli v21154_r0 c128_i32_8192_r0
  v21926_r0
def k0_mult63 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7910_r0 : BitVec 32 := 4#32
  let v21153_r0 : BitVec 32 := Scalar.muli arg16_r0 c4_i32_7910_r0
  let c3_i32_7911_r0 : BitVec 32 := 3#32
  let v21154_r0 : BitVec 32 := Scalar.addi v21153_r0 c3_i32_7911_r0
  let c128_i32_8213_r0 : BitVec 32 := 128#32
  let v21984_r0 : BitVec 32 := Scalar.muli v21154_r0 c128_i32_8213_r0
  v21984_r0
def k0_mult64 (k0_t1 : Fin k0_t1_loop.trips) : BitVec 32 :=
  let c0_i32_6216_r0 : BitVec 32 := 0#32
  let c1_i32_6217_r0 : BitVec 32 := 1#32
  let arg16_r0 : BitVec 32 := Scf.iv c0_i32_6216_r0 c1_i32_6217_r0 k0_t1
  let c4_i32_7910_r0 : BitVec 32 := 4#32
  let v21153_r0 : BitVec 32 := Scalar.muli arg16_r0 c4_i32_7910_r0
  let c3_i32_7911_r0 : BitVec 32 := 3#32
  let v21154_r0 : BitVec 32 := Scalar.addi v21153_r0 c3_i32_7911_r0
  let c128_i32_8234_r0 : BitVec 32 := 128#32
  let v22042_r0 : BitVec 32 := Scalar.muli v21154_r0 c128_i32_8234_r0
  v22042_r0
abbrev stage0_0 : Fin 1 → Memref sig .tc .vmem S16x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S16x1x11264 : Shape := ⟨3, ![16, 1, 11264]⟩
abbrev S11264x2048 : Shape := ⟨2, ![11264, 2048]⟩
abbrev S88x4096 : Shape := ⟨2, ![88, 4096]⟩
abbrev S16x11264 : Shape := ⟨2, ![16, 11264]⟩
abbrev S_ : Shape := ⟨0, ![]⟩
abbrev S88x2048 : Shape := ⟨2, ![88, 2048]⟩
abbrev S88x128x2048 : Shape := ⟨3, ![88, 128, 2048]⟩
abbrev S88x1x2048 : Shape := ⟨3, ![88, 1, 2048]⟩
abbrev S16x2048 : Shape := ⟨2, ![16, 2048]⟩
abbrev S16x2048x1 : Shape := ⟨3, ![16, 2048, 1]⟩
abbrev S16x2048x2 : Shape := ⟨3, ![16, 2048, 2]⟩
abbrev S16x4096 : Shape := ⟨2, ![16, 4096]⟩
abbrev S16x1x4096 : Shape := ⟨3, ![16, 1, 4096]⟩

abbrev nBuf : Space → Nat
  | .hbm => 84
  | .vmem => 0
  | .smem => 0
  | _ => 0

abbrev bufTy : (tb : Table) → Fin (tcTables nBuf tb) → BufTy
  | .hbm, ⟨0, _⟩ => ⟨S16x1x11264, .bf16⟩
  | .hbm, ⟨1, _⟩ => ⟨S11264x2048, .i8⟩
  | .hbm, ⟨2, _⟩ => ⟨S88x4096, .bf16⟩
  | .hbm, ⟨3, _⟩ => ⟨S11264x2048, .i8⟩
  | .hbm, ⟨4, _⟩ => ⟨S88x4096, .bf16⟩
  | .hbm, ⟨5, _⟩ => ⟨S16x11264, .bf16⟩
  | .hbm, ⟨6, _⟩ => ⟨S11264x2048, .i32⟩
  | .hbm, ⟨7, _⟩ => ⟨S_, .i32⟩
  | .hbm, ⟨8, _⟩ => ⟨S11264x2048, .i32⟩
  | .hbm, ⟨9, _⟩ => ⟨S11264x2048, .i32⟩
  | .hbm, ⟨10, _⟩ => ⟨S_, .i32⟩
  | .hbm, ⟨11, _⟩ => ⟨S11264x2048, .i32⟩
  | .hbm, ⟨12, _⟩ => ⟨S11264x2048, .i32⟩
  | .hbm, ⟨13, _⟩ => ⟨S88x2048, .bf16⟩
  | .hbm, ⟨14, _⟩ => ⟨S11264x2048, .bf16⟩
  | .hbm, ⟨15, _⟩ => ⟨S_, .bf16⟩
  | .hbm, ⟨16, _⟩ => ⟨S11264x2048, .bf16⟩
  | .hbm, ⟨17, _⟩ => ⟨S11264x2048, .bf16⟩
  | .hbm, ⟨18, _⟩ => ⟨S88x128x2048, .bf16⟩
  | .hbm, ⟨19, _⟩ => ⟨S88x1x2048, .bf16⟩
  | .hbm, ⟨20, _⟩ => ⟨S88x128x2048, .bf16⟩
  | .hbm, ⟨21, _⟩ => ⟨S88x128x2048, .bf16⟩
  | .hbm, ⟨22, _⟩ => ⟨S11264x2048, .bf16⟩
  | .hbm, ⟨23, _⟩ => ⟨S88x2048, .bf16⟩
  | .hbm, ⟨24, _⟩ => ⟨S11264x2048, .bf16⟩
  | .hbm, ⟨25, _⟩ => ⟨S_, .bf16⟩
  | .hbm, ⟨26, _⟩ => ⟨S11264x2048, .bf16⟩
  | .hbm, ⟨27, _⟩ => ⟨S11264x2048, .bf16⟩
  | .hbm, ⟨28, _⟩ => ⟨S88x128x2048, .bf16⟩
  | .hbm, ⟨29, _⟩ => ⟨S88x1x2048, .bf16⟩
  | .hbm, ⟨30, _⟩ => ⟨S88x128x2048, .bf16⟩
  | .hbm, ⟨31, _⟩ => ⟨S88x128x2048, .bf16⟩
  | .hbm, ⟨32, _⟩ => ⟨S11264x2048, .bf16⟩
  | .hbm, ⟨33, _⟩ => ⟨S16x2048, .f32⟩
  | .hbm, ⟨34, _⟩ => ⟨S16x2048, .f32⟩
  | .hbm, ⟨35, _⟩ => ⟨S16x2048x1, .f32⟩
  | .hbm, ⟨36, _⟩ => ⟨S16x2048x1, .f32⟩
  | .hbm, ⟨37, _⟩ => ⟨S16x2048x2, .f32⟩
  | .hbm, ⟨38, _⟩ => ⟨S16x4096, .f32⟩
  | .hbm, ⟨39, _⟩ => ⟨S11264x2048, .i32⟩
  | .hbm, ⟨40, _⟩ => ⟨S_, .i32⟩
  | .hbm, ⟨41, _⟩ => ⟨S11264x2048, .i32⟩
  | .hbm, ⟨42, _⟩ => ⟨S11264x2048, .i32⟩
  | .hbm, ⟨43, _⟩ => ⟨S_, .i32⟩
  | .hbm, ⟨44, _⟩ => ⟨S11264x2048, .i32⟩
  | .hbm, ⟨45, _⟩ => ⟨S11264x2048, .i32⟩
  | .hbm, ⟨46, _⟩ => ⟨S88x2048, .bf16⟩
  | .hbm, ⟨47, _⟩ => ⟨S11264x2048, .bf16⟩
  | .hbm, ⟨48, _⟩ => ⟨S_, .bf16⟩
  | .hbm, ⟨49, _⟩ => ⟨S11264x2048, .bf16⟩
  | .hbm, ⟨50, _⟩ => ⟨S11264x2048, .bf16⟩
  | .hbm, ⟨51, _⟩ => ⟨S88x128x2048, .bf16⟩
  | .hbm, ⟨52, _⟩ => ⟨S88x1x2048, .bf16⟩
  | .hbm, ⟨53, _⟩ => ⟨S88x128x2048, .bf16⟩
  | .hbm, ⟨54, _⟩ => ⟨S88x128x2048, .bf16⟩
  | .hbm, ⟨55, _⟩ => ⟨S11264x2048, .bf16⟩
  | .hbm, ⟨56, _⟩ => ⟨S88x2048, .bf16⟩
  | .hbm, ⟨57, _⟩ => ⟨S11264x2048, .bf16⟩
  | .hbm, ⟨58, _⟩ => ⟨S_, .bf16⟩
  | .hbm, ⟨59, _⟩ => ⟨S11264x2048, .bf16⟩
  | .hbm, ⟨60, _⟩ => ⟨S11264x2048, .bf16⟩
  | .hbm, ⟨61, _⟩ => ⟨S88x128x2048, .bf16⟩
  | .hbm, ⟨62, _⟩ => ⟨S88x1x2048, .bf16⟩
  | .hbm, ⟨63, _⟩ => ⟨S88x128x2048, .bf16⟩
  | .hbm, ⟨64, _⟩ => ⟨S88x128x2048, .bf16⟩
  | .hbm, ⟨65, _⟩ => ⟨S11264x2048, .bf16⟩
  | .hbm, ⟨66, _⟩ => ⟨S16x2048, .f32⟩
  | .hbm, ⟨67, _⟩ => ⟨S16x2048, .f32⟩
  | .hbm, ⟨68, _⟩ => ⟨S16x2048x1, .f32⟩
  | .hbm, ⟨69, _⟩ => ⟨S16x2048x1, .f32⟩
  | .hbm, ⟨70, _⟩ => ⟨S16x2048x2, .f32⟩
  | .hbm, ⟨71, _⟩ => ⟨S16x4096, .f32⟩
  | .hbm, ⟨72, _⟩ => ⟨S16x4096, .f32⟩
  | .hbm, ⟨73, _⟩ => ⟨S16x4096, .f32⟩
  | .hbm, ⟨74, _⟩ => ⟨S_, .f32⟩
  | .hbm, ⟨75, _⟩ => ⟨S16x4096, .f32⟩
  | .hbm, ⟨76, _⟩ => ⟨S16x4096, .f32⟩
  | .hbm, ⟨77, _⟩ => ⟨S_, .f32⟩
  | .hbm, ⟨78, _⟩ => ⟨S16x4096, .f32⟩
  | .hbm, ⟨79, _⟩ => ⟨S16x4096, .f32⟩
  | .hbm, ⟨80, _⟩ => ⟨S16x4096, .f32⟩
  | .hbm, ⟨81, _⟩ => ⟨S16x4096, .f32⟩
  | .hbm, ⟨82, _⟩ => ⟨S16x4096, .bf16⟩
  | .hbm, ⟨83, _⟩ => ⟨S16x1x4096, .bf16⟩
  | _, _ => ⟨S16x1x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c_2 : Ref sig .tc := ⟨.hbm, 40, rfl⟩
abbrev main_v31 : Ref sig .tc := ⟨.hbm, 41, rfl⟩
abbrev main_v32 : Ref sig .tc := ⟨.hbm, 42, rfl⟩
abbrev main_c_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_4 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_5 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_call0_v0 : Ref sig .tc := ⟨.hbm, 72, rfl⟩
abbrev main_call0_v1 : Ref sig .tc := ⟨.hbm, 73, rfl⟩
abbrev main_call0_cst : Ref sig .tc := ⟨.hbm, 74, rfl⟩
abbrev main_call0_v2 : Ref sig .tc := ⟨.hbm, 75, rfl⟩
abbrev main_call0_v3 : Ref sig .tc := ⟨.hbm, 76, rfl⟩
abbrev main_call0_cst_0 : Ref sig .tc := ⟨.hbm, 77, rfl⟩
abbrev main_call0_v4 : Ref sig .tc := ⟨.hbm, 78, rfl⟩
abbrev main_call0_v5 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]
-- ==== Proof.Canon.lean ====
module

public import proofs.«01_k».proof.Proof.Gen.KernelIdeal.Skeleton
public import proofs.«01_k».proof.Proof.Gen.KernelIdeal
public import Idealize.ShloMosaic.Lib.Pipeline.Regions

/-! # The kernel's program, written as recursions

The printed kernel is straight-line text of some twelve hundred memory operations around one loop.
Here the same program is written as a few recursions: the transfers' starts, the activations'
pieces, the scales' columns, a tile of the loop, and the results' columns. `cc0_eq` says the two
are the same program. -/

@[expose] public section

set_option synthInstance.maxSize 4096

noncomputable section

namespace Cert.KernelIdeal.Canon

open Idealize.ShloMosaic Idealize.SL.Sem
open Cert.KernelIdeal.Gen (k0_off4_eq k0_off7_eq k0_off9_eq k0_off11_eq k0_off13_eq k0_off15_eq k0_off17_eq k0_off19_eq k0_off5_eq k0_off8_eq k0_off10_eq k0_off12_eq k0_off14_eq k0_off16_eq k0_off18_eq k0_off20_eq k0_off21_eq k0_off22_eq k0_off23_eq k0_off24_eq k0_off25_eq k0_off26_eq k0_off27_eq k0_off28_eq)
open K0.Facts₀ Shapes1.Facts₀ Shapes2.Facts₀

variable {F : FTy → Type} [FloatOps F] {α : Type}

/-- Programs of this kernel. -/
abbrev PR (F : FTy → Type) [FloatOps F] (α : Type) := Prog (TpuEff nD τ sig (Elt F) Λ₀ .tc) α

theorem bind_assoc_ {β γ δ : Type} (x : PR F β) (f : β → PR F γ) (g : γ → PR F δ) :
    ((x >>= f) >>= g) = (x >>= fun r => f r >>= g) := Prog.bind_assoc x f g

/-! ## Vectors -/

/-- A lane index, brought into range when negative. -/
def normIdx (d : IVec S8x128 32) : IVec S8x128 32 :=
  shapeCast S8x128 (shapeCast S8x128x1 (select (cmpi .slt d (broadcast S8x128 0#32)) (addi d (broadcast S8x128 128#32)) d) shapeCasts_S8x128_S8x128x1) shapeCasts_S8x128x1_S8x128

/-- Half the lane number, rounded down. -/
def halfLane8 : IVec S8x128 32 :=
  select (andi (cmpi .ne (subi (extui 32 (cmpi .sgt (iota .tc S8x128 32 [1] iota_S8x128_d1_w32) (broadcast S8x128 0#32)) natLt_1_32) (extui 32 (cmpi .slt (iota .tc S8x128 32 [1] iota_S8x128_d1_w32) (broadcast S8x128 0#32)) natLt_1_32)) (broadcast S8x128 (Scalar.subi (Scalar.extui (Scalar.cmpi .sgt 2#32 0#32)) (Scalar.extui (Scalar.cmpi .slt 2#32 0#32))))) (cmpi .ne (remsi (iota .tc S8x128 32 [1] iota_S8x128_d1_w32) (broadcast S8x128 2#32)) (broadcast S8x128 0#32))) (subi (divsi (iota .tc S8x128 32 [1] iota_S8x128_d1_w32) (broadcast S8x128 2#32)) (broadcast S8x128 1#32)) (divsi (iota .tc S8x128 32 [1] iota_S8x128_d1_w32) (broadcast S8x128 2#32))

/-- The lanes a half of the activations' block is read from. -/
def dupIdx (h : Fin 2) : IVec S8x128 32 :=
  if h = 0 then halfLane8 else addi halfLane8 (broadcast S8x128 64#32)

/-- One parity of the rows, with its lanes read at an index. -/
def dupHalf (d : IVec S8x128 32) (v : FVec F S8x128 .bf16) : FVec F S8x128 .bf16 :=
  truncf .bf16 (dynamicGather 1 (extf .f32 v) (normIdx d))

/-- The activations' block with its lanes read at an index. -/
def dup (d : IVec S8x128 32) (v : Vec F S16x128 .bf16) : FVec F S16x128 .bf16 :=
  interleaveRows S16x128 (dupHalf d (rowsOfParity 0 S8x128 v bitcasts_S16x128_w16_S8x128_w32)) (dupHalf d (rowsOfParity 1 S8x128 v bitcasts_S16x128_w16_S8x128_w32)) bitcasts_S16x128_w16_S8x128_w32

/-- The lane number. -/
def lane16 : IVec S16x128 32 := iota .tc S16x128 32 [1] iota_S16x128_d1_w32

/-- The lane number modulo two. -/
def laneParity : IVec S16x128 32 :=
  (select (andi (xori (cmpi .slt (remsi lane16 (broadcast S16x128 (Scalar.select (Scalar.cmpi .eq 2#32 0#32) 1#32 2#32))) (broadcast S16x128 0#32)) (broadcastTo S16x128 (broadcast S16x128 (Scalar.cmpi .slt (Scalar.select (Scalar.cmpi .eq 2#32 0#32) 1#32 2#32) 0#32)) broadcasts_S16x128_S16x128)) (cmpi .ne (remsi lane16 (broadcast S16x128 (Scalar.select (Scalar.cmpi .eq 2#32 0#32) 1#32 2#32))) (broadcast S16x128 0#32))) (addi (remsi lane16 (broadcast S16x128 (Scalar.select (Scalar.cmpi .eq 2#32 0#32) 1#32 2#32))) (broadcast S16x128 (Scalar.select (Scalar.cmpi .eq 2#32 0#32) 1#32 2#32))) (remsi lane16 (broadcast S16x128 (Scalar.select (Scalar.cmpi .eq 2#32 0#32) 1#32 2#32))))

/-- A piece of the spread activations: lanes doubled, the other parity's lanes zero. -/
def xPay (X h : Fin 2) (v : Vec F S16x128 .bf16) : FVec F S1x16x128 .bf16 :=
  shapeCast S1x16x128 (select (cmpi .eq laneParity (broadcast S16x128 (BitVec.ofNat 32 X.val))) (dup (dupIdx h) v) (broadcast S16x128 (Scalar.ofBits .bf16 0x0000#16))) shapeCasts_S16x128_S1x16x128

/-- Whether a lane reads the first of two column blocks. -/
def sFirst : IVec S44x128 1 :=
  cmpi .slt (iota .tc S44x128 32 [1] iota_S44x128_d1_w32) (broadcast S44x128 64#32)

/-- Twice the lane number, modulo 128. -/
def sEven : IVec S44x128 32 :=
  select (andi (xori (cmpi .slt (remsi (muli (broadcast S44x128 2#32) (iota .tc S44x128 32 [1] iota_S44x128_d1_w32)) (broadcast S44x128 (Scalar.select (Scalar.cmpi .eq 128#32 0#32) 1#32 128#32))) (broadcast S44x128 0#32)) (broadcastTo S44x128 (broadcast S44x128 (Scalar.cmpi .slt (Scalar.select (Scalar.cmpi .eq 128#32 0#32) 1#32 128#32) 0#32)) broadcasts_S44x128_S44x128)) (cmpi .ne (remsi (muli (broadcast S44x128 2#32) (iota .tc S44x128 32 [1] iota_S44x128_d1_w32)) (broadcast S44x128 (Scalar.select (Scalar.cmpi .eq 128#32 0#32) 1#32 128#32))) (broadcast S44x128 0#32))) (addi (remsi (muli (broadcast S44x128 2#32) (iota .tc S44x128 32 [1] iota_S44x128_d1_w32)) (broadcast S44x128 (Scalar.select (Scalar.cmpi .eq 128#32 0#32) 1#32 128#32))) (broadcast S44x128 (Scalar.select (Scalar.cmpi .eq 128#32 0#32) 1#32 128#32))) (remsi (muli (broadcast S44x128 2#32) (iota .tc S44x128 32 [1] iota_S44x128_d1_w32)) (broadcast S44x128 (Scalar.select (Scalar.cmpi .eq 128#32 0#32) 1#32 128#32)))

/-- Twice the lane number and one, modulo 128. -/
def sOdd : IVec S44x128 32 := addi sEven (broadcast S44x128 1#32)

/-- One parity of a scales' block with its lanes read at an index. -/
def sGather (d : IVec S44x128 32) (par : Fin 2) (v : Vec F S88x128 .bf16) : FVec F S44x128 .bf16 :=
  truncf .bf16 (dynamicGather 1 (extf .f32 (rowsOfParity par S44x128 v bitcasts_S88x128_w16_S44x128_w32)) (shapeCast S44x128 (shapeCast S44x128x1 (select (cmpi .slt d (broadcast S44x128 0#32)) (addi d (broadcast S44x128 128#32)) d) shapeCasts_S44x128_S44x128x1) shapeCasts_S44x128x1_S44x128))

/-- The columns of one parity out of two neighbouring blocks. -/
def sPick (d : IVec S44x128 32) (par : Fin 2) (a b : Vec F S88x128 .bf16) : FVec F S44x128 .bf16 :=
  select sFirst (sGather d par a) (sGather d par b)

/-- A column block of the pairs of scales. -/
def sPay (par : Fin 2) (a b : Vec F S88x128 .bf16) : Vec F S1x44x2x128 .bf16 :=
  interleaveRows S1x44x2x128 (shapeCast S1x44x1x128 (shapeCast S1x44x128 (sPick sEven par a b) shapeCasts_S44x128_S1x44x128) shapeCasts_S1x44x128_S1x44x1x128) (shapeCast S1x44x1x128 (shapeCast S1x44x128 (sPick sOdd par a b) shapeCasts_S44x128_S1x44x128) shapeCasts_S1x44x128_S1x44x1x128) bitcasts_S1x44x2x128_w16_S1x44x1x128_w32

/-- The weights of a tile: the nibbles as numbers, times their column's scale. -/
def wPay (w : Vec F S128x256 .i8) (s : Vec F S1x1x2x256 .bf16) : FVec F S256x256 .bf16 :=
  have e : IVec S128x256 32 := extsi 32 (bitcast S128x256 8 (xori (bitcast S32x256 32 w bitcasts_S128x256_w8_S32x256_w32) (broadcast S32x256 2290649224#32)) bitcasts_S32x256_w32_S128x256_w8) natLt_8_32
  mulf (sitofp .bf16 (bitcast S256x256 16 (ori (andi (shrsi (shli e (broadcast S128x256 28#32)) (broadcast S128x256 28#32)) (broadcast S128x256 65535#32)) (shli (shrsi e (broadcast S128x256 4#32)) (broadcast S128x256 16#32))) bitcasts_S128x256_w32_S256x256_w16)) (interleaveRows S256x256 (truncf .bf16 (broadcastTo S128x256 (shapeCast S1x256 (extf .f32 (shapeCast S1x256 (shapeCast S1x1x256 (rowsOfParity 0 S1x1x1x256 s bitcasts_S1x1x2x256_w16_S1x1x1x256_w32) shapeCasts_S1x1x1x256_S1x1x256) shapeCasts_S1x1x256_S1x256)) shapeCasts_S1x256_S1x256) broadcasts_S1x256_S128x256)) (truncf .bf16 (broadcastTo S128x256 (shapeCast S1x256 (extf .f32 (shapeCast S1x256 (shapeCast S1x1x256 (rowsOfParity 1 S1x1x1x256 s bitcasts_S1x1x2x256_w16_S1x1x1x256_w32) shapeCasts_S1x1x1x256_S1x1x256) shapeCasts_S1x1x256_S1x256)) shapeCasts_S1x256_S1x256) broadcasts_S1x256_S128x256)) bitcasts_S256x256_w16_S128x256_w32)

/-- Half the lane number, rounded down. -/
def halfLane16 : IVec S16x128 32 :=
  select (andi (cmpi .ne (subi (extui 32 (cmpi .sgt (iota .tc S16x128 32 [1] iota_S16x128_d1_w32) (broadcast S16x128 0#32)) natLt_1_32) (extui 32 (cmpi .slt (iota .tc S16x128 32 [1] iota_S16x128_d1_w32) (broadcast S16x128 0#32)) natLt_1_32)) (broadcast S16x128 (Scalar.subi (Scalar.extui (Scalar.cmpi .sgt 2#32 0#32)) (Scalar.extui (Scalar.cmpi .slt 2#32 0#32))))) (cmpi .ne (remsi (iota .tc S16x128 32 [1] iota_S16x128_d1_w32) (broadcast S16x128 2#32)) (broadcast S16x128 0#32))) (subi (divsi (iota .tc S16x128 32 [1] iota_S16x128_d1_w32) (broadcast S16x128 2#32)) (broadcast S16x128 1#32)) (divsi (iota .tc S16x128 32 [1] iota_S16x128_d1_w32) (broadcast S16x128 2#32))

/-- The lanes a half of the results' block is read from. -/
def outIdx (h : Fin 2) : IVec S16x128 32 :=
  addi halfLane16 (broadcast S16x128 (BitVec.ofNat 32 (64 * h.val)))

/-- Lanes read at an index. -/
def outGather (d : IVec S16x128 32) (y : FVec F S16x128 .f32) : FVec F S16x128 .f32 :=
  dynamicGather 1 y (shapeCast S16x128 (shapeCast S16x128x1 (select (cmpi .slt d (broadcast S16x128 0#32)) (addi d (broadcast S16x128 128#32)) d) shapeCasts_S16x128_S16x128x1) shapeCasts_S16x128x1_S16x128)

/-- The activated product of a tile's two accumulated blocks. -/
def glu (g u : FVec F S32x256 .f32) : FVec F S32x256 .f32 := mulf (mulf g (logistic g)) u

theorem o_slice (r p : Fin 2) : S32x256.Slices ![16 * r.val, 128 * p.val] S16x128 :=
  ⟨rfl, by revert r p; decide +kernel⟩

/-- A column block of the results: even columns from the upper rows, odd ones from the lower. -/
def oPay (p h : Fin 2) (y : FVec F S32x256 .f32) : FVec F S16x128 .bf16 :=
  truncf .bf16 (select (cmpi .eq laneParity (broadcast S16x128 0#32)) (outGather (outIdx h) (extractStridedSlice S16x128 ![16 * (0 : Fin 2).val, 128 * p.val] y (o_slice 0 p))) (outGather (outIdx h) (extractStridedSlice S16x128 ![16 * (1 : Fin 2).val, 128 * p.val] y (o_slice 1 p)))) bitsLt_bf16_f32

/-! ## Rectangles -/

theorem xk_inb (g : Fin 88) (X h : Fin 2) : ∀ a, (![g.val, 16 * X.val, 128 * h.val] : Fin 3 → Nat) a + S1x16x128.size a ≤ S88x32x256.size a := by
  revert g X h; decide +kernel
/-- A piece of the spread activations' buffer. -/
abbrev xkRect (g : Fin 88) (X h : Fin 2) : Rect S88x32x256 :=
  Rect.unit (s := S88x32x256) ![g.val, 16 * X.val, 128 * h.val] S1x16x128.size (xk_inb g X h)
theorem xk_packed (g : Fin 88) (X h : Fin 2) : (xkRect g X h).PackedRows (EltTy.packing .bf16) := by
  revert g X h; decide +kernel
theorem x_inb (g : Fin 88) : ∀ a, (![0, 128 * g.val] : Fin 2 → Nat) a + S16x128.size a ≤ S16x11264.size a := by
  revert g; decide +kernel
/-- A block of the activations. -/
abbrev xRect (g : Fin 88) : Rect S16x11264 := Rect.unit (s := S16x11264) ![0, 128 * g.val] S16x128.size (x_inb g)
theorem sr_inb (b : Fin 32) : ∀ a, (![0, 128 * b.val] : Fin 2 → Nat) a + S88x128.size a ≤ S88x4096.size a := by
  revert b; decide +kernel
/-- A block of the scales as they come. -/
abbrev srRect (b : Fin 32) : Rect S88x4096 := Rect.unit (s := S88x4096) ![0, 128 * b.val] S88x128.size (sr_inb b)
theorem sp_inb (par : Fin 2) (j : Fin 16) : ∀ a, (![par.val, 0, 0, 128 * j.val] : Fin 4 → Nat) a + S1x44x2x128.size a ≤ S2x44x2x2048.size a := by
  revert par j; decide +kernel
/-- A column block of the pairs of scales. -/
abbrev spRect (par : Fin 2) (j : Fin 16) : Rect S2x44x2x2048 :=
  Rect.unit (s := S2x44x2x2048) ![par.val, 0, 0, 128 * j.val] S1x44x2x128.size (sp_inb par j)
theorem c_inb (k : Fin 22) : ∀ a, (![512 * k.val, 0] : Fin 2 → Nat) a + S512x2048.size a ≤ S11264x2048.size a := by
  revert k; decide +kernel
/-- A chunk of the weights' rows. -/
abbrev cRect (k : Fin 22) : Rect S11264x2048 := Rect.unit (s := S11264x2048) ![512 * k.val, 0] S512x2048.size (c_inb k)
theorem c_words (k : Fin 22) : (cRect k).WholeWords (EltTy.packing .i8) := by revert k; decide +kernel
theorem sem_inb (m : Fin 2) (k : Fin 22) : ∀ a, (![m.val, k.val] : Fin 2 → Nat) a + S1x1.size a ≤ S2x22.size a := by
  revert m k; decide +kernel
theorem sem3_inb (j : Fin 3) : ∀ a, (![j.val] : Fin 1 → Nat) a + S1.size a ≤ S3.size a := by
  revert j; decide +kernel
theorem o_inb (b : Fin 32) : ∀ a, (![0, 128 * b.val] : Fin 2 → Nat) a + S16x128.size a ≤ S16x4096.size a := by
  revert b; decide +kernel
/-- A column block of the results. -/
abbrev oRect (b : Fin 32) : Rect S16x4096 := Rect.unit (s := S16x4096) ![0, 128 * b.val] S16x128.size (o_inb b)
theorem o_packed (b : Fin 32) : (oRect b).PackedRows (EltTy.packing .bf16) := by revert b; decide +kernel

/-- Where the loop's trip `k` reads group `i`'s weights for tile `t`. -/
abbrev offW (k : Fin k0_t1_loop.trips) (i : Fin 4) (t : Fin 8) : Fin 2 → Nat :=
  (![k0_off4, k0_off7, k0_off9, k0_off11, k0_off13, k0_off15, k0_off17, k0_off19] : Fin 8 → _) t k (BitVec.ofNat 32 i.val)
theorem offW_eq (k : Fin k0_t1_loop.trips) (i : Fin 4) (t : Fin 8) : offW k i t = ![512 * k.val + 128 * i.val, 256 * t.val] := by
  fin_cases t
  exacts [k0_off4_eq k i, k0_off7_eq k i, k0_off9_eq k i, k0_off11_eq k i, k0_off13_eq k i, k0_off15_eq k i, k0_off17_eq k i, k0_off19_eq k i]
theorem offW_inb (k : Fin k0_t1_loop.trips) (i : Fin 4) (t : Fin 8) : ∀ a, offW k i t a + S128x256.size a ≤ S11264x2048.size a := by
  rw [offW_eq]
  have hk : k.val < 22 := k.isLt
  have hi := i.isLt; have ht := t.isLt
  intro a; fin_cases a
  · show 512 * k.val + 128 * i.val + 128 ≤ 11264; omega
  · show 256 * t.val + 256 ≤ 2048; omega
/-- Where it reads the group's scales. -/
abbrev offS (k : Fin k0_t1_loop.trips) (i : Fin 4) (t : Fin 8) : Fin 4 → Nat :=
  (if i.val % 2 = 0 then (![k0_off5, k0_off8, k0_off10, k0_off12, k0_off14, k0_off16, k0_off18, k0_off20] : Fin 8 → _)
   else ![k0_off21, k0_off22, k0_off23, k0_off24, k0_off25, k0_off26, k0_off27, k0_off28]) t k (BitVec.ofNat 32 i.val)
theorem offS_eq (k : Fin k0_t1_loop.trips) (i : Fin 4) (t : Fin 8) : offS k i t = ![i.val % 2, 2 * k.val + i.val / 2, 0, 256 * t.val] := by
  fin_cases i
  · fin_cases t
    exacts [k0_off5_eq k 0, k0_off8_eq k 0, k0_off10_eq k 0, k0_off12_eq k 0, k0_off14_eq k 0, k0_off16_eq k 0, k0_off18_eq k 0, k0_off20_eq k 0]
  · fin_cases t
    exacts [k0_off21_eq k 0, k0_off22_eq k 0, k0_off23_eq k 0, k0_off24_eq k 0, k0_off25_eq k 0, k0_off26_eq k 0, k0_off27_eq k 0, k0_off28_eq k 0]
  · fin_cases t
    exacts [k0_off5_eq k 1, k0_off8_eq k 1, k0_off10_eq k 1, k0_off12_eq k 1, k0_off14_eq k 1, k0_off16_eq k 1, k0_off18_eq k 1, k0_off20_eq k 1]
  · fin_cases t
    exacts [k0_off21_eq k 1, k0_off22_eq k 1, k0_off23_eq k 1, k0_off24_eq k 1, k0_off25_eq k 1, k0_off26_eq k 1, k0_off27_eq k 1, k0_off28_eq k 1]
theorem offS_inb (k : Fin k0_t1_loop.trips) (i : Fin 4) (t : Fin 8) : ∀ a, offS k i t a + S1x1x2x256.size a ≤ S2x44x2x2048.size a := by
  rw [offS_eq]
  have hk : k.val < 22 := k.isLt
  have hi := i.isLt; have ht := t.isLt
  intro a; fin_cases a
  · show i.val % 2 + 1 ≤ 2; omega
  · show 2 * k.val + i.val / 2 + 1 ≤ 44; omega
  · show 0 + 2 ≤ 2; omega
  · show 256 * t.val + 256 ≤ 2048; omega

/-! ## The steps -/

section
variable (arg0 : Memref sig .tc .hbm S16x11264 .bf16) (harg0 : arg0.IsWhole) (arg1 : Memref sig .tc .hbm S11264x2048 .i8) (harg1 : arg1.IsWhole) (arg2 : Memref sig .tc .hbm S88x4096 .bf16) (harg2 : arg2.IsWhole) (arg3 : Memref sig .tc .hbm S11264x2048 .i8) (harg3 : arg3.IsWhole) (arg4 : Memref sig .tc .hbm S88x4096 .bf16) (harg4 : arg4.IsWhole) (arg5 : Memref sig .tc .vmem S16x4096 .bf16) (harg5 : arg5.IsWhole) (arg6 : Memref sig .tc .vmem S16x11264 .bf16) (harg6 : arg6.IsWhole) (arg7 : Memref sig .tc .vmem S11264x2048 .i8) (harg7 : arg7.IsWhole) (arg8 : Memref sig .tc .vmem S11264x2048 .i8) (harg8 : arg8.IsWhole) (arg9 : Memref sig .tc .vmem S88x4096 .bf16) (harg9 : arg9.IsWhole) (arg10 : Memref sig .tc .vmem S88x4096 .bf16) (harg10 : arg10.IsWhole) (arg11 : Memref sig .tc .vmem S2x44x2x2048 .bf16) (harg11 : arg11.IsWhole) (arg12 : Memref sig .tc .vmem S2x44x2x2048 .bf16) (harg12 : arg12.IsWhole) (arg13 : Memref sig .tc .vmem S88x32x256 .bf16) (harg13 : arg13.IsWhole) (arg14 : DmaSems sig S3) (arg15 : DmaSems sig S2x22)

/-- A cell of the first three semaphores. -/
abbrev semA (j : Fin 3) : DmaSem sig :=
  ((arg14.slice (Rect.unit (s := S3) ![j.val] S1.size (sem3_inb j))).squeeze S_ squeezes_S1_S_).sem
/-- A chunk's semaphore. -/
abbrev semW (m : Fin 2) (k : Fin 22) : DmaSem sig :=
  ((arg15.slice (Rect.unit (s := S2x22) ![m.val, k.val] S1x1.size (sem_inb m k))).squeeze S_ squeezes_S1x1_S_).sem

/-- The start of one chunk's transfer. -/
def wStart (src : Memref sig .tc .hbm S11264x2048 .i8) (hs : src.IsWhole) (dst : Memref sig .tc .vmem S11264x2048 .i8) (hd : dst.IsWhole)
    (m : Fin 2) (k : Fin 22) (K : PR F α) : PR F α :=
  .op (.enqueueDma (src.slice (cRect k) (fun _ => rfl)) (.here (dst.slice (cRect k) (fun _ => rfl))) (.dma (semW arg15 m k))
    (hs.wordExact_slice rfl _ (c_words k)) (hd.wordExact_slice rfl _ (c_words k)) ⟨Or.inl rfl, trivial⟩) fun _ => K

/-- The starts of the chunks from `k` on. -/
def wStarts : (n k : ℕ) → k + n ≤ 22 → PR F α → PR F α
  | 0, _, _, K => K
  | n + 1, k, h, K =>
    wStart arg15 arg1 harg1 arg7 harg7 0 ⟨k, by omega⟩ (wStart arg15 arg3 harg3 arg8 harg8 1 ⟨k, by omega⟩
      (wStarts n (k + 1) (by omega) K))

/-- All transfers' starts. -/
def starts (K : PR F α) : PR F α :=
  .op (.enqueueDma arg0 (.here arg6) (.dma (semA arg14 0)) harg0.wordExact harg6.wordExact ⟨Or.inl rfl, trivial⟩) fun _ =>
  .op (.enqueueDma arg2 (.here arg9) (.dma (semA arg14 1)) harg2.wordExact harg9.wordExact ⟨Or.inl rfl, trivial⟩) fun _ =>
  .op (.enqueueDma arg4 (.here arg10) (.dma (semA arg14 2)) harg4.wordExact harg10.wordExact ⟨Or.inl rfl, trivial⟩) fun _ =>
  wStarts arg1 harg1 arg3 harg3 arg7 harg7 arg8 harg8 arg15 22 0 (by omega) K

theorem fits8 (t : Fin 8) : Mxu.Fits (8 * t.val) 32 := by revert t; decide

/-- One piece of the spread activations stored (after the load that reads what is overwritten). -/
def xStore (g : Fin 88) (X h : Fin 2) (w : Vec F S1x16x128 .bf16) (K : PR F α) : PR F α :=
  .op (.load arg13 (xkRect g X h).toLoadRect (View.loadsAt_vmem h_S1x16x128)) fun _ =>
  .op (.store arg13 (xkRect g X h) w Finset.univ (View.stores_vmem h_S1x16x128 (harg13.storeExact_slice rfl _ (xk_packed g X h)) (fun _ => rfl)) (.inl rfl)) fun _ => K

/-- The load of one block of the activations. -/
def xLoad (g : Fin 88) (K : Vec F S16x128 .bf16 → PR F α) : PR F α :=
  .op (.load arg6 (xRect g).toLoadRect (View.loadsAt_vmem h_S16x128)) K

/-- The four pieces of one block. -/
def xGroup (g : Fin 88) (v : Vec F S16x128 .bf16) (K : PR F α) : PR F α :=
  xStore arg13 harg13 g 0 0 (xPay 0 0 v) (xStore arg13 harg13 g 1 0 (xPay 1 0 v)
    (xStore arg13 harg13 g 0 1 (xPay 0 1 v) (xStore arg13 harg13 g 1 1 (xPay 1 1 v) K)))

/-- The blocks from `k` on, `n` of them. -/
def xGroups : (n k : ℕ) → k + n ≤ 88 → PR F α → PR F α
  | 0, _, _, K => K
  | n + 1, k, h, K => xLoad arg6 ⟨k, by omega⟩ fun v => xGroup arg13 harg13 ⟨k, by omega⟩ v (xGroups n (k + 1) (by omega) K)

/-- One column block of the pairs of scales stored. -/
def sStore (dst : Memref sig .tc .vmem S2x44x2x2048 .bf16) (hd : dst.IsWhole) (par : Fin 2) (j : Fin 16) (w : Vec F S1x44x2x128 .bf16) (K : PR F α) : PR F α :=
  .op (.load dst (spRect par j).toLoadRect (View.loadsAt_vmem h_S1x44x2x128)) fun _ =>
  .op (.store dst (spRect par j) w Finset.univ (View.stores_vmem h_S1x44x2x128 ((hd.pairWhole rank2_S2x44x2x2048).storeExact_slice rfl _ (Rect.wholeRows_unit rank2_S2x44x2x2048 rfl rfl) pairs_S2x44x2x2048_bf16) (fun _ => rfl)) (.inl rfl)) fun _ => K

/-- The loads of two neighbouring blocks of the scales. -/
def sLoad (src : Memref sig .tc .vmem S88x4096 .bf16) (j : Fin 16) (K : Vec F S88x128 .bf16 → Vec F S88x128 .bf16 → PR F α) : PR F α :=
  .op (.load src (srRect ⟨2 * j.val, by omega⟩).toLoadRect (View.loadsAt_vmem h_S88x128)) fun a =>
  .op (.load src (srRect ⟨2 * j.val + 1, by omega⟩).toLoadRect (View.loadsAt_vmem h_S88x128)) fun b => K a b

/-- One column block of the pairs of scales. -/
def sCol (dst : Memref sig .tc .vmem S2x44x2x2048 .bf16) (hd : dst.IsWhole) (j : Fin 16) (a b : Vec F S88x128 .bf16) (K : PR F α) : PR F α :=
  sStore dst hd 0 j (sPay 0 a b) (sStore dst hd 1 j (sPay 1 a b) K)

/-- The column blocks from `k` on, `n` of them. -/
def sCols (src : Memref sig .tc .vmem S88x4096 .bf16) (dst : Memref sig .tc .vmem S2x44x2x2048 .bf16) (hd : dst.IsWhole) :
    (n k : ℕ) → k + n ≤ 16 → PR F α → PR F α
  | 0, _, _, K => K
  | n + 1, k, h, K => sLoad src ⟨k, by omega⟩ fun a b => sCol dst hd ⟨k, by omega⟩ a b (sCols src dst hd n (k + 1) (by omega) K)

/-- The waits for the scales. -/
def sWaits (K : PR F α) : PR F α :=
  .op (.waitDma2 (semA arg14 1) arg2 arg9 harg2.wordExact harg9.wordExact) fun _ =>
  .op (.waitDma2 (semA arg14 2) arg4 arg10 harg4.wordExact harg10.wordExact) fun _ => K

/-- The wait for one chunk's transfer. -/
def wWait (off : Fin 2 → Nat) (hoff : ∀ a, off a + S1x1.size a ≤ S2x22.size a) (k : Fin k0_t1_loop.trips)
    (src : Memref sig .tc .hbm S11264x2048 .i8) (hs : src.IsWhole) (dst : Memref sig .tc .vmem S11264x2048 .i8) (hd : dst.IsWhole)
    (K : PR F α) : PR F α :=
  .op (.waitDma2 ((arg15.slice (Rect.unit (s := S2x22) off S1x1.size hoff)).squeeze S_ squeezes_S1x1_S_).sem
    (src.slice (Rect.unit (s := S11264x2048) (k0_off2 k) S512x2048.size (k0_off2_inb k)) (fun _ => rfl))
    (dst.slice (Rect.unit (s := S11264x2048) (k0_off2 k) S512x2048.size (k0_off2_inb k)) (fun _ => rfl))
    (hs.wordExact_slice rfl _ (k0_off2_wordsi8 k)) (hd.wordExact_slice rfl _ (k0_off2_wordsi8 k))) fun _ => K

/-- The staging register a tile's weights go to. -/
abbrev reg8 (t : Fin 8) : Fin 2 := ⟨t.val % 2, by omega⟩

/-- One pass of a tile: weights scaled and staged, the group's activations multiplied in. -/
def pass (q : Fin 2) (wv : Memref sig .tc .vmem S11264x2048 .i8) (sv : Memref sig .tc .vmem S2x44x2x2048 .bf16)
    (k : Fin k0_t1_loop.trips) (i : Fin 4) (t : Fin 8) (M : Mxu F) (K : Mxu F → PR F α) : PR F α :=
  .op (.load wv (Rect.unit (s := S11264x2048) (offW k i t) S128x256.size (offW_inb k i t)).toLoadRect (View.loadsAt_vmem h_S128x256)) fun w =>
  .op (.load sv (Rect.unit (s := S2x44x2x2048) (offS k i t) S1x1x2x256.size (offS_inb k i t)).toLoadRect (View.loadsAt_vmem h_S1x1x2x256)) fun s =>
  M.pushRhs q (reg8 t) false (wPay w s) >>= fun M' =>
  .op (.load arg13 (Rect.unit (s := S88x32x256) (k0_off6 k (BitVec.ofNat 32 i.val)) S1x32x256.size (k0_off6_inb k i)).toLoadRect (View.loadsAt_vmem h_S1x32x256)) fun x =>
  K (M'.accLhs q (reg8 t) (8 * t.val) (shapeCast S32x256 x shapeCasts_S1x32x256_S32x256) (fits8 t))

/-- One tile of a group: the pass of the gate, then the pass of the up projection. -/
def tile (k : Fin k0_t1_loop.trips) (i : Fin 4) (t : Fin 8) (M : Mxu F) (K : Mxu F → PR F α) : PR F α :=
  pass arg13 0 arg7 arg11 k i t M fun M => pass arg13 1 arg8 arg12 k i t M K

/-- The tiles from `t` on, `n` of them. -/
def tiles (k : Fin k0_t1_loop.trips) (i : Fin 4) : (n t : ℕ) → t + n ≤ 8 → Mxu F → (Mxu F → PR F α) → PR F α
  | 0, _, _, M, K => K M
  | n + 1, t, h, M, K => tile arg7 arg8 arg11 arg12 arg13 k i ⟨t, by omega⟩ M fun M => tiles k i n (t + 1) (by omega) M K

/-- The groups from `i` on, `n` of them. -/
def groups (k : Fin k0_t1_loop.trips) : (n i : ℕ) → i + n ≤ 4 → Mxu F → (Mxu F → PR F α) → PR F α
  | 0, _, _, M, K => K M
  | n + 1, i, h, M, K => tiles arg7 arg8 arg11 arg12 arg13 k ⟨i, by omega⟩ 8 0 (by omega) M fun M => groups k n (i + 1) (by omega) M K

/-- One trip of the loop. -/
def trip (k : Fin k0_t1_loop.trips) (a : BitVec 32 × Mxu F) : PR F (BitVec 32 × Mxu F) :=
  wWait arg15 (k0_off1 k) (k0_off1_inb k) k arg1 harg1 arg7 harg7 (
  wWait arg15 (k0_off3 k) (k0_off3_inb k) k arg3 harg3 arg8 harg8 (
  groups arg7 arg8 arg11 arg12 arg13 k 4 0 (by omega) a.2 fun M => .ret (0#32, M)))

/-- The state with the row blocks from `t` on popped on unit `q`, `n` of them. -/
def pops (q : Fin 2) : (n t : ℕ) → t + n ≤ 8 → Mxu F → Mxu F
  | 0, _, _, M => M
  | n + 1, t, h, M => pops q n (t + 1) (by omega) (M.pop q (8 * t) 32 (fits8 ⟨t, by omega⟩))

/-- One column block of the results stored. -/
def oStore (b : Fin 32) (w : Vec F S16x128 .bf16) (K : PR F α) : PR F α :=
  .op (.load arg5 (oRect b).toLoadRect (View.loadsAt_vmem h_S16x128)) fun _ =>
  .op (.store arg5 (oRect b) w Finset.univ (View.stores_vmem h_S16x128 (harg5.storeExact_slice rfl _ (o_packed b)) (fun _ => rfl)) (.inl rfl)) fun _ => K

/-- A tile's four column blocks. -/
def oTile (t : Fin 8) (y : FVec F S32x256 .f32) (K : PR F α) : PR F α :=
  oStore arg5 harg5 ⟨4 * t.val, by omega⟩ (oPay 0 0 y) (oStore arg5 harg5 ⟨4 * t.val + 1, by omega⟩ (oPay 0 1 y)
    (oStore arg5 harg5 ⟨4 * t.val + 2, by omega⟩ (oPay 1 0 y) (oStore arg5 harg5 ⟨4 * t.val + 3, by omega⟩ (oPay 1 1 y) K)))

/-- The tiles' results from `t` on, `n` of them. -/
def oTiles : (n t : ℕ) → t + n ≤ 8 → Mxu F → (Mxu F → PR F α) → PR F α
  | 0, _, _, M, K => K M
  | n + 1, t, h, M, K =>
    oTile arg5 harg5 ⟨t, by omega⟩ (glu (M.read 0 (8 * t) (fits8 ⟨t, by omega⟩)) ((M.pop 0 (8 * t) 32 (fits8 ⟨t, by omega⟩)).read 1 (8 * t) (fits8 ⟨t, by omega⟩)))
      (oTiles n (t + 1) (by omega) ((M.pop 0 (8 * t) 32 (fits8 ⟨t, by omega⟩)).pop 1 (8 * t) 32 (fits8 ⟨t, by omega⟩)) K)

/-- What runs before the loop. -/
def front (K : PR F α) : PR F α :=
  starts arg0 harg0 arg1 harg1 arg2 harg2 arg3 harg3 arg4 harg4 arg6 harg6 arg7 harg7 arg8 harg8 arg9 harg9 arg10 harg10 arg14 arg15 (
  .op (.waitDma2 (semA arg14 0) arg0 arg6 harg0.wordExact harg6.wordExact) fun _ =>
  xGroups arg6 arg13 harg13 88 0 (by omega) (
  sWaits arg2 harg2 arg4 harg4 arg9 harg9 arg10 harg10 arg14 (
  sCols arg9 arg11 harg11 16 0 (by omega) (
  sCols arg10 arg12 harg12 16 0 (by omega) K))))

/-- The loop. -/
def loop : PR F (BitVec 32 × Mxu F) :=
  (Scf.Loop.for k0_t1_loop k0_t1_ok (0#32, pops 1 8 0 (by omega) (pops 0 8 0 (by omega) Mxu.init)) (trip arg1 harg1 arg3 harg3 arg7 harg7 arg8 harg8 arg11 arg12 arg13 arg15))

/-- The whole program. -/
def prog : PR F PUnit :=
  front arg0 harg0 arg1 harg1 arg2 harg2 arg3 harg3 arg4 harg4 arg6 harg6 arg7 harg7 arg8 harg8 arg9 harg9 arg10 harg10 arg11 harg11 arg12 harg12 arg13 harg13 arg14 arg15 (loop arg1 harg1 arg3 harg3 arg7 harg7 arg8 harg8 arg11 arg12 arg13 arg15 >>= fun r => oTiles arg5 harg5 8 0 (by omega) r.2 fun M => M.exit >>= fun _ => .ret ⟨⟩)

/-- What follows the loop, up to the printed part's end. -/
def after1 (x : Σ' (v16249_r0 : IVec S16x128 32) (v16250_r0 : FVec F S32x256 .f32) (v16251_r0 : FVec F S32x256 .f32), Mxu F) :
    PR F (Σ' (v16249_r0 : IVec S16x128 32) (k0_mxu159 : Mxu F) (v17700_r0 : FVec F S16x128 .f32) (v17701_r0 : FVec F S16x128 .f32) (v17727_r0 : IVec S16x128 32) (c2_i32_6689_r0 : BitVec 32), BitVec 32) := do
  let ⟨v16249_r0, v16250_r0, v16251_r0, k0_mxu149⟩ := x
  let ⟨v16256_r0, v16257_r0, v16258_r0, v16284_r0, v16286_r0, v16288_r0, v16297_r0⟩ ← k0_part478 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v16250_r0 v16251_r0
  let ⟨v16323_r0, v16342_r0, c1_i32_6246_r0⟩ ← k0_part479 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v16257_r0 v16258_r0 v16284_r0 v16286_r0 v16288_r0 v16297_r0
  let ⟨v16385_r0, v16386_r0, c2_i32_6261_r0⟩ ← k0_part480 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v16256_r0 v16257_r0 v16258_r0 v16323_r0 v16342_r0 c1_i32_6246_r0
  let ⟨v16412_r0, v16430_r0, v16431_r0⟩ ← k0_part481 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 c2_i32_6261_r0
  let ⟨v16475_r0, c2_i32_6290_r0, c0_i32_6291_r0⟩ ← k0_part482 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v16385_r0 v16386_r0 v16412_r0 v16430_r0 v16431_r0
  let ⟨k0_mxu151, v16519_r0, v16520_r0, v16521_r0⟩ ← k0_part483 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 k0_mxu149 v16385_r0 v16386_r0 v16475_r0 c2_i32_6290_r0 c0_i32_6291_r0
  let ⟨v16547_r0, v16565_r0, c0_i32_6318_r0⟩ ← k0_part484 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0
  let ⟨v16610_r0, c2_i32_6332_r0⟩ ← k0_part485 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v16520_r0 v16521_r0 v16547_r0 v16565_r0 c0_i32_6318_r0
  let ⟨v16648_r0, v16649_r0, c2_i32_6345_r0, v16651_r0, v16654_r0, c0_i32_6347_r0⟩ ← k0_part486 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v16519_r0 v16520_r0 v16521_r0 v16610_r0 c2_i32_6332_r0
  let ⟨v16675_r0, v16693_r0, v16700_r0⟩ ← k0_part487 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 c2_i32_6345_r0 v16651_r0 v16654_r0 c0_i32_6347_r0
  let ⟨v16738_r0, v16740_r0, v16742_r0, v16743_r0⟩ ← k0_part488 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v16648_r0 v16649_r0 v16675_r0 v16693_r0 v16700_r0
  let ⟨k0_mxu153, v16782_r0, v16783_r0, v16784_r0, c2_i32_6387_r0, v16786_r0, v16789_r0⟩ ← k0_part489 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 k0_mxu151 v16648_r0 v16649_r0 v16738_r0 v16740_r0 v16742_r0 v16743_r0
  let ⟨v16810_r0, v16828_r0, v16834_r0⟩ ← k0_part490 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 c2_i32_6387_r0 v16786_r0 v16789_r0
  let ⟨v16873_r0, v16875_r0, v16877_r0, c0_i32_6419_r0⟩ ← k0_part491 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v16783_r0 v16784_r0 v16810_r0 v16828_r0 v16834_r0
  let ⟨v16911_r0, v16912_r0, c2_i32_6429_r0, v16914_r0, v16921_r0, v16923_r0⟩ ← k0_part492 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v16782_r0 v16783_r0 v16784_r0 v16873_r0 v16875_r0 v16877_r0 c0_i32_6419_r0
  let ⟨v16938_r0, v16956_r0, v16964_r0, v16966_r0, v16968_r0⟩ ← k0_part493 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v16911_r0 c2_i32_6429_r0 v16914_r0 v16921_r0 v16923_r0
  let ⟨v17001_r0, v17003_r0, v17005_r0, v17007_r0, v17009_r0, v17011_r0⟩ ← k0_part494 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v16912_r0 v16938_r0 v16956_r0 v16964_r0 v16966_r0 v16968_r0
  let ⟨k0_mxu155, v17045_r0, v17046_r0, v17047_r0, c2_i32_6471_r0, v17049_r0, v17056_r0, v17057_r0⟩ ← k0_part495 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 k0_mxu153 v16911_r0 v16912_r0 v17001_r0 v17003_r0 v17005_r0 v17007_r0 v17009_r0 v17011_r0
  let ⟨v17073_r0, v17091_r0, v17099_r0, v17101_r0, v17102_r0⟩ ← k0_part496 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v17046_r0 c2_i32_6471_r0 v17049_r0 v17056_r0 v17057_r0
  let ⟨v17136_r0, v17138_r0, v17140_r0, v17142_r0, v17144_r0, v17145_r0⟩ ← k0_part497 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v17047_r0 v17073_r0 v17091_r0 v17099_r0 v17101_r0 v17102_r0
  let ⟨v17174_r0, v17175_r0, v17177_r0, v17191_r0, v17192_r0⟩ ← k0_part498 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v17045_r0 v17046_r0 v17047_r0 v17136_r0 v17138_r0 v17140_r0 v17142_r0 v17144_r0 v17145_r0
  let v17237_r0 ← k0_part499 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v17174_r0 v17175_r0 v17177_r0 v17191_r0 v17192_r0
  let ⟨v17264_r0, v17280_r0, c0_i32_6548_r0⟩ ← k0_part500 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v17237_r0
  let ⟨k0_mxu157, v17308_r0, v17309_r0, v17310_r0, c2_i32_6555_r0, v17312_r0, v17326_r0⟩ ← k0_part501 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 k0_mxu155 v17174_r0 v17175_r0 v17264_r0 v17280_r0 c0_i32_6548_r0
  let v17372_r0 ← k0_part502 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v17309_r0 v17310_r0 c2_i32_6555_r0 v17312_r0 v17326_r0
  let ⟨v17399_r0, v17415_r0⟩ ← k0_part503 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v17372_r0
  let ⟨v17437_r0, v17438_r0, v17440_r0, v17459_r0, v17460_r0⟩ ← k0_part504 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v17308_r0 v17309_r0 v17310_r0 v17399_r0 v17415_r0
  let ⟨c2_i32_6618_r0, v17503_r0, c0_i32_6619_r0⟩ ← k0_part505 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v17437_r0 v17438_r0 v17440_r0 v17459_r0 v17460_r0
  let ⟨v17527_r0, v17545_r0, v17547_r0, v17548_r0⟩ ← k0_part506 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 c2_i32_6618_r0 v17503_r0 c0_i32_6619_r0
  let ⟨k0_mxu159, v17571_r0, v17572_r0, v17573_r0, v17575_r0, v17594_r0, c1_i32_6645_r0⟩ ← k0_part507 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 k0_mxu157 v17437_r0 v17438_r0 v17527_r0 v17545_r0 v17547_r0 v17548_r0
  let ⟨c2_i32_6660_r0, v17638_r0⟩ ← k0_part508 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v17572_r0 v17573_r0 v17575_r0 v17594_r0 c1_i32_6645_r0
  let ⟨v17662_r0, v17680_r0, v17682_r0, c128_i32_6676_r0⟩ ← k0_part509 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 c2_i32_6660_r0 v17638_r0
  let ⟨v17700_r0, v17701_r0, v17727_r0, c2_i32_6689_r0, c0_i32_6690_r0⟩ ← k0_part510 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v17571_r0 v17572_r0 v17573_r0 v17662_r0 v17680_r0 v17682_r0 c128_i32_6676_r0
  pure ⟨v16249_r0, k0_mxu159, v17700_r0, v17701_r0, v17727_r0, c2_i32_6689_r0, c0_i32_6690_r0⟩
-- func.func @swiglu_int4(%arg0: memref<16x11264xbf16, #tpu.memory_space<hbm>>, %arg1: memref<11264x2048xi8, #tpu.memory_space<hbm>>, %arg2: memref<88x4096xbf16, #tpu.memory_space<hbm>>, %arg3: memref<11264x2048xi8, #tpu.memory_space<hbm>>, %arg4: memref<88x4096xbf16, #tpu.memory_space<hbm>>, %arg5: memref<16x4096xbf16, #tpu.memory_space<vmem>>, %arg6: memref<16x11264xbf16, #tpu.memory_space<vmem>>, %arg7: memref<11264x2048xi8, #tpu.memory_space<vmem>>, %arg8: memref<11264x2048xi8, #tpu.memory_space<vmem>>, %arg9: memref<88x4096xbf16, #tpu.memory_space<vmem>>, %arg10: memref<88x4096xbf16, #tpu.memory_space<vmem>>, %arg11: memref<2x44x2048xi32, #tpu.memory_space<vmem>>, %arg12: memref<2x44x2048xi32, #tpu.memory_space<vmem>>, %arg13: memref<88x32x256xbf16, #tpu.memory_space<vmem>>, %arg14: memref<3x!tpu.dma_semaphore, #tpu.memory_space<semaphore_mem>>, %arg15: memref<2x22x!tpu.dma_semaphore, #tpu.memory_space<semaphore_mem>>) attributes {dimension_semantics = [], scalar_prefetch = 0 : i64, scratch_operands = 10 : i64, tpu.core_type = #tpu.core_type<tc>}

/-- What follows that part. -/
def after2 (x : Σ' (v16249_r0 : IVec S16x128 32) (k0_mxu159 : Mxu F) (v17700_r0 : FVec F S16x128 .f32) (v17701_r0 : FVec F S16x128 .f32) (v17727_r0 : IVec S16x128 32) (c2_i32_6689_r0 : BitVec 32), BitVec 32) : PR F PUnit := do
  let ⟨v16249_r0, k0_mxu159, v17700_r0, v17701_r0, v17727_r0, c2_i32_6689_r0, c0_i32_6690_r0⟩ := x
  let ⟨c2_i32_6702_r0, v17766_r0, v17769_r0, v17772_r0⟩ ← k0_part511 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v17700_r0 v17701_r0 v17727_r0 c2_i32_6689_r0 c0_i32_6690_r0
  let ⟨v17790_r0, v17808_r0, v17816_r0, v17817_r0⟩ ← k0_part512 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v17700_r0 c2_i32_6702_r0 v17766_r0 v17769_r0 v17772_r0
  let ⟨k0_mxu161, v17834_r0, v17835_r0, v17836_r0, v17862_r0, c2_i32_6731_r0⟩ ← k0_part513 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 k0_mxu159 v17701_r0 v17790_r0 v17808_r0 v17816_r0 v17817_r0
  let ⟨c2_i32_6744_r0, v17901_r0, v17904_r0, v17906_r0⟩ ← k0_part514 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v17835_r0 v17836_r0 v17862_r0 c2_i32_6731_r0
  let ⟨v17925_r0, v17943_r0, v17951_r0, c0_i32_6761_r0⟩ ← k0_part515 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v17835_r0 c2_i32_6744_r0 v17901_r0 v17904_r0 v17906_r0
  let ⟨v17963_r0, v17964_r0, v17990_r0, v17992_r0, v17994_r0, v17995_r0⟩ ← k0_part516 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v17834_r0 v17836_r0 v17925_r0 v17943_r0 v17951_r0 c0_i32_6761_r0
  let ⟨c2_i32_6786_r0, v18029_r0, v18036_r0, v18038_r0, v18040_r0⟩ ← k0_part517 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v17963_r0 v17964_r0 v17990_r0 v17992_r0 v17994_r0 v17995_r0
  let ⟨v18071_r0, v18079_r0, v18086_r0⟩ ← k0_part518 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v17963_r0 c2_i32_6786_r0 v18029_r0 v18036_r0 v18038_r0 v18040_r0
  let ⟨k0_mxu163, v18097_r0, v18098_r0, v18099_r0, v18125_r0, v18127_r0, v18129_r0, c0_i32_6818_r0⟩ ← k0_part519 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 k0_mxu161 v17964_r0 v18071_r0 v18079_r0 v18086_r0
  let ⟨c2_i32_6828_r0, v18164_r0, v18171_r0, v18173_r0, v18174_r0⟩ ← k0_part520 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v18098_r0 v18099_r0 v18125_r0 v18127_r0 v18129_r0 c0_i32_6818_r0
  let ⟨v18206_r0, v18214_r0, v18220_r0⟩ ← k0_part521 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v18098_r0 c2_i32_6828_r0 v18164_r0 v18171_r0 v18173_r0 v18174_r0
  let ⟨v18226_r0, v18227_r0, v18253_r0, v18255_r0, v18257_r0, v18259_r0, v18261_r0, v18263_r0⟩ ← k0_part522 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v18097_r0 v18099_r0 v18206_r0 v18214_r0 v18220_r0
  let ⟨v18292_r0, v18306_r0, v18308_r0, v18309_r0⟩ ← k0_part523 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v18226_r0 v18227_r0 v18253_r0 v18255_r0 v18257_r0 v18259_r0 v18261_r0 v18263_r0
  k0_part524 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v18226_r0 v18227_r0 v18292_r0 v18306_r0 v18308_r0 v18309_r0
  k0_mxu163.exit
  pure ⟨⟩

/-- The printed program, cut at its loop. -/
theorem cc0_cut : cc0_swiglu_int4 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 =
    front arg0 harg0 arg1 harg1 arg2 harg2 arg3 harg3 arg4 harg4 arg6 harg6 arg7 harg7 arg8 harg8 arg9 harg9 arg10 harg10 arg11 harg11 arg12 harg12 arg13 harg13 arg14 arg15 (((loop arg1 harg1 arg3 harg3 arg7 harg7 arg8 harg8 arg11 arg12 arg13 arg15 >>= (fun r => .ret ⟨lane16, r.2.read 0 (8 * 0) (fits8 0), (r.2.pop 0 (8 * 0) 32 (fits8 0)).read 1 (8 * 0) (fits8 0), (r.2.pop 0 (8 * 0) 32 (fits8 0)).pop 1 (8 * 0) 32 (fits8 0)⟩)) >>= after1 arg0 harg0 arg1 harg1 arg2 harg2 arg3 harg3 arg4 harg4 arg5 harg5 arg6 harg6 arg7 harg7 arg8 harg8 arg9 harg9 arg10 harg10 arg11 harg11 arg12 harg12 arg13 harg13 arg14 arg15) >>= after2 arg0 harg0 arg1 harg1 arg2 harg2 arg3 harg3 arg4 harg4 arg5 harg5 arg6 harg6 arg7 harg7 arg8 harg8 arg9 harg9 arg10 harg10 arg11 harg11 arg12 harg12 arg13 harg13 arg14 arg15) := by
  chain_rfl

theorem after_eq (r : BitVec 32 × Mxu F) :
    ((((fun r => .ret ⟨lane16, r.2.read 0 (8 * 0) (fits8 0), (r.2.pop 0 (8 * 0) 32 (fits8 0)).read 1 (8 * 0) (fits8 0), (r.2.pop 0 (8 * 0) 32 (fits8 0)).pop 1 (8 * 0) 32 (fits8 0)⟩) : BitVec 32 × Mxu F → PR F (Σ' (v16249_r0 : IVec S16x128 32) (v16250_r0 : FVec F S32x256 .f32) (v16251_r0 : FVec F S32x256 .f32), Mxu F)) r >>= after1 arg0 harg0 arg1 harg1 arg2 harg2 arg3 harg3 arg4 harg4 arg5 harg5 arg6 harg6 arg7 harg7 arg8 harg8 arg9 harg9 arg10 harg10 arg11 harg11 arg12 harg12 arg13 harg13 arg14 arg15) >>= after2 arg0 harg0 arg1 harg1 arg2 harg2 arg3 harg3 arg4 harg4 arg5 harg5 arg6 harg6 arg7 harg7 arg8 harg8 arg9 harg9 arg10 harg10 arg11 harg11 arg12 harg12 arg13 harg13 arg14 arg15) =
    oTiles arg5 harg5 8 0 (by omega) r.2 fun M => M.exit >>= fun _ => .ret ⟨⟩ := by
  chain_rfl

/-- The printed program is the recursions. -/
theorem cc0_eq : cc0_swiglu_int4 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 =
    prog arg0 harg0 arg1 harg1 arg2 harg2 arg3 harg3 arg4 harg4 arg5 harg5 arg6 harg6 arg7 harg7 arg8 harg8 arg9 harg9 arg10 harg10 arg11 harg11 arg12 harg12 arg13 harg13 arg14 arg15 := by
  rw [cc0_cut, bind_assoc_, bind_assoc_]
  unfold prog
  congr 2

end

end Cert.KernelIdeal.Canon
-- ==== Proof.Steps.lean ====
module

public import proofs.«01_k».proof.Proof.Canon
public import proofs.«01_k».proof.Proof.Gen.KernelIdeal.Launch
public import proofs.«01_k».proof.Proof.Gen.KernelIdeal.Points
public import Idealize.ShloMosaic.Lib.Pipeline.FrameBody
public import Idealize.ShloMosaic.Lib.Transfers
public import Idealize.ShloMosaic.Lib.Ring
public import Idealize.ShloMosaic.Lib.Scf
public import Idealize.ShloMosaic.Lib.Mxu.Lemmas
public import Idealize.ShloMosaic.Lib.Tactic

/-! # The steps of the kernel, one lemma each

What each recursion of `Canon` does to the buffers it reads and writes. Contents are named: a buffer
written in pieces is known, cell by cell, to hold a target once its pieces are written. -/

@[expose] public section

set_option synthInstance.maxSize 4096

noncomputable section

namespace Cert.KernelIdeal.Steps

open Cert.KernelIdeal Cert.KernelIdeal.Canon
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open K0.Facts₀ Shapes1.Facts₀ Shapes2.Facts₀
open Cert.KernelIdeal.Gen (facts₀)

variable {F : FTy → Type} [FloatOps F] {α : Type}

local notation "𝕄" => MT nD τ sig Unit (Elt F) ℕ (Pipeline.UD sig nD τ) ℕ

/-- A program of this kernel run on core `c`. -/
abbrev WP (c : Dev nD) (p : PR F α) (Q : α → sProp 𝕄) : sProp 𝕄 :=
  wp frame (wpE (defs₀ (F := F)) Variants.none (c : Thread nD τ) none) Set.univ p Q

/-! ## Buffers written in pieces -/

section held
variable {sp : CoreSpace} {S : Shape} {e : EltTy}

/-- The contents `f` hold `T` at the cells `D`. -/
def Agree (m : Memref sig .tc sp S e) (f : m.view.ty.Contents (Elt F)) (D : S.Idx → Prop) (T : S.Idx → Elt F e) : Prop :=
  ∀ i, D i → m.view.read (Elt F) f i = T i

theorem Agree.store {m : Memref sig .tc sp S e} {f : m.view.ty.Contents (Elt F)} {D D' : S.Idx → Prop} {T : S.Idx → Elt F e}
    (h : Agree m f D T) (r : Rect S) (w : r.shape.Idx → Elt F e) (hw : ∀ x, w x = T (r.emb x))
    (hD : ∀ i, D' i → D i ∨ ∃ x, r.emb x = i) : Agree m ((m.access r).write (Elt F) f w Finset.univ) D' T := by
  intro i hi
  by_cases hx : ∃ x, r.emb x = i
  · obtain ⟨x, rfl⟩ := hx
    rw [View.read_slice_write_emb _ _ _ (Finset.mem_univ x)]; exact hw x
  · rw [View.read_slice_write_of_not_mem]
    · exact h i ((hD i hi).resolve_right hx)
    · intro hm; obtain ⟨x, -, hx'⟩ := Finset.mem_map.mp hm; exact hx ⟨x, hx'⟩

/-- A buffer owned, holding `T` at the cells `D`. -/
def held (c : Dev nD) (m : Memref sig .tc sp S e) (D : S.Idx → Prop) (T : S.Idx → Elt F e) : sProp 𝕄 :=
  iprop(∃ f, ⌜Agree m f D T⌝ ∗ (m.view.loc (c : Thread nD τ) ↦[m.view.set]{fullShare} f))

/-- A load from a buffer owned, at a rectangle within what is owned. -/
theorem wp_ld (c : Dev nD) (m : Memref sig .tc sp S e) (r : Rect S) {hl : m.view.LoadsAt r.toLoadRect} (I : Finset (Idx (m.view.loc (c : Thread nD τ))))
    (f : Buf (Elt F) (m.view.loc (c : Thread nD τ))) (hI : (m.access r).set ⊆ I) (k : (r.shape.Idx → Elt F e) → PR F α) (Q : α → sProp 𝕄) :
    (m.view.loc (c : Thread nD τ) ↦[I]{fullShare} f) ⊢ iprop(((m.view.loc (c : Thread nD τ) ↦[I]{fullShare} f) -∗ WP c (k ((m.access r).read (Elt F) f)) Q)
      -∗ WP c (.op (.load m r.toLoadRect hl) k) Q) :=
  wp_load_rect (m := m) (r := r) Variants.none (c : Thread nD τ) none Set.univ hI

/-- A store into a whole view owned. -/
theorem wp_st (c : Dev nD) (m : Memref sig .tc sp S e) (r : Rect S) (w : r.shape.Idx → Elt F e) {hx : (m.access r).Stores Finset.univ}
    {hm : (Finset.univ : Finset r.shape.Idx) = Finset.univ ∨ ∀ a, r.stride a = 1}
    (f : Buf (Elt F) (m.view.loc (c : Thread nD τ))) (k : PR F α) (Q : α → sProp 𝕄) :
    (m.view.loc (c : Thread nD τ) ↦[m.view.set]{fullShare} f)
    ⊢ iprop(((m.view.loc (c : Thread nD τ) ↦[m.view.set]{fullShare} ((m.access r).write (Elt F) f w Finset.univ)) -∗ WP c k Q)
      -∗ WP c (.op (.store m r w Finset.univ hx hm) fun _ => k) Q) := by
  have hS : (m.access r).setOn Finset.univ ⊆ m.view.set := by
    have := View.set_slice_subset m.view r
    rwa [← View.setOn_univ] at this
  exact wp_store (m := m) (r := r) (w := w) (Mk := Finset.univ) (hx := hx) (hm := hm) (k := fun _ => k) (S := m.view.set) (f := f) (Q := Q) Variants.none (c : Thread nD τ) none Set.univ hS

/-- A load whose value is not used, then a store of one piece of the target. -/
theorem wp_piece (c : Dev nD) (m : Memref sig .tc sp S e) (r : Rect S) {hl : m.view.LoadsAt r.toLoadRect} {hx : (m.access r).Stores Finset.univ}
    {hm : (Finset.univ : Finset r.shape.Idx) = Finset.univ ∨ ∀ a, r.stride a = 1} (w : r.shape.Idx → Elt F e) (T : S.Idx → Elt F e) (D D' : S.Idx → Prop)
    (hw : ∀ x, w x = T (r.emb x)) (hD : ∀ i, D' i → D i ∨ ∃ x, r.emb x = i) (k : PR F α) (Q : α → sProp 𝕄) :
    held c m D T ⊢ iprop((held c m D' T -∗ WP c k Q) -∗
      WP c (.op (.load m r.toLoadRect hl) fun _ => .op (.store m r w Finset.univ hx hm) fun _ => k) Q) := by
  unfold held
  iintro ⟨%f, %hf, H⟩ Hk
  iapply (wp_ld c m r _ f (View.set_slice_subset _ r)) $$ H
  iintro H
  iapply (wp_st c m r w f) $$ H
  iintro H
  iapply Hk
  iexists _; isplitr; swap; · iexact H
  ipureintro; exact hf.store r w hw hD

end held

/-! ## Families indexed by the chunks -/

/-- The family with its first `K` members moved on from `A` to `B`. -/
def stage {n : ℕ} (A B : Fin n → sProp 𝕄) (K : ℕ) : sProp 𝕄 :=
  bigSep Finset.univ fun k => if k.val < K then B k else A k

theorem stage_zero {n : ℕ} (A B : Fin n → sProp 𝕄) : stage A B 0 = bigSep Finset.univ A := by
  unfold stage; exact bigSep_congr fun k _ => by simp
theorem stage_full {n : ℕ} (A B : Fin n → sProp 𝕄) : stage A B n = bigSep Finset.univ B := by
  unfold stage; exact bigSep_congr fun k _ => by simp [k.isLt]

theorem stage_step {n : ℕ} (A B : Fin n → sProp 𝕄) (k : Fin n) :
    stage A B k.val ⊢ iprop(A k ∗ (B k -∗ stage A B (k.val + 1))) := by
  unfold stage
  rw [bigSep_univ_split k, bigSep_univ_split k (Φ := fun j : Fin n => if j.val < k.val + 1 then B j else A j)]
  simp only [lt_irrefl, if_false, Nat.lt_succ_self, if_true]
  rw [bigSep_congr (s := Finset.univ.erase k) (Ψ := fun j : Fin n => if j.val < k.val + 1 then B j else A j)
    (fun j hj => by
      have : j.val ≠ k.val := fun h => (Finset.mem_erase.mp hj).1 (Fin.ext h)
      have h2 : (j.val < k.val) ↔ (j.val < k.val + 1) := by omega
      simp only [h2])]
  show iprop(A k ∗ bigSep (Finset.univ.erase k) _) ⊢ iprop(A k ∗ (B k -∗ iprop(B k ∗ bigSep (Finset.univ.erase k) _)))
  iintro ⟨HA, HR⟩
  isplitl [HA]; · iexact HA
  iintro HB
  isplitl [HB]; · iexact HB
  iexact HR

/-! ## Targets -/

/-- An index of two coordinates. -/
def ix2 {a b : ℕ} (i : Fin a) (j : Fin b) : (⟨2, ![a, b]⟩ : Shape).Idx
  | ⟨0, _⟩ => i
  | ⟨1, _⟩ => j
/-- An index of three coordinates. -/
def ix3 {a b c : ℕ} (i : Fin a) (j : Fin b) (k : Fin c) : (⟨3, ![a, b, c]⟩ : Shape).Idx
  | ⟨0, _⟩ => i
  | ⟨1, _⟩ => j
  | ⟨2, _⟩ => k
/-- An index of four coordinates. -/
def ix4 {a b c d : ℕ} (i : Fin a) (j : Fin b) (k : Fin c) (l : Fin d) : (⟨4, ![a, b, c, d]⟩ : Shape).Idx
  | ⟨0, _⟩ => i
  | ⟨1, _⟩ => j
  | ⟨2, _⟩ => k
  | ⟨3, _⟩ => l

/-- The spread activations. -/
def xT (x : Vec F S16x11264 .bf16) : Vec F S88x32x256 .bf16 := fun i =>
  xPay (Fin.ofNat 2 ((i 1).val / 16)) (Fin.ofNat 2 ((i 2).val / 128)) (fun j => x ((xRect (i 0)).emb j))
    (ix3 (0 : Fin 1) (Fin.ofNat 16 (i 1).val) (Fin.ofNat 128 (i 2).val))

theorem xT_emb (x : Vec F S16x11264 .bf16) (g : Fin 88) (X h : Fin 2) (j : S1x16x128.Idx) :
    xT x ((xkRect g X h).emb j) = xPay X h (fun j => x ((xRect g).emb j)) j := by
  have j0 : (j 0).val < 1 := (j 0).isLt
  have j1 : (j 1).val < 16 := (j 1).isLt
  have j2 : (j 2).val < 128 := (j 2).isLt
  have e0 : ((xkRect g X h).emb j 0).val = g.val + 1 * (j 0).val := rfl
  have e1 : ((xkRect g X h).emb j 1).val = 16 * X.val + 1 * (j 1).val := rfl
  have e2 : ((xkRect g X h).emb j 2).val = 128 * h.val + 1 * (j 2).val := rfl
  have h0 : (xkRect g X h).emb j 0 = g := Fin.ext (by rw [e0]; omega)
  have h1 : Fin.ofNat 2 (((xkRect g X h).emb j 1).val / 16) = X := Fin.ext (by rw [e1]; simp only [Fin.ofNat]; omega)
  have h2 : Fin.ofNat 2 (((xkRect g X h).emb j 2).val / 128) = h := Fin.ext (by rw [e2]; simp only [Fin.ofNat]; omega)
  have h3 : (ix3 (0 : Fin 1) (Fin.ofNat 16 ((xkRect g X h).emb j 1).val) (Fin.ofNat 128 ((xkRect g X h).emb j 2).val) : S1x16x128.Idx) = j := by
    funext a
    match a with
    | ⟨0, _⟩ => exact Fin.ext (by show 0 = (j 0).val; omega)
    | ⟨1, _⟩ => exact Fin.ext (by show ((xkRect g X h).emb j 1).val % 16 = (j 1).val; rw [e1]; omega)
    | ⟨2, _⟩ => exact Fin.ext (by show ((xkRect g X h).emb j 2).val % 128 = (j 2).val; rw [e2]; omega)
  unfold xT
  rw [h0, h1, h2, h3]

/-- The pairs of scales, the two column parities beside each other. -/
def sT (s : Vec F S88x4096 .bf16) : Vec F S2x44x2x2048 .bf16 := fun i =>
  sPay (i 0) (fun y => s ((srRect (Fin.ofNat 32 (2 * ((i 3).val / 128)))).emb y))
    (fun y => s ((srRect (Fin.ofNat 32 (2 * ((i 3).val / 128) + 1))).emb y))
    (ix4 (0 : Fin 1) (i 1) (i 2) (Fin.ofNat 128 (i 3).val))

theorem sT_emb (s : Vec F S88x4096 .bf16) (par : Fin 2) (j : Fin 16) (y : S1x44x2x128.Idx) :
    sT s ((spRect par j).emb y)
      = sPay par (fun y => s ((srRect ⟨2 * j.val, by omega⟩).emb y)) (fun y => s ((srRect ⟨2 * j.val + 1, by omega⟩).emb y)) y := by
  have y0 : (y 0).val < 1 := (y 0).isLt
  have y3 : (y 3).val < 128 := (y 3).isLt
  have e0 : ((spRect par j).emb y 0).val = par.val + 1 * (y 0).val := rfl
  have e1 : ((spRect par j).emb y 1).val = 0 + 1 * (y 1).val := rfl
  have e2 : ((spRect par j).emb y 2).val = 0 + 1 * (y 2).val := rfl
  have e3 : ((spRect par j).emb y 3).val = 128 * j.val + 1 * (y 3).val := rfl
  have h0 : (spRect par j).emb y 0 = par := Fin.ext (by rw [e0]; omega)
  have h1 : Fin.ofNat 32 (2 * (((spRect par j).emb y 3).val / 128)) = ⟨2 * j.val, by omega⟩ := Fin.ext (by rw [e3]; simp only [Fin.ofNat]; omega)
  have h2 : Fin.ofNat 32 (2 * (((spRect par j).emb y 3).val / 128) + 1) = ⟨2 * j.val + 1, by omega⟩ := Fin.ext (by rw [e3]; simp only [Fin.ofNat]; omega)
  have h3 : (ix4 (0 : Fin 1) ((spRect par j).emb y 1) ((spRect par j).emb y 2) (Fin.ofNat 128 ((spRect par j).emb y 3).val) : S1x44x2x128.Idx) = y := by
    funext a
    match a with
    | ⟨0, _⟩ => exact Fin.ext (by show 0 = (y 0).val; omega)
    | ⟨1, _⟩ => exact Fin.ext (by show ((spRect par j).emb y 1).val = (y 1).val; rw [e1]; omega)
    | ⟨2, _⟩ => exact Fin.ext (by show ((spRect par j).emb y 2).val = (y 2).val; rw [e2]; omega)
    | ⟨3, _⟩ => exact Fin.ext (by show ((spRect par j).emb y 3).val % 128 = (y 3).val; rw [e3]; omega)
  unfold sT
  rw [h0, h1, h2, h3]

/-- The result from the tiles' values. -/
def oT (y : Fin 8 → FVec F S32x256 .f32) : Vec F S16x4096 .bf16 := fun i =>
  oPay (Fin.ofNat 2 ((i 1).val / 256)) (Fin.ofNat 2 ((i 1).val / 128)) (y (Fin.ofNat 8 ((i 1).val / 512)))
    (ix2 (i 0) (Fin.ofNat 128 (i 1).val))

theorem oT_emb (y : Fin 8 → FVec F S32x256 .f32) (t : Fin 8) (p h : Fin 2) (b : Fin 32) (hb : b.val = 4 * t.val + 2 * p.val + h.val) (j : S16x128.Idx) :
    oT y ((oRect b).emb j) = oPay p h (y t) j := by
  have j1 : (j 1).val < 128 := (j 1).isLt
  have e0 : ((oRect b).emb j 0).val = 0 + 1 * (j 0).val := rfl
  have e1 : ((oRect b).emb j 1).val = 128 * b.val + 1 * (j 1).val := rfl
  have h1 : Fin.ofNat 2 (((oRect b).emb j 1).val / 256) = p := Fin.ext (by rw [e1]; simp only [Fin.ofNat]; omega)
  have h2 : Fin.ofNat 2 (((oRect b).emb j 1).val / 128) = h := Fin.ext (by rw [e1]; simp only [Fin.ofNat]; omega)
  have h3 : Fin.ofNat 8 (((oRect b).emb j 1).val / 512) = t := Fin.ext (by rw [e1]; simp only [Fin.ofNat]; omega)
  have h4 : (ix2 ((oRect b).emb j 0) (Fin.ofNat 128 ((oRect b).emb j 1).val) : S16x128.Idx) = j := by
    funext a
    match a with
    | ⟨0, _⟩ => exact Fin.ext (by show ((oRect b).emb j 0).val = (j 0).val; rw [e0]; omega)
    | ⟨1, _⟩ => exact Fin.ext (by show ((oRect b).emb j 1).val % 128 = (j 1).val; rw [e1]; omega)
  unfold oT
  rw [h1, h2, h3, h4]

/-! ## Membership in the pieces -/

theorem xk_mem (g : Fin 88) (X h : Fin 2) (i : S88x32x256.Idx) (h0 : (i 0).val = g.val) (h1 : (i 1).val / 16 = X.val) (h2 : (i 2).val / 128 = h.val) :
    ∃ x, (xkRect g X h).emb x = i :=
  ⟨ix3 (0 : Fin 1) (Fin.ofNat 16 (i 1).val) (Fin.ofNat 128 (i 2).val), by
    funext a
    match a with
    | ⟨0, _⟩ => exact Fin.ext (by show g.val + 1 * 0 = (i 0).val; omega)
    | ⟨1, _⟩ => exact Fin.ext (by show 16 * X.val + 1 * ((i 1).val % 16) = (i 1).val; omega)
    | ⟨2, _⟩ => exact Fin.ext (by show 128 * h.val + 1 * ((i 2).val % 128) = (i 2).val; omega)⟩

theorem sp_mem (par : Fin 2) (j : Fin 16) (i : S2x44x2x2048.Idx) (h0 : (i 0).val = par.val) (h3 : (i 3).val / 128 = j.val) :
    ∃ x, (spRect par j).emb x = i :=
  ⟨ix4 (0 : Fin 1) (i 1) (i 2) (Fin.ofNat 128 (i 3).val), by
    funext a
    match a with
    | ⟨0, _⟩ => exact Fin.ext (by show par.val + 1 * 0 = (i 0).val; omega)
    | ⟨1, _⟩ => exact Fin.ext (by show 0 + 1 * (i 1).val = (i 1).val; omega)
    | ⟨2, _⟩ => exact Fin.ext (by show 0 + 1 * (i 2).val = (i 2).val; omega)
    | ⟨3, _⟩ => exact Fin.ext (by show 128 * j.val + 1 * ((i 3).val % 128) = (i 3).val; omega)⟩

theorem o_mem (b : Fin 32) (i : S16x4096.Idx) (h1 : (i 1).val / 128 = b.val) : ∃ x, (oRect b).emb x = i :=
  ⟨ix2 (i 0) (Fin.ofNat 128 (i 1).val), by
    funext a
    match a with
    | ⟨0, _⟩ => exact Fin.ext (by show 0 + 1 * (i 0).val = (i 0).val; omega)
    | ⟨1, _⟩ => exact Fin.ext (by show 128 * b.val + 1 * ((i 1).val % 128) = (i 1).val; omega)⟩

/-! ## The activations and the scales spread -/

theorem wp_xLoad (c : Dev nD) (arg6 : Memref sig .tc .vmem S16x11264 .bf16) (f : Buf (Elt F) (arg6.view.loc (c : Thread nD τ))) (g : Fin 88)
    (K : Vec F S16x128 .bf16 → PR F α) (Q : α → sProp 𝕄) :
    (arg6.view.loc (c : Thread nD τ) ↦[arg6.view.set]{fullShare} f)
    ⊢ iprop(((arg6.view.loc (c : Thread nD τ) ↦[arg6.view.set]{fullShare} f) -∗ WP c (K (fun j => arg6.view.read (Elt F) f ((xRect g).emb j))) Q)
      -∗ WP c (xLoad arg6 g K) Q) := by
  unfold xLoad
  exact wp_ld c arg6 (xRect g) _ f (View.set_slice_subset _ _) K Q

theorem wp_xStore (c : Dev nD) (arg13 : Memref sig .tc .vmem S88x32x256 .bf16) (harg13 : arg13.IsWhole) (x : Vec F S16x11264 .bf16)
    (g : Fin 88) (X h : Fin 2) (D D' : S88x32x256.Idx → Prop)
    (hD : ∀ i, D' i → D i ∨ ((i 0).val = g.val ∧ (i 1).val / 16 = X.val ∧ (i 2).val / 128 = h.val)) (K : PR F α) (Q : α → sProp 𝕄) :
    held c arg13 D (xT x) ⊢ iprop((held c arg13 D' (xT x) -∗ WP c K Q)
      -∗ WP c (xStore arg13 harg13 g X h (xPay X h (fun j => x ((xRect g).emb j))) K) Q) := by
  unfold xStore
  exact wp_piece c arg13 (xkRect g X h) _ _ _ _ (fun y => (xT_emb x g X h y).symm)
    (fun i hi => (hD i hi).imp id fun h' => xk_mem g X h i h'.1 h'.2.1 h'.2.2) K Q

theorem wp_sLoad (c : Dev nD) (src : Memref sig .tc .vmem S88x4096 .bf16) (f : Buf (Elt F) (src.view.loc (c : Thread nD τ))) (j : Fin 16)
    (K : Vec F S88x128 .bf16 → Vec F S88x128 .bf16 → PR F α) (Q : α → sProp 𝕄) :
    (src.view.loc (c : Thread nD τ) ↦[src.view.set]{fullShare} f)
    ⊢ iprop(((src.view.loc (c : Thread nD τ) ↦[src.view.set]{fullShare} f)
        -∗ WP c (K (fun y => src.view.read (Elt F) f ((srRect ⟨2 * j.val, by omega⟩).emb y)) (fun y => src.view.read (Elt F) f ((srRect ⟨2 * j.val + 1, by omega⟩).emb y))) Q)
      -∗ WP c (sLoad src j K) Q) := by
  unfold sLoad
  iintro H Hk
  iapply (wp_ld c src (srRect ⟨2 * j.val, _⟩) _ f (View.set_slice_subset _ _)) $$ H
  iintro H
  iapply (wp_ld c src (srRect ⟨2 * j.val + 1, _⟩) _ f (View.set_slice_subset _ _)) $$ H
  iexact Hk

theorem wp_sStore (c : Dev nD) (dst : Memref sig .tc .vmem S2x44x2x2048 .bf16) (hd : dst.IsWhole) (s : Vec F S88x4096 .bf16)
    (par : Fin 2) (j : Fin 16) (D D' : S2x44x2x2048.Idx → Prop)
    (hD : ∀ i, D' i → D i ∨ ((i 0).val = par.val ∧ (i 3).val / 128 = j.val)) (K : PR F α) (Q : α → sProp 𝕄) :
    held c dst D (sT s) ⊢ iprop((held c dst D' (sT s) -∗ WP c K Q)
      -∗ WP c (sStore dst hd par j (sPay par (fun y => s ((srRect ⟨2 * j.val, by omega⟩).emb y)) (fun y => s ((srRect ⟨2 * j.val + 1, by omega⟩).emb y))) K) Q) := by
  unfold sStore
  exact wp_piece c dst (spRect par j) _ _ _ _ (fun y => (sT_emb s par j y).symm)
    (fun i hi => (hD i hi).imp id fun h' => sp_mem par j i h'.1 h'.2) K Q

theorem wp_xGroups (c : Dev nD) (arg6 : Memref sig .tc .vmem S16x11264 .bf16) (arg13 : Memref sig .tc .vmem S88x32x256 .bf16) (harg13 : arg13.IsWhole)
    (f6 : Buf (Elt F) (arg6.view.loc (c : Thread nD τ))) (K : PR F α) (Q : α → sProp 𝕄) : ∀ (n k : ℕ) (h : k + n ≤ 88),
    iprop((arg6.view.loc (c : Thread nD τ) ↦[arg6.view.set]{fullShare} f6)
      ∗ held c arg13 (fun i => (i 0).val < k) (xT (arg6.view.read (Elt F) f6)))
    ⊢ iprop((iprop((arg6.view.loc (c : Thread nD τ) ↦[arg6.view.set]{fullShare} f6)
        ∗ held c arg13 (fun i => (i 0).val < k + n) (xT (arg6.view.read (Elt F) f6))) -∗ WP c K Q)
      -∗ WP c (xGroups arg6 arg13 harg13 n k h K) Q) := by
  intro n
  induction n with
  | zero =>
    intro k h
    iintro H Hk
    iapply Hk; iexact H
  | succ n ih =>
    intro k h
    have hk : k < 88 := by omega
    iintro ⟨H6, H13⟩ Hk
    unfold xGroups xGroup
    iapply (wp_xLoad c arg6 f6 ⟨k, hk⟩) $$ H6
    iintro H6
    iapply (wp_xStore c arg13 harg13 (arg6.view.read (Elt F) f6) ⟨k, hk⟩ 0 0 _ (fun i => (i 0).val < k ∨ ((i 0).val = k ∧ (i 1).val / 16 = 0 ∧ (i 2).val / 128 = 0))
      (fun i hi => by rcases hi with hi | hi; exact .inl hi; exact .inr hi)) $$ H13
    iintro H13
    iapply (wp_xStore c arg13 harg13 (arg6.view.read (Elt F) f6) ⟨k, hk⟩ 1 0 _ (fun i => (i 0).val < k ∨ ((i 0).val = k ∧ (i 2).val / 128 = 0))
      (fun i hi => by
        have h1 : (i 1).val < 32 := (i 1).isLt
        by_cases hX : (i 1).val / 16 = 0
        · left; rcases hi with hi | hi; exact .inl hi; exact .inr ⟨hi.1, hX, hi.2⟩
        · rcases hi with hi | hi; exact .inl (.inl hi)
          exact .inr ⟨hi.1, (by show (i 1).val / 16 = 1; omega), hi.2⟩)) $$ H13
    iintro H13
    iapply (wp_xStore c arg13 harg13 (arg6.view.read (Elt F) f6) ⟨k, hk⟩ 0 1 _ (fun i => (i 0).val < k ∨ ((i 0).val = k ∧ ((i 2).val / 128 = 0 ∨ (i 1).val / 16 = 0)))
      (fun i hi => by
        have h2 : (i 2).val < 256 := (i 2).isLt
        by_cases hX : (i 2).val / 128 = 0
        · left; rcases hi with hi | hi; exact .inl hi; exact .inr ⟨hi.1, hX⟩
        · rcases hi with hi | hi; exact .inl (.inl hi)
          exact .inr ⟨hi.1, (by show (i 1).val / 16 = 0; have := hi.2.resolve_left hX; omega), (by show (i 2).val / 128 = 1; omega)⟩)) $$ H13
    iintro H13
    iapply (wp_xStore c arg13 harg13 (arg6.view.read (Elt F) f6) ⟨k, hk⟩ 1 1 _ (fun i => (i 0).val < k + 1)
      (fun i hi => by
        have h1 : (i 1).val < 32 := (i 1).isLt
        have h2 : (i 2).val < 256 := (i 2).isLt
        by_cases hX : (i 2).val / 128 = 0 ∨ (i 1).val / 16 = 0
        · left; by_cases hlt : (i 0).val < k; exact .inl hlt; exact .inr ⟨by omega, hX⟩
        · by_cases hlt : (i 0).val < k; exact .inl (.inl hlt)
          exact .inr ⟨(by show (i 0).val = k; omega), (by show (i 1).val / 16 = 1; omega), (by show (i 2).val / 128 = 1; omega)⟩)) $$ H13
    iintro H13
    iapply (ih (k + 1) _) $$ [H6 H13]
    · isplitl [H6]; · iexact H6
      iexact H13
    rw [show k + (n + 1) = k + 1 + n from by omega]
    iexact Hk

theorem wp_sCols (c : Dev nD) (src : Memref sig .tc .vmem S88x4096 .bf16) (dst : Memref sig .tc .vmem S2x44x2x2048 .bf16) (hd : dst.IsWhole)
    (f : Buf (Elt F) (src.view.loc (c : Thread nD τ))) (K : PR F α) (Q : α → sProp 𝕄) : ∀ (n k : ℕ) (h : k + n ≤ 16),
    iprop((src.view.loc (c : Thread nD τ) ↦[src.view.set]{fullShare} f)
      ∗ held c dst (fun i => (i 3).val / 128 < k) (sT (src.view.read (Elt F) f)))
    ⊢ iprop((iprop((src.view.loc (c : Thread nD τ) ↦[src.view.set]{fullShare} f)
        ∗ held c dst (fun i => (i 3).val / 128 < k + n) (sT (src.view.read (Elt F) f))) -∗ WP c K Q)
      -∗ WP c (sCols src dst hd n k h K) Q) := by
  intro n
  induction n with
  | zero =>
    intro k h
    iintro H Hk
    iapply Hk; iexact H
  | succ n ih =>
    intro k h
    have hk : k < 16 := by omega
    iintro ⟨H6, H13⟩ Hk
    unfold sCols sCol
    iapply (wp_sLoad c src f ⟨k, hk⟩) $$ H6
    iintro H6
    iapply (wp_sStore c dst hd (src.view.read (Elt F) f) 0 ⟨k, hk⟩ _ (fun i => (i 3).val / 128 < k ∨ ((i 0).val = 0 ∧ (i 3).val / 128 = k))
      (fun i hi => by rcases hi with hi | hi; exact .inl hi; exact .inr hi)) $$ H13
    iintro H13
    iapply (wp_sStore c dst hd (src.view.read (Elt F) f) 1 ⟨k, hk⟩ _ (fun i => (i 3).val / 128 < k + 1)
      (fun i hi => by
        have h0 : (i 0).val < 2 := (i 0).isLt
        by_cases hlt : (i 3).val / 128 < k; exact .inl (.inl hlt)
        by_cases hX : (i 0).val = 0
        · exact .inl (.inr ⟨hX, by omega⟩)
        · exact .inr ⟨(by show (i 0).val = 1; omega), (by show (i 3).val / 128 = k; omega)⟩)) $$ H13
    iintro H13
    iapply (ih (k + 1) _) $$ [H6 H13]
    · isplitl [H6]; · iexact H6
      iexact H13
    rw [show k + (n + 1) = k + 1 + n from by omega]
    iexact Hk

end Cert.KernelIdeal.Steps

end
-- ==== Proof.Body.lean ====
module

public import proofs.«01_k».proof.Proof.Steps

/-! # The loop's passes, and the matrix units' states

What one pass does to the units' state is a function of the buffers' contents; a trip of the loop, and
the loop, iterate it. -/

@[expose] public section

set_option synthInstance.maxSize 4096

noncomputable section

namespace Cert.KernelIdeal.Steps

open Cert.KernelIdeal Cert.KernelIdeal.Canon
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open K0.Facts₀ Shapes1.Facts₀ Shapes2.Facts₀
open Cert.KernelIdeal.Gen (facts₀ k0_off6_inb k0_off1_inb k0_off3_inb k0_off2_inb)

variable {F : FTy → Type} [FloatOps F] {α : Type}

local notation "𝕄" => MT nD τ sig Unit (Elt F) ℕ (Pipeline.UD sig nD τ) ℕ

/-- What the loop reads: the two weights, their scales spread, the activations spread. -/
structure Data (F : FTy → Type) [FloatOps F] where
  w : Fin 2 → Vec F S11264x2048 .i8
  s : Fin 2 → Vec F S2x44x2x2048 .bf16
  x : Vec F S88x32x256 .bf16

/-- The weights one pass reads. -/
abbrev wRect (k : Fin k0_t1_loop.trips) (i : Fin 4) (t : Fin 8) : Rect S11264x2048 :=
  Rect.unit (s := S11264x2048) (offW k i t) S128x256.size (offW_inb k i t)
/-- The scales one pass reads. -/
abbrev sRect (k : Fin k0_t1_loop.trips) (i : Fin 4) (t : Fin 8) : Rect S2x44x2x2048 :=
  Rect.unit (s := S2x44x2x2048) (offS k i t) S1x1x2x256.size (offS_inb k i t)
/-- The activations one group reads. -/
abbrev gRect (k : Fin k0_t1_loop.trips) (i : Fin 4) : Rect S88x32x256 :=
  Rect.unit (s := S88x32x256) (k0_off6 k (BitVec.ofNat 32 i.val)) S1x32x256.size (Cert.KernelIdeal.Gen.k0_off6_inb k i)

/-- The state after one pass. -/
def passM (D : Data F) (q : Fin 2) (k : Fin k0_t1_loop.trips) (i : Fin 4) (t : Fin 8) (M : Mxu F) : Mxu F :=
  (M.pushed q (reg8 t) false (wPay (fun j => D.w q ((wRect k i t).emb j)) (fun j => D.s q ((sRect k i t).emb j)))).accLhs q (reg8 t) (8 * t.val)
    (shapeCast S32x256 (fun j => D.x ((gRect k i).emb j) : Vec F S1x32x256 .bf16) shapeCasts_S1x32x256_S32x256) (fits8 t)
/-- The state after one tile of a group. -/
def tileM (D : Data F) (k : Fin k0_t1_loop.trips) (i : Fin 4) (t : Fin 8) (M : Mxu F) : Mxu F := passM D 1 k i t (passM D 0 k i t M)
/-- The state after the tiles from `t` on, `n` of them. -/
def tilesM (D : Data F) (k : Fin k0_t1_loop.trips) (i : Fin 4) : (n t : ℕ) → t + n ≤ 8 → Mxu F → Mxu F
  | 0, _, _, M => M
  | n + 1, t, h, M => tilesM D k i n (t + 1) (by omega) (tileM D k i ⟨t, by omega⟩ M)
/-- The state after the groups from `i` on, `n` of them. -/
def groupsM (D : Data F) (k : Fin k0_t1_loop.trips) : (n i : ℕ) → i + n ≤ 4 → Mxu F → Mxu F
  | 0, _, _, M => M
  | n + 1, i, h, M => groupsM D k n (i + 1) (by omega) (tilesM D k ⟨i, by omega⟩ 8 0 (by omega) M)
/-- The state after `K` trips. -/
def loopM (D : Data F) : ℕ → Mxu F
  | 0 => pops 1 8 0 (by omega) (pops 0 8 0 (by omega) Mxu.init)
  | K + 1 => if h : K < k0_t1_loop.trips then groupsM D ⟨K, h⟩ 4 0 (by omega) (loopM D K) else loopM D K

/-- Registers empty and no row above the tiles' live: the state between tiles. -/
def Tidy (M : Mxu F) : Prop := (∀ q r, M.reg q r = none) ∧ ∀ q (R : Fin 1024), 256 ≤ R.val → M.live q R = false

theorem Tidy.pass {M : Mxu F} (h : Tidy M) (D : Data F) (q : Fin 2) (k : Fin k0_t1_loop.trips) (i : Fin 4) (t : Fin 8) : Tidy (passM D q k i t M) := by
  constructor
  · intro q' r'
    unfold passM
    by_cases hq : q' = q ∧ r' = reg8 t
    · obtain ⟨rfl, rfl⟩ := hq; exact Mxu.reg_accLhs ..
    · rw [Mxu.reg_accLhs_ne _ _ _ _ _ _ _ _ hq, Mxu.reg_pushed_ne _ _ _ _ _ _ _ hq]; exact h.1 q' r'
  · intro q' R hR
    unfold passM
    rw [Mxu.live_accLhs, if_neg (by rintro ⟨-, -, h2⟩; omega), Mxu.live_pushed]
    exact h.2 q' R hR

theorem Tidy.tile {M : Mxu F} (h : Tidy M) (D : Data F) (k : Fin k0_t1_loop.trips) (i : Fin 4) (t : Fin 8) : Tidy (tileM D k i t M) :=
  (h.pass D 0 k i t).pass D 1 k i t

theorem Tidy.tiles (D : Data F) (k : Fin k0_t1_loop.trips) (i : Fin 4) : ∀ (n t : ℕ) (ht : t + n ≤ 8) (M : Mxu F), Tidy M → Tidy (tilesM D k i n t ht M)
  | 0, _, _, _, h => h
  | n + 1, t, ht, M, h => Tidy.tiles D k i n (t + 1) (by omega) _ (h.tile D k i ⟨t, by omega⟩)

theorem Tidy.groups (D : Data F) (k : Fin k0_t1_loop.trips) : ∀ (n i : ℕ) (hi : i + n ≤ 4) (M : Mxu F), Tidy M → Tidy (groupsM D k n i hi M)
  | 0, _, _, _, h => h
  | n + 1, i, hi, M, h => Tidy.groups D k n (i + 1) (by omega) _ (Tidy.tiles D k _ 8 0 (by omega) _ h)

theorem Tidy.pops (q : Fin 2) : ∀ (n t : ℕ) (ht : t + n ≤ 8) (M : Mxu F), Tidy M → Tidy (pops q n t ht M)
  | 0, _, _, _, h => h
  | n + 1, t, ht, M, h => Tidy.pops q n (t + 1) (by omega) _
      ⟨fun q' r' => h.1 q' r', fun q' R hR => by rw [Mxu.live_pop]; split; rfl; exact h.2 q' R hR⟩

theorem tidy_loopM (D : Data F) : ∀ K, Tidy (loopM D K)
  | 0 => Tidy.pops 1 8 0 (by omega) _ (Tidy.pops 0 8 0 (by omega) _ ⟨fun _ _ => Mxu.reg_init _ _, fun _ _ _ => rfl⟩)
  | K + 1 => by
    unfold loopM
    split
    · exact Tidy.groups D _ 4 0 (by omega) _ (tidy_loopM D K)
    · exact tidy_loopM D K

/-! ## The results' pops -/

/-- The state once the tiles before `t` are popped. -/
def outM (M : Mxu F) : (t : ℕ) → t ≤ 8 → Mxu F
  | 0, _ => M
  | t + 1, h => ((outM M t (by omega)).pop 0 (8 * t) 32 (fits8 ⟨t, by omega⟩)).pop 1 (8 * t) 32 (fits8 ⟨t, by omega⟩)

/-- A tile's value. -/
def yOf (M : Mxu F) (t : Fin 8) : FVec F S32x256 .f32 :=
  glu ((outM M t.val (by omega)).read 0 (8 * t.val) (fits8 t))
    (((outM M t.val (by omega)).pop 0 (8 * t.val) 32 (fits8 t)).read 1 (8 * t.val) (fits8 t))

theorem outM_tidy {M : Mxu F} (h : Tidy M) : ∀ (t : ℕ) (ht : t ≤ 8),
    (∀ q r, (outM M t ht).reg q r = none) ∧ ∀ q (R : Fin 1024), 256 ≤ R.val ∨ R.val < 32 * t → (outM M t ht).live q R = false
  | 0, _ => ⟨h.1, fun q R hR => h.2 q R (by omega)⟩
  | t + 1, ht => by
    have ih := outM_tidy h t (by omega)
    refine ⟨fun q r => ih.1 q r, fun q R hR => ?_⟩
    unfold outM
    rw [Mxu.live_pop, Mxu.live_pop]
    have hq : q = 0 ∨ q = 1 := by revert q; decide
    split
    · rfl
    split
    · rfl
    rename_i h1 h2
    refine ih.2 q R ?_
    rcases hq with rfl | rfl
    · simp only [true_and, not_and, not_lt] at h2; omega
    · simp only [true_and, not_and, not_lt] at h1; omega

theorem outM_drained {M : Mxu F} (h : Tidy M) : (outM M 8 (by omega)).Drained := by
  have := outM_tidy h 8 (by omega)
  exact ⟨fun q r => by rw [this.1 q r]; rfl, fun q R => this.2 q R (by omega)⟩

theorem wp_oStore (c : Dev nD) (arg5 : Memref sig .tc .vmem S16x4096 .bf16) (harg5 : arg5.IsWhole) (y : Fin 8 → FVec F S32x256 .f32)
    (t : Fin 8) (p h : Fin 2) (b : Fin 32) (hb : b.val = 4 * t.val + 2 * p.val + h.val) (K : PR F α) (Q : α → sProp 𝕄) :
    held c arg5 (fun i => (i 1).val / 128 < b.val) (oT y)
    ⊢ iprop((held c arg5 (fun i => (i 1).val / 128 < b.val + 1) (oT y) -∗ WP c K Q)
      -∗ WP c (oStore arg5 harg5 b (oPay p h (y t)) K) Q) := by
  unfold oStore
  exact wp_piece c arg5 (oRect b) _ _ _ _ (fun x => (oT_emb y t p h b hb x).symm) (fun i hi => by
    by_cases hlt : (i 1).val / 128 < b.val
    · exact .inl hlt
    · exact .inr (o_mem b i (by omega))) K Q

theorem wp_oTiles (c : Dev nD) (arg5 : Memref sig .tc .vmem S16x4096 .bf16) (harg5 : arg5.IsWhole) (M : Mxu F) (K : Mxu F → PR F α) (Q : α → sProp 𝕄) :
    ∀ (n t : ℕ) (h : t + n ≤ 8),
    held c arg5 (fun i => (i 1).val / 128 < 4 * t) (oT (yOf M))
    ⊢ iprop((held c arg5 (fun i => (i 1).val / 128 < 4 * (t + n)) (oT (yOf M)) -∗ WP c (K (outM M (t + n) h)) Q)
      -∗ WP c (oTiles arg5 harg5 n t h (outM M t (by omega)) K) Q) := by
  intro n
  induction n with
  | zero => intro t h; iintro H Hk; iapply Hk; iexact H
  | succ n ih =>
    intro t h
    have ht : t < 8 := by omega
    have hy : glu ((outM M t (by omega)).read 0 (8 * t) (fits8 ⟨t, ht⟩)) (((outM M t (by omega)).pop 0 (8 * t) 32 (fits8 ⟨t, ht⟩)).read 1 (8 * t) (fits8 ⟨t, ht⟩))
        = yOf M ⟨t, ht⟩ := rfl
    iintro H Hk
    unfold oTiles oTile
    rw [hy]
    iapply (wp_oStore c arg5 harg5 (yOf M) ⟨t, ht⟩ 0 0 ⟨4 * t, _⟩ (by show 4 * t = 4 * t + 2 * 0 + 0; omega)) $$ H
    iintro H
    iapply (wp_oStore c arg5 harg5 (yOf M) ⟨t, ht⟩ 0 1 ⟨4 * t + 1, _⟩ (by show 4 * t + 1 = 4 * t + 2 * 0 + 1; omega)) $$ H
    iintro H
    iapply (wp_oStore c arg5 harg5 (yOf M) ⟨t, ht⟩ 1 0 ⟨4 * t + 2, _⟩ (by show 4 * t + 2 = 4 * t + 2 * 1 + 0; omega)) $$ H
    iintro H
    iapply (wp_oStore c arg5 harg5 (yOf M) ⟨t, ht⟩ 1 1 ⟨4 * t + 3, _⟩ (by show 4 * t + 3 = 4 * t + 2 * 1 + 1; omega)) $$ H
    iintro H
    iapply (ih (t + 1) _) $$ [H]
    · rw [show 4 * (t + 1) = 4 * t + 3 + 1 from by omega]; iexact H
    simp only [show t + 1 + n = t + (n + 1) from by omega]
    iexact Hk

/-! ## A pass, a tile, the tiles, the groups -/

section pass
variable (c : Dev nD) (arg7 arg8 : Memref sig .tc .vmem S11264x2048 .i8) (arg11 arg12 : Memref sig .tc .vmem S2x44x2x2048 .bf16)
  (arg13 : Memref sig .tc .vmem S88x32x256 .bf16) (D : Data F)

theorem wp_pass (q : Fin 2) (wv : Memref sig .tc .vmem S11264x2048 .i8) (sv : Memref sig .tc .vmem S2x44x2x2048 .bf16)
    (k : Fin k0_t1_loop.trips) (i : Fin 4) (t : Fin 8) (M : Mxu F) (hM : Tidy M) (K : Mxu F → PR F α) (Q : α → sProp 𝕄)
    (S : Finset (Idx (wv.view.loc (c : Thread nD τ)))) (fw : Buf (Elt F) (wv.view.loc (c : Thread nD τ)))
    (fs : Buf (Elt F) (sv.view.loc (c : Thread nD τ))) (fx : Buf (Elt F) (arg13.view.loc (c : Thread nD τ)))
    (hS : (wv.access (wRect k i t)).set ⊆ S) (hw : ∀ j, wv.view.read (Elt F) fw ((wRect k i t).emb j) = D.w q ((wRect k i t).emb j))
    (hs : ∀ j, sv.view.read (Elt F) fs j = D.s q j) (hx : ∀ j, arg13.view.read (Elt F) fx j = D.x j) :
    iprop((wv.view.loc (c : Thread nD τ) ↦[S]{fullShare} fw) ∗ (sv.view.loc (c : Thread nD τ) ↦[sv.view.set]{fullShare} fs)
      ∗ (arg13.view.loc (c : Thread nD τ) ↦[arg13.view.set]{fullShare} fx))
    ⊢ iprop((iprop((wv.view.loc (c : Thread nD τ) ↦[S]{fullShare} fw) ∗ (sv.view.loc (c : Thread nD τ) ↦[sv.view.set]{fullShare} fs)
      ∗ (arg13.view.loc (c : Thread nD τ) ↦[arg13.view.set]{fullShare} fx)) -∗ WP c (K (passM D q k i t M)) Q)
      -∗ WP c (pass arg13 q wv sv k i t M K) Q) := by
  have ew : (wv.access (wRect k i t)).read (Elt F) fw = fun j => D.w q ((wRect k i t).emb j) := funext hw
  have es : (sv.access (sRect k i t)).read (Elt F) fs = fun j => D.s q ((sRect k i t).emb j) := funext fun j => hs _
  have ex : (arg13.access (gRect k i)).read (Elt F) fx = fun j => D.x ((gRect k i).emb j) := funext fun j => hx _
  unfold pass
  iintro ⟨Hw, Hs, Hx⟩ Hk
  iapply (wp_ld c wv (wRect k i t) S fw hS) $$ Hw
  iintro Hw
  iapply (wp_ld c sv (sRect k i t) _ fs (View.set_slice_subset _ _)) $$ Hs
  iintro Hs
  rw [ew, es]
  iapply (Mxu.wp_pushRhs (c := (c : Thread nD τ)) _ (Mxu.pushOk_of_none _ _ _ _ (hM.1 q (reg8 t))))
  iapply (wp_ld c arg13 (gRect k i) _ fx (View.set_slice_subset _ _)) $$ Hx
  iintro Hx
  rw [ex]
  iapply Hk
  isplitl [Hw]; · iexact Hw
  isplitl [Hs]; · iexact Hs
  iexact Hx

variable (S7 : Finset (Idx (arg7.view.loc (c : Thread nD τ)))) (f7 : Buf (Elt F) (arg7.view.loc (c : Thread nD τ)))
  (S8 : Finset (Idx (arg8.view.loc (c : Thread nD τ)))) (f8 : Buf (Elt F) (arg8.view.loc (c : Thread nD τ)))
  (f11 : Buf (Elt F) (arg11.view.loc (c : Thread nD τ))) (f12 : Buf (Elt F) (arg12.view.loc (c : Thread nD τ)))
  (f13 : Buf (Elt F) (arg13.view.loc (c : Thread nD τ)))

/-- The five buffers a tile reads. -/
def tileRes : sProp 𝕄 :=
  iprop((arg7.view.loc (c : Thread nD τ) ↦[S7]{fullShare} f7) ∗ (arg8.view.loc (c : Thread nD τ) ↦[S8]{fullShare} f8)
    ∗ (arg11.view.loc (c : Thread nD τ) ↦[arg11.view.set]{fullShare} f11) ∗ (arg12.view.loc (c : Thread nD τ) ↦[arg12.view.set]{fullShare} f12)
    ∗ (arg13.view.loc (c : Thread nD τ) ↦[arg13.view.set]{fullShare} f13))

variable (k : Fin k0_t1_loop.trips)
  (hS7 : ∀ i t, (arg7.access (wRect k i t)).set ⊆ S7) (hS8 : ∀ i t, (arg8.access (wRect k i t)).set ⊆ S8)
  (h7 : ∀ i t j, arg7.view.read (Elt F) f7 ((wRect k i t).emb j) = D.w 0 ((wRect k i t).emb j))
  (h8 : ∀ i t j, arg8.view.read (Elt F) f8 ((wRect k i t).emb j) = D.w 1 ((wRect k i t).emb j))
  (h11 : ∀ j, arg11.view.read (Elt F) f11 j = D.s 0 j) (h12 : ∀ j, arg12.view.read (Elt F) f12 j = D.s 1 j)
  (h13 : ∀ j, arg13.view.read (Elt F) f13 j = D.x j)
include hS7 hS8 h7 h8 h11 h12 h13

theorem wp_tile (i : Fin 4) (t : Fin 8) (M : Mxu F) (hM : Tidy M) (K : Mxu F → PR F α) (Q : α → sProp 𝕄) :
    tileRes c arg7 arg8 arg11 arg12 arg13 S7 f7 S8 f8 f11 f12 f13
    ⊢ iprop((tileRes c arg7 arg8 arg11 arg12 arg13 S7 f7 S8 f8 f11 f12 f13 -∗ WP c (K (tileM D k i t M)) Q)
      -∗ WP c (tile arg7 arg8 arg11 arg12 arg13 k i t M K) Q) := by
  unfold tile tileRes
  iintro ⟨H7, H8, H11, H12, H13⟩ Hk
  iapply (wp_pass c arg13 D 0 arg7 arg11 k i t M hM _ Q S7 f7 f11 f13 (hS7 i t) (h7 i t) h11 h13) $$ [H7 H11 H13]
  · isplitl [H7]; · iexact H7
    isplitl [H11]; · iexact H11
    iexact H13
  iintro ⟨H7, H11, H13⟩
  iapply (wp_pass c arg13 D 1 arg8 arg12 k i t _ (hM.pass D 0 k i t) _ Q S8 f8 f12 f13 (hS8 i t) (h8 i t) h12 h13) $$ [H8 H12 H13]
  · isplitl [H8]; · iexact H8
    isplitl [H12]; · iexact H12
    iexact H13
  iintro ⟨H8, H12, H13⟩
  iapply Hk
  isplitl [H7]; · iexact H7
  isplitl [H8]; · iexact H8
  isplitl [H11]; · iexact H11
  isplitl [H12]; · iexact H12
  iexact H13

theorem wp_tiles (i : Fin 4) (K : Mxu F → PR F α) (Q : α → sProp 𝕄) : ∀ (n t : ℕ) (ht : t + n ≤ 8) (M : Mxu F) (hM : Tidy M),
    tileRes c arg7 arg8 arg11 arg12 arg13 S7 f7 S8 f8 f11 f12 f13
    ⊢ iprop((tileRes c arg7 arg8 arg11 arg12 arg13 S7 f7 S8 f8 f11 f12 f13 -∗ WP c (K (tilesM D k i n t ht M)) Q)
      -∗ WP c (tiles arg7 arg8 arg11 arg12 arg13 k i n t ht M K) Q) := by
  intro n
  induction n with
  | zero => intro t ht M hM; iintro H Hk; iapply Hk; iexact H
  | succ n ih =>
    intro t ht M hM
    unfold tiles
    iintro H Hk
    iapply (wp_tile c arg7 arg8 arg11 arg12 arg13 D S7 f7 S8 f8 f11 f12 f13 k hS7 hS8 h7 h8 h11 h12 h13 i ⟨t, _⟩ M hM) $$ H
    iintro H
    iapply (ih (t + 1) _ _ (hM.tile D k i ⟨t, _⟩)) $$ H
    iexact Hk

theorem wp_groups (K : Mxu F → PR F α) (Q : α → sProp 𝕄) : ∀ (n i : ℕ) (hi : i + n ≤ 4) (M : Mxu F) (hM : Tidy M),
    tileRes c arg7 arg8 arg11 arg12 arg13 S7 f7 S8 f8 f11 f12 f13
    ⊢ iprop((tileRes c arg7 arg8 arg11 arg12 arg13 S7 f7 S8 f8 f11 f12 f13 -∗ WP c (K (groupsM D k n i hi M)) Q)
      -∗ WP c (groups arg7 arg8 arg11 arg12 arg13 k n i hi M K) Q) := by
  intro n
  induction n with
  | zero => intro i hi M hM; iintro H Hk; iapply Hk; iexact H
  | succ n ih =>
    intro i hi M hM
    unfold groups
    iintro H Hk
    iapply (wp_tiles c arg7 arg8 arg11 arg12 arg13 D S7 f7 S8 f8 f11 f12 f13 k hS7 hS8 h7 h8 h11 h12 h13 ⟨i, _⟩ _ Q 8 0 _ M hM) $$ H
    iintro H
    iapply (ih (i + 1) _ _ (Tidy.tiles D k _ 8 0 _ _ hM)) $$ H
    iexact Hk

end pass

end Cert.KernelIdeal.Steps

end
-- ==== Proof.Chunks.lean ====
module

public import proofs.«01_k».proof.Proof.Body

/-! # The transfers, and the weights' buffers as their chunks -/

@[expose] public section

set_option synthInstance.maxSize 4096

noncomputable section

namespace Cert.KernelIdeal.Steps

open Cert.KernelIdeal Cert.KernelIdeal.Canon
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open K0.Facts₀ Shapes1.Facts₀ Shapes2.Facts₀
open Cert.KernelIdeal.Gen (facts₀ k0_off6_inb k0_off1_inb k0_off3_inb k0_off2_inb)

variable {F : FTy → Type} [FloatOps F] {α : Type}

local notation "𝕄" => MT nD τ sig Unit (Elt F) ℕ (Pipeline.UD sig nD τ) ℕ

/-! ## One transfer -/

/-- What the core has waited at so far. -/
def waited (c : Dev nD) : sProp 𝕄 := iprop(∃ W : Waits sig Unit, owes (c : Thread nD τ) 0 W)

section one
variable {sp sp' : Space} {s : Shape} {e : EltTy}

/-- What a transfer delivers: the destination written, the source back. -/
def got (c : Dev nD) (src : Memref sig .tc sp s e) (dst : Memref sig .tc sp' s e) (fs : Buf (Elt F) (src.view.loc (c : Thread nD τ)))
    (fd : Buf (Elt F) (dst.view.loc (c : Thread nD τ))) : sProp 𝕄 :=
  iprop((dst.view.loc (c : Thread nD τ) ↦[dst.view.set]{fullShare} (dst.view.write (Elt F) fd (src.view.read (Elt F) fs) Finset.univ))
    ∗ (src.view.loc (c : Thread nD τ) ↦[src.view.set]{fullShare} fs))

/-- A transfer in flight. -/
def flying (c : Dev nD) (src : Memref sig .tc sp s e) (dst : Memref sig .tc sp' s e) (sm : DmaSem sig) (fs : Buf (Elt F) (src.view.loc (c : Thread nD τ)))
    (fd : Buf (Elt F) (dst.view.loc (c : Thread nD τ))) : sProp 𝕄 :=
  Transfers.Flight (countersEmb (U := Pipeline.UD sig nD τ)) (c : Thread nD τ) (.dma sm) () dst.view.dmaCredit (got c src dst fs fd)

theorem wp_start (c : Dev nD) (src : Memref sig .tc sp s e) (dst : Memref sig .tc sp' s e) (sm : DmaSem sig) (hs : 0 < s.numel)
    (fs : Buf (Elt F) (src.view.loc (c : Thread nD τ))) (fd : Buf (Elt F) (dst.view.loc (c : Thread nD τ)))
    {h1 : src.view.WordExact} {h2 : dst.view.WordExact} {h3 : DmaTarget.Typed (nD := nD) (τ := τ) (p := .tc) sp (.dma sm) (.here dst)} (k : PR F α) (Q : α → sProp 𝕄) :
    iprop((src.view.loc (c : Thread nD τ) ↦[src.view.set]{fullShare} fs) ∗ (dst.view.loc (c : Thread nD τ) ↦[dst.view.set]{fullShare} fd) ∗ semVal ((c : Thread nD τ), .dma sm) 0)
    ⊢ iprop((flying c src dst sm fs fd -∗ WP c k Q) -∗ WP c (.op (.enqueueDma src (.here dst) (.dma sm) h1 h2 h3) fun _ => k) Q) := by
  unfold flying got
  exact Transfers.wp_dmaLocal (src := src) (dst := dst) (sm := .dma sm) (fs := fs) (fd := fd) (k := fun _ => k) (Q := Q) (hsrc := h1) (hdst := h2) (hsem := h3) (via := .same) (countersEmb (U := Pipeline.UD sig nD τ)) Variants.none (c : Thread nD τ) none () dst.view.dmaCredit rfl
    (View.dmaCredit_pos _ hs) (Finset.Subset.refl _)

theorem wp_wait (c : Dev nD) (src : Memref sig .tc sp s e) (dst : Memref sig .tc sp' s e) (sm : DmaSem sig)
    (fs : Buf (Elt F) (src.view.loc (c : Thread nD τ))) (fd : Buf (Elt F) (dst.view.loc (c : Thread nD τ)))
    (srcw : Memref sig .tc sp s e) (dstw : Memref sig .tc sp' s e) (hN : dstw.view.dmaCredit = dst.view.dmaCredit)
    {h1 : srcw.view.WordExact} {h2 : dstw.view.WordExact} (k : PR F α) (Q : α → sProp 𝕄) :
    iprop(flying c src dst sm fs fd ∗ waited (F := F) c)
    ⊢ iprop((iprop(got c src dst fs fd ∗ semVal ((c : Thread nD τ), .dma sm) 0 ∗ waited (F := F) c) -∗ WP c k Q)
      -∗ WP c (.op (.waitDma2 sm srcw dstw h1 h2) fun _ => k) Q) := by
  unfold flying waited
  iintro ⟨HF, %W, HO⟩ Hk
  iapply (Transfers.wp_waitLocal (srcw := srcw) (dstw := dstw) (countersEmb (U := Pipeline.UD sig nD τ)) Variants.none (c : Thread nD τ) none () hN) $$ [HF HO]
  · isplitl [HF]; · iexact HF
    iexact HO
  iintro ⟨HD, HS, HO⟩
  iapply Hk
  isplitl [HD]; · iexact HD
  isplitl [HS]; · iexact HS
  iexists _; iexact HO

end one

/-! ## The chunks -/

section chunks
variable (c : Dev nD) (src : Memref sig .tc .hbm S11264x2048 .i8) (hs : src.IsWhole) (dst : Memref sig .tc .vmem S11264x2048 .i8) (hd : dst.IsWhole)
  (arg15 : DmaSems sig S2x22) (m : Fin 2) (fs : Buf (Elt F) (src.view.loc (c : Thread nD τ))) (fd : Buf (Elt F) (dst.view.loc (c : Thread nD τ)))

/-- A chunk of a weight's buffer. -/
abbrev chunk {sp : Space} (b : Memref sig .tc sp S11264x2048 .i8) (k : Fin 22) : Memref sig .tc sp S512x2048 .i8 :=
  b.slice (cRect k) (fun _ => rfl)

/-- A chunk before its transfer, -/
def before (k : Fin 22) : sProp 𝕄 :=
  iprop(((chunk src k).view.loc (c : Thread nD τ) ↦[(chunk src k).view.set]{fullShare} fs)
    ∗ ((chunk dst k).view.loc (c : Thread nD τ) ↦[(chunk dst k).view.set]{fullShare} fd) ∗ semVal ((c : Thread nD τ), .dma (semW arg15 m k)) 0)
/-- in flight, -/
def during (k : Fin 22) : sProp 𝕄 := flying c (chunk src k) (chunk dst k) (semW arg15 m k) fs fd
/-- and after. -/
def after (k : Fin 22) : sProp 𝕄 :=
  iprop(got c (chunk src k) (chunk dst k) fs fd ∗ semVal ((c : Thread nD τ), .dma (semW arg15 m k)) 0)

theorem wp_wStart (k : Fin 22) (K : PR F α) (Q : α → sProp 𝕄) :
    before c src dst arg15 m fs fd k ⊢ iprop((during c src dst arg15 m fs fd k -∗ WP c K Q) -∗ WP c (wStart arg15 src hs dst hd m k K) Q) := by
  unfold wStart before during
  exact wp_start c (chunk src k) (chunk dst k) (semW arg15 m k) (by decide) fs fd K Q

theorem wp_wWait (off : Fin 2 → Nat) (hoff : ∀ a, off a + S1x1.size a ≤ S2x22.size a) (k : Fin k0_t1_loop.trips)
    (ho : off = ![m.val, k.val]) (K : PR F α) (Q : α → sProp 𝕄) :
    iprop(during c src dst arg15 m fs fd ⟨k.val, k.isLt⟩ ∗ waited (F := F) c)
    ⊢ iprop((iprop(after c src dst arg15 m fs fd ⟨k.val, k.isLt⟩ ∗ waited (F := F) c) -∗ WP c K Q) -∗ WP c (wWait arg15 off hoff k src hs dst hd K) Q) := by
  subst ho
  unfold wWait during after
  iintro H Hk
  iapply (wp_wait c (chunk src ⟨k.val, k.isLt⟩) (chunk dst ⟨k.val, k.isLt⟩) (semW arg15 m ⟨k.val, k.isLt⟩) fs fd
    (src.slice (Rect.unit (s := S11264x2048) (k0_off2 k) S512x2048.size (Cert.KernelIdeal.Gen.k0_off2_inb k)) (fun _ => rfl))
    (dst.slice (Rect.unit (s := S11264x2048) (k0_off2 k) S512x2048.size (Cert.KernelIdeal.Gen.k0_off2_inb k)) (fun _ => rfl)) rfl
    (h1 := hs.wordExact_slice rfl _ (k0_off2_wordsi8 k)) (h2 := hd.wordExact_slice rfl _ (k0_off2_wordsi8 k))) $$ H
  iintro ⟨HG, HS, HO⟩
  iapply Hk
  isplitl [HG HS]
  · isplitl [HG]; · iexact HG
    iexact HS
  iexact HO

end chunks

/-! ## A weight's buffer as its chunks -/

section split
variable {sp : Space} (b : Memref sig .tc sp S11264x2048 .i8)

/-- Each row is in one chunk. -/
theorem chunk_cover (i : S11264x2048.Idx) : ∃ k y, (cRect k).emb y = i := by
  have h0 : (i 0).val < 11264 := (i 0).isLt
  refine ⟨⟨(i 0).val / 512, by omega⟩, ix2 (⟨(i 0).val % 512, by omega⟩ : Fin 512) (i 1), ?_⟩
  funext a
  match a with
  | ⟨0, _⟩ => exact Fin.ext (by show 512 * ((i 0).val / 512) + 1 * ((i 0).val % 512) = (i 0).val; omega)
  | ⟨1, _⟩ => exact Fin.ext (by show 0 + 1 * (i 1).val = (i 1).val; omega)

theorem chunk_disjoint (k k' : Fin 22) (h : k ≠ k') : Disjoint (chunk b k).view.set (chunk b k').view.set := by
  rw [Finset.disjoint_left]
  intro i hi hi'
  obtain ⟨y, -, rfl⟩ := Finset.mem_map.mp hi
  obtain ⟨y', -, he⟩ := Finset.mem_map.mp hi'
  have he' : (cRect k').emb y' = (cRect k).emb y := b.view.emb.injective he
  have h0 := congrArg Fin.val (congrFun he' 0)
  have e1 : ((cRect k').emb y' 0).val = 512 * k'.val + 1 * (y' 0).val := rfl
  have e2 : ((cRect k).emb y 0).val = 512 * k.val + 1 * (y 0).val := rfl
  have l1 : (y' 0).val < 512 := (y' 0).isLt
  have l2 : (y 0).val < 512 := (y 0).isLt
  rw [e1, e2] at h0
  exact h (Fin.ext (by omega))

theorem chunk_union (hb : b.IsWhole) : Finset.biUnion (β := b.view.ty.Idx) Finset.univ (fun k : Fin 22 => (chunk b k).view.set) = Finset.univ := by
  rw [Finset.eq_univ_iff_forall]
  intro i
  have hi : i ∈ b.view.set := by rw [hb.set_eq_univ]; exact Finset.mem_univ i
  obtain ⟨x, -, rfl⟩ := Finset.mem_map.mp hi
  obtain ⟨k, y, rfl⟩ := chunk_cover x
  exact Finset.mem_biUnion.mpr ⟨k, Finset.mem_univ _, Finset.mem_map.mpr ⟨y, Finset.mem_univ _, rfl⟩⟩

/-- What a pass reads lies in the trip's chunk. -/
theorem wRect_chunk (k : Fin k0_t1_loop.trips) (i : Fin 4) (t : Fin 8) (j : S128x256.Idx) :
    ∃ y, (cRect ⟨k.val, k.isLt⟩).emb y = (wRect k i t).emb j := by
  have hi := i.isLt; have ht := t.isLt
  have j0 : (j 0).val < 128 := (j 0).isLt
  have j1 : (j 1).val < 256 := (j 1).isLt
  have e0 : ((wRect k i t).emb j 0).val = offW k i t 0 + 1 * (j 0).val := rfl
  have e1 : ((wRect k i t).emb j 1).val = offW k i t 1 + 1 * (j 1).val := rfl
  have o0 : offW k i t 0 = 512 * k.val + 128 * i.val := by rw [offW_eq]; rfl
  have o1 : offW k i t 1 = 256 * t.val := by rw [offW_eq]; rfl
  refine ⟨ix2 (⟨128 * i.val + (j 0).val, by omega⟩ : Fin 512) (⟨256 * t.val + (j 1).val, by omega⟩ : Fin 2048), ?_⟩
  funext a
  match a with
  | ⟨0, _⟩ => exact Fin.ext (by rw [show (⟨0, _⟩ : Fin 2) = 0 from rfl, e0, o0]; show 512 * k.val + 1 * (128 * i.val + (j 0).val) = _; omega)
  | ⟨1, _⟩ => exact Fin.ext (by rw [show (⟨1, _⟩ : Fin 2) = 1 from rfl, e1, o1]; show 0 + 1 * (256 * t.val + (j 1).val) = _; omega)

theorem wRect_sub (k : Fin k0_t1_loop.trips) (i : Fin 4) (t : Fin 8) :
    (b.access (wRect k i t)).set ⊆ (chunk b ⟨k.val, k.isLt⟩).view.set := by
  intro x hx
  obtain ⟨j, -, rfl⟩ := Finset.mem_map.mp hx
  obtain ⟨y, hy⟩ := wRect_chunk k i t j
  exact Finset.mem_map.mpr ⟨y, Finset.mem_univ _, congrArg b.view.emb hy⟩

theorem chunk_read (c : Dev nD) (src : Memref sig .tc .hbm S11264x2048 .i8) (fs : Buf (Elt F) (src.view.loc (c : Thread nD τ)))
    (fd : Buf (Elt F) (b.view.loc (c : Thread nD τ))) (k : Fin k0_t1_loop.trips) (i : Fin 4) (t : Fin 8) (j : S128x256.Idx) :
    b.view.read (Elt F) ((chunk b ⟨k.val, k.isLt⟩).view.write (Elt F) fd ((chunk src ⟨k.val, k.isLt⟩).view.read (Elt F) fs) Finset.univ) ((wRect k i t).emb j)
      = src.view.read (Elt F) fs ((wRect k i t).emb j) := by
  obtain ⟨y, hy⟩ := wRect_chunk k i t j
  rw [← hy]
  exact View.read_slice_write_emb (v := b.view) (cRect ⟨k.val, k.isLt⟩) fd _ (Finset.mem_univ y)

end split

end Cert.KernelIdeal.Steps

end
-- ==== Proof.Front.lean ====
module

public import proofs.«01_k».proof.Proof.Chunks

/-! # The whole kernel: what it leaves -/

@[expose] public section

set_option synthInstance.maxSize 4096

noncomputable section

namespace Cert.KernelIdeal.Steps

open Cert.KernelIdeal Cert.KernelIdeal.Canon
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open K0.Facts₀ Shapes1.Facts₀ Shapes2.Facts₀
open Cert.KernelIdeal.Gen (facts₀ k0_off6_inb k0_off1_inb k0_off3_inb k0_off2_inb)

variable {F : FTy → Type} [FloatOps F] {α : Type}

local notation "𝕄" => MT nD τ sig Unit (Elt F) ℕ (Pipeline.UD sig nD τ) ℕ

theorem wp_done (c : Dev nD) (a : α) (Q : α → sProp 𝕄) : Q a ⊢ WP c (.ret a) Q := by
  unfold WP
  rw [wp_ret]
  iintro H
  imodintro
  iexact H

theorem stage_22 (A B : Fin 22 → sProp 𝕄) : stage A B (0 + 22) = bigSep Finset.univ B := stage_full A B

section
variable (c : Dev nD) (arg0 : Memref sig .tc .hbm S16x11264 .bf16) (harg0 : arg0.IsWhole) (arg1 : Memref sig .tc .hbm S11264x2048 .i8) (harg1 : arg1.IsWhole) (arg2 : Memref sig .tc .hbm S88x4096 .bf16) (harg2 : arg2.IsWhole) (arg3 : Memref sig .tc .hbm S11264x2048 .i8) (harg3 : arg3.IsWhole) (arg4 : Memref sig .tc .hbm S88x4096 .bf16) (harg4 : arg4.IsWhole) (arg5 : Memref sig .tc .vmem S16x4096 .bf16) (harg5 : arg5.IsWhole) (arg6 : Memref sig .tc .vmem S16x11264 .bf16) (harg6 : arg6.IsWhole) (arg7 : Memref sig .tc .vmem S11264x2048 .i8) (harg7 : arg7.IsWhole) (arg8 : Memref sig .tc .vmem S11264x2048 .i8) (harg8 : arg8.IsWhole) (arg9 : Memref sig .tc .vmem S88x4096 .bf16) (harg9 : arg9.IsWhole) (arg10 : Memref sig .tc .vmem S88x4096 .bf16) (harg10 : arg10.IsWhole) (arg11 : Memref sig .tc .vmem S2x44x2x2048 .bf16) (harg11 : arg11.IsWhole) (arg12 : Memref sig .tc .vmem S2x44x2x2048 .bf16) (harg12 : arg12.IsWhole) (arg13 : Memref sig .tc .vmem S88x32x256 .bf16) (harg13 : arg13.IsWhole) (arg14 : DmaSems sig S3) (arg15 : DmaSems sig S2x22)
  (f0 : Buf (Elt F) (arg0.view.loc (c : Thread nD τ))) (f1 : Buf (Elt F) (arg1.view.loc (c : Thread nD τ)))
  (f2 : Buf (Elt F) (arg2.view.loc (c : Thread nD τ))) (f3 : Buf (Elt F) (arg3.view.loc (c : Thread nD τ)))
  (f4 : Buf (Elt F) (arg4.view.loc (c : Thread nD τ))) (f6 : Buf (Elt F) (arg6.view.loc (c : Thread nD τ)))
  (f7 : Buf (Elt F) (arg7.view.loc (c : Thread nD τ))) (f8 : Buf (Elt F) (arg8.view.loc (c : Thread nD τ)))
  (f9 : Buf (Elt F) (arg9.view.loc (c : Thread nD τ))) (f10 : Buf (Elt F) (arg10.view.loc (c : Thread nD τ)))

theorem wp_wStarts (K : PR F α) (Q : α → sProp 𝕄) : ∀ (n k : ℕ) (h : k + n ≤ 22),
    iprop(stage (before c arg1 arg7 arg15 0 f1 f7) (during c arg1 arg7 arg15 0 f1 f7) k
      ∗ stage (before c arg3 arg8 arg15 1 f3 f8) (during c arg3 arg8 arg15 1 f3 f8) k)
    ⊢ iprop((iprop(stage (before c arg1 arg7 arg15 0 f1 f7) (during c arg1 arg7 arg15 0 f1 f7) (k + n)
        ∗ stage (before c arg3 arg8 arg15 1 f3 f8) (during c arg3 arg8 arg15 1 f3 f8) (k + n)) -∗ WP c K Q)
      -∗ WP c (wStarts arg1 harg1 arg3 harg3 arg7 harg7 arg8 harg8 arg15 n k h K) Q) := by
  intro n
  induction n with
  | zero => intro k h; iintro H Hk; iapply Hk; iexact H
  | succ n ih =>
    intro k h
    have hk : k < 22 := by omega
    unfold wStarts
    iintro ⟨H0, H1⟩ Hk
    ihave ⟨HA, HR⟩ := (stage_step (before c arg1 arg7 arg15 0 f1 f7) (during c arg1 arg7 arg15 0 f1 f7) ⟨k, hk⟩) $$ H0
    iapply (wp_wStart c arg1 harg1 arg7 harg7 arg15 0 f1 f7 ⟨k, hk⟩) $$ HA
    iintro HA
    ihave H0 := HR $$ HA
    ihave ⟨HA, HR⟩ := (stage_step (before c arg3 arg8 arg15 1 f3 f8) (during c arg3 arg8 arg15 1 f3 f8) ⟨k, hk⟩) $$ H1
    iapply (wp_wStart c arg3 harg3 arg8 harg8 arg15 1 f3 f8 ⟨k, hk⟩) $$ HA
    iintro HA
    ihave H1 := HR $$ HA
    iapply (ih (k + 1) _) $$ [H0 H1]
    · isplitl [H0]; · iexact H0
      iexact H1
    rw [show k + 1 + n = k + (n + 1) from by omega]
    iexact Hk

/-- Two buffers and a transfer's cell, before the transfer. -/
def small {s : Shape} {e : EltTy} (src : Memref sig .tc .hbm s e) (dst : Memref sig .tc .vmem s e) (sm : DmaSem sig)
    (fs : Buf (Elt F) (src.view.loc (c : Thread nD τ))) (fd : Buf (Elt F) (dst.view.loc (c : Thread nD τ))) : sProp 𝕄 :=
  iprop((src.view.loc (c : Thread nD τ) ↦[src.view.set]{fullShare} fs) ∗ (dst.view.loc (c : Thread nD τ) ↦[dst.view.set]{fullShare} fd) ∗ semVal ((c : Thread nD τ), .dma sm) 0)

/-- The data the loop reads. -/
def dataOf : Data F where
  w q := if q = 0 then arg1.view.read (Elt F) f1 else arg3.view.read (Elt F) f3
  s q := if q = 0 then sT (arg2.view.read (Elt F) f2) else sT (arg4.view.read (Elt F) f4)
  x := xT (arg0.view.read (Elt F) f0)

theorem wp_starts (K : PR F α) (Q : α → sProp 𝕄) :
    iprop(small c arg0 arg6 (semA arg14 0) f0 f6 ∗ small c arg2 arg9 (semA arg14 1) f2 f9 ∗ small c arg4 arg10 (semA arg14 2) f4 f10
      ∗ bigSep Finset.univ (before c arg1 arg7 arg15 0 f1 f7) ∗ bigSep Finset.univ (before c arg3 arg8 arg15 1 f3 f8))
    ⊢ iprop((iprop(flying c arg0 arg6 (semA arg14 0) f0 f6 ∗ flying c arg2 arg9 (semA arg14 1) f2 f9 ∗ flying c arg4 arg10 (semA arg14 2) f4 f10
      ∗ bigSep Finset.univ (during c arg1 arg7 arg15 0 f1 f7) ∗ bigSep Finset.univ (during c arg3 arg8 arg15 1 f3 f8)) -∗ WP c K Q)
      -∗ WP c (starts arg0 harg0 arg1 harg1 arg2 harg2 arg3 harg3 arg4 harg4 arg6 harg6 arg7 harg7 arg8 harg8 arg9 harg9 arg10 harg10 arg14 arg15 K) Q) := by
  have key := wp_wStarts c arg1 harg1 arg3 harg3 arg7 harg7 arg8 harg8 arg15 f1 f3 f7 f8 K Q 22 0 (by omega)
  rw [stage_zero, stage_zero, stage_22, stage_22] at key
  unfold starts small
  iintro ⟨HA, HB, HC, H0, H1⟩ Hk
  iapply (wp_start c arg0 arg6 (semA arg14 0) (by decide) f0 f6) $$ HA
  iintro HA
  iapply (wp_start c arg2 arg9 (semA arg14 1) (by decide) f2 f9) $$ HB
  iintro HB
  iapply (wp_start c arg4 arg10 (semA arg14 2) (by decide) f4 f10) $$ HC
  iintro HC
  iapply key $$ [H0 H1]
  · isplitl [H0]; · iexact H0
    iexact H1
  iintro ⟨H0, H1⟩
  iapply Hk
  isplitl [HA]; · iexact HA
  isplitl [HB]; · iexact HB
  isplitl [HC]; · iexact HC
  isplitl [H0]; · iexact H0
  iexact H1

/-- The same after it. -/
def copied {s : Shape} {e : EltTy} (src : Memref sig .tc .hbm s e) (dst : Memref sig .tc .vmem s e) (sm : DmaSem sig)
    (fs : Buf (Elt F) (src.view.loc (c : Thread nD τ))) (fd : Buf (Elt F) (dst.view.loc (c : Thread nD τ))) : sProp 𝕄 :=
  iprop(got c src dst fs fd ∗ semVal ((c : Thread nD τ), .dma sm) 0)

attribute [local irreducible] xGroups in
theorem wp_xGroups_of (c : Dev nD) (arg6 : Memref sig .tc .vmem S16x11264 .bf16) (arg13 : Memref sig .tc .vmem S88x32x256 .bf16) (harg13 : arg13.IsWhole)
    (f6 : Buf (Elt F) (arg6.view.loc (c : Thread nD τ))) (x : Vec F S16x11264 .bf16) (hx : arg6.view.read (Elt F) f6 = x) (K : PR F α) (Q : α → sProp 𝕄) :
    iprop((arg6.view.loc (c : Thread nD τ) ↦[arg6.view.set]{fullShare} f6) ∗ held c arg13 (fun i => (i 0).val < 0) (xT x))
    ⊢ iprop((iprop((arg6.view.loc (c : Thread nD τ) ↦[arg6.view.set]{fullShare} f6) ∗ held c arg13 (fun i => (i 0).val < 0 + 88) (xT x)) -∗ WP c K Q)
      -∗ WP c (xGroups arg6 arg13 harg13 88 0 (by omega) K) Q) := by
  subst hx
  exact wp_xGroups c arg6 arg13 harg13 f6 K Q 88 0 (by omega)

theorem wp_sCols_of (c : Dev nD) (src : Memref sig .tc .vmem S88x4096 .bf16) (dst : Memref sig .tc .vmem S2x44x2x2048 .bf16) (hd : dst.IsWhole)
    (f : Buf (Elt F) (src.view.loc (c : Thread nD τ))) (s : Vec F S88x4096 .bf16) (hs : src.view.read (Elt F) f = s) (K : PR F α) (Q : α → sProp 𝕄) :
    iprop((src.view.loc (c : Thread nD τ) ↦[src.view.set]{fullShare} f) ∗ held c dst (fun i => (i 3).val / 128 < 0) (sT s))
    ⊢ iprop((iprop((src.view.loc (c : Thread nD τ) ↦[src.view.set]{fullShare} f) ∗ held c dst (fun i => (i 3).val / 128 < 0 + 16) (sT s)) -∗ WP c K Q)
      -∗ WP c (sCols src dst hd 16 0 (by omega) K) Q) := by
  subst hs
  exact wp_sCols c src dst hd f K Q 16 0 (by omega)

attribute [local irreducible] xGroups in
theorem wp_front (K : PR F α) (Q : α → sProp 𝕄) :
    iprop(small c arg0 arg6 (semA arg14 0) f0 f6 ∗ small c arg2 arg9 (semA arg14 1) f2 f9 ∗ small c arg4 arg10 (semA arg14 2) f4 f10
      ∗ bigSep Finset.univ (before c arg1 arg7 arg15 0 f1 f7) ∗ bigSep Finset.univ (before c arg3 arg8 arg15 1 f3 f8)
      ∗ held c arg11 (fun i => (i 3).val / 128 < 0) (sT (arg2.view.read (Elt F) f2)) ∗ held c arg12 (fun i => (i 3).val / 128 < 0) (sT (arg4.view.read (Elt F) f4))
      ∗ held c arg13 (fun i => (i 0).val < 0) (xT (arg0.view.read (Elt F) f0)) ∗ waited (F := F) c)
    ⊢ iprop((iprop(copied c arg0 arg6 (semA arg14 0) f0 f6 ∗ copied c arg2 arg9 (semA arg14 1) f2 f9 ∗ copied c arg4 arg10 (semA arg14 2) f4 f10
      ∗ bigSep Finset.univ (during c arg1 arg7 arg15 0 f1 f7) ∗ bigSep Finset.univ (during c arg3 arg8 arg15 1 f3 f8)
      ∗ held c arg11 (fun i => (i 3).val / 128 < 0 + 16) (sT (arg2.view.read (Elt F) f2)) ∗ held c arg12 (fun i => (i 3).val / 128 < 0 + 16) (sT (arg4.view.read (Elt F) f4))
      ∗ held c arg13 (fun i => (i 0).val < 0 + 88) (xT (arg0.view.read (Elt F) f0)) ∗ waited (F := F) c) -∗ WP c K Q)
      -∗ WP c (front arg0 harg0 arg1 harg1 arg2 harg2 arg3 harg3 arg4 harg4 arg6 harg6 arg7 harg7 arg8 harg8 arg9 harg9 arg10 harg10 arg11 harg11 arg12 harg12 arg13 harg13 arg14 arg15 K) Q) := by
  have e6 : arg6.view.read (Elt F) (arg6.view.write (Elt F) f6 (arg0.view.read (Elt F) f0) Finset.univ) = arg0.view.read (Elt F) f0 := View.read_write_univ _ _
  have e9 : arg9.view.read (Elt F) (arg9.view.write (Elt F) f9 (arg2.view.read (Elt F) f2) Finset.univ) = arg2.view.read (Elt F) f2 := View.read_write_univ _ _
  have e10 : arg10.view.read (Elt F) (arg10.view.write (Elt F) f10 (arg4.view.read (Elt F) f4) Finset.univ) = arg4.view.read (Elt F) f4 := View.read_write_univ _ _
  unfold front
  iintro ⟨HA, HB, HC, H0, H1, H11, H12, H13, HW⟩ Hk
  iapply (wp_starts c arg0 harg0 arg1 harg1 arg2 harg2 arg3 harg3 arg4 harg4 arg6 harg6 arg7 harg7 arg8 harg8 arg9 harg9 arg10 harg10 arg14 arg15 f0 f1 f2 f3 f4 f6 f7 f8 f9 f10) $$ [HA HB HC H0 H1]
  · isplitl [HA]; · iexact HA
    isplitl [HB]; · iexact HB
    isplitl [HC]; · iexact HC
    isplitl [H0]; · iexact H0
    iexact H1
  iintro ⟨HA, HB, HC, H0, H1⟩
  iapply (wp_wait c arg0 arg6 (semA arg14 0) f0 f6 arg0 arg6 rfl) $$ [HA HW]
  · isplitl [HA]; · iexact HA
    iexact HW
  unfold got
  iintro ⟨⟨H6, HA⟩, SA, HW⟩
  iapply (wp_xGroups_of c arg6 arg13 harg13 _ _ e6) $$ [H6 H13]
  · isplitl [H6]; · iexact H6
    iexact H13
  iintro ⟨H6, H13⟩
  unfold sWaits
  iapply (wp_wait c arg2 arg9 (semA arg14 1) f2 f9 arg2 arg9 rfl) $$ [HB HW]
  · isplitl [HB]; · iexact HB
    iexact HW
  unfold got
  iintro ⟨⟨H9, HB⟩, SB, HW⟩
  iapply (wp_wait c arg4 arg10 (semA arg14 2) f4 f10 arg4 arg10 rfl) $$ [HC HW]
  · isplitl [HC]; · iexact HC
    iexact HW
  unfold got
  iintro ⟨⟨H10, HC⟩, SC, HW⟩
  iapply (wp_sCols_of c arg9 arg11 harg11 _ _ e9) $$ [H9 H11]
  · isplitl [H9]; · iexact H9
    iexact H11
  iintro ⟨H9, H11⟩
  iapply (wp_sCols_of c arg10 arg12 harg12 _ _ e10) $$ [H10 H12]
  · isplitl [H10]; · iexact H10
    iexact H12
  iintro ⟨H10, H12⟩
  iapply Hk
  unfold copied got
  isplitl [H6 HA SA]
  · isplitl [H6 HA]
    · isplitl [H6]; · iexact H6
      iexact HA
    iexact SA
  isplitl [H9 HB SB]
  · isplitl [H9 HB]
    · isplitl [H9]; · iexact H9
      iexact HB
    iexact SB
  isplitl [H10 HC SC]
  · isplitl [H10 HC]
    · isplitl [H10]; · iexact H10
      iexact HC
    iexact SC
  isplitl [H0]; · iexact H0
  isplitl [H1]; · iexact H1
  isplitl [H11]; · iexact H11
  isplitl [H12]; · iexact H12
  isplitl [H13]; · iexact H13
  iexact HW

end

end Cert.KernelIdeal.Steps

end
-- ==== Proof.Loop.lean ====
module

public import proofs.«01_k».proof.Proof.Front

/-! # The loop, and the whole kernel -/

@[expose] public section

set_option synthInstance.maxSize 4096

noncomputable section

namespace Cert.KernelIdeal.Steps

open Cert.KernelIdeal Cert.KernelIdeal.Canon
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open K0.Facts₀ Shapes1.Facts₀ Shapes2.Facts₀
open Cert.KernelIdeal.Gen (facts₀ k0_off6_inb k0_off1_inb k0_off3_inb k0_off2_inb)

variable {F : FTy → Type} [FloatOps F] {α : Type}

local notation "𝕄" => MT nD τ sig Unit (Elt F) ℕ (Pipeline.UD sig nD τ) ℕ

section
variable (c : Dev nD) (arg0 : Memref sig .tc .hbm S16x11264 .bf16) (harg0 : arg0.IsWhole) (arg1 : Memref sig .tc .hbm S11264x2048 .i8) (harg1 : arg1.IsWhole) (arg2 : Memref sig .tc .hbm S88x4096 .bf16) (harg2 : arg2.IsWhole) (arg3 : Memref sig .tc .hbm S11264x2048 .i8) (harg3 : arg3.IsWhole) (arg4 : Memref sig .tc .hbm S88x4096 .bf16) (harg4 : arg4.IsWhole) (arg5 : Memref sig .tc .vmem S16x4096 .bf16) (harg5 : arg5.IsWhole) (arg6 : Memref sig .tc .vmem S16x11264 .bf16) (harg6 : arg6.IsWhole) (arg7 : Memref sig .tc .vmem S11264x2048 .i8) (harg7 : arg7.IsWhole) (arg8 : Memref sig .tc .vmem S11264x2048 .i8) (harg8 : arg8.IsWhole) (arg9 : Memref sig .tc .vmem S88x4096 .bf16) (harg9 : arg9.IsWhole) (arg10 : Memref sig .tc .vmem S88x4096 .bf16) (harg10 : arg10.IsWhole) (arg11 : Memref sig .tc .vmem S2x44x2x2048 .bf16) (harg11 : arg11.IsWhole) (arg12 : Memref sig .tc .vmem S2x44x2x2048 .bf16) (harg12 : arg12.IsWhole) (arg13 : Memref sig .tc .vmem S88x32x256 .bf16) (harg13 : arg13.IsWhole) (arg14 : DmaSems sig S3) (arg15 : DmaSems sig S2x22)
  (f0 : Buf (Elt F) (arg0.view.loc (c : Thread nD τ))) (f1 : Buf (Elt F) (arg1.view.loc (c : Thread nD τ)))
  (f2 : Buf (Elt F) (arg2.view.loc (c : Thread nD τ))) (f3 : Buf (Elt F) (arg3.view.loc (c : Thread nD τ)))
  (f4 : Buf (Elt F) (arg4.view.loc (c : Thread nD τ))) (f6 : Buf (Elt F) (arg6.view.loc (c : Thread nD τ)))
  (f7 : Buf (Elt F) (arg7.view.loc (c : Thread nD τ))) (f8 : Buf (Elt F) (arg8.view.loc (c : Thread nD τ)))
  (f9 : Buf (Elt F) (arg9.view.loc (c : Thread nD τ))) (f10 : Buf (Elt F) (arg10.view.loc (c : Thread nD τ)))

variable (g11 : Buf (Elt F) (arg11.view.loc (c : Thread nD τ))) (g12 : Buf (Elt F) (arg12.view.loc (c : Thread nD τ)))
  (g13 : Buf (Elt F) (arg13.view.loc (c : Thread nD τ)))

/-- What a trip of the loop keeps. -/
def loopInv (D : Data F) (K : ℕ) (a : BitVec 32 × Mxu F) : sProp 𝕄 :=
  iprop(⌜a.2 = loopM D K⌝ ∗ stage (during c arg1 arg7 arg15 0 f1 f7) (after c arg1 arg7 arg15 0 f1 f7) K
    ∗ stage (during c arg3 arg8 arg15 1 f3 f8) (after c arg3 arg8 arg15 1 f3 f8) K
    ∗ (arg11.view.loc (c : Thread nD τ) ↦[arg11.view.set]{fullShare} g11) ∗ (arg12.view.loc (c : Thread nD τ) ↦[arg12.view.set]{fullShare} g12)
    ∗ (arg13.view.loc (c : Thread nD τ) ↦[arg13.view.set]{fullShare} g13) ∗ waited (F := F) c)

variable (D : Data F) (hw0 : ∀ j, arg1.view.read (Elt F) f1 j = D.w 0 j) (hw1 : ∀ j, arg3.view.read (Elt F) f3 j = D.w 1 j)
  (h11 : ∀ j, arg11.view.read (Elt F) g11 j = D.s 0 j) (h12 : ∀ j, arg12.view.read (Elt F) g12 j = D.s 1 j)
  (h13 : ∀ j, arg13.view.read (Elt F) g13 j = D.x j)

include hw0 hw1 h11 h12 h13 in
theorem wp_trip (k : Fin k0_t1_loop.trips) (a : BitVec 32 × Mxu F) :
    loopInv c arg1 arg3 arg7 arg8 arg11 arg12 arg13 arg15 f1 f3 f7 f8 g11 g12 g13 D k.val a
    ⊢ WP c (trip arg1 harg1 arg3 harg3 arg7 harg7 arg8 harg8 arg11 arg12 arg13 arg15 k a)
      (loopInv c arg1 arg3 arg7 arg8 arg11 arg12 arg13 arg15 f1 f3 f7 f8 g11 g12 g13 D (k.val + 1)) := by
  have hM : groupsM D k 4 0 (by omega) (loopM D k.val) = loopM D (k.val + 1) := by
    show _ = dite _ _ _
    rw [dif_pos k.isLt]
  unfold loopInv trip
  iintro ⟨%ha, H0, H1, H11, H12, H13, HW⟩
  rw [ha]
  ihave ⟨HA, R0⟩ := (stage_step (during c arg1 arg7 arg15 0 f1 f7) (after c arg1 arg7 arg15 0 f1 f7) ⟨k.val, k.isLt⟩) $$ H0
  iapply (wp_wWait c arg1 harg1 arg7 harg7 arg15 0 f1 f7 (k0_off1 k) (Cert.KernelIdeal.Gen.k0_off1_inb k) k (Cert.KernelIdeal.Gen.k0_off1_eq k)) $$ [HA HW]
  · isplitl [HA]; · iexact HA
    iexact HW
  iintro ⟨A0, HW⟩
  ihave ⟨HA, R1⟩ := (stage_step (during c arg3 arg8 arg15 1 f3 f8) (after c arg3 arg8 arg15 1 f3 f8) ⟨k.val, k.isLt⟩) $$ H1
  iapply (wp_wWait c arg3 harg3 arg8 harg8 arg15 1 f3 f8 (k0_off3 k) (Cert.KernelIdeal.Gen.k0_off3_inb k) k (Cert.KernelIdeal.Gen.k0_off3_eq k)) $$ [HA HW]
  · isplitl [HA]; · iexact HA
    iexact HW
  iintro ⟨A1, HW⟩
  unfold after got
  icases A0 with ⟨⟨B7, S7⟩, V7⟩
  icases A1 with ⟨⟨B8, S8⟩, V8⟩
  iapply (wp_groups c arg7 arg8 arg11 arg12 arg13 D (chunk arg7 ⟨k.val, k.isLt⟩).view.set _ (chunk arg8 ⟨k.val, k.isLt⟩).view.set _ g11 g12 g13 k
    (wRect_sub arg7 k) (wRect_sub arg8 k)
    (fun i t j => (chunk_read arg7 c arg1 f1 f7 k i t j).trans (hw0 _)) (fun i t j => (chunk_read arg8 c arg3 f3 f8 k i t j).trans (hw1 _))
    h11 h12 h13 _ _ 4 0 _ _ (tidy_loopM D k.val)) $$ [B7 B8 H11 H12 H13]
  · unfold tileRes
    isplitl [B7]; · iexact B7
    isplitl [B8]; · iexact B8
    isplitl [H11]; · iexact H11
    isplitl [H12]; · iexact H12
    iexact H13
  unfold tileRes
  iintro ⟨B7, B8, H11, H12, H13⟩
  iapply wp_done
  isplitr
  · ipureintro; exact hM
  isplitl [B7 S7 V7 R0]
  · iapply R0
    isplitl [B7 S7]
    · isplitl [B7]; · iexact B7
      iexact S7
    iexact V7
  isplitl [B8 S8 V8 R1]
  · iapply R1
    isplitl [B8 S8]
    · isplitl [B8]; · iexact B8
      iexact S8
    iexact V8
  isplitl [H11]; · iexact H11
  isplitl [H12]; · iexact H12
  isplitl [H13]; · iexact H13
  iexact HW

attribute [local irreducible] trip loopInv pops in
include hw0 hw1 h11 h12 h13 in
theorem wp_loop (K : BitVec 32 × Mxu F → PR F α) (Q : α → sProp 𝕄) :
    iprop(bigSep Finset.univ (during c arg1 arg7 arg15 0 f1 f7) ∗ bigSep Finset.univ (during c arg3 arg8 arg15 1 f3 f8)
      ∗ (arg11.view.loc (c : Thread nD τ) ↦[arg11.view.set]{fullShare} g11) ∗ (arg12.view.loc (c : Thread nD τ) ↦[arg12.view.set]{fullShare} g12)
      ∗ (arg13.view.loc (c : Thread nD τ) ↦[arg13.view.set]{fullShare} g13) ∗ waited (F := F) c)
    ⊢ iprop((∀ a, iprop(⌜a.2 = loopM D 22⌝ ∗ bigSep Finset.univ (after c arg1 arg7 arg15 0 f1 f7) ∗ bigSep Finset.univ (after c arg3 arg8 arg15 1 f3 f8)
      ∗ (arg11.view.loc (c : Thread nD τ) ↦[arg11.view.set]{fullShare} g11) ∗ (arg12.view.loc (c : Thread nD τ) ↦[arg12.view.set]{fullShare} g12)
      ∗ (arg13.view.loc (c : Thread nD τ) ↦[arg13.view.set]{fullShare} g13) ∗ waited (F := F) c) -∗ WP c (K a) Q)
      -∗ WP c (loop arg1 harg1 arg3 harg3 arg7 harg7 arg8 harg8 arg11 arg12 arg13 arg15 >>= K) Q) := by
  have key := Scf.wp_for_bind frame (wpE (defs₀ (F := F)) Variants.none (c : Thread nD τ) none) Set.univ k0_t1_loop.lb k0_t1_loop.ub k0_t1_loop.st k0_t1_ok
    (0#32, pops 1 8 0 (by omega) (pops 0 8 0 (by omega) Mxu.init)) (trip arg1 harg1 arg3 harg3 arg7 harg7 arg8 harg8 arg11 arg12 arg13 arg15)
    (loopInv c arg1 arg3 arg7 arg8 arg11 arg12 arg13 arg15 f1 f3 f7 f8 g11 g12 g13 D)
    (wp_trip c arg1 harg1 arg3 harg3 arg7 harg7 arg8 harg8 arg11 arg12 arg13 arg15 f1 f3 f7 f8 g11 g12 g13 D hw0 hw1 h11 h12 h13) (kk := K) (Q := Q)
  unfold loop
  iintro ⟨H0, H1, H11, H12, H13, HW⟩ Hk
  iapply key $$ [H0 H1 H11 H12 H13 HW]
  · unfold loopInv
    rw [stage_zero, stage_zero]
    isplitr; · ipureintro; rfl
    isplitl [H0]; · iexact H0
    isplitl [H1]; · iexact H1
    isplitl [H11]; · iexact H11
    isplitl [H12]; · iexact H12
    isplitl [H13]; · iexact H13
    iexact HW
  iintro %a HI
  iapply Hk
  unfold loopInv
  icases HI with ⟨%ha, H0, H1, HR⟩
  isplitr; · ipureintro; exact ha
  isplitl [H0]
  · rw [← stage_full (during c arg1 arg7 arg15 0 f1 f7) (after c arg1 arg7 arg15 0 f1 f7)]; iexact H0
  isplitl [H1]
  · rw [← stage_full (during c arg3 arg8 arg15 1 f3 f8) (after c arg3 arg8 arg15 1 f3 f8)]; iexact H1
  iexact HR

end

end Cert.KernelIdeal.Steps

end
-- ==== Proof.Whole.lean ====
module

public import proofs.«01_k».proof.Proof.Loop

/-! # The whole kernel -/

@[expose] public section

set_option synthInstance.maxSize 4096

noncomputable section

namespace Cert.KernelIdeal.Steps

open Cert.KernelIdeal Cert.KernelIdeal.Canon
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open K0.Facts₀ Shapes1.Facts₀ Shapes2.Facts₀
open Cert.KernelIdeal.Gen (facts₀ k0_off6_inb k0_off1_inb k0_off3_inb k0_off2_inb)

variable {F : FTy → Type} [FloatOps F] {α : Type}

local notation "𝕄" => MT nD τ sig Unit (Elt F) ℕ (Pipeline.UD sig nD τ) ℕ

section
variable (c : Dev nD) (arg0 : Memref sig .tc .hbm S16x11264 .bf16) (harg0 : arg0.IsWhole) (arg1 : Memref sig .tc .hbm S11264x2048 .i8) (harg1 : arg1.IsWhole) (arg2 : Memref sig .tc .hbm S88x4096 .bf16) (harg2 : arg2.IsWhole) (arg3 : Memref sig .tc .hbm S11264x2048 .i8) (harg3 : arg3.IsWhole) (arg4 : Memref sig .tc .hbm S88x4096 .bf16) (harg4 : arg4.IsWhole) (arg5 : Memref sig .tc .vmem S16x4096 .bf16) (harg5 : arg5.IsWhole) (arg6 : Memref sig .tc .vmem S16x11264 .bf16) (harg6 : arg6.IsWhole) (arg7 : Memref sig .tc .vmem S11264x2048 .i8) (harg7 : arg7.IsWhole) (arg8 : Memref sig .tc .vmem S11264x2048 .i8) (harg8 : arg8.IsWhole) (arg9 : Memref sig .tc .vmem S88x4096 .bf16) (harg9 : arg9.IsWhole) (arg10 : Memref sig .tc .vmem S88x4096 .bf16) (harg10 : arg10.IsWhole) (arg11 : Memref sig .tc .vmem S2x44x2x2048 .bf16) (harg11 : arg11.IsWhole) (arg12 : Memref sig .tc .vmem S2x44x2x2048 .bf16) (harg12 : arg12.IsWhole) (arg13 : Memref sig .tc .vmem S88x32x256 .bf16) (harg13 : arg13.IsWhole) (arg14 : DmaSems sig S3) (arg15 : DmaSems sig S2x22)
  (f0 : Buf (Elt F) (arg0.view.loc (c : Thread nD τ))) (f1 : Buf (Elt F) (arg1.view.loc (c : Thread nD τ)))
  (f2 : Buf (Elt F) (arg2.view.loc (c : Thread nD τ))) (f3 : Buf (Elt F) (arg3.view.loc (c : Thread nD τ)))
  (f4 : Buf (Elt F) (arg4.view.loc (c : Thread nD τ))) (f6 : Buf (Elt F) (arg6.view.loc (c : Thread nD τ)))
  (f7 : Buf (Elt F) (arg7.view.loc (c : Thread nD τ))) (f8 : Buf (Elt F) (arg8.view.loc (c : Thread nD τ)))
  (f9 : Buf (Elt F) (arg9.view.loc (c : Thread nD τ))) (f10 : Buf (Elt F) (arg10.view.loc (c : Thread nD τ)))

section chunks
variable {sp : Space} (b : Memref sig .tc sp S11264x2048 .i8)

/-- A chunk's elements, among the buffer's. -/
def cSet (c : Dev nD) (k : Fin 22) : Finset (Idx (b.view.loc (c : Thread nD τ))) := (chunk b k).view.set

theorem cSet_disjoint (c : Dev nD) (k k' : Fin 22) (h : k ≠ k') : Disjoint (cSet b c k) (cSet b c k') := chunk_disjoint b k k' h

theorem cSet_union (c : Dev nD) (hb : b.IsWhole) : Finset.univ.biUnion (cSet b c) = Finset.univ := by
  rw [Finset.eq_univ_iff_forall]
  intro i
  have hi : i ∈ b.view.set := by rw [hb.set_eq_univ]; exact Finset.mem_univ i
  obtain ⟨x, -, rfl⟩ := Finset.mem_map.mp hi
  obtain ⟨k, y, rfl⟩ := chunk_cover x
  exact Finset.mem_biUnion.mpr ⟨k, Finset.mem_univ _, Finset.mem_map.mpr ⟨y, Finset.mem_univ _, rfl⟩⟩

/-- A whole buffer is its 22 chunks. -/
theorem chunks_split (c : Dev nD) (hb : b.IsWhole) (f : Buf (Elt F) (b.view.loc (c : Thread nD τ))) :
    (b.view.loc (c : Thread nD τ) ↦[b.view.set]{fullShare} f : sProp 𝕄)
    = bigSep Finset.univ fun k : Fin 22 => (b.view.loc (c : Thread nD τ) ↦[cSet b c k]{fullShare} f : sProp 𝕄) := by
  rw [hb.set_eq_univ]
  exact Ring.pointsTo_blocks (cSet b c) (cSet_disjoint b c) (cSet_union b c hb) f

theorem chunks_join (c : Dev nD) (hb : b.IsWhole) (fs : Fin 22 → Buf (Elt F) (b.view.loc (c : Thread nD τ))) (f : Buf (Elt F) (b.view.loc (c : Thread nD τ))) :
    (bigSep Finset.univ fun k : Fin 22 => (b.view.loc (c : Thread nD τ) ↦[cSet b c k]{fullShare} fs k : sProp 𝕄))
    ⊢ iprop(∃ g, b.view.loc (c : Thread nD τ) ↦[b.view.set]{fullShare} g) := by
  rw [hb.set_eq_univ]
  exact Ring.pointsTo_blocks_join (cSet b c) (cSet_disjoint b c) (cSet_union b c hb) fs f
end chunks

section wide
variable (c : Dev nD) (src : Memref sig .tc .hbm S11264x2048 .i8) (hs : src.IsWhole) (dst : Memref sig .tc .vmem S11264x2048 .i8) (hd : dst.IsWhole)
  (arg15 : DmaSems sig S2x22) (m : Fin 2) (fs : Buf (Elt F) (src.view.loc (c : Thread nD τ))) (fd : Buf (Elt F) (dst.view.loc (c : Thread nD τ)))

/-- A semaphore of a chunk, at rest. -/
def rest (k : Fin 22) : sProp 𝕄 := semVal ((c : Thread nD τ), .dma (semW arg15 m k)) 0

/-- A weight matrix and the buffer it is copied to, with the semaphores of its chunks. -/
def wide : sProp 𝕄 :=
  iprop((src.view.loc (c : Thread nD τ) ↦[src.view.set]{fullShare} fs) ∗ (dst.view.loc (c : Thread nD τ) ↦[dst.view.set]{fullShare} fd)
    ∗ bigSep Finset.univ (rest c arg15 m))

/-- What a chunk's transfer delivers, at the buffer it lands in. -/
def landed (k : Fin 22) : Buf (Elt F) (dst.view.loc (c : Thread nD τ)) :=
  (chunk dst k).view.write (Elt F) fd ((chunk src k).view.read (Elt F) fs) Finset.univ

theorem before_eq : (bigSep Finset.univ (before c src dst arg15 m fs fd) : sProp 𝕄)
    = iprop((bigSep Finset.univ fun k : Fin 22 => (src.view.loc (c : Thread nD τ) ↦[cSet src c k]{fullShare} fs : sProp 𝕄))
      ∗ (bigSep Finset.univ fun k : Fin 22 => (dst.view.loc (c : Thread nD τ) ↦[cSet dst c k]{fullShare} fd : sProp 𝕄))
      ∗ bigSep Finset.univ (rest c arg15 m)) := by
  rw [← bigSep_sep', ← bigSep_sep']
  rfl

theorem after_eq : (bigSep Finset.univ (after c src dst arg15 m fs fd) : sProp 𝕄)
    = iprop(((bigSep Finset.univ fun k : Fin 22 => (dst.view.loc (c : Thread nD τ) ↦[cSet dst c k]{fullShare} (landed c src dst fs fd k) : sProp 𝕄))
      ∗ (bigSep Finset.univ fun k : Fin 22 => (src.view.loc (c : Thread nD τ) ↦[cSet src c k]{fullShare} fs : sProp 𝕄)))
      ∗ bigSep Finset.univ (rest c arg15 m)) := by
  rw [← bigSep_sep', ← bigSep_sep']
  rfl

include hs hd in
theorem wide_before : wide c src dst arg15 m fs fd ⊢ (bigSep Finset.univ (before c src dst arg15 m fs fd) : sProp 𝕄) := by
  rw [before_eq, ← chunks_split src c hs, ← chunks_split dst c hd]
  exact .rfl

include hs hd in
theorem after_wide : (bigSep Finset.univ (after c src dst arg15 m fs fd) : sProp 𝕄) ⊢ iprop(∃ g, wide c src dst arg15 m fs g) := by
  rw [after_eq, ← chunks_split src c hs]
  unfold wide
  iintro ⟨⟨HD, HS⟩, HV⟩
  ihave HG := (chunks_join dst c hd (landed c src dst fs fd) fd) $$ HD
  icases HG with ⟨%g, HG⟩
  iexists g
  isplitl [HS]; · iexact HS
  isplitl [HG]; · iexact HG
  iexact HV
end wide

/-- A buffer at some contents. -/
def some_ (c : Dev nD) {s : Shape} {e : EltTy} (m : Memref sig .tc .vmem s e) : sProp 𝕄 :=
  iprop(∃ f, m.view.loc (c : Thread nD τ) ↦[m.view.set]{fullShare} f)

theorem some_held (c : Dev nD) {s : Shape} {e : EltTy} (m : Memref sig .tc .vmem s e) (D : s.Idx → Prop) (hD : ∀ i, ¬ D i) (T : s.Idx → Elt F e) :
    some_ c m ⊢ (held c m D T : sProp 𝕄) := by
  unfold some_ held
  iintro ⟨%f, H⟩
  iexists f
  isplitr
  · ipureintro; exact fun i hi => absurd hi (hD i)
  iexact H

theorem held_some (c : Dev nD) {s : Shape} {e : EltTy} (m : Memref sig .tc .vmem s e) (D : s.Idx → Prop) (hD : ∀ i, D i) (T : s.Idx → Elt F e) :
    (held c m D T : sProp 𝕄) ⊢ iprop(∃ f, ⌜∀ i, m.view.read (Elt F) f i = T i⌝ ∗ (m.view.loc (c : Thread nD τ) ↦[m.view.set]{fullShare} f)) := by
  unfold held
  iintro ⟨%f, %h, H⟩
  iexists f
  isplitr
  · ipureintro; exact fun i => h i (hD i)
  iexact H

/-- What the kernel's result holds. -/
def outT (D : Data F) : Vec F S16x4096 .bf16 := oT (yOf (loopM D 22))

attribute [local irreducible] loopM front loop oTiles in
include harg1 harg3 harg7 harg8 in
/-- The kernel runs: its inputs stay, its result is what `outT` says. -/
theorem wp_prog (Q : PUnit → sProp 𝕄) :
    iprop(small c arg0 arg6 (semA arg14 0) f0 f6 ∗ small c arg2 arg9 (semA arg14 1) f2 f9 ∗ small c arg4 arg10 (semA arg14 2) f4 f10
      ∗ wide c arg1 arg7 arg15 0 f1 f7 ∗ wide c arg3 arg8 arg15 1 f3 f8 ∗ some_ c arg5 ∗ some_ c arg11 ∗ some_ c arg12 ∗ some_ c arg13 ∗ waited (F := F) c)
    ⊢ iprop((iprop(copied c arg0 arg6 (semA arg14 0) f0 f6 ∗ copied c arg2 arg9 (semA arg14 1) f2 f9 ∗ copied c arg4 arg10 (semA arg14 2) f4 f10
      ∗ (∃ g, wide c arg1 arg7 arg15 0 f1 g) ∗ (∃ g, wide c arg3 arg8 arg15 1 f3 g)
      ∗ (∃ f, ⌜∀ i, arg5.view.read (Elt F) f i = outT (dataOf c arg0 arg1 arg2 arg3 arg4 f0 f1 f2 f3 f4) i⌝ ∗ (arg5.view.loc (c : Thread nD τ) ↦[arg5.view.set]{fullShare} f))
      ∗ some_ c arg11 ∗ some_ c arg12 ∗ some_ c arg13 ∗ waited (F := F) c) -∗ Q ⟨⟩)
      -∗ WP c (prog arg0 harg0 arg1 harg1 arg2 harg2 arg3 harg3 arg4 harg4 arg5 harg5 arg6 harg6 arg7 harg7 arg8 harg8 arg9 harg9 arg10 harg10 arg11 harg11 arg12 harg12 arg13 harg13 arg14 arg15) Q) := by
  unfold prog
  iintro ⟨HA, HB, HC, H0, H1, H5, H11, H12, H13, HW⟩ Hk
  ihave H0 := (wide_before c arg1 harg1 arg7 harg7 arg15 0 f1 f7) $$ H0
  ihave H1 := (wide_before c arg3 harg3 arg8 harg8 arg15 1 f3 f8) $$ H1
  ihave H11 := (some_held c arg11 (fun i => (i 3).val / 128 < 0) (fun i => Nat.not_lt_zero _) (sT (arg2.view.read (Elt F) f2))) $$ H11
  ihave H12 := (some_held c arg12 (fun i => (i 3).val / 128 < 0) (fun i => Nat.not_lt_zero _) (sT (arg4.view.read (Elt F) f4))) $$ H12
  ihave H13 := (some_held c arg13 (fun i => (i 0).val < 0) (fun i => Nat.not_lt_zero _) (xT (arg0.view.read (Elt F) f0))) $$ H13
  iapply (wp_front c arg0 harg0 arg1 harg1 arg2 harg2 arg3 harg3 arg4 harg4 arg6 harg6 arg7 harg7 arg8 harg8 arg9 harg9 arg10 harg10 arg11 harg11 arg12 harg12 arg13 harg13 arg14 arg15 f0 f1 f2 f3 f4 f6 f7 f8 f9 f10) $$ [HA HB HC H0 H1 H11 H12 H13 HW]
  · isplitl [HA]; · iexact HA
    isplitl [HB]; · iexact HB
    isplitl [HC]; · iexact HC
    isplitl [H0]; · iexact H0
    isplitl [H1]; · iexact H1
    isplitl [H11]; · iexact H11
    isplitl [H12]; · iexact H12
    isplitl [H13]; · iexact H13
    iexact HW
  iintro ⟨HA, HB, HC, H0, H1, H11, H12, H13, HW⟩
  ihave H11 := (held_some c arg11 (fun i => (i 3).val / 128 < 0 + 16) (fun i => by have h : (i 3).val < 2048 := (i 3).isLt; show (i 3).val / 128 < 0 + 16; omega) (sT (arg2.view.read (Elt F) f2))) $$ H11
  ihave H12 := (held_some c arg12 (fun i => (i 3).val / 128 < 0 + 16) (fun i => by have h : (i 3).val < 2048 := (i 3).isLt; show (i 3).val / 128 < 0 + 16; omega) (sT (arg4.view.read (Elt F) f4))) $$ H12
  ihave H13 := (held_some c arg13 (fun i => (i 0).val < 0 + 88) (fun i => by have h : (i 0).val < 88 := (i 0).isLt; show (i 0).val < 0 + 88; omega) (xT (arg0.view.read (Elt F) f0))) $$ H13
  icases H11 with ⟨%g11, %h11, H11⟩
  icases H12 with ⟨%g12, %h12, H12⟩
  icases H13 with ⟨%g13, %h13, H13⟩
  iapply (wp_loop c arg1 harg1 arg3 harg3 arg7 harg7 arg8 harg8 arg11 arg12 arg13 arg15 f1 f3 f7 f8 g11 g12 g13 (dataOf c arg0 arg1 arg2 arg3 arg4 f0 f1 f2 f3 f4)
    (fun _ => rfl) (fun _ => rfl) h11 h12 h13) $$ [H0 H1 H11 H12 H13 HW]
  · isplitl [H0]; · iexact H0
    isplitl [H1]; · iexact H1
    isplitl [H11]; · iexact H11
    isplitl [H12]; · iexact H12
    isplitl [H13]; · iexact H13
    iexact HW
  iintro %a ⟨%ha, H0, H1, H11, H12, H13, HW⟩
  rw [ha]
  ihave H5 := (some_held c arg5 (fun i => (i 1).val / 128 < 4 * 0) (fun i => Nat.not_lt_zero _) (outT (dataOf c arg0 arg1 arg2 arg3 arg4 f0 f1 f2 f3 f4))) $$ H5
  iapply (wp_oTiles c arg5 harg5 (loopM (dataOf c arg0 arg1 arg2 arg3 arg4 f0 f1 f2 f3 f4) 22) (fun M => M.exit >>= fun _ => .ret ⟨⟩) Q 8 0 (by omega)) $$ [H5]
  · iexact H5
  iintro H5
  iapply (Mxu.wp_exit (c := (c : Thread nD τ)) (outM_drained (tidy_loopM (dataOf c arg0 arg1 arg2 arg3 arg4 f0 f1 f2 f3 f4) 22)))
  iapply wp_done
  iapply Hk
  isplitl [HA]; · iexact HA
  isplitl [HB]; · iexact HB
  isplitl [HC]; · iexact HC
  isplitl [H0]; · iapply (after_wide c arg1 harg1 arg7 harg7 arg15 0 f1 f7); iexact H0
  isplitl [H1]; · iapply (after_wide c arg3 harg3 arg8 harg8 arg15 1 f3 f8); iexact H1
  isplitl [H5]
  · iapply (held_some c arg5 (fun i => (i 1).val / 128 < 4 * (0 + 8)) (fun i => by have h : (i 1).val < 4096 := (i 1).isLt; show (i 1).val / 128 < 4 * (0 + 8); omega) (outT (dataOf c arg0 arg1 arg2 arg3 arg4 f0 f1 f2 f3 f4)))
    iexact H5
  unfold some_
  isplitl [H11]; · iexists g11; iexact H11
  isplitl [H12]; · iexists g12; iexact H12
  isplitl [H13]; · iexists g13; iexact H13
  iexact HW

end

end Cert.KernelIdeal.Steps

end
-- ==== Proof.Run.lean ====
module

public import proofs.«01_k».proof.Proof.Whole
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Tactic

/-! # The program around the kernel: it runs, its arguments stay, and what it leaves in its result -/

@[expose] public section

set_option synthInstance.maxSize 4096
set_option maxRecDepth 16384

noncomputable section

namespace Cert.KernelIdeal.Run

open Cert.KernelIdeal Cert.KernelIdeal.Gen Cert.KernelIdeal.Canon Cert.KernelIdeal.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main around the region -/

theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The buffers the kernel's own copies read. -/
def H0 : Finset (Ref sig .tc) := {main_v0, main_arg1, main_arg2, main_arg3, main_arg4}
theorem H0_sub : H0 ⊆ Pipeline.restRefs sig spec0 := by decide

/-- The kernel's semaphores: 22 for each weight matrix, three for the activations and the scales. -/
def osem0 : (Fin 22 ⊕ Fin 22) ⊕ Fin 3 → SemLoc sig
  | Sum.inl (Sum.inl k) => SemLoc.dma (semW cc0_scratch9 0 k)
  | Sum.inl (Sum.inr k) => SemLoc.dma (semW cc0_scratch9 1 k)
  | Sum.inr j => SemLoc.dma (semA cc0_scratch8 j)

theorem ownSemFacts0 : Pipeline.OwnSemFacts spec0 osem0 := by decide

theorem ownSems0_eq (c : Dev nD) :
    (Pipeline.ownSems0 (Ix := Unit) (Name := ℕ) (U := Pipeline.UD sig nD τ) (Lvl := ℕ) (Val := Elt F) (τ := τ) osem0 c : sProp 𝕄)
      = iprop((bigSep Finset.univ (rest c cc0_scratch9 0) ∗ bigSep Finset.univ (rest c cc0_scratch9 1))
        ∗ semVal ((c : Thread nD τ), SemLoc.dma (semA cc0_scratch8 0)) 0 ∗ semVal ((c : Thread nD τ), SemLoc.dma (semA cc0_scratch8 1)) 0
        ∗ semVal ((c : Thread nD τ), SemLoc.dma (semA cc0_scratch8 2)) 0) := by
  unfold Pipeline.ownSems0
  rw [BI.bigSep_univ_sum, BI.bigSep_univ_sum, Ring.bigSep_fin3]
  rfl

abbrev pt (c : Dev nD) (b : Ref sig .tc) (f : Buf (Elt F) ((c : Thread nD τ).loc b)) : sProp 𝕄 := ((c : Thread nD τ).loc b) ↦{fullShare} f

theorem hbmPts0_eq (c : Dev nD) :
    (bigSep H0 (fun b => ((c : Thread nD τ).loc b) ↦{fullShare} V m c b) : sProp 𝕄)
      = iprop(pt c main_v0 (V m c main_v0) ∗ pt c main_arg1 (V m c main_arg1) ∗ pt c main_arg2 (V m c main_arg2)
          ∗ pt c main_arg3 (V m c main_arg3) ∗ pt c main_arg4 (V m c main_arg4)) := by
  rw [BI.bigSep_eq_bigSepL_of_eq [main_v0, main_arg1, main_arg2, main_arg3, main_arg4] (by decide) (by decide)]; rfl

theorem PhiD0_eq (c : Dev nD) :
    (Pipeline.ΦD osem0 spec0 H0 (V m) c : sProp 𝕄)
      = iprop(iprop((∃ f, pt c cc0_scratch0 f) ∗ (∃ f, pt c cc0_scratch1 f) ∗ (∃ f, pt c cc0_scratch2 f) ∗ (∃ f, pt c cc0_scratch3 f)
            ∗ (∃ f, pt c cc0_scratch4 f) ∗ (∃ f, pt c cc0_scratch5 f) ∗ (∃ f, pt c cc0_scratch6 f) ∗ (∃ f, pt c cc0_scratch7 f))
          ∗ (∃ r, prngReg c r)
          ∗ iprop((bigSep Finset.univ (rest c cc0_scratch9 0) ∗ bigSep Finset.univ (rest c cc0_scratch9 1))
        ∗ semVal ((c : Thread nD τ), SemLoc.dma (semA cc0_scratch8 0)) 0 ∗ semVal ((c : Thread nD τ), SemLoc.dma (semA cc0_scratch8 1)) 0
        ∗ semVal ((c : Thread nD τ), SemLoc.dma (semA cc0_scratch8 2)) 0)
          ∗ iprop(pt c main_v0 (V m c main_v0) ∗ pt c main_arg1 (V m c main_arg1) ∗ pt c main_arg2 (V m c main_arg2)
          ∗ pt c main_arg3 (V m c main_arg3) ∗ pt c main_arg4 (V m c main_arg4))) := by
  rw [Pipeline.ΦD_eq, scopedRest0_eq, ownSems0_eq, hbmPts0_eq]

/-- What the loop reads, from memory at the region's entry. -/
def dataAt (c : Dev nD) : Data F :=
  dataOf c (Memref.whole main_v0) (Memref.whole main_arg1) (Memref.whole main_arg2) (Memref.whole main_arg3) (Memref.whole main_arg4)
    (V m c main_v0) (V m c main_arg1) (V m c main_arg2) (V m c main_arg3) (V m c main_arg4)

def dats (_ : Fin 1) (c : Dev nD) : Dat τ (Elt F) Unit ℕ (Pipeline.UD sig nD τ) ℕ cfg0 c where
  A w := V m c (Pipeline.arrRef spec0 w)
  after w t := match w with
    | ⟨0, _⟩ => outT (dataAt m c)
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = outT (dataAt m c) := by dsimp only [dats]

abbrev ms0_0 (t : Fin cfg0.N) : Memref sig .tc .vmem S16x4096 .bf16 := win0_0.stage (cfg0.slots t 0)
abbrev hs0_0 (t : Fin cfg0.N) : (ms0_0 t).IsWhole := hstage0_0 0

/-- A whole buffer, as the kernel's steps hold it. -/
theorem pt_whole (c : Dev nD) (b : Ref sig .tc) (f : Buf (Elt F) ((c : Thread nD τ).loc b)) :
    (((Memref.whole b).view.loc (c : Thread nD τ)) ↦[(Memref.whole b).view.set]{fullShare} f : sProp 𝕄) = pt c b f := by
  rw [(Memref.isWhole_whole b).set_eq_univ]

theorem some_whole (c : Dev nD) {s : Shape} {e : EltTy} (mm : Memref sig .tc .vmem s e) (h : mm.IsWhole) :
    (some_ c mm : sProp 𝕄) = iprop(∃ f, (mm.view.loc (c : Thread nD τ)) ↦{fullShare} f) := by
  unfold some_; rw [h.set_eq_univ]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t))

attribute [local irreducible] prog outT in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [cc0_eq]
  rw [show (dats m 0 c).Φ t.succ = (dats m 0 c).Φ t.castSucc from rfl, after0_0]
  rw [show (dats m 0 c).Φ t.castSucc = Pipeline.ΦD osem0 spec0 H0 (V m) c from rfl, PhiD0_eq]
  simp only [← pt_whole]
  unfold Dat.owesAt Pipeline.owesWithin owns
  rw [show (dats m 0 c).owed t.castSucc = 0 from rfl, show (dats m 0 c).owed t.succ = 0 from rfl]
  iintro ⟨⟨⟨⟨%f6, H6⟩, ⟨%f7, H7⟩, ⟨%f8, H8⟩, ⟨%f9, H9⟩, ⟨%f10, H10⟩, H11, H12, H13⟩, Hg, ⟨⟨HV0, HV1⟩, HA, HB, HC⟩, ⟨G0, G1, G2, G3, G4⟩⟩, ⟨%W, -, HW⟩, ⟨%d0, %f5, -, H5⟩⟩
  iapply (wp_prog c (Memref.whole main_v0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (ms0_0 t) (hstage0_0 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9
    (V m c main_v0) (V m c main_arg1) (V m c main_arg2) (V m c main_arg3) (V m c main_arg4) f6 f7 f8 f9 f10) $$ [H6 H7 H8 H9 H10 H11 H12 H13 HV0 HV1 HA HB HC G0 G1 G2 G3 G4 HW H5]
  · unfold small wide some_ waited
    isplitl [G0 H6 HA]
    · isplitl [G0]; · iexact G0
      isplitl [H6]; · iexact H6
      iexact HA
    isplitl [G2 H9 HB]
    · isplitl [G2]; · iexact G2
      isplitl [H9]; · iexact H9
      iexact HB
    isplitl [G4 H10 HC]
    · isplitl [G4]; · iexact G4
      isplitl [H10]; · iexact H10
      iexact HC
    isplitl [G1 H7 HV0]
    · isplitl [G1]; · iexact G1
      isplitl [H7]; · iexact H7
      iexact HV0
    isplitl [G3 H8 HV1]
    · isplitl [G3]; · iexact G3
      isplitl [H8]; · iexact H8
      iexact HV1
    isplitl [H5]; · iexists f5; iexact H5
    isplitl [H11]; · iexact H11
    isplitl [H12]; · iexact H12
    isplitl [H13]; · iexact H13
    iexists W; iexact HW
  unfold copied got wide some_ waited
  iintro ⟨⟨⟨H6, G0⟩, HA⟩, ⟨⟨H9, G2⟩, HB⟩, ⟨⟨H10, G4⟩, HC⟩, ⟨%g7, G1, H7, HV0⟩, ⟨%g8, G3, H8, HV1⟩, ⟨%f5', %h5, H5⟩, H11, H12, H13, ⟨%W', HW'⟩⟩
  isplitl [H6 H7 H8 H9 H10 H11 H12 H13 Hg HV0 HV1 HA HB HC G0 G1 G2 G3 G4]
  · isplitl [H6 H7 H8 H9 H10 H11 H12 H13]
    · isplitl [H6]; · iexists _; iexact H6
      isplitl [H7]; · iexists _; iexact H7
      isplitl [H8]; · iexists _; iexact H8
      isplitl [H9]; · iexists _; iexact H9
      isplitl [H10]; · iexists _; iexact H10
      isplitl [H11]; · iexact H11
      isplitl [H12]; · iexact H12
      iexact H13
    isplitl [Hg]; · iexact Hg
    isplitl [HV0 HV1 HA HB HC]
    · isplitl [HV0 HV1]
      · isplitl [HV0]; · iexact HV0
        iexact HV1
      isplitl [HA]; · iexact HA
      isplitl [HB]; · iexact HB
      iexact HC
    isplitl [G0]; · iexact G0
    isplitl [G1]; · iexact G1
    isplitl [G2]; · iexact G2
    isplitl [G3]; · iexact G3
    iexact G4
  isplitl [HW']
  · iexists W'; isplitr; · ipureintro; exact fun _ _ => Or.inl trivial
    iexact HW'
  iexists f5'; isplitr
  swap; · iexact H5
  ipureintro; exact funext h5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem tail_sub : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  subst hops
  simp only [hostOps1, List.mem_cons, List.mem_nil_iff, or_false] at hop
  subst hop
  refine Pipeline.sub_tailRefsBut _ _ _ _ (StableHlo.reshape_bufs_sub ..) (fun k => k.elim0) fun b hb hm => ?_
  have hb' : b ≠ main_v1 ∧ b ≠ main_v2 := by clear hm; revert b; decide
  rcases Finset.mem_insert.mp hm with h | h
  · exact StableHlo.devRef_ne_of_ne hb'.1 h
  · exact StableHlo.devRef_ne_of_ne hb'.2 (Finset.mem_singleton.mp h)

abbrev tail (c : Dev nD) : (b : Ref sig .tc) → Buf (Elt F) ((c : Thread nD τ).loc b) := Pipeline.afterTail₀ cfgs (dats m) 0 (V0 m) [hostOps1] c

set_option backward.isDefEq.respectTransparency.types false in
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := tail_sub) (hfresh := sfx_fresh) (hkeep := sfx_keeps)
    (hmain := hmain m Variants.none) (hA := A_eq m) (hin := fun _ => .rfl) (hout := fun _ => .rfl)

/-- A buffer no line writes ends as the region found it. -/
theorem tail_of_ne (c : Dev nD) (b : Ref sig .tc) (h1 : b ≠ main_v2) (h2 : ∀ w, Pipeline.arrRef spec0 w ≠ b) :
    Pipeline.afterTail₀ cfgs (dats m) 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne h1)),
    Pipeline.withArrays_of_ne _ c (V0 m c) _ b h2]

/-- The arguments end as they were. -/
theorem args_of {r : PUnit × MemSt nD τ sig (Elt F)}
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(((h c).2 main_arg0 (Pipeline.mem_restRefs_of main_arg0 (by decide) (by decide))).trans (tail_of_ne m c main_arg0 (by decide) (by decide))).trans (V_main_arg0 m c),
   (((h c).2 main_arg1 (Pipeline.mem_restRefs_of main_arg1 (by decide) (by decide))).trans (tail_of_ne m c main_arg1 (by decide) (by decide))).trans (V_main_arg1 m c),
   (((h c).2 main_arg2 (Pipeline.mem_restRefs_of main_arg2 (by decide) (by decide))).trans (tail_of_ne m c main_arg2 (by decide) (by decide))).trans (V_main_arg2 m c),
   (((h c).2 main_arg3 (Pipeline.mem_restRefs_of main_arg3 (by decide) (by decide))).trans (tail_of_ne m c main_arg3 (by decide) (by decide))).trans (V_main_arg3 m c),
   (((h c).2 main_arg4 (Pipeline.mem_restRefs_of main_arg4 (by decide) (by decide))).trans (tail_of_ne m c main_arg4 (by decide) (by decide))).trans (V_main_arg4 m c)⟩

/-- The program runs, its arguments stay and its semaphores end at rest. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => args_of m h.1 c, h.2⟩) (run_main m ρ)

end Cert.KernelIdeal.Run

end
-- ==== Proof.Quiescent.lean ====
module

public import proofs.«01_k».proof.Defs
public import proofs.«01_k».proof.Proof.Run

/-! # The kernel's program runs to its end -/

@[expose] public section

noncomputable section

namespace Cert.Proof

open Idealize.ShloMosaic Idealize.SL.Sem

/-- The kernel's program terminates, leaves its arguments as they were, and every semaphore at rest. -/
theorem quiescentKernelIdeal : @Cert.quiescent_KernelIdeal Cert.KernelIdeal.Gen.facts := fun m g _ => Cert.KernelIdeal.Run.frame m g

end Cert.Proof

end
-- ==== Proof.Reference.lean ====
module

public import proofs.«01_k».proof.Defs
public import proofs.«01_k».proof.Proof.Gen.ReferenceIdeal.Run
public import Idealize.ShloMosaic.Lib.Quiescent

/-! # The reference runs to its end -/

@[expose] public section

noncomputable section

namespace Cert.Proof

open Idealize.ShloMosaic Idealize.SL.Sem

/-- The reference terminates, leaves its arguments as they were, and has no semaphore to leave raised. -/
theorem quiescentReference : @Cert.quiescent_ReferenceIdeal Cert.ReferenceIdeal.Gen.facts := fun m g _ =>
  (θ_run _ _ _).mono (fun r h => ⟨fun c => (h c).2, sem_eq_zero_of_no_sems (by decide) r.2⟩) (Cert.ReferenceIdeal.Value.run m g)

end Cert.Proof

end
-- ==== Proof.WordCanon.lean ====
module

public import proofs.«01_k».proof.Proof.Gen.Kernel.Skeleton
public import proofs.«01_k».proof.Proof.Gen.Kernel
public import Idealize.ShloMosaic.Lib.Pipeline.Regions

/-! # The printed kernel's program before its types are idealized, written as recursions

The printed kernel is straight-line text of some twelve hundred memory operations around one loop.
Here the same program is written as a few recursions: the transfers' starts, the activations'
pieces, the scales' columns, a tile of the loop, and the results' columns. `cc0_eq` says the two
are the same program. -/

@[expose] public section

set_option synthInstance.maxSize 4096

noncomputable section

namespace Cert.Kernel.Canon

open Idealize.ShloMosaic Idealize.SL.Sem
open Cert.Kernel.Gen (k0_off4_eq k0_off7_eq k0_off9_eq k0_off11_eq k0_off13_eq k0_off15_eq k0_off17_eq k0_off19_eq k0_off5_eq k0_off8_eq k0_off10_eq k0_off12_eq k0_off14_eq k0_off16_eq k0_off18_eq k0_off20_eq k0_off21_eq k0_off22_eq k0_off23_eq k0_off24_eq k0_off25_eq k0_off26_eq k0_off27_eq k0_off28_eq)
open K0.Facts₀ Shapes1.Facts₀ Shapes2.Facts₀

variable {F : FTy → Type} [BitOps F] {α : Type}

/-- Programs of this kernel. -/
abbrev PR (F : FTy → Type) [BitOps F] (α : Type) := Prog (TpuEff nD τ sig (Elt F) Λ₀ .tc) α

theorem bind_assoc_ {β γ δ : Type} (x : PR F β) (f : β → PR F γ) (g : γ → PR F δ) :
    ((x >>= f) >>= g) = (x >>= fun r => f r >>= g) := Prog.bind_assoc x f g

/-! ## Vectors -/

/-- A lane index, brought into range when negative. -/
def normIdx (d : IVec S8x128 32) : IVec S8x128 32 :=
  shapeCast S8x128 (shapeCast S8x128x1 (select (cmpi .slt d (broadcast S8x128 0#32)) (addi d (broadcast S8x128 128#32)) d) shapeCasts_S8x128_S8x128x1) shapeCasts_S8x128x1_S8x128

/-- Half the lane number, rounded down. -/
def halfLane8 : IVec S8x128 32 :=
  select (andi (cmpi .ne (subi (extui 32 (cmpi .sgt (iota .tc S8x128 32 [1] iota_S8x128_d1_w32) (broadcast S8x128 0#32)) natLt_1_32) (extui 32 (cmpi .slt (iota .tc S8x128 32 [1] iota_S8x128_d1_w32) (broadcast S8x128 0#32)) natLt_1_32)) (broadcast S8x128 (Scalar.subi (Scalar.extui (Scalar.cmpi .sgt 2#32 0#32)) (Scalar.extui (Scalar.cmpi .slt 2#32 0#32))))) (cmpi .ne (remsi (iota .tc S8x128 32 [1] iota_S8x128_d1_w32) (broadcast S8x128 2#32)) (broadcast S8x128 0#32))) (subi (divsi (iota .tc S8x128 32 [1] iota_S8x128_d1_w32) (broadcast S8x128 2#32)) (broadcast S8x128 1#32)) (divsi (iota .tc S8x128 32 [1] iota_S8x128_d1_w32) (broadcast S8x128 2#32))

/-- The lanes a half of the activations' block is read from. -/
def dupIdx (h : Fin 2) : IVec S8x128 32 :=
  if h = 0 then halfLane8 else addi halfLane8 (broadcast S8x128 64#32)

/-- One parity of the rows, as words, with its lanes read at an index. -/
def dupHalf (d : IVec S8x128 32) (w : IVec S8x128 32) : FVec F S8x128 .f32 :=
  dynamicGather 1 (bitcastToFloat .f32 w) (normIdx d)

/-- The activations' block with its lanes read at an index. -/
def dup (d : IVec S8x128 32) (v : Vec F S16x128 .bf16) : FVec F S16x128 .bf16 :=
  have w : IVec S8x128 32 := bitcast S8x128 32 (bitcastToInt v) bitcasts_S16x128_w16_S8x128_w32
  bitcastToFloat .bf16 (bitcast S16x128 16 (packElementwise (F := F) (dupHalf d (shli w (broadcast S8x128 16#32))) (dupHalf d (andi w (broadcast S8x128 4294901760#32)))) bitcasts_S8x128_w32_S16x128_w16)

/-- The lane number. -/
def lane16 : IVec S16x128 32 := iota .tc S16x128 32 [1] iota_S16x128_d1_w32

/-- The lane number modulo two. -/
def laneParity : IVec S16x128 32 :=
  (select (andi (xori (cmpi .slt (remsi lane16 (broadcast S16x128 (Scalar.select (Scalar.cmpi .eq 2#32 0#32) 1#32 2#32))) (broadcast S16x128 0#32)) (broadcastTo S16x128 (broadcast S16x128 (Scalar.cmpi .slt (Scalar.select (Scalar.cmpi .eq 2#32 0#32) 1#32 2#32) 0#32)) broadcasts_S16x128_S16x128)) (cmpi .ne (remsi lane16 (broadcast S16x128 (Scalar.select (Scalar.cmpi .eq 2#32 0#32) 1#32 2#32))) (broadcast S16x128 0#32))) (addi (remsi lane16 (broadcast S16x128 (Scalar.select (Scalar.cmpi .eq 2#32 0#32) 1#32 2#32))) (broadcast S16x128 (Scalar.select (Scalar.cmpi .eq 2#32 0#32) 1#32 2#32))) (remsi lane16 (broadcast S16x128 (Scalar.select (Scalar.cmpi .eq 2#32 0#32) 1#32 2#32))))

/-- A piece of the spread activations: lanes doubled, the other parity's lanes zero. -/
def xPay (X h : Fin 2) (v : Vec F S16x128 .bf16) : FVec F S1x16x128 .bf16 :=
  shapeCast S1x16x128 (select (cmpi .eq laneParity (broadcast S16x128 (BitVec.ofNat 32 X.val))) (dup (dupIdx h) v) (broadcast S16x128 (Scalar.ofBits .bf16 0x0000#16))) shapeCasts_S16x128_S1x16x128

/-- Whether a lane reads the first of two column blocks. -/
def sFirst : IVec S44x128 1 :=
  cmpi .slt (iota .tc S44x128 32 [1] iota_S44x128_d1_w32) (broadcast S44x128 64#32)

/-- Twice the lane number, modulo 128. -/
def sEven : IVec S44x128 32 :=
  select (andi (xori (cmpi .slt (remsi (muli (broadcast S44x128 2#32) (iota .tc S44x128 32 [1] iota_S44x128_d1_w32)) (broadcast S44x128 (Scalar.select (Scalar.cmpi .eq 128#32 0#32) 1#32 128#32))) (broadcast S44x128 0#32)) (broadcastTo S44x128 (broadcast S44x128 (Scalar.cmpi .slt (Scalar.select (Scalar.cmpi .eq 128#32 0#32) 1#32 128#32) 0#32)) broadcasts_S44x128_S44x128)) (cmpi .ne (remsi (muli (broadcast S44x128 2#32) (iota .tc S44x128 32 [1] iota_S44x128_d1_w32)) (broadcast S44x128 (Scalar.select (Scalar.cmpi .eq 128#32 0#32) 1#32 128#32))) (broadcast S44x128 0#32))) (addi (remsi (muli (broadcast S44x128 2#32) (iota .tc S44x128 32 [1] iota_S44x128_d1_w32)) (broadcast S44x128 (Scalar.select (Scalar.cmpi .eq 128#32 0#32) 1#32 128#32))) (broadcast S44x128 (Scalar.select (Scalar.cmpi .eq 128#32 0#32) 1#32 128#32))) (remsi (muli (broadcast S44x128 2#32) (iota .tc S44x128 32 [1] iota_S44x128_d1_w32)) (broadcast S44x128 (Scalar.select (Scalar.cmpi .eq 128#32 0#32) 1#32 128#32)))

/-- Twice the lane number and one, modulo 128. -/
def sOdd : IVec S44x128 32 := addi sEven (broadcast S44x128 1#32)

/-- One parity of a scales' block, as words, with its lanes read at an index. -/
def sGather (d : IVec S44x128 32) (w : IVec S44x128 32) : FVec F S44x128 .f32 :=
  dynamicGather 1 (bitcastToFloat .f32 w) (shapeCast S44x128 (shapeCast S44x128x1 (select (cmpi .slt d (broadcast S44x128 0#32)) (addi d (broadcast S44x128 128#32)) d) shapeCasts_S44x128_S44x128x1) shapeCasts_S44x128x1_S44x128)

/-- Both parities of the rows of a scales' block, packed, with their lanes read at an index. -/
def sWords (d : IVec S44x128 32) (v : Vec F S88x128 .bf16) : IVec S44x128 32 :=
  have w : IVec S44x128 32 := bitcast S44x128 32 (bitcastToInt v) bitcasts_S88x128_w16_S44x128_w32
  packElementwise (F := F) (sGather d (shli w (broadcast S44x128 16#32))) (sGather d (andi w (broadcast S44x128 4294901760#32)))

/-- The columns of one parity out of two neighbouring blocks. -/
def sPick (d : IVec S44x128 32) (a b : Vec F S88x128 .bf16) : IVec S44x128 32 :=
  select sFirst (sWords d a) (sWords d b)

/-- A column block of the pairs of scales. -/
def sPay (par : Fin 2) (a b : Vec F S88x128 .bf16) : Vec F S1x44x128 .i32 :=
  if par = 0 then shapeCast S1x44x128 (ori (andi (sPick sEven a b) (broadcast S44x128 65535#32)) (shli (sPick sOdd a b) (broadcast S44x128 16#32))) shapeCasts_S44x128_S1x44x128
  else shapeCast S1x44x128 (ori (shrui (sPick sEven a b) (broadcast S44x128 16#32)) (andi (sPick sOdd a b) (broadcast S44x128 4294901760#32))) shapeCasts_S44x128_S1x44x128

/-- The weights of a tile: the nibbles as numbers, times their column's scale. -/
def wPay (w : Vec F S128x256 .i8) (s : Vec F S1x1x256 .i32) : FVec F S256x256 .bf16 :=
  have e : IVec S128x256 32 := extsi 32 (bitcast S128x256 8 (xori (bitcast S32x256 32 w bitcasts_S128x256_w8_S32x256_w32) (broadcast S32x256 2290649224#32)) bitcasts_S32x256_w32_S128x256_w8) natLt_8_32
  mulf (sitofp .bf16 (bitcast S256x256 16 (ori (andi (shrsi (shli e (broadcast S128x256 28#32)) (broadcast S128x256 28#32)) (broadcast S128x256 65535#32)) (shli (shrsi e (broadcast S128x256 4#32)) (broadcast S128x256 16#32))) bitcasts_S128x256_w32_S256x256_w16)) (bitcastToFloat .bf16 (bitcast S256x256 16 (packElementwise (F := F) (broadcastTo S128x256 (shapeCast S1x256 (bitcastToFloat .f32 (shli (shapeCast S1x256 s shapeCasts_S1x1x256_S1x256) (broadcast S1x256 16#32))) shapeCasts_S1x256_S1x256) broadcasts_S1x256_S128x256) (broadcastTo S128x256 (shapeCast S1x256 (bitcastToFloat .f32 (andi (shapeCast S1x256 s shapeCasts_S1x1x256_S1x256) (broadcast S1x256 4294901760#32))) shapeCasts_S1x256_S1x256) broadcasts_S1x256_S128x256)) bitcasts_S128x256_w32_S256x256_w16))

/-- Half the lane number, rounded down. -/
def halfLane16 : IVec S16x128 32 :=
  select (andi (cmpi .ne (subi (extui 32 (cmpi .sgt (iota .tc S16x128 32 [1] iota_S16x128_d1_w32) (broadcast S16x128 0#32)) natLt_1_32) (extui 32 (cmpi .slt (iota .tc S16x128 32 [1] iota_S16x128_d1_w32) (broadcast S16x128 0#32)) natLt_1_32)) (broadcast S16x128 (Scalar.subi (Scalar.extui (Scalar.cmpi .sgt 2#32 0#32)) (Scalar.extui (Scalar.cmpi .slt 2#32 0#32))))) (cmpi .ne (remsi (iota .tc S16x128 32 [1] iota_S16x128_d1_w32) (broadcast S16x128 2#32)) (broadcast S16x128 0#32))) (subi (divsi (iota .tc S16x128 32 [1] iota_S16x128_d1_w32) (broadcast S16x128 2#32)) (broadcast S16x128 1#32)) (divsi (iota .tc S16x128 32 [1] iota_S16x128_d1_w32) (broadcast S16x128 2#32))

/-- The lanes a half of the results' block is read from. -/
def outIdx (h : Fin 2) : IVec S16x128 32 :=
  addi halfLane16 (broadcast S16x128 (BitVec.ofNat 32 (64 * h.val)))

/-- Lanes read at an index. -/
def outGather (d : IVec S16x128 32) (y : FVec F S16x128 .f32) : FVec F S16x128 .f32 :=
  dynamicGather 1 y (shapeCast S16x128 (shapeCast S16x128x1 (select (cmpi .slt d (broadcast S16x128 0#32)) (addi d (broadcast S16x128 128#32)) d) shapeCasts_S16x128_S16x128x1) shapeCasts_S16x128x1_S16x128)

/-- The activated product of a tile's two accumulated blocks. -/
def glu (g u : FVec F S32x256 .f32) : FVec F S32x256 .f32 := extf .f32 (truncf .bf16 (mulf (mulf g (logistic g)) u) bitsLt_bf16_f32) bitsLt_bf16_f32

theorem o_slice (r p : Fin 2) : S32x256.Slices ![16 * r.val, 128 * p.val] S16x128 :=
  ⟨rfl, by revert r p; decide +kernel⟩

/-- A column block of the results: even columns from the upper rows, odd ones from the lower. -/
def oPay (p h : Fin 2) (y : FVec F S32x256 .f32) : FVec F S16x128 .bf16 :=
  truncf .bf16 (select (cmpi .eq laneParity (broadcast S16x128 0#32)) (outGather (outIdx h) (extractStridedSlice S16x128 ![16 * (0 : Fin 2).val, 128 * p.val] y (o_slice 0 p))) (outGather (outIdx h) (extractStridedSlice S16x128 ![16 * (1 : Fin 2).val, 128 * p.val] y (o_slice 1 p)))) bitsLt_bf16_f32

/-! ## Rectangles -/

theorem xk_inb (g : Fin 88) (X h : Fin 2) : ∀ a, (![g.val, 16 * X.val, 128 * h.val] : Fin 3 → Nat) a + S1x16x128.size a ≤ S88x32x256.size a := by
  revert g X h; decide +kernel
/-- A piece of the spread activations' buffer. -/
abbrev xkRect (g : Fin 88) (X h : Fin 2) : Rect S88x32x256 :=
  Rect.unit (s := S88x32x256) ![g.val, 16 * X.val, 128 * h.val] S1x16x128.size (xk_inb g X h)
theorem xk_packed (g : Fin 88) (X h : Fin 2) : (xkRect g X h).PackedRows (EltTy.packing .bf16) := by
  revert g X h; decide +kernel
theorem x_inb (g : Fin 88) : ∀ a, (![0, 128 * g.val] : Fin 2 → Nat) a + S16x128.size a ≤ S16x11264.size a := by
  revert g; decide +kernel
/-- A block of the activations. -/
abbrev xRect (g : Fin 88) : Rect S16x11264 := Rect.unit (s := S16x11264) ![0, 128 * g.val] S16x128.size (x_inb g)
theorem sr_inb (b : Fin 32) : ∀ a, (![0, 128 * b.val] : Fin 2 → Nat) a + S88x128.size a ≤ S88x4096.size a := by
  revert b; decide +kernel
/-- A block of the scales as they come. -/
abbrev srRect (b : Fin 32) : Rect S88x4096 := Rect.unit (s := S88x4096) ![0, 128 * b.val] S88x128.size (sr_inb b)
theorem sp_inb (par : Fin 2) (j : Fin 16) : ∀ a, (![par.val, 0, 128 * j.val] : Fin 3 → Nat) a + S1x44x128.size a ≤ S2x44x2048.size a := by
  revert par j; decide +kernel
/-- A column block of the pairs of scales. -/
abbrev spRect (par : Fin 2) (j : Fin 16) : Rect S2x44x2048 :=
  Rect.unit (s := S2x44x2048) ![par.val, 0, 128 * j.val] S1x44x128.size (sp_inb par j)
theorem c_inb (k : Fin 22) : ∀ a, (![512 * k.val, 0] : Fin 2 → Nat) a + S512x2048.size a ≤ S11264x2048.size a := by
  revert k; decide +kernel
/-- A chunk of the weights' rows. -/
abbrev cRect (k : Fin 22) : Rect S11264x2048 := Rect.unit (s := S11264x2048) ![512 * k.val, 0] S512x2048.size (c_inb k)
theorem c_words (k : Fin 22) : (cRect k).WholeWords (EltTy.packing .i8) := by revert k; decide +kernel
theorem sem_inb (m : Fin 2) (k : Fin 22) : ∀ a, (![m.val, k.val] : Fin 2 → Nat) a + S1x1.size a ≤ S2x22.size a := by
  revert m k; decide +kernel
theorem sem3_inb (j : Fin 3) : ∀ a, (![j.val] : Fin 1 → Nat) a + S1.size a ≤ S3.size a := by
  revert j; decide +kernel
theorem o_inb (b : Fin 32) : ∀ a, (![0, 128 * b.val] : Fin 2 → Nat) a + S16x128.size a ≤ S16x4096.size a := by
  revert b; decide +kernel
/-- A column block of the results. -/
abbrev oRect (b : Fin 32) : Rect S16x4096 := Rect.unit (s := S16x4096) ![0, 128 * b.val] S16x128.size (o_inb b)
theorem o_packed (b : Fin 32) : (oRect b).PackedRows (EltTy.packing .bf16) := by revert b; decide +kernel

/-- Where the loop's trip `k` reads group `i`'s weights for tile `t`. -/
abbrev offW (k : Fin k0_t1_loop.trips) (i : Fin 4) (t : Fin 8) : Fin 2 → Nat :=
  (![k0_off4, k0_off7, k0_off9, k0_off11, k0_off13, k0_off15, k0_off17, k0_off19] : Fin 8 → _) t k (BitVec.ofNat 32 i.val)
theorem offW_eq (k : Fin k0_t1_loop.trips) (i : Fin 4) (t : Fin 8) : offW k i t = ![512 * k.val + 128 * i.val, 256 * t.val] := by
  fin_cases t
  exacts [k0_off4_eq k i, k0_off7_eq k i, k0_off9_eq k i, k0_off11_eq k i, k0_off13_eq k i, k0_off15_eq k i, k0_off17_eq k i, k0_off19_eq k i]
theorem offW_inb (k : Fin k0_t1_loop.trips) (i : Fin 4) (t : Fin 8) : ∀ a, offW k i t a + S128x256.size a ≤ S11264x2048.size a := by
  rw [offW_eq]
  have hk : k.val < 22 := k.isLt
  have hi := i.isLt; have ht := t.isLt
  intro a; fin_cases a
  · show 512 * k.val + 128 * i.val + 128 ≤ 11264; omega
  · show 256 * t.val + 256 ≤ 2048; omega
/-- Where it reads the group's scales. -/
abbrev offS (k : Fin k0_t1_loop.trips) (i : Fin 4) (t : Fin 8) : Fin 3 → Nat :=
  (if i.val % 2 = 0 then (![k0_off5, k0_off8, k0_off10, k0_off12, k0_off14, k0_off16, k0_off18, k0_off20] : Fin 8 → _)
   else ![k0_off21, k0_off22, k0_off23, k0_off24, k0_off25, k0_off26, k0_off27, k0_off28]) t k (BitVec.ofNat 32 i.val)
theorem offS_eq (k : Fin k0_t1_loop.trips) (i : Fin 4) (t : Fin 8) : offS k i t = ![i.val % 2, 2 * k.val + i.val / 2, 256 * t.val] := by
  fin_cases i
  · fin_cases t
    exacts [k0_off5_eq k 0, k0_off8_eq k 0, k0_off10_eq k 0, k0_off12_eq k 0, k0_off14_eq k 0, k0_off16_eq k 0, k0_off18_eq k 0, k0_off20_eq k 0]
  · fin_cases t
    exacts [k0_off21_eq k 0, k0_off22_eq k 0, k0_off23_eq k 0, k0_off24_eq k 0, k0_off25_eq k 0, k0_off26_eq k 0, k0_off27_eq k 0, k0_off28_eq k 0]
  · fin_cases t
    exacts [k0_off5_eq k 1, k0_off8_eq k 1, k0_off10_eq k 1, k0_off12_eq k 1, k0_off14_eq k 1, k0_off16_eq k 1, k0_off18_eq k 1, k0_off20_eq k 1]
  · fin_cases t
    exacts [k0_off21_eq k 1, k0_off22_eq k 1, k0_off23_eq k 1, k0_off24_eq k 1, k0_off25_eq k 1, k0_off26_eq k 1, k0_off27_eq k 1, k0_off28_eq k 1]
theorem offS_inb (k : Fin k0_t1_loop.trips) (i : Fin 4) (t : Fin 8) : ∀ a, offS k i t a + S1x1x256.size a ≤ S2x44x2048.size a := by
  rw [offS_eq]
  have hk : k.val < 22 := k.isLt
  have hi := i.isLt; have ht := t.isLt
  intro a; fin_cases a
  · show i.val % 2 + 1 ≤ 2; omega
  · show 2 * k.val + i.val / 2 + 1 ≤ 44; omega
  · show 256 * t.val + 256 ≤ 2048; omega

/-! ## The steps -/

section
variable (arg0 : Memref sig .tc .hbm S16x11264 .bf16) (harg0 : arg0.IsWhole) (arg1 : Memref sig .tc .hbm S11264x2048 .i8) (harg1 : arg1.IsWhole) (arg2 : Memref sig .tc .hbm S88x4096 .bf16) (harg2 : arg2.IsWhole) (arg3 : Memref sig .tc .hbm S11264x2048 .i8) (harg3 : arg3.IsWhole) (arg4 : Memref sig .tc .hbm S88x4096 .bf16) (harg4 : arg4.IsWhole) (arg5 : Memref sig .tc .vmem S16x4096 .bf16) (harg5 : arg5.IsWhole) (arg6 : Memref sig .tc .vmem S16x11264 .bf16) (harg6 : arg6.IsWhole) (arg7 : Memref sig .tc .vmem S11264x2048 .i8) (harg7 : arg7.IsWhole) (arg8 : Memref sig .tc .vmem S11264x2048 .i8) (harg8 : arg8.IsWhole) (arg9 : Memref sig .tc .vmem S88x4096 .bf16) (harg9 : arg9.IsWhole) (arg10 : Memref sig .tc .vmem S88x4096 .bf16) (harg10 : arg10.IsWhole) (arg11 : Memref sig .tc .vmem S2x44x2048 .i32) (harg11 : arg11.IsWhole) (arg12 : Memref sig .tc .vmem S2x44x2048 .i32) (harg12 : arg12.IsWhole) (arg13 : Memref sig .tc .vmem S88x32x256 .bf16) (harg13 : arg13.IsWhole) (arg14 : DmaSems sig S3) (arg15 : DmaSems sig S2x22)

/-- A cell of the first three semaphores. -/
abbrev semA (j : Fin 3) : DmaSem sig :=
  ((arg14.slice (Rect.unit (s := S3) ![j.val] S1.size (sem3_inb j))).squeeze S_ squeezes_S1_S_).sem
/-- A chunk's semaphore. -/
abbrev semW (m : Fin 2) (k : Fin 22) : DmaSem sig :=
  ((arg15.slice (Rect.unit (s := S2x22) ![m.val, k.val] S1x1.size (sem_inb m k))).squeeze S_ squeezes_S1x1_S_).sem

/-- The start of one chunk's transfer. -/
def wStart (src : Memref sig .tc .hbm S11264x2048 .i8) (hs : src.IsWhole) (dst : Memref sig .tc .vmem S11264x2048 .i8) (hd : dst.IsWhole)
    (m : Fin 2) (k : Fin 22) (K : PR F α) : PR F α :=
  .op (.enqueueDma (src.slice (cRect k) (fun _ => rfl)) (.here (dst.slice (cRect k) (fun _ => rfl))) (.dma (semW arg15 m k))
    (hs.wordExact_slice rfl _ (c_words k)) (hd.wordExact_slice rfl _ (c_words k)) ⟨Or.inl rfl, trivial⟩) fun _ => K

/-- The starts of the chunks from `k` on. -/
def wStarts : (n k : ℕ) → k + n ≤ 22 → PR F α → PR F α
  | 0, _, _, K => K
  | n + 1, k, h, K =>
    wStart arg15 arg1 harg1 arg7 harg7 0 ⟨k, by omega⟩ (wStart arg15 arg3 harg3 arg8 harg8 1 ⟨k, by omega⟩
      (wStarts n (k + 1) (by omega) K))

/-- All transfers' starts. -/
def starts (K : PR F α) : PR F α :=
  .op (.enqueueDma arg0 (.here arg6) (.dma (semA arg14 0)) harg0.wordExact harg6.wordExact ⟨Or.inl rfl, trivial⟩) fun _ =>
  .op (.enqueueDma arg2 (.here arg9) (.dma (semA arg14 1)) harg2.wordExact harg9.wordExact ⟨Or.inl rfl, trivial⟩) fun _ =>
  .op (.enqueueDma arg4 (.here arg10) (.dma (semA arg14 2)) harg4.wordExact harg10.wordExact ⟨Or.inl rfl, trivial⟩) fun _ =>
  wStarts arg1 harg1 arg3 harg3 arg7 harg7 arg8 harg8 arg15 22 0 (by omega) K

theorem fits8 (t : Fin 8) : Mxu.Fits (8 * t.val) 32 := by revert t; decide

/-- One piece of the spread activations stored (after the load that reads what is overwritten). -/
def xStore (g : Fin 88) (X h : Fin 2) (w : Vec F S1x16x128 .bf16) (K : PR F α) : PR F α :=
  .op (.load arg13 (xkRect g X h).toLoadRect (View.loadsAt_vmem h_S1x16x128)) fun _ =>
  .op (.store arg13 (xkRect g X h) w Finset.univ (View.stores_vmem h_S1x16x128 (harg13.storeExact_slice rfl _ (xk_packed g X h)) (fun _ => rfl)) (.inl rfl)) fun _ => K

/-- The load of one block of the activations. -/
def xLoad (g : Fin 88) (K : Vec F S16x128 .bf16 → PR F α) : PR F α :=
  .op (.load arg6 (xRect g).toLoadRect (View.loadsAt_vmem h_S16x128)) K

/-- The four pieces of one block. -/
def xGroup (g : Fin 88) (v : Vec F S16x128 .bf16) (K : PR F α) : PR F α :=
  xStore arg13 harg13 g 0 0 (xPay 0 0 v) (xStore arg13 harg13 g 1 0 (xPay 1 0 v)
    (xStore arg13 harg13 g 0 1 (xPay 0 1 v) (xStore arg13 harg13 g 1 1 (xPay 1 1 v) K)))

/-- The blocks from `k` on, `n` of them. -/
def xGroups : (n k : ℕ) → k + n ≤ 88 → PR F α → PR F α
  | 0, _, _, K => K
  | n + 1, k, h, K => xLoad arg6 ⟨k, by omega⟩ fun v => xGroup arg13 harg13 ⟨k, by omega⟩ v (xGroups n (k + 1) (by omega) K)

/-- One column block of the pairs of scales stored. -/
def sStore (dst : Memref sig .tc .vmem S2x44x2048 .i32) (hd : dst.IsWhole) (par : Fin 2) (j : Fin 16) (w : Vec F S1x44x128 .i32) (K : PR F α) : PR F α :=
  .op (.load dst (spRect par j).toLoadRect (View.loadsAt_vmem h_S1x44x128)) fun _ =>
  .op (.store dst (spRect par j) w Finset.univ (View.stores_vmem_bits_univ h_S1x44x128 rfl) (.inl rfl)) fun _ => K

/-- The loads of two neighbouring blocks of the scales. -/
def sLoad (src : Memref sig .tc .vmem S88x4096 .bf16) (j : Fin 16) (K : Vec F S88x128 .bf16 → Vec F S88x128 .bf16 → PR F α) : PR F α :=
  .op (.load src (srRect ⟨2 * j.val, by omega⟩).toLoadRect (View.loadsAt_vmem h_S88x128)) fun a =>
  .op (.load src (srRect ⟨2 * j.val + 1, by omega⟩).toLoadRect (View.loadsAt_vmem h_S88x128)) fun b => K a b

/-- One column block of the pairs of scales. -/
def sCol (dst : Memref sig .tc .vmem S2x44x2048 .i32) (hd : dst.IsWhole) (j : Fin 16) (a b : Vec F S88x128 .bf16) (K : PR F α) : PR F α :=
  sStore dst hd 0 j (sPay 0 a b) (sStore dst hd 1 j (sPay 1 a b) K)

/-- The column blocks from `k` on, `n` of them. -/
def sCols (src : Memref sig .tc .vmem S88x4096 .bf16) (dst : Memref sig .tc .vmem S2x44x2048 .i32) (hd : dst.IsWhole) :
    (n k : ℕ) → k + n ≤ 16 → PR F α → PR F α
  | 0, _, _, K => K
  | n + 1, k, h, K => sLoad src ⟨k, by omega⟩ fun a b => sCol dst hd ⟨k, by omega⟩ a b (sCols src dst hd n (k + 1) (by omega) K)

/-- The waits for the scales. -/
def sWaits (K : PR F α) : PR F α :=
  .op (.waitDma2 (semA arg14 1) arg2 arg9 harg2.wordExact harg9.wordExact) fun _ =>
  .op (.waitDma2 (semA arg14 2) arg4 arg10 harg4.wordExact harg10.wordExact) fun _ => K

/-- The wait for one chunk's transfer. -/
def wWait (off : Fin 2 → Nat) (hoff : ∀ a, off a + S1x1.size a ≤ S2x22.size a) (k : Fin k0_t1_loop.trips)
    (src : Memref sig .tc .hbm S11264x2048 .i8) (hs : src.IsWhole) (dst : Memref sig .tc .vmem S11264x2048 .i8) (hd : dst.IsWhole)
    (K : PR F α) : PR F α :=
  .op (.waitDma2 ((arg15.slice (Rect.unit (s := S2x22) off S1x1.size hoff)).squeeze S_ squeezes_S1x1_S_).sem
    (src.slice (Rect.unit (s := S11264x2048) (k0_off2 k) S512x2048.size (k0_off2_inb k)) (fun _ => rfl))
    (dst.slice (Rect.unit (s := S11264x2048) (k0_off2 k) S512x2048.size (k0_off2_inb k)) (fun _ => rfl))
    (hs.wordExact_slice rfl _ (k0_off2_wordsi8 k)) (hd.wordExact_slice rfl _ (k0_off2_wordsi8 k))) fun _ => K

/-- The staging register a tile's weights go to. -/
abbrev reg8 (t : Fin 8) : Fin 2 := ⟨t.val % 2, by omega⟩

/-- One pass of a tile: weights scaled and staged, the group's activations multiplied in. -/
def pass (q : Fin 2) (wv : Memref sig .tc .vmem S11264x2048 .i8) (sv : Memref sig .tc .vmem S2x44x2048 .i32)
    (k : Fin k0_t1_loop.trips) (i : Fin 4) (t : Fin 8) (M : Mxu F) (K : Mxu F → PR F α) : PR F α :=
  .op (.load wv (Rect.unit (s := S11264x2048) (offW k i t) S128x256.size (offW_inb k i t)).toLoadRect (View.loadsAt_vmem h_S128x256)) fun w =>
  .op (.load sv (Rect.unit (s := S2x44x2048) (offS k i t) S1x1x256.size (offS_inb k i t)).toLoadRect (View.loadsAt_vmem h_S1x1x256)) fun s =>
  M.pushRhs q (reg8 t) false (wPay w s) >>= fun M' =>
  .op (.load arg13 (Rect.unit (s := S88x32x256) (k0_off6 k (BitVec.ofNat 32 i.val)) S1x32x256.size (k0_off6_inb k i)).toLoadRect (View.loadsAt_vmem h_S1x32x256)) fun x =>
  K (M'.accLhs q (reg8 t) (8 * t.val) (shapeCast S32x256 x shapeCasts_S1x32x256_S32x256) (fits8 t))

/-- One tile of a group: the pass of the gate, then the pass of the up projection. -/
def tile (k : Fin k0_t1_loop.trips) (i : Fin 4) (t : Fin 8) (M : Mxu F) (K : Mxu F → PR F α) : PR F α :=
  pass arg13 0 arg7 arg11 k i t M fun M => pass arg13 1 arg8 arg12 k i t M K

/-- The tiles from `t` on, `n` of them. -/
def tiles (k : Fin k0_t1_loop.trips) (i : Fin 4) : (n t : ℕ) → t + n ≤ 8 → Mxu F → (Mxu F → PR F α) → PR F α
  | 0, _, _, M, K => K M
  | n + 1, t, h, M, K => tile arg7 arg8 arg11 arg12 arg13 k i ⟨t, by omega⟩ M fun M => tiles k i n (t + 1) (by omega) M K

/-- The groups from `i` on, `n` of them. -/
def groups (k : Fin k0_t1_loop.trips) : (n i : ℕ) → i + n ≤ 4 → Mxu F → (Mxu F → PR F α) → PR F α
  | 0, _, _, M, K => K M
  | n + 1, i, h, M, K => tiles arg7 arg8 arg11 arg12 arg13 k ⟨i, by omega⟩ 8 0 (by omega) M fun M => groups k n (i + 1) (by omega) M K

/-- One trip of the loop. -/
def trip (k : Fin k0_t1_loop.trips) (a : BitVec 32 × Mxu F) : PR F (BitVec 32 × Mxu F) :=
  wWait arg15 (k0_off1 k) (k0_off1_inb k) k arg1 harg1 arg7 harg7 (
  wWait arg15 (k0_off3 k) (k0_off3_inb k) k arg3 harg3 arg8 harg8 (
  groups arg7 arg8 arg11 arg12 arg13 k 4 0 (by omega) a.2 fun M => .ret (0#32, M)))

/-- The state with the row blocks from `t` on popped on unit `q`, `n` of them. -/
def pops (q : Fin 2) : (n t : ℕ) → t + n ≤ 8 → Mxu F → Mxu F
  | 0, _, _, M => M
  | n + 1, t, h, M => pops q n (t + 1) (by omega) (M.pop q (8 * t) 32 (fits8 ⟨t, by omega⟩))

/-- One column block of the results stored. -/
def oStore (b : Fin 32) (w : Vec F S16x128 .bf16) (K : PR F α) : PR F α :=
  .op (.load arg5 (oRect b).toLoadRect (View.loadsAt_vmem h_S16x128)) fun _ =>
  .op (.store arg5 (oRect b) w Finset.univ (View.stores_vmem h_S16x128 (harg5.storeExact_slice rfl _ (o_packed b)) (fun _ => rfl)) (.inl rfl)) fun _ => K

/-- A tile's four column blocks. -/
def oTile (t : Fin 8) (y : FVec F S32x256 .f32) (K : PR F α) : PR F α :=
  oStore arg5 harg5 ⟨4 * t.val, by omega⟩ (oPay 0 0 y) (oStore arg5 harg5 ⟨4 * t.val + 1, by omega⟩ (oPay 0 1 y)
    (oStore arg5 harg5 ⟨4 * t.val + 2, by omega⟩ (oPay 1 0 y) (oStore arg5 harg5 ⟨4 * t.val + 3, by omega⟩ (oPay 1 1 y) K)))

/-- The tiles' results from `t` on, `n` of them. -/
def oTiles : (n t : ℕ) → t + n ≤ 8 → Mxu F → (Mxu F → PR F α) → PR F α
  | 0, _, _, M, K => K M
  | n + 1, t, h, M, K =>
    oTile arg5 harg5 ⟨t, by omega⟩ (glu (M.read 0 (8 * t) (fits8 ⟨t, by omega⟩)) ((M.pop 0 (8 * t) 32 (fits8 ⟨t, by omega⟩)).read 1 (8 * t) (fits8 ⟨t, by omega⟩)))
      (oTiles n (t + 1) (by omega) ((M.pop 0 (8 * t) 32 (fits8 ⟨t, by omega⟩)).pop 1 (8 * t) 32 (fits8 ⟨t, by omega⟩)) K)

/-- What runs before the loop. -/
def front (K : PR F α) : PR F α :=
  starts arg0 harg0 arg1 harg1 arg2 harg2 arg3 harg3 arg4 harg4 arg6 harg6 arg7 harg7 arg8 harg8 arg9 harg9 arg10 harg10 arg14 arg15 (
  .op (.waitDma2 (semA arg14 0) arg0 arg6 harg0.wordExact harg6.wordExact) fun _ =>
  xGroups arg6 arg13 harg13 88 0 (by omega) (
  sWaits arg2 harg2 arg4 harg4 arg9 harg9 arg10 harg10 arg14 (
  sCols arg9 arg11 harg11 16 0 (by omega) (
  sCols arg10 arg12 harg12 16 0 (by omega) K))))

/-- The loop. -/
def loop : PR F (BitVec 32 × Mxu F) :=
  (Scf.Loop.for k0_t1_loop k0_t1_ok (0#32, pops 1 8 0 (by omega) (pops 0 8 0 (by omega) Mxu.init)) (trip arg1 harg1 arg3 harg3 arg7 harg7 arg8 harg8 arg11 arg12 arg13 arg15))

/-- The whole program. -/
def prog : PR F PUnit :=
  front arg0 harg0 arg1 harg1 arg2 harg2 arg3 harg3 arg4 harg4 arg6 harg6 arg7 harg7 arg8 harg8 arg9 harg9 arg10 harg10 arg11 harg11 arg12 harg12 arg13 harg13 arg14 arg15 (loop arg1 harg1 arg3 harg3 arg7 harg7 arg8 harg8 arg11 arg12 arg13 arg15 >>= fun r => oTiles arg5 harg5 8 0 (by omega) r.2 fun M => M.exit >>= fun _ => .ret ⟨⟩)

/-- What the printed part that holds the loop hands on: the first tile's results, popped and activated. -/
def cutOf (r : BitVec 32 × Mxu F) : Σ' (v16249_r0 : IVec S16x128 32) (k0_mxu149 : Mxu F) (v16256_r0 : FVec F S32x256 .f32) (v16257_r0 : FVec F S16x128 .f32) (v16258_r0 : FVec F S16x128 .f32) (v16282_r0 : IVec S16x128 32), IVec S16x128 32 :=
  have y : FVec F S32x256 .f32 := glu (r.2.read 0 (8 * 0) (fits8 0)) ((r.2.pop 0 (8 * 0) 32 (fits8 0)).read 1 (8 * 0) (fits8 0))
  ⟨lane16, (r.2.pop 0 (8 * 0) 32 (fits8 0)).pop 1 (8 * 0) 32 (fits8 0), y,
    extractStridedSlice S16x128 ![16 * (0 : Fin 2).val, 128 * (0 : Fin 2).val] y (o_slice 0 0),
    extractStridedSlice S16x128 ![16 * (1 : Fin 2).val, 128 * (0 : Fin 2).val] y (o_slice 1 0), halfLane16, broadcast S16x128 0#32⟩

/-- What follows the loop, up to the printed part's end. -/
def after1 (x : Σ' (v16249_r0 : IVec S16x128 32) (k0_mxu149 : Mxu F) (v16256_r0 : FVec F S32x256 .f32) (v16257_r0 : FVec F S16x128 .f32) (v16258_r0 : FVec F S16x128 .f32) (v16282_r0 : IVec S16x128 32), IVec S16x128 32) :
    PR F (Σ' (v16249_r0 : IVec S16x128 32) (k0_mxu159 : Mxu F) (v17700_r0 : FVec F S16x128 .f32) (v17701_r0 : FVec F S16x128 .f32) (v17745_r0 : IVec S16x128 1) (v17753_r0 : FVec F S16x128 .f32), IVec S16x128 32) := do
  let ⟨v16249_r0, k0_mxu149, v16256_r0, v16257_r0, v16258_r0, v16282_r0, v16283_r0⟩ := x
  let ⟨c2_i32_6240_r0, v16323_r0, v16326_r0, c0_i32_6242_r0⟩ ← k0_part476 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v16257_r0 v16258_r0 v16282_r0 v16283_r0
  let ⟨v16347_r0, v16365_r0, v16372_r0⟩ ← k0_part477 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 c2_i32_6240_r0 v16323_r0 v16326_r0 c0_i32_6242_r0
  let ⟨v16385_r0, v16386_r0, v16412_r0, v16414_r0, v16416_r0⟩ ← k0_part478 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v16256_r0 v16257_r0 v16258_r0 v16347_r0 v16365_r0 v16372_r0
  let ⟨c2_i32_6282_r0, v16451_r0, v16458_r0, v16460_r0, c0_i32_6286_r0⟩ ← k0_part479 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v16385_r0 v16386_r0 v16412_r0 v16414_r0 v16416_r0
  let ⟨v16493_r0, v16501_r0, v16506_r0⟩ ← k0_part480 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v16385_r0 c2_i32_6282_r0 v16451_r0 v16458_r0 v16460_r0 c0_i32_6286_r0
  let ⟨k0_mxu151, v16519_r0, v16520_r0, v16521_r0, v16547_r0, v16549_r0, v16550_r0⟩ ← k0_part481 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 k0_mxu149 v16386_r0 v16493_r0 v16501_r0 v16506_r0
  let ⟨c2_i32_6324_r0, v16586_r0, v16593_r0, v16595_r0⟩ ← k0_part482 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v16520_r0 v16521_r0 v16547_r0 v16549_r0 v16550_r0
  let ⟨v16610_r0, v16628_r0, v16636_r0, v16638_r0, v16640_r0⟩ ← k0_part483 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v16520_r0 c2_i32_6324_r0 v16586_r0 v16593_r0 v16595_r0
  let ⟨v16648_r0, v16649_r0, v16675_r0, v16677_r0, v16679_r0, v16681_r0, v16683_r0, c0_i32_6358_r0⟩ ← k0_part484 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v16519_r0 v16521_r0 v16610_r0 v16628_r0 v16636_r0 v16638_r0 v16640_r0
  let ⟨v16714_r0, v16728_r0, v16730_r0⟩ ← k0_part485 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v16648_r0 v16649_r0 v16675_r0 v16677_r0 v16679_r0 v16681_r0 v16683_r0 c0_i32_6358_r0
  let v16774_r0 ← k0_part486 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v16648_r0 v16649_r0 v16714_r0 v16728_r0 v16730_r0
  let ⟨k0_mxu153, v16782_r0, v16783_r0, v16784_r0, v16810_r0, v16812_r0, v16814_r0, v16816_r0, v16818_r0⟩ ← k0_part487 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 k0_mxu151 v16774_r0
  let ⟨v16849_r0, v16863_r0, v16864_r0⟩ ← k0_part488 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v16783_r0 v16784_r0 v16810_r0 v16812_r0 v16814_r0 v16816_r0 v16818_r0
  let v16909_r0 ← k0_part489 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v16783_r0 v16784_r0 v16849_r0 v16863_r0 v16864_r0
  let ⟨v16911_r0, v16912_r0, v16938_r0, v16942_r0, v16951_r0, v16953_r0⟩ ← k0_part490 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v16782_r0 v16909_r0
  let ⟨v16977_r0, v16996_r0, v16998_r0⟩ ← k0_part491 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v16911_r0 v16912_r0 v16938_r0 v16942_r0 v16951_r0 v16953_r0
  let ⟨v17039_r0, v17040_r0, k0_mxu155, v17041_r0⟩ ← k0_part492 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 k0_mxu153 v16911_r0 v16912_r0 v16977_r0 v16996_r0 v16998_r0
  let ⟨v17045_r0, v17046_r0, v17047_r0, v17073_r0, v17077_r0, v17086_r0, v17087_r0⟩ ← k0_part493 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v17039_r0 v17040_r0 v17041_r0
  let ⟨v17112_r0, v17131_r0, v17132_r0⟩ ← k0_part494 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v17046_r0 v17047_r0 v17073_r0 v17077_r0 v17086_r0 v17087_r0
  let ⟨v17174_r0, v17175_r0, c2_i32_6513_r0, v17176_r0⟩ ← k0_part495 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v17045_r0 v17046_r0 v17047_r0 v17112_r0 v17131_r0 v17132_r0
  let ⟨v17201_r0, v17219_r0, v17221_r0⟩ ← k0_part496 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 c2_i32_6513_r0 v17176_r0
  let ⟨v17264_r0, c2_i32_6542_r0, v17265_r0⟩ ← k0_part497 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v17174_r0 v17175_r0 v17201_r0 v17219_r0 v17221_r0
  let ⟨k0_mxu157, v17308_r0, v17309_r0, v17310_r0, c2_i32_6555_r0⟩ ← k0_part498 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 k0_mxu155 v17174_r0 v17175_r0 v17264_r0 c2_i32_6542_r0 v17265_r0
  let ⟨v17336_r0, v17354_r0, v17355_r0⟩ ← k0_part499 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 c2_i32_6555_r0
  let ⟨v17399_r0, c2_i32_6584_r0, c0_i32_6585_r0⟩ ← k0_part500 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v17309_r0 v17310_r0 v17336_r0 v17354_r0 v17355_r0
  let ⟨v17437_r0, v17438_r0, c2_i32_6597_r0, v17440_r0, v17443_r0, v17444_r0⟩ ← k0_part501 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v17308_r0 v17309_r0 v17310_r0 v17399_r0 c2_i32_6584_r0 c0_i32_6585_r0
  let ⟨v17464_r0, v17482_r0, v17490_r0⟩ ← k0_part502 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v17437_r0 c2_i32_6597_r0 v17440_r0 v17443_r0 v17444_r0
  let ⟨v17527_r0, v17529_r0, v17531_r0, v17533_r0⟩ ← k0_part503 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v17438_r0 v17464_r0 v17482_r0 v17490_r0
  let ⟨k0_mxu159, v17571_r0, v17572_r0, v17573_r0, c2_i32_6639_r0, v17575_r0, v17578_r0, c0_i32_6641_r0⟩ ← k0_part504 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 k0_mxu157 v17437_r0 v17438_r0 v17527_r0 v17529_r0 v17531_r0 v17533_r0
  let ⟨v17599_r0, v17617_r0, v17624_r0⟩ ← k0_part505 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 c2_i32_6639_r0 v17575_r0 v17578_r0 c0_i32_6641_r0
  let ⟨v17662_r0, v17664_r0, v17666_r0, v17667_r0⟩ ← k0_part506 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v17572_r0 v17573_r0 v17599_r0 v17617_r0 v17624_r0
  let ⟨v17700_r0, v17701_r0, c2_i32_6681_r0, v17703_r0, v17710_r0, v17712_r0, c0_i32_6685_r0⟩ ← k0_part507 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v17571_r0 v17572_r0 v17573_r0 v17662_r0 v17664_r0 v17666_r0 v17667_r0
  let ⟨v17745_r0, v17753_r0, v17758_r0⟩ ← k0_part508 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v17700_r0 c2_i32_6681_r0 v17703_r0 v17710_r0 v17712_r0 c0_i32_6685_r0
  pure ⟨v16249_r0, k0_mxu159, v17700_r0, v17701_r0, v17745_r0, v17753_r0, v17758_r0⟩

/-- What follows that part. -/
def after2 (x : Σ' (v16249_r0 : IVec S16x128 32) (k0_mxu159 : Mxu F) (v17700_r0 : FVec F S16x128 .f32) (v17701_r0 : FVec F S16x128 .f32) (v17745_r0 : IVec S16x128 1) (v17753_r0 : FVec F S16x128 .f32), IVec S16x128 32) : PR F PUnit := do
  let ⟨v16249_r0, k0_mxu159, v17700_r0, v17701_r0, v17745_r0, v17753_r0, v17758_r0⟩ := x
  let ⟨v17790_r0, v17792_r0, v17794_r0, v17796_r0, v17798_r0, v17801_r0⟩ ← k0_part509 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v17701_r0 v17745_r0 v17753_r0 v17758_r0
  let ⟨k0_mxu161, v17834_r0, v17835_r0, v17836_r0, c2_i32_6723_r0, v17838_r0, v17845_r0, v17847_r0⟩ ← k0_part510 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 k0_mxu159 v17700_r0 v17701_r0 v17790_r0 v17792_r0 v17794_r0 v17796_r0 v17798_r0 v17801_r0
  let ⟨v17862_r0, v17880_r0, v17888_r0, v17890_r0, v17892_r0⟩ ← k0_part511 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v17835_r0 c2_i32_6723_r0 v17838_r0 v17845_r0 v17847_r0
  let ⟨v17925_r0, v17927_r0, v17929_r0, v17931_r0, v17933_r0, v17935_r0⟩ ← k0_part512 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v17836_r0 v17862_r0 v17880_r0 v17888_r0 v17890_r0 v17892_r0
  let ⟨v17963_r0, v17964_r0, v17966_r0, v17980_r0, v17982_r0⟩ ← k0_part513 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v17834_r0 v17835_r0 v17836_r0 v17925_r0 v17927_r0 v17929_r0 v17931_r0 v17933_r0 v17935_r0
  let v18026_r0 ← k0_part514 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v17963_r0 v17964_r0 v17966_r0 v17980_r0 v17982_r0
  let ⟨v18053_r0, v18069_r0, v18070_r0⟩ ← k0_part515 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v18026_r0
  let ⟨k0_mxu163, v18097_r0, v18098_r0, v18099_r0, v18101_r0, v18115_r0, v18116_r0⟩ ← k0_part516 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 k0_mxu161 v17963_r0 v17964_r0 v18053_r0 v18069_r0 v18070_r0
  let v18161_r0 ← k0_part517 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v18098_r0 v18099_r0 v18101_r0 v18115_r0 v18116_r0
  let ⟨v18188_r0, v18204_r0, c0_i32_6842_r0⟩ ← k0_part518 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v18161_r0
  let ⟨v18226_r0, v18227_r0, v18229_r0, v18248_r0, v18250_r0⟩ ← k0_part519 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v18097_r0 v18098_r0 v18099_r0 v18188_r0 v18204_r0 c0_i32_6842_r0
  let ⟨c2_i32_6870_r0, v18292_r0, v18293_r0⟩ ← k0_part520 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 v18226_r0 v18227_r0 v18229_r0 v18248_r0 v18250_r0
  let ⟨v18316_r0, v18334_r0, v18336_r0, v18338_r0⟩ ← k0_part521 arg0 harg0 arg1 harg1 arg2 harg2 arg3 harg3 arg4 harg4 arg5 harg5 arg6 harg6 arg7 harg7 arg8 harg8 arg9 harg9 arg10 harg10 arg11 harg11 arg12 harg12 arg13 harg13 arg14 arg15 v16249_r0 c2_i32_6870_r0 v18292_r0 v18293_r0
  have v18339_r0 : IVec S16x128 32 := select v18336_r0 v18338_r0 v18316_r0
  have v18340_r0 : IVec S16x128x1 32 := shapeCast S16x128x1 v18339_r0 shapeCasts_S16x128_S16x128x1
  have v18341_r0 : IVec S16x128 32 := shapeCast S16x128 v18340_r0 shapeCasts_S16x128x1_S16x128
  have v18342_r0 : FVec F S16x128 .f32 := dynamicGather 1 v18226_r0 v18341_r0
  let c0_i32_6887_r0 : BitVec 32 := 0#32
  have v18343_r0 : IVec S16x128 32 := broadcast S16x128 c0_i32_6887_r0
  have v18344_r0 : IVec S16x128 1 := cmpi .slt v18316_r0 v18343_r0
  let c128_i32_6888_r0 : BitVec 32 := 128#32
  have v18345_r0 : IVec S16x128 32 := broadcast S16x128 c128_i32_6888_r0
  have v18346_r0 : IVec S16x128 32 := addi v18316_r0 v18345_r0
  have v18347_r0 : IVec S16x128 32 := select v18344_r0 v18346_r0 v18316_r0
  have v18348_r0 : IVec S16x128x1 32 := shapeCast S16x128x1 v18347_r0 shapeCasts_S16x128_S16x128x1
  have v18349_r0 : IVec S16x128 32 := shapeCast S16x128 v18348_r0 shapeCasts_S16x128x1_S16x128
  have v18350_r0 : FVec F S16x128 .f32 := dynamicGather 1 v18227_r0 v18349_r0
  have v18351_r0 : FVec F S16x128 .f32 := select v18334_r0 v18342_r0 v18350_r0
  have v18352_r0 : FVec F S16x128 .bf16 := truncf .bf16 v18351_r0 bitsLt_bf16_f32
  let c0_6889_r0 : Index := 0#32
  let c3968_6890_r0 : Index := 3968#32
  let v18353_r0 : Vec F S16x128 .bf16 ← Prog.lift (.load arg5 (Rect.unit (s := S16x4096) ![0, 3968] S16x128.size inb_S16x4096_S16x128_0_3968).toLoadRect (View.loadsAt_vmem h_S16x128))
  Prog.lift (.store arg5 (Rect.unit (s := S16x4096) ![0, 3968] S16x128.size inb_S16x4096_S16x128_0_3968) v18352_r0 Finset.univ (View.stores_vmem h_S16x128 (harg5.storeExact_slice rfl _ packedbf16_S16x4096_S16x128_0_3968) (fun _ => rfl)) (.inl rfl))
  k0_mxu163.exit
  pure ⟨⟩

/-- The printed program, cut at its loop. -/
theorem cc0_cut : cc0_swiglu_int4 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 =
    front arg0 harg0 arg1 harg1 arg2 harg2 arg3 harg3 arg4 harg4 arg6 harg6 arg7 harg7 arg8 harg8 arg9 harg9 arg10 harg10 arg11 harg11 arg12 harg12 arg13 harg13 arg14 arg15 (((loop arg1 harg1 arg3 harg3 arg7 harg7 arg8 harg8 arg11 arg12 arg13 arg15 >>= (fun r => .ret (cutOf r))) >>= after1 arg0 harg0 arg1 harg1 arg2 harg2 arg3 harg3 arg4 harg4 arg5 harg5 arg6 harg6 arg7 harg7 arg8 harg8 arg9 harg9 arg10 harg10 arg11 harg11 arg12 harg12 arg13 harg13 arg14 arg15) >>= after2 arg0 harg0 arg1 harg1 arg2 harg2 arg3 harg3 arg4 harg4 arg5 harg5 arg6 harg6 arg7 harg7 arg8 harg8 arg9 harg9 arg10 harg10 arg11 harg11 arg12 harg12 arg13 harg13 arg14 arg15) := by
  chain_rfl

theorem after_eq (r : BitVec 32 × Mxu F) :
    ((((fun r => .ret (cutOf r)) : BitVec 32 × Mxu F → PR F (Σ' (v16249_r0 : IVec S16x128 32) (k0_mxu149 : Mxu F) (v16256_r0 : FVec F S32x256 .f32) (v16257_r0 : FVec F S16x128 .f32) (v16258_r0 : FVec F S16x128 .f32) (v16282_r0 : IVec S16x128 32), IVec S16x128 32)) r >>= after1 arg0 harg0 arg1 harg1 arg2 harg2 arg3 harg3 arg4 harg4 arg5 harg5 arg6 harg6 arg7 harg7 arg8 harg8 arg9 harg9 arg10 harg10 arg11 harg11 arg12 harg12 arg13 harg13 arg14 arg15) >>= after2 arg0 harg0 arg1 harg1 arg2 harg2 arg3 harg3 arg4 harg4 arg5 harg5 arg6 harg6 arg7 harg7 arg8 harg8 arg9 harg9 arg10 harg10 arg11 harg11 arg12 harg12 arg13 harg13 arg14 arg15) =
    oTiles arg5 harg5 8 0 (by omega) r.2 fun M => M.exit >>= fun _ => .ret ⟨⟩ := by
  chain_rfl

/-- The printed program is the recursions. -/
theorem cc0_eq : cc0_swiglu_int4 (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 =
    prog arg0 harg0 arg1 harg1 arg2 harg2 arg3 harg3 arg4 harg4 arg5 harg5 arg6 harg6 arg7 harg7 arg8 harg8 arg9 harg9 arg10 harg10 arg11 harg11 arg12 harg12 arg13 harg13 arg14 arg15 := by
  rw [cc0_cut, bind_assoc_, bind_assoc_]
  unfold prog
  congr 2

end

end Cert.Kernel.Canon
-- ==== Proof.WordSteps.lean ====
module

public import proofs.«01_k».proof.Proof.WordCanon
public import proofs.«01_k».proof.Proof.Gen.Kernel.Launch
public import proofs.«01_k».proof.Proof.Gen.Kernel.Points
public import Idealize.ShloMosaic.Lib.Pipeline.FrameBody
public import Idealize.ShloMosaic.Lib.Transfers
public import Idealize.ShloMosaic.Lib.Ring
public import Idealize.ShloMosaic.Lib.Scf
public import Idealize.ShloMosaic.Lib.Mxu.Lemmas
public import Idealize.ShloMosaic.Lib.Tactic

/-! # The steps of the kernel, one lemma each

What each recursion of `Canon` does to the buffers it reads and writes. Contents are named: a buffer
written in pieces is known, cell by cell, to hold a target once its pieces are written. -/

@[expose] public section

set_option synthInstance.maxSize 4096

noncomputable section

namespace Cert.Kernel.Steps

open Cert.Kernel Cert.Kernel.Canon
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open K0.Facts₀ Shapes1.Facts₀ Shapes2.Facts₀
open Cert.Kernel.Gen (facts₀)

variable {F : FTy → Type} [BitOps F] {α : Type}

local notation "𝕄" => MT nD τ sig Unit (Elt F) ℕ (Pipeline.UD sig nD τ) ℕ

/-- A program of this kernel run on core `c`. -/
abbrev WP (c : Dev nD) (p : PR F α) (Q : α → sProp 𝕄) : sProp 𝕄 :=
  wp frame (wpE (defs₀ (F := F)) Variants.none (c : Thread nD τ) none) Set.univ p Q

/-! ## Buffers written in pieces -/

section held
variable {sp : CoreSpace} {S : Shape} {e : EltTy}

/-- The contents `f` hold `T` at the cells `D`. -/
def Agree (m : Memref sig .tc sp S e) (f : m.view.ty.Contents (Elt F)) (D : S.Idx → Prop) (T : S.Idx → Elt F e) : Prop :=
  ∀ i, D i → m.view.read (Elt F) f i = T i

theorem Agree.store {m : Memref sig .tc sp S e} {f : m.view.ty.Contents (Elt F)} {D D' : S.Idx → Prop} {T : S.Idx → Elt F e}
    (h : Agree m f D T) (r : Rect S) (w : r.shape.Idx → Elt F e) (hw : ∀ x, w x = T (r.emb x))
    (hD : ∀ i, D' i → D i ∨ ∃ x, r.emb x = i) : Agree m ((m.access r).write (Elt F) f w Finset.univ) D' T := by
  intro i hi
  by_cases hx : ∃ x, r.emb x = i
  · obtain ⟨x, rfl⟩ := hx
    rw [View.read_slice_write_emb _ _ _ (Finset.mem_univ x)]; exact hw x
  · rw [View.read_slice_write_of_not_mem]
    · exact h i ((hD i hi).resolve_right hx)
    · intro hm; obtain ⟨x, -, hx'⟩ := Finset.mem_map.mp hm; exact hx ⟨x, hx'⟩

/-- A buffer owned, holding `T` at the cells `D`. -/
def held (c : Dev nD) (m : Memref sig .tc sp S e) (D : S.Idx → Prop) (T : S.Idx → Elt F e) : sProp 𝕄 :=
  iprop(∃ f, ⌜Agree m f D T⌝ ∗ (m.view.loc (c : Thread nD τ) ↦[m.view.set]{fullShare} f))

/-- A load from a buffer owned, at a rectangle within what is owned. -/
theorem wp_ld (c : Dev nD) (m : Memref sig .tc sp S e) (r : Rect S) {hl : m.view.LoadsAt r.toLoadRect} (I : Finset (Idx (m.view.loc (c : Thread nD τ))))
    (f : Buf (Elt F) (m.view.loc (c : Thread nD τ))) (hI : (m.access r).set ⊆ I) (k : (r.shape.Idx → Elt F e) → PR F α) (Q : α → sProp 𝕄) :
    (m.view.loc (c : Thread nD τ) ↦[I]{fullShare} f) ⊢ iprop(((m.view.loc (c : Thread nD τ) ↦[I]{fullShare} f) -∗ WP c (k ((m.access r).read (Elt F) f)) Q)
      -∗ WP c (.op (.load m r.toLoadRect hl) k) Q) :=
  wp_load_rect (m := m) (r := r) Variants.none (c : Thread nD τ) none Set.univ hI

/-- A store into a whole view owned. -/
theorem wp_st (c : Dev nD) (m : Memref sig .tc sp S e) (r : Rect S) (w : r.shape.Idx → Elt F e) {hx : (m.access r).Stores Finset.univ}
    {hm : (Finset.univ : Finset r.shape.Idx) = Finset.univ ∨ ∀ a, r.stride a = 1}
    (f : Buf (Elt F) (m.view.loc (c : Thread nD τ))) (k : PR F α) (Q : α → sProp 𝕄) :
    (m.view.loc (c : Thread nD τ) ↦[m.view.set]{fullShare} f)
    ⊢ iprop(((m.view.loc (c : Thread nD τ) ↦[m.view.set]{fullShare} ((m.access r).write (Elt F) f w Finset.univ)) -∗ WP c k Q)
      -∗ WP c (.op (.store m r w Finset.univ hx hm) fun _ => k) Q) := by
  have hS : (m.access r).setOn Finset.univ ⊆ m.view.set := by
    have := View.set_slice_subset m.view r
    rwa [← View.setOn_univ] at this
  exact wp_store (m := m) (r := r) (w := w) (Mk := Finset.univ) (hx := hx) (hm := hm) (k := fun _ => k) (S := m.view.set) (f := f) (Q := Q) Variants.none (c : Thread nD τ) none Set.univ hS

/-- A load whose value is not used, then a store of one piece of the target. -/
theorem wp_piece (c : Dev nD) (m : Memref sig .tc sp S e) (r : Rect S) {hl : m.view.LoadsAt r.toLoadRect} {hx : (m.access r).Stores Finset.univ}
    {hm : (Finset.univ : Finset r.shape.Idx) = Finset.univ ∨ ∀ a, r.stride a = 1} (w : r.shape.Idx → Elt F e) (T : S.Idx → Elt F e) (D D' : S.Idx → Prop)
    (hw : ∀ x, w x = T (r.emb x)) (hD : ∀ i, D' i → D i ∨ ∃ x, r.emb x = i) (k : PR F α) (Q : α → sProp 𝕄) :
    held c m D T ⊢ iprop((held c m D' T -∗ WP c k Q) -∗
      WP c (.op (.load m r.toLoadRect hl) fun _ => .op (.store m r w Finset.univ hx hm) fun _ => k) Q) := by
  unfold held
  iintro ⟨%f, %hf, H⟩ Hk
  iapply (wp_ld c m r _ f (View.set_slice_subset _ r)) $$ H
  iintro H
  iapply (wp_st c m r w f) $$ H
  iintro H
  iapply Hk
  iexists _; isplitr; swap; · iexact H
  ipureintro; exact hf.store r w hw hD

end held

/-! ## Families indexed by the chunks -/

/-- The family with its first `K` members moved on from `A` to `B`. -/
def stage {n : ℕ} (A B : Fin n → sProp 𝕄) (K : ℕ) : sProp 𝕄 :=
  bigSep Finset.univ fun k => if k.val < K then B k else A k

theorem stage_zero {n : ℕ} (A B : Fin n → sProp 𝕄) : stage A B 0 = bigSep Finset.univ A := by
  unfold stage; exact bigSep_congr fun k _ => by simp
theorem stage_full {n : ℕ} (A B : Fin n → sProp 𝕄) : stage A B n = bigSep Finset.univ B := by
  unfold stage; exact bigSep_congr fun k _ => by simp [k.isLt]

theorem stage_step {n : ℕ} (A B : Fin n → sProp 𝕄) (k : Fin n) :
    stage A B k.val ⊢ iprop(A k ∗ (B k -∗ stage A B (k.val + 1))) := by
  unfold stage
  rw [bigSep_univ_split k, bigSep_univ_split k (Φ := fun j : Fin n => if j.val < k.val + 1 then B j else A j)]
  simp only [lt_irrefl, if_false, Nat.lt_succ_self, if_true]
  rw [bigSep_congr (s := Finset.univ.erase k) (Ψ := fun j : Fin n => if j.val < k.val + 1 then B j else A j)
    (fun j hj => by
      have : j.val ≠ k.val := fun h => (Finset.mem_erase.mp hj).1 (Fin.ext h)
      have h2 : (j.val < k.val) ↔ (j.val < k.val + 1) := by omega
      simp only [h2])]
  show iprop(A k ∗ bigSep (Finset.univ.erase k) _) ⊢ iprop(A k ∗ (B k -∗ iprop(B k ∗ bigSep (Finset.univ.erase k) _)))
  iintro ⟨HA, HR⟩
  isplitl [HA]; · iexact HA
  iintro HB
  isplitl [HB]; · iexact HB
  iexact HR

/-! ## Targets -/

/-- An index of two coordinates. -/
def ix2 {a b : ℕ} (i : Fin a) (j : Fin b) : (⟨2, ![a, b]⟩ : Shape).Idx
  | ⟨0, _⟩ => i
  | ⟨1, _⟩ => j
/-- An index of three coordinates. -/
def ix3 {a b c : ℕ} (i : Fin a) (j : Fin b) (k : Fin c) : (⟨3, ![a, b, c]⟩ : Shape).Idx
  | ⟨0, _⟩ => i
  | ⟨1, _⟩ => j
  | ⟨2, _⟩ => k
/-- An index of four coordinates. -/
def ix4 {a b c d : ℕ} (i : Fin a) (j : Fin b) (k : Fin c) (l : Fin d) : (⟨4, ![a, b, c, d]⟩ : Shape).Idx
  | ⟨0, _⟩ => i
  | ⟨1, _⟩ => j
  | ⟨2, _⟩ => k
  | ⟨3, _⟩ => l

/-- The spread activations. -/
def xT (x : Vec F S16x11264 .bf16) : Vec F S88x32x256 .bf16 := fun i =>
  xPay (Fin.ofNat 2 ((i 1).val / 16)) (Fin.ofNat 2 ((i 2).val / 128)) (fun j => x ((xRect (i 0)).emb j))
    (ix3 (0 : Fin 1) (Fin.ofNat 16 (i 1).val) (Fin.ofNat 128 (i 2).val))

theorem xT_emb (x : Vec F S16x11264 .bf16) (g : Fin 88) (X h : Fin 2) (j : S1x16x128.Idx) :
    xT x ((xkRect g X h).emb j) = xPay X h (fun j => x ((xRect g).emb j)) j := by
  have j0 : (j 0).val < 1 := (j 0).isLt
  have j1 : (j 1).val < 16 := (j 1).isLt
  have j2 : (j 2).val < 128 := (j 2).isLt
  have e0 : ((xkRect g X h).emb j 0).val = g.val + 1 * (j 0).val := rfl
  have e1 : ((xkRect g X h).emb j 1).val = 16 * X.val + 1 * (j 1).val := rfl
  have e2 : ((xkRect g X h).emb j 2).val = 128 * h.val + 1 * (j 2).val := rfl
  have h0 : (xkRect g X h).emb j 0 = g := Fin.ext (by rw [e0]; omega)
  have h1 : Fin.ofNat 2 (((xkRect g X h).emb j 1).val / 16) = X := Fin.ext (by rw [e1]; simp only [Fin.ofNat]; omega)
  have h2 : Fin.ofNat 2 (((xkRect g X h).emb j 2).val / 128) = h := Fin.ext (by rw [e2]; simp only [Fin.ofNat]; omega)
  have h3 : (ix3 (0 : Fin 1) (Fin.ofNat 16 ((xkRect g X h).emb j 1).val) (Fin.ofNat 128 ((xkRect g X h).emb j 2).val) : S1x16x128.Idx) = j := by
    funext a
    match a with
    | ⟨0, _⟩ => exact Fin.ext (by show 0 = (j 0).val; omega)
    | ⟨1, _⟩ => exact Fin.ext (by show ((xkRect g X h).emb j 1).val % 16 = (j 1).val; rw [e1]; omega)
    | ⟨2, _⟩ => exact Fin.ext (by show ((xkRect g X h).emb j 2).val % 128 = (j 2).val; rw [e2]; omega)
  unfold xT
  rw [h0, h1, h2, h3]

/-- The pairs of scales, the two column parities beside each other. -/
def sT (s : Vec F S88x4096 .bf16) : Vec F S2x44x2048 .i32 := fun i =>
  sPay (i 0) (fun y => s ((srRect (Fin.ofNat 32 (2 * ((i 2).val / 128)))).emb y))
    (fun y => s ((srRect (Fin.ofNat 32 (2 * ((i 2).val / 128) + 1))).emb y))
    (ix3 (0 : Fin 1) (i 1) (Fin.ofNat 128 (i 2).val))

theorem sT_emb (s : Vec F S88x4096 .bf16) (par : Fin 2) (j : Fin 16) (y : S1x44x128.Idx) :
    sT s ((spRect par j).emb y)
      = sPay par (fun y => s ((srRect ⟨2 * j.val, by omega⟩).emb y)) (fun y => s ((srRect ⟨2 * j.val + 1, by omega⟩).emb y)) y := by
  have y0 : (y 0).val < 1 := (y 0).isLt
  have y3 : (y 2).val < 128 := (y 2).isLt
  have e0 : ((spRect par j).emb y 0).val = par.val + 1 * (y 0).val := rfl
  have e1 : ((spRect par j).emb y 1).val = 0 + 1 * (y 1).val := rfl
  have e3 : ((spRect par j).emb y 2).val = 128 * j.val + 1 * (y 2).val := rfl
  have h0 : (spRect par j).emb y 0 = par := Fin.ext (by rw [e0]; omega)
  have h1 : Fin.ofNat 32 (2 * (((spRect par j).emb y 2).val / 128)) = ⟨2 * j.val, by omega⟩ := Fin.ext (by rw [e3]; simp only [Fin.ofNat]; omega)
  have h2 : Fin.ofNat 32 (2 * (((spRect par j).emb y 2).val / 128) + 1) = ⟨2 * j.val + 1, by omega⟩ := Fin.ext (by rw [e3]; simp only [Fin.ofNat]; omega)
  have h3 : (ix3 (0 : Fin 1) ((spRect par j).emb y 1) (Fin.ofNat 128 ((spRect par j).emb y 2).val) : S1x44x128.Idx) = y := by
    funext a
    match a with
    | ⟨0, _⟩ => exact Fin.ext (by show 0 = (y 0).val; omega)
    | ⟨1, _⟩ => exact Fin.ext (by show ((spRect par j).emb y 1).val = (y 1).val; rw [e1]; omega)
    | ⟨2, _⟩ => exact Fin.ext (by show ((spRect par j).emb y 2).val % 128 = (y 2).val; rw [e3]; omega)
  unfold sT
  rw [h0, h1, h2, h3]

/-- The result from the tiles' values. -/
def oT (y : Fin 8 → FVec F S32x256 .f32) : Vec F S16x4096 .bf16 := fun i =>
  oPay (Fin.ofNat 2 ((i 1).val / 256)) (Fin.ofNat 2 ((i 1).val / 128)) (y (Fin.ofNat 8 ((i 1).val / 512)))
    (ix2 (i 0) (Fin.ofNat 128 (i 1).val))

theorem oT_emb (y : Fin 8 → FVec F S32x256 .f32) (t : Fin 8) (p h : Fin 2) (b : Fin 32) (hb : b.val = 4 * t.val + 2 * p.val + h.val) (j : S16x128.Idx) :
    oT y ((oRect b).emb j) = oPay p h (y t) j := by
  have j1 : (j 1).val < 128 := (j 1).isLt
  have e0 : ((oRect b).emb j 0).val = 0 + 1 * (j 0).val := rfl
  have e1 : ((oRect b).emb j 1).val = 128 * b.val + 1 * (j 1).val := rfl
  have h1 : Fin.ofNat 2 (((oRect b).emb j 1).val / 256) = p := Fin.ext (by rw [e1]; simp only [Fin.ofNat]; omega)
  have h2 : Fin.ofNat 2 (((oRect b).emb j 1).val / 128) = h := Fin.ext (by rw [e1]; simp only [Fin.ofNat]; omega)
  have h3 : Fin.ofNat 8 (((oRect b).emb j 1).val / 512) = t := Fin.ext (by rw [e1]; simp only [Fin.ofNat]; omega)
  have h4 : (ix2 ((oRect b).emb j 0) (Fin.ofNat 128 ((oRect b).emb j 1).val) : S16x128.Idx) = j := by
    funext a
    match a with
    | ⟨0, _⟩ => exact Fin.ext (by show ((oRect b).emb j 0).val = (j 0).val; rw [e0]; omega)
    | ⟨1, _⟩ => exact Fin.ext (by show ((oRect b).emb j 1).val % 128 = (j 1).val; rw [e1]; omega)
  unfold oT
  rw [h1, h2, h3, h4]

/-! ## Membership in the pieces -/

theorem xk_mem (g : Fin 88) (X h : Fin 2) (i : S88x32x256.Idx) (h0 : (i 0).val = g.val) (h1 : (i 1).val / 16 = X.val) (h2 : (i 2).val / 128 = h.val) :
    ∃ x, (xkRect g X h).emb x = i :=
  ⟨ix3 (0 : Fin 1) (Fin.ofNat 16 (i 1).val) (Fin.ofNat 128 (i 2).val), by
    funext a
    match a with
    | ⟨0, _⟩ => exact Fin.ext (by show g.val + 1 * 0 = (i 0).val; omega)
    | ⟨1, _⟩ => exact Fin.ext (by show 16 * X.val + 1 * ((i 1).val % 16) = (i 1).val; omega)
    | ⟨2, _⟩ => exact Fin.ext (by show 128 * h.val + 1 * ((i 2).val % 128) = (i 2).val; omega)⟩

theorem sp_mem (par : Fin 2) (j : Fin 16) (i : S2x44x2048.Idx) (h0 : (i 0).val = par.val) (h3 : (i 2).val / 128 = j.val) :
    ∃ x, (spRect par j).emb x = i :=
  ⟨ix3 (0 : Fin 1) (i 1) (Fin.ofNat 128 (i 2).val), by
    funext a
    match a with
    | ⟨0, _⟩ => exact Fin.ext (by show par.val + 1 * 0 = (i 0).val; omega)
    | ⟨1, _⟩ => exact Fin.ext (by show 0 + 1 * (i 1).val = (i 1).val; omega)
    | ⟨2, _⟩ => exact Fin.ext (by show 128 * j.val + 1 * ((i 2).val % 128) = (i 2).val; omega)⟩

theorem o_mem (b : Fin 32) (i : S16x4096.Idx) (h1 : (i 1).val / 128 = b.val) : ∃ x, (oRect b).emb x = i :=
  ⟨ix2 (i 0) (Fin.ofNat 128 (i 1).val), by
    funext a
    match a with
    | ⟨0, _⟩ => exact Fin.ext (by show 0 + 1 * (i 0).val = (i 0).val; omega)
    | ⟨1, _⟩ => exact Fin.ext (by show 128 * b.val + 1 * ((i 1).val % 128) = (i 1).val; omega)⟩

/-! ## The activations and the scales spread -/

theorem wp_xLoad (c : Dev nD) (arg6 : Memref sig .tc .vmem S16x11264 .bf16) (f : Buf (Elt F) (arg6.view.loc (c : Thread nD τ))) (g : Fin 88)
    (K : Vec F S16x128 .bf16 → PR F α) (Q : α → sProp 𝕄) :
    (arg6.view.loc (c : Thread nD τ) ↦[arg6.view.set]{fullShare} f)
    ⊢ iprop(((arg6.view.loc (c : Thread nD τ) ↦[arg6.view.set]{fullShare} f) -∗ WP c (K (fun j => arg6.view.read (Elt F) f ((xRect g).emb j))) Q)
      -∗ WP c (xLoad arg6 g K) Q) := by
  unfold xLoad
  exact wp_ld c arg6 (xRect g) _ f (View.set_slice_subset _ _) K Q

theorem wp_xStore (c : Dev nD) (arg13 : Memref sig .tc .vmem S88x32x256 .bf16) (harg13 : arg13.IsWhole) (x : Vec F S16x11264 .bf16)
    (g : Fin 88) (X h : Fin 2) (D D' : S88x32x256.Idx → Prop)
    (hD : ∀ i, D' i → D i ∨ ((i 0).val = g.val ∧ (i 1).val / 16 = X.val ∧ (i 2).val / 128 = h.val)) (K : PR F α) (Q : α → sProp 𝕄) :
    held c arg13 D (xT x) ⊢ iprop((held c arg13 D' (xT x) -∗ WP c K Q)
      -∗ WP c (xStore arg13 harg13 g X h (xPay X h (fun j => x ((xRect g).emb j))) K) Q) := by
  unfold xStore
  exact wp_piece c arg13 (xkRect g X h) _ _ _ _ (fun y => (xT_emb x g X h y).symm)
    (fun i hi => (hD i hi).imp id fun h' => xk_mem g X h i h'.1 h'.2.1 h'.2.2) K Q

theorem wp_sLoad (c : Dev nD) (src : Memref sig .tc .vmem S88x4096 .bf16) (f : Buf (Elt F) (src.view.loc (c : Thread nD τ))) (j : Fin 16)
    (K : Vec F S88x128 .bf16 → Vec F S88x128 .bf16 → PR F α) (Q : α → sProp 𝕄) :
    (src.view.loc (c : Thread nD τ) ↦[src.view.set]{fullShare} f)
    ⊢ iprop(((src.view.loc (c : Thread nD τ) ↦[src.view.set]{fullShare} f)
        -∗ WP c (K (fun y => src.view.read (Elt F) f ((srRect ⟨2 * j.val, by omega⟩).emb y)) (fun y => src.view.read (Elt F) f ((srRect ⟨2 * j.val + 1, by omega⟩).emb y))) Q)
      -∗ WP c (sLoad src j K) Q) := by
  unfold sLoad
  iintro H Hk
  iapply (wp_ld c src (srRect ⟨2 * j.val, _⟩) _ f (View.set_slice_subset _ _)) $$ H
  iintro H
  iapply (wp_ld c src (srRect ⟨2 * j.val + 1, _⟩) _ f (View.set_slice_subset _ _)) $$ H
  iexact Hk

theorem wp_sStore (c : Dev nD) (dst : Memref sig .tc .vmem S2x44x2048 .i32) (hd : dst.IsWhole) (s : Vec F S88x4096 .bf16)
    (par : Fin 2) (j : Fin 16) (D D' : S2x44x2048.Idx → Prop)
    (hD : ∀ i, D' i → D i ∨ ((i 0).val = par.val ∧ (i 2).val / 128 = j.val)) (K : PR F α) (Q : α → sProp 𝕄) :
    held c dst D (sT s) ⊢ iprop((held c dst D' (sT s) -∗ WP c K Q)
      -∗ WP c (sStore dst hd par j (sPay par (fun y => s ((srRect ⟨2 * j.val, by omega⟩).emb y)) (fun y => s ((srRect ⟨2 * j.val + 1, by omega⟩).emb y))) K) Q) := by
  unfold sStore
  exact wp_piece c dst (spRect par j) _ _ _ _ (fun y => (sT_emb s par j y).symm)
    (fun i hi => (hD i hi).imp id fun h' => sp_mem par j i h'.1 h'.2) K Q

theorem wp_xGroups (c : Dev nD) (arg6 : Memref sig .tc .vmem S16x11264 .bf16) (arg13 : Memref sig .tc .vmem S88x32x256 .bf16) (harg13 : arg13.IsWhole)
    (f6 : Buf (Elt F) (arg6.view.loc (c : Thread nD τ))) (K : PR F α) (Q : α → sProp 𝕄) : ∀ (n k : ℕ) (h : k + n ≤ 88),
    iprop((arg6.view.loc (c : Thread nD τ) ↦[arg6.view.set]{fullShare} f6)
      ∗ held c arg13 (fun i => (i 0).val < k) (xT (arg6.view.read (Elt F) f6)))
    ⊢ iprop((iprop((arg6.view.loc (c : Thread nD τ) ↦[arg6.view.set]{fullShare} f6)
        ∗ held c arg13 (fun i => (i 0).val < k + n) (xT (arg6.view.read (Elt F) f6))) -∗ WP c K Q)
      -∗ WP c (xGroups arg6 arg13 harg13 n k h K) Q) := by
  intro n
  induction n with
  | zero =>
    intro k h
    iintro H Hk
    iapply Hk; iexact H
  | succ n ih =>
    intro k h
    have hk : k < 88 := by omega
    iintro ⟨H6, H13⟩ Hk
    unfold xGroups xGroup
    iapply (wp_xLoad c arg6 f6 ⟨k, hk⟩) $$ H6
    iintro H6
    iapply (wp_xStore c arg13 harg13 (arg6.view.read (Elt F) f6) ⟨k, hk⟩ 0 0 _ (fun i => (i 0).val < k ∨ ((i 0).val = k ∧ (i 1).val / 16 = 0 ∧ (i 2).val / 128 = 0))
      (fun i hi => by rcases hi with hi | hi; exact .inl hi; exact .inr hi)) $$ H13
    iintro H13
    iapply (wp_xStore c arg13 harg13 (arg6.view.read (Elt F) f6) ⟨k, hk⟩ 1 0 _ (fun i => (i 0).val < k ∨ ((i 0).val = k ∧ (i 2).val / 128 = 0))
      (fun i hi => by
        have h1 : (i 1).val < 32 := (i 1).isLt
        by_cases hX : (i 1).val / 16 = 0
        · left; rcases hi with hi | hi; exact .inl hi; exact .inr ⟨hi.1, hX, hi.2⟩
        · rcases hi with hi | hi; exact .inl (.inl hi)
          exact .inr ⟨hi.1, (by show (i 1).val / 16 = 1; omega), hi.2⟩)) $$ H13
    iintro H13
    iapply (wp_xStore c arg13 harg13 (arg6.view.read (Elt F) f6) ⟨k, hk⟩ 0 1 _ (fun i => (i 0).val < k ∨ ((i 0).val = k ∧ ((i 2).val / 128 = 0 ∨ (i 1).val / 16 = 0)))
      (fun i hi => by
        have h2 : (i 2).val < 256 := (i 2).isLt
        by_cases hX : (i 2).val / 128 = 0
        · left; rcases hi with hi | hi; exact .inl hi; exact .inr ⟨hi.1, hX⟩
        · rcases hi with hi | hi; exact .inl (.inl hi)
          exact .inr ⟨hi.1, (by show (i 1).val / 16 = 0; have := hi.2.resolve_left hX; omega), (by show (i 2).val / 128 = 1; omega)⟩)) $$ H13
    iintro H13
    iapply (wp_xStore c arg13 harg13 (arg6.view.read (Elt F) f6) ⟨k, hk⟩ 1 1 _ (fun i => (i 0).val < k + 1)
      (fun i hi => by
        have h1 : (i 1).val < 32 := (i 1).isLt
        have h2 : (i 2).val < 256 := (i 2).isLt
        by_cases hX : (i 2).val / 128 = 0 ∨ (i 1).val / 16 = 0
        · left; by_cases hlt : (i 0).val < k; exact .inl hlt; exact .inr ⟨by omega, hX⟩
        · by_cases hlt : (i 0).val < k; exact .inl (.inl hlt)
          exact .inr ⟨(by show (i 0).val = k; omega), (by show (i 1).val / 16 = 1; omega), (by show (i 2).val / 128 = 1; omega)⟩)) $$ H13
    iintro H13
    iapply (ih (k + 1) _) $$ [H6 H13]
    · isplitl [H6]; · iexact H6
      iexact H13
    rw [show k + (n + 1) = k + 1 + n from by omega]
    iexact Hk

theorem wp_sCols (c : Dev nD) (src : Memref sig .tc .vmem S88x4096 .bf16) (dst : Memref sig .tc .vmem S2x44x2048 .i32) (hd : dst.IsWhole)
    (f : Buf (Elt F) (src.view.loc (c : Thread nD τ))) (K : PR F α) (Q : α → sProp 𝕄) : ∀ (n k : ℕ) (h : k + n ≤ 16),
    iprop((src.view.loc (c : Thread nD τ) ↦[src.view.set]{fullShare} f)
      ∗ held c dst (fun i => (i 2).val / 128 < k) (sT (src.view.read (Elt F) f)))
    ⊢ iprop((iprop((src.view.loc (c : Thread nD τ) ↦[src.view.set]{fullShare} f)
        ∗ held c dst (fun i => (i 2).val / 128 < k + n) (sT (src.view.read (Elt F) f))) -∗ WP c K Q)
      -∗ WP c (sCols src dst hd n k h K) Q) := by
  intro n
  induction n with
  | zero =>
    intro k h
    iintro H Hk
    iapply Hk; iexact H
  | succ n ih =>
    intro k h
    have hk : k < 16 := by omega
    iintro ⟨H6, H13⟩ Hk
    unfold sCols sCol
    iapply (wp_sLoad c src f ⟨k, hk⟩) $$ H6
    iintro H6
    iapply (wp_sStore c dst hd (src.view.read (Elt F) f) 0 ⟨k, hk⟩ _ (fun i => (i 2).val / 128 < k ∨ ((i 0).val = 0 ∧ (i 2).val / 128 = k))
      (fun i hi => by rcases hi with hi | hi; exact .inl hi; exact .inr hi)) $$ H13
    iintro H13
    iapply (wp_sStore c dst hd (src.view.read (Elt F) f) 1 ⟨k, hk⟩ _ (fun i => (i 2).val / 128 < k + 1)
      (fun i hi => by
        have h0 : (i 0).val < 2 := (i 0).isLt
        by_cases hlt : (i 2).val / 128 < k; exact .inl (.inl hlt)
        by_cases hX : (i 0).val = 0
        · exact .inl (.inr ⟨hX, by omega⟩)
        · exact .inr ⟨(by show (i 0).val = 1; omega), (by show (i 2).val / 128 = k; omega)⟩)) $$ H13
    iintro H13
    iapply (ih (k + 1) _) $$ [H6 H13]
    · isplitl [H6]; · iexact H6
      iexact H13
    rw [show k + (n + 1) = k + 1 + n from by omega]
    iexact Hk

end Cert.Kernel.Steps

end
-- ==== Proof.WordBody.lean ====
module

public import proofs.«01_k».proof.Proof.WordSteps

/-! # The loop's passes, and the matrix units' states

What one pass does to the units' state is a function of the buffers' contents; a trip of the loop, and
the loop, iterate it. -/

@[expose] public section

set_option synthInstance.maxSize 4096

noncomputable section

namespace Cert.Kernel.Steps

open Cert.Kernel Cert.Kernel.Canon
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open K0.Facts₀ Shapes1.Facts₀ Shapes2.Facts₀
open Cert.Kernel.Gen (facts₀ k0_off6_inb k0_off1_inb k0_off3_inb k0_off2_inb)

variable {F : FTy → Type} [BitOps F] {α : Type}

local notation "𝕄" => MT nD τ sig Unit (Elt F) ℕ (Pipeline.UD sig nD τ) ℕ

/-- What the loop reads: the two weights, their scales spread, the activations spread. -/
structure Data (F : FTy → Type) [BitOps F] where
  w : Fin 2 → Vec F S11264x2048 .i8
  s : Fin 2 → Vec F S2x44x2048 .i32
  x : Vec F S88x32x256 .bf16

/-- The weights one pass reads. -/
abbrev wRect (k : Fin k0_t1_loop.trips) (i : Fin 4) (t : Fin 8) : Rect S11264x2048 :=
  Rect.unit (s := S11264x2048) (offW k i t) S128x256.size (offW_inb k i t)
/-- The scales one pass reads. -/
abbrev sRect (k : Fin k0_t1_loop.trips) (i : Fin 4) (t : Fin 8) : Rect S2x44x2048 :=
  Rect.unit (s := S2x44x2048) (offS k i t) S1x1x256.size (offS_inb k i t)
/-- The activations one group reads. -/
abbrev gRect (k : Fin k0_t1_loop.trips) (i : Fin 4) : Rect S88x32x256 :=
  Rect.unit (s := S88x32x256) (k0_off6 k (BitVec.ofNat 32 i.val)) S1x32x256.size (Cert.Kernel.Gen.k0_off6_inb k i)

/-- The state after one pass. -/
def passM (D : Data F) (q : Fin 2) (k : Fin k0_t1_loop.trips) (i : Fin 4) (t : Fin 8) (M : Mxu F) : Mxu F :=
  (M.pushed q (reg8 t) false (wPay (fun j => D.w q ((wRect k i t).emb j)) (fun j => D.s q ((sRect k i t).emb j)))).accLhs q (reg8 t) (8 * t.val)
    (shapeCast S32x256 (fun j => D.x ((gRect k i).emb j) : Vec F S1x32x256 .bf16) shapeCasts_S1x32x256_S32x256) (fits8 t)
/-- The state after one tile of a group. -/
def tileM (D : Data F) (k : Fin k0_t1_loop.trips) (i : Fin 4) (t : Fin 8) (M : Mxu F) : Mxu F := passM D 1 k i t (passM D 0 k i t M)
/-- The state after the tiles from `t` on, `n` of them. -/
def tilesM (D : Data F) (k : Fin k0_t1_loop.trips) (i : Fin 4) : (n t : ℕ) → t + n ≤ 8 → Mxu F → Mxu F
  | 0, _, _, M => M
  | n + 1, t, h, M => tilesM D k i n (t + 1) (by omega) (tileM D k i ⟨t, by omega⟩ M)
/-- The state after the groups from `i` on, `n` of them. -/
def groupsM (D : Data F) (k : Fin k0_t1_loop.trips) : (n i : ℕ) → i + n ≤ 4 → Mxu F → Mxu F
  | 0, _, _, M => M
  | n + 1, i, h, M => groupsM D k n (i + 1) (by omega) (tilesM D k ⟨i, by omega⟩ 8 0 (by omega) M)
/-- The state after `K` trips. -/
def loopM (D : Data F) : ℕ → Mxu F
  | 0 => pops 1 8 0 (by omega) (pops 0 8 0 (by omega) Mxu.init)
  | K + 1 => if h : K < k0_t1_loop.trips then groupsM D ⟨K, h⟩ 4 0 (by omega) (loopM D K) else loopM D K

/-- Registers empty and no row above the tiles' live: the state between tiles. -/
def Tidy (M : Mxu F) : Prop := (∀ q r, M.reg q r = none) ∧ ∀ q (R : Fin 1024), 256 ≤ R.val → M.live q R = false

theorem Tidy.pass {M : Mxu F} (h : Tidy M) (D : Data F) (q : Fin 2) (k : Fin k0_t1_loop.trips) (i : Fin 4) (t : Fin 8) : Tidy (passM D q k i t M) := by
  constructor
  · intro q' r'
    unfold passM
    by_cases hq : q' = q ∧ r' = reg8 t
    · obtain ⟨rfl, rfl⟩ := hq; exact Mxu.reg_accLhs ..
    · rw [Mxu.reg_accLhs_ne _ _ _ _ _ _ _ _ hq, Mxu.reg_pushed_ne _ _ _ _ _ _ _ hq]; exact h.1 q' r'
  · intro q' R hR
    unfold passM
    rw [Mxu.live_accLhs, if_neg (by rintro ⟨-, -, h2⟩; omega), Mxu.live_pushed]
    exact h.2 q' R hR

theorem Tidy.tile {M : Mxu F} (h : Tidy M) (D : Data F) (k : Fin k0_t1_loop.trips) (i : Fin 4) (t : Fin 8) : Tidy (tileM D k i t M) :=
  (h.pass D 0 k i t).pass D 1 k i t

theorem Tidy.tiles (D : Data F) (k : Fin k0_t1_loop.trips) (i : Fin 4) : ∀ (n t : ℕ) (ht : t + n ≤ 8) (M : Mxu F), Tidy M → Tidy (tilesM D k i n t ht M)
  | 0, _, _, _, h => h
  | n + 1, t, ht, M, h => Tidy.tiles D k i n (t + 1) (by omega) _ (h.tile D k i ⟨t, by omega⟩)

theorem Tidy.groups (D : Data F) (k : Fin k0_t1_loop.trips) : ∀ (n i : ℕ) (hi : i + n ≤ 4) (M : Mxu F), Tidy M → Tidy (groupsM D k n i hi M)
  | 0, _, _, _, h => h
  | n + 1, i, hi, M, h => Tidy.groups D k n (i + 1) (by omega) _ (Tidy.tiles D k _ 8 0 (by omega) _ h)

theorem Tidy.pops (q : Fin 2) : ∀ (n t : ℕ) (ht : t + n ≤ 8) (M : Mxu F), Tidy M → Tidy (pops q n t ht M)
  | 0, _, _, _, h => h
  | n + 1, t, ht, M, h => Tidy.pops q n (t + 1) (by omega) _
      ⟨fun q' r' => h.1 q' r', fun q' R hR => by rw [Mxu.live_pop]; split; rfl; exact h.2 q' R hR⟩

theorem tidy_loopM (D : Data F) : ∀ K, Tidy (loopM D K)
  | 0 => Tidy.pops 1 8 0 (by omega) _ (Tidy.pops 0 8 0 (by omega) _ ⟨fun _ _ => Mxu.reg_init _ _, fun _ _ _ => rfl⟩)
  | K + 1 => by
    unfold loopM
    split
    · exact Tidy.groups D _ 4 0 (by omega) _ (tidy_loopM D K)
    · exact tidy_loopM D K

/-! ## The results' pops -/

/-- The state once the tiles before `t` are popped. -/
def outM (M : Mxu F) : (t : ℕ) → t ≤ 8 → Mxu F
  | 0, _ => M
  | t + 1, h => ((outM M t (by omega)).pop 0 (8 * t) 32 (fits8 ⟨t, by omega⟩)).pop 1 (8 * t) 32 (fits8 ⟨t, by omega⟩)

/-- A tile's value. -/
def yOf (M : Mxu F) (t : Fin 8) : FVec F S32x256 .f32 :=
  glu ((outM M t.val (by omega)).read 0 (8 * t.val) (fits8 t))
    (((outM M t.val (by omega)).pop 0 (8 * t.val) 32 (fits8 t)).read 1 (8 * t.val) (fits8 t))

theorem outM_tidy {M : Mxu F} (h : Tidy M) : ∀ (t : ℕ) (ht : t ≤ 8),
    (∀ q r, (outM M t ht).reg q r = none) ∧ ∀ q (R : Fin 1024), 256 ≤ R.val ∨ R.val < 32 * t → (outM M t ht).live q R = false
  | 0, _ => ⟨h.1, fun q R hR => h.2 q R (by omega)⟩
  | t + 1, ht => by
    have ih := outM_tidy h t (by omega)
    refine ⟨fun q r => ih.1 q r, fun q R hR => ?_⟩
    unfold outM
    rw [Mxu.live_pop, Mxu.live_pop]
    have hq : q = 0 ∨ q = 1 := by revert q; decide
    split
    · rfl
    split
    · rfl
    rename_i h1 h2
    refine ih.2 q R ?_
    rcases hq with rfl | rfl
    · simp only [true_and, not_and, not_lt] at h2; omega
    · simp only [true_and, not_and, not_lt] at h1; omega

theorem outM_drained {M : Mxu F} (h : Tidy M) : (outM M 8 (by omega)).Drained := by
  have := outM_tidy h 8 (by omega)
  exact ⟨fun q r => by rw [this.1 q r]; rfl, fun q R => this.2 q R (by omega)⟩

theorem wp_oStore (c : Dev nD) (arg5 : Memref sig .tc .vmem S16x4096 .bf16) (harg5 : arg5.IsWhole) (y : Fin 8 → FVec F S32x256 .f32)
    (t : Fin 8) (p h : Fin 2) (b : Fin 32) (hb : b.val = 4 * t.val + 2 * p.val + h.val) (K : PR F α) (Q : α → sProp 𝕄) :
    held c arg5 (fun i => (i 1).val / 128 < b.val) (oT y)
    ⊢ iprop((held c arg5 (fun i => (i 1).val / 128 < b.val + 1) (oT y) -∗ WP c K Q)
      -∗ WP c (oStore arg5 harg5 b (oPay p h (y t)) K) Q) := by
  unfold oStore
  exact wp_piece c arg5 (oRect b) _ _ _ _ (fun x => (oT_emb y t p h b hb x).symm) (fun i hi => by
    by_cases hlt : (i 1).val / 128 < b.val
    · exact .inl hlt
    · exact .inr (o_mem b i (by omega))) K Q

theorem wp_oTiles (c : Dev nD) (arg5 : Memref sig .tc .vmem S16x4096 .bf16) (harg5 : arg5.IsWhole) (M : Mxu F) (K : Mxu F → PR F α) (Q : α → sProp 𝕄) :
    ∀ (n t : ℕ) (h : t + n ≤ 8),
    held c arg5 (fun i => (i 1).val / 128 < 4 * t) (oT (yOf M))
    ⊢ iprop((held c arg5 (fun i => (i 1).val / 128 < 4 * (t + n)) (oT (yOf M)) -∗ WP c (K (outM M (t + n) h)) Q)
      -∗ WP c (oTiles arg5 harg5 n t h (outM M t (by omega)) K) Q) := by
  intro n
  induction n with
  | zero => intro t h; iintro H Hk; iapply Hk; iexact H
  | succ n ih =>
    intro t h
    have ht : t < 8 := by omega
    have hy : glu ((outM M t (by omega)).read 0 (8 * t) (fits8 ⟨t, ht⟩)) (((outM M t (by omega)).pop 0 (8 * t) 32 (fits8 ⟨t, ht⟩)).read 1 (8 * t) (fits8 ⟨t, ht⟩))
        = yOf M ⟨t, ht⟩ := rfl
    iintro H Hk
    unfold oTiles oTile
    rw [hy]
    iapply (wp_oStore c arg5 harg5 (yOf M) ⟨t, ht⟩ 0 0 ⟨4 * t, _⟩ (by show 4 * t = 4 * t + 2 * 0 + 0; omega)) $$ H
    iintro H
    iapply (wp_oStore c arg5 harg5 (yOf M) ⟨t, ht⟩ 0 1 ⟨4 * t + 1, _⟩ (by show 4 * t + 1 = 4 * t + 2 * 0 + 1; omega)) $$ H
    iintro H
    iapply (wp_oStore c arg5 harg5 (yOf M) ⟨t, ht⟩ 1 0 ⟨4 * t + 2, _⟩ (by show 4 * t + 2 = 4 * t + 2 * 1 + 0; omega)) $$ H
    iintro H
    iapply (wp_oStore c arg5 harg5 (yOf M) ⟨t, ht⟩ 1 1 ⟨4 * t + 3, _⟩ (by show 4 * t + 3 = 4 * t + 2 * 1 + 1; omega)) $$ H
    iintro H
    iapply (ih (t + 1) _) $$ [H]
    · rw [show 4 * (t + 1) = 4 * t + 3 + 1 from by omega]; iexact H
    simp only [show t + 1 + n = t + (n + 1) from by omega]
    iexact Hk

/-! ## A pass, a tile, the tiles, the groups -/

section pass
variable (c : Dev nD) (arg7 arg8 : Memref sig .tc .vmem S11264x2048 .i8) (arg11 arg12 : Memref sig .tc .vmem S2x44x2048 .i32)
  (arg13 : Memref sig .tc .vmem S88x32x256 .bf16) (D : Data F)

theorem wp_pass (q : Fin 2) (wv : Memref sig .tc .vmem S11264x2048 .i8) (sv : Memref sig .tc .vmem S2x44x2048 .i32)
    (k : Fin k0_t1_loop.trips) (i : Fin 4) (t : Fin 8) (M : Mxu F) (hM : Tidy M) (K : Mxu F → PR F α) (Q : α → sProp 𝕄)
    (S : Finset (Idx (wv.view.loc (c : Thread nD τ)))) (fw : Buf (Elt F) (wv.view.loc (c : Thread nD τ)))
    (fs : Buf (Elt F) (sv.view.loc (c : Thread nD τ))) (fx : Buf (Elt F) (arg13.view.loc (c : Thread nD τ)))
    (hS : (wv.access (wRect k i t)).set ⊆ S) (hw : ∀ j, wv.view.read (Elt F) fw ((wRect k i t).emb j) = D.w q ((wRect k i t).emb j))
    (hs : ∀ j, sv.view.read (Elt F) fs j = D.s q j) (hx : ∀ j, arg13.view.read (Elt F) fx j = D.x j) :
    iprop((wv.view.loc (c : Thread nD τ) ↦[S]{fullShare} fw) ∗ (sv.view.loc (c : Thread nD τ) ↦[sv.view.set]{fullShare} fs)
      ∗ (arg13.view.loc (c : Thread nD τ) ↦[arg13.view.set]{fullShare} fx))
    ⊢ iprop((iprop((wv.view.loc (c : Thread nD τ) ↦[S]{fullShare} fw) ∗ (sv.view.loc (c : Thread nD τ) ↦[sv.view.set]{fullShare} fs)
      ∗ (arg13.view.loc (c : Thread nD τ) ↦[arg13.view.set]{fullShare} fx)) -∗ WP c (K (passM D q k i t M)) Q)
      -∗ WP c (pass arg13 q wv sv k i t M K) Q) := by
  have ew : (wv.access (wRect k i t)).read (Elt F) fw = fun j => D.w q ((wRect k i t).emb j) := funext hw
  have es : (sv.access (sRect k i t)).read (Elt F) fs = fun j => D.s q ((sRect k i t).emb j) := funext fun j => hs _
  have ex : (arg13.access (gRect k i)).read (Elt F) fx = fun j => D.x ((gRect k i).emb j) := funext fun j => hx _
  unfold pass
  iintro ⟨Hw, Hs, Hx⟩ Hk
  iapply (wp_ld c wv (wRect k i t) S fw hS) $$ Hw
  iintro Hw
  iapply (wp_ld c sv (sRect k i t) _ fs (View.set_slice_subset _ _)) $$ Hs
  iintro Hs
  rw [ew, es]
  iapply (Mxu.wp_pushRhs (c := (c : Thread nD τ)) _ (Mxu.pushOk_of_none _ _ _ _ (hM.1 q (reg8 t))))
  iapply (wp_ld c arg13 (gRect k i) _ fx (View.set_slice_subset _ _)) $$ Hx
  iintro Hx
  rw [ex]
  iapply Hk
  isplitl [Hw]; · iexact Hw
  isplitl [Hs]; · iexact Hs
  iexact Hx

variable (S7 : Finset (Idx (arg7.view.loc (c : Thread nD τ)))) (f7 : Buf (Elt F) (arg7.view.loc (c : Thread nD τ)))
  (S8 : Finset (Idx (arg8.view.loc (c : Thread nD τ)))) (f8 : Buf (Elt F) (arg8.view.loc (c : Thread nD τ)))
  (f11 : Buf (Elt F) (arg11.view.loc (c : Thread nD τ))) (f12 : Buf (Elt F) (arg12.view.loc (c : Thread nD τ)))
  (f13 : Buf (Elt F) (arg13.view.loc (c : Thread nD τ)))

/-- The five buffers a tile reads. -/
def tileRes : sProp 𝕄 :=
  iprop((arg7.view.loc (c : Thread nD τ) ↦[S7]{fullShare} f7) ∗ (arg8.view.loc (c : Thread nD τ) ↦[S8]{fullShare} f8)
    ∗ (arg11.view.loc (c : Thread nD τ) ↦[arg11.view.set]{fullShare} f11) ∗ (arg12.view.loc (c : Thread nD τ) ↦[arg12.view.set]{fullShare} f12)
    ∗ (arg13.view.loc (c : Thread nD τ) ↦[arg13.view.set]{fullShare} f13))

variable (k : Fin k0_t1_loop.trips)
  (hS7 : ∀ i t, (arg7.access (wRect k i t)).set ⊆ S7) (hS8 : ∀ i t, (arg8.access (wRect k i t)).set ⊆ S8)
  (h7 : ∀ i t j, arg7.view.read (Elt F) f7 ((wRect k i t).emb j) = D.w 0 ((wRect k i t).emb j))
  (h8 : ∀ i t j, arg8.view.read (Elt F) f8 ((wRect k i t).emb j) = D.w 1 ((wRect k i t).emb j))
  (h11 : ∀ j, arg11.view.read (Elt F) f11 j = D.s 0 j) (h12 : ∀ j, arg12.view.read (Elt F) f12 j = D.s 1 j)
  (h13 : ∀ j, arg13.view.read (Elt F) f13 j = D.x j)
include hS7 hS8 h7 h8 h11 h12 h13

theorem wp_tile (i : Fin 4) (t : Fin 8) (M : Mxu F) (hM : Tidy M) (K : Mxu F → PR F α) (Q : α → sProp 𝕄) :
    tileRes c arg7 arg8 arg11 arg12 arg13 S7 f7 S8 f8 f11 f12 f13
    ⊢ iprop((tileRes c arg7 arg8 arg11 arg12 arg13 S7 f7 S8 f8 f11 f12 f13 -∗ WP c (K (tileM D k i t M)) Q)
      -∗ WP c (tile arg7 arg8 arg11 arg12 arg13 k i t M K) Q) := by
  unfold tile tileRes
  iintro ⟨H7, H8, H11, H12, H13⟩ Hk
  iapply (wp_pass c arg13 D 0 arg7 arg11 k i t M hM _ Q S7 f7 f11 f13 (hS7 i t) (h7 i t) h11 h13) $$ [H7 H11 H13]
  · isplitl [H7]; · iexact H7
    isplitl [H11]; · iexact H11
    iexact H13
  iintro ⟨H7, H11, H13⟩
  iapply (wp_pass c arg13 D 1 arg8 arg12 k i t _ (hM.pass D 0 k i t) _ Q S8 f8 f12 f13 (hS8 i t) (h8 i t) h12 h13) $$ [H8 H12 H13]
  · isplitl [H8]; · iexact H8
    isplitl [H12]; · iexact H12
    iexact H13
  iintro ⟨H8, H12, H13⟩
  iapply Hk
  isplitl [H7]; · iexact H7
  isplitl [H8]; · iexact H8
  isplitl [H11]; · iexact H11
  isplitl [H12]; · iexact H12
  iexact H13

theorem wp_tiles (i : Fin 4) (K : Mxu F → PR F α) (Q : α → sProp 𝕄) : ∀ (n t : ℕ) (ht : t + n ≤ 8) (M : Mxu F) (hM : Tidy M),
    tileRes c arg7 arg8 arg11 arg12 arg13 S7 f7 S8 f8 f11 f12 f13
    ⊢ iprop((tileRes c arg7 arg8 arg11 arg12 arg13 S7 f7 S8 f8 f11 f12 f13 -∗ WP c (K (tilesM D k i n t ht M)) Q)
      -∗ WP c (tiles arg7 arg8 arg11 arg12 arg13 k i n t ht M K) Q) := by
  intro n
  induction n with
  | zero => intro t ht M hM; iintro H Hk; iapply Hk; iexact H
  | succ n ih =>
    intro t ht M hM
    unfold tiles
    iintro H Hk
    iapply (wp_tile c arg7 arg8 arg11 arg12 arg13 D S7 f7 S8 f8 f11 f12 f13 k hS7 hS8 h7 h8 h11 h12 h13 i ⟨t, _⟩ M hM) $$ H
    iintro H
    iapply (ih (t + 1) _ _ (hM.tile D k i ⟨t, _⟩)) $$ H
    iexact Hk

theorem wp_groups (K : Mxu F → PR F α) (Q : α → sProp 𝕄) : ∀ (n i : ℕ) (hi : i + n ≤ 4) (M : Mxu F) (hM : Tidy M),
    tileRes c arg7 arg8 arg11 arg12 arg13 S7 f7 S8 f8 f11 f12 f13
    ⊢ iprop((tileRes c arg7 arg8 arg11 arg12 arg13 S7 f7 S8 f8 f11 f12 f13 -∗ WP c (K (groupsM D k n i hi M)) Q)
      -∗ WP c (groups arg7 arg8 arg11 arg12 arg13 k n i hi M K) Q) := by
  intro n
  induction n with
  | zero => intro i hi M hM; iintro H Hk; iapply Hk; iexact H
  | succ n ih =>
    intro i hi M hM
    unfold groups
    iintro H Hk
    iapply (wp_tiles c arg7 arg8 arg11 arg12 arg13 D S7 f7 S8 f8 f11 f12 f13 k hS7 hS8 h7 h8 h11 h12 h13 ⟨i, _⟩ _ Q 8 0 _ M hM) $$ H
    iintro H
    iapply (ih (i + 1) _ _ (Tidy.tiles D k _ 8 0 _ _ hM)) $$ H
    iexact Hk

end pass

end Cert.Kernel.Steps

end
-- ==== Proof.WordChunks.lean ====
module

public import proofs.«01_k».proof.Proof.WordBody

/-! # The transfers, and the weights' buffers as their chunks -/

@[expose] public section

set_option synthInstance.maxSize 4096

noncomputable section

namespace Cert.Kernel.Steps

open Cert.Kernel Cert.Kernel.Canon
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open K0.Facts₀ Shapes1.Facts₀ Shapes2.Facts₀
open Cert.Kernel.Gen (facts₀ k0_off6_inb k0_off1_inb k0_off3_inb k0_off2_inb)

variable {F : FTy → Type} [BitOps F] {α : Type}

local notation "𝕄" => MT nD τ sig Unit (Elt F) ℕ (Pipeline.UD sig nD τ) ℕ

/-! ## One transfer -/

/-- What the core has waited at so far. -/
def waited (c : Dev nD) : sProp 𝕄 := iprop(∃ W : Waits sig Unit, owes (c : Thread nD τ) 0 W)

section one
variable {sp sp' : Space} {s : Shape} {e : EltTy}

/-- What a transfer delivers: the destination written, the source back. -/
def got (c : Dev nD) (src : Memref sig .tc sp s e) (dst : Memref sig .tc sp' s e) (fs : Buf (Elt F) (src.view.loc (c : Thread nD τ)))
    (fd : Buf (Elt F) (dst.view.loc (c : Thread nD τ))) : sProp 𝕄 :=
  iprop((dst.view.loc (c : Thread nD τ) ↦[dst.view.set]{fullShare} (dst.view.write (Elt F) fd (src.view.read (Elt F) fs) Finset.univ))
    ∗ (src.view.loc (c : Thread nD τ) ↦[src.view.set]{fullShare} fs))

/-- A transfer in flight. -/
def flying (c : Dev nD) (src : Memref sig .tc sp s e) (dst : Memref sig .tc sp' s e) (sm : DmaSem sig) (fs : Buf (Elt F) (src.view.loc (c : Thread nD τ)))
    (fd : Buf (Elt F) (dst.view.loc (c : Thread nD τ))) : sProp 𝕄 :=
  Transfers.Flight (countersEmb (U := Pipeline.UD sig nD τ)) (c : Thread nD τ) (.dma sm) () dst.view.dmaCredit (got c src dst fs fd)

theorem wp_start (c : Dev nD) (src : Memref sig .tc sp s e) (dst : Memref sig .tc sp' s e) (sm : DmaSem sig) (hs : 0 < s.numel)
    (fs : Buf (Elt F) (src.view.loc (c : Thread nD τ))) (fd : Buf (Elt F) (dst.view.loc (c : Thread nD τ)))
    {h1 : src.view.WordExact} {h2 : dst.view.WordExact} {h3 : DmaTarget.Typed (nD := nD) (τ := τ) (p := .tc) sp (.dma sm) (.here dst)} (k : PR F α) (Q : α → sProp 𝕄) :
    iprop((src.view.loc (c : Thread nD τ) ↦[src.view.set]{fullShare} fs) ∗ (dst.view.loc (c : Thread nD τ) ↦[dst.view.set]{fullShare} fd) ∗ semVal ((c : Thread nD τ), .dma sm) 0)
    ⊢ iprop((flying c src dst sm fs fd -∗ WP c k Q) -∗ WP c (.op (.enqueueDma src (.here dst) (.dma sm) h1 h2 h3) fun _ => k) Q) := by
  unfold flying got
  exact Transfers.wp_dmaLocal (src := src) (dst := dst) (sm := .dma sm) (fs := fs) (fd := fd) (k := fun _ => k) (Q := Q) (hsrc := h1) (hdst := h2) (hsem := h3) (via := .same) (countersEmb (U := Pipeline.UD sig nD τ)) Variants.none (c : Thread nD τ) none () dst.view.dmaCredit rfl
    (View.dmaCredit_pos _ hs) (Finset.Subset.refl _)

theorem wp_wait (c : Dev nD) (src : Memref sig .tc sp s e) (dst : Memref sig .tc sp' s e) (sm : DmaSem sig)
    (fs : Buf (Elt F) (src.view.loc (c : Thread nD τ))) (fd : Buf (Elt F) (dst.view.loc (c : Thread nD τ)))
    (srcw : Memref sig .tc sp s e) (dstw : Memref sig .tc sp' s e) (hN : dstw.view.dmaCredit = dst.view.dmaCredit)
    {h1 : srcw.view.WordExact} {h2 : dstw.view.WordExact} (k : PR F α) (Q : α → sProp 𝕄) :
    iprop(flying c src dst sm fs fd ∗ waited (F := F) c)
    ⊢ iprop((iprop(got c src dst fs fd ∗ semVal ((c : Thread nD τ), .dma sm) 0 ∗ waited (F := F) c) -∗ WP c k Q)
      -∗ WP c (.op (.waitDma2 sm srcw dstw h1 h2) fun _ => k) Q) := by
  unfold flying waited
  iintro ⟨HF, %W, HO⟩ Hk
  iapply (Transfers.wp_waitLocal (srcw := srcw) (dstw := dstw) (countersEmb (U := Pipeline.UD sig nD τ)) Variants.none (c : Thread nD τ) none () hN) $$ [HF HO]
  · isplitl [HF]; · iexact HF
    iexact HO
  iintro ⟨HD, HS, HO⟩
  iapply Hk
  isplitl [HD]; · iexact HD
  isplitl [HS]; · iexact HS
  iexists _; iexact HO

end one

/-! ## The chunks -/

section chunks
variable (c : Dev nD) (src : Memref sig .tc .hbm S11264x2048 .i8) (hs : src.IsWhole) (dst : Memref sig .tc .vmem S11264x2048 .i8) (hd : dst.IsWhole)
  (arg15 : DmaSems sig S2x22) (m : Fin 2) (fs : Buf (Elt F) (src.view.loc (c : Thread nD τ))) (fd : Buf (Elt F) (dst.view.loc (c : Thread nD τ)))

/-- A chunk of a weight's buffer. -/
abbrev chunk {sp : Space} (b : Memref sig .tc sp S11264x2048 .i8) (k : Fin 22) : Memref sig .tc sp S512x2048 .i8 :=
  b.slice (cRect k) (fun _ => rfl)

/-- A chunk before its transfer, -/
def before (k : Fin 22) : sProp 𝕄 :=
  iprop(((chunk src k).view.loc (c : Thread nD τ) ↦[(chunk src k).view.set]{fullShare} fs)
    ∗ ((chunk dst k).view.loc (c : Thread nD τ) ↦[(chunk dst k).view.set]{fullShare} fd) ∗ semVal ((c : Thread nD τ), .dma (semW arg15 m k)) 0)
/-- in flight, -/
def during (k : Fin 22) : sProp 𝕄 := flying c (chunk src k) (chunk dst k) (semW arg15 m k) fs fd
/-- and after. -/
def after (k : Fin 22) : sProp 𝕄 :=
  iprop(got c (chunk src k) (chunk dst k) fs fd ∗ semVal ((c : Thread nD τ), .dma (semW arg15 m k)) 0)

theorem wp_wStart (k : Fin 22) (K : PR F α) (Q : α → sProp 𝕄) :
    before c src dst arg15 m fs fd k ⊢ iprop((during c src dst arg15 m fs fd k -∗ WP c K Q) -∗ WP c (wStart arg15 src hs dst hd m k K) Q) := by
  unfold wStart before during
  exact wp_start c (chunk src k) (chunk dst k) (semW arg15 m k) (by decide) fs fd K Q

theorem wp_wWait (off : Fin 2 → Nat) (hoff : ∀ a, off a + S1x1.size a ≤ S2x22.size a) (k : Fin k0_t1_loop.trips)
    (ho : off = ![m.val, k.val]) (K : PR F α) (Q : α → sProp 𝕄) :
    iprop(during c src dst arg15 m fs fd ⟨k.val, k.isLt⟩ ∗ waited (F := F) c)
    ⊢ iprop((iprop(after c src dst arg15 m fs fd ⟨k.val, k.isLt⟩ ∗ waited (F := F) c) -∗ WP c K Q) -∗ WP c (wWait arg15 off hoff k src hs dst hd K) Q) := by
  subst ho
  unfold wWait during after
  iintro H Hk
  iapply (wp_wait c (chunk src ⟨k.val, k.isLt⟩) (chunk dst ⟨k.val, k.isLt⟩) (semW arg15 m ⟨k.val, k.isLt⟩) fs fd
    (src.slice (Rect.unit (s := S11264x2048) (k0_off2 k) S512x2048.size (Cert.Kernel.Gen.k0_off2_inb k)) (fun _ => rfl))
    (dst.slice (Rect.unit (s := S11264x2048) (k0_off2 k) S512x2048.size (Cert.Kernel.Gen.k0_off2_inb k)) (fun _ => rfl)) rfl
    (h1 := hs.wordExact_slice rfl _ (k0_off2_wordsi8 k)) (h2 := hd.wordExact_slice rfl _ (k0_off2_wordsi8 k))) $$ H
  iintro ⟨HG, HS, HO⟩
  iapply Hk
  isplitl [HG HS]
  · isplitl [HG]; · iexact HG
    iexact HS
  iexact HO

end chunks

/-! ## A weight's buffer as its chunks -/

section split
variable {sp : Space} (b : Memref sig .tc sp S11264x2048 .i8)

/-- Each row is in one chunk. -/
theorem chunk_cover (i : S11264x2048.Idx) : ∃ k y, (cRect k).emb y = i := by
  have h0 : (i 0).val < 11264 := (i 0).isLt
  refine ⟨⟨(i 0).val / 512, by omega⟩, ix2 (⟨(i 0).val % 512, by omega⟩ : Fin 512) (i 1), ?_⟩
  funext a
  match a with
  | ⟨0, _⟩ => exact Fin.ext (by show 512 * ((i 0).val / 512) + 1 * ((i 0).val % 512) = (i 0).val; omega)
  | ⟨1, _⟩ => exact Fin.ext (by show 0 + 1 * (i 1).val = (i 1).val; omega)

theorem chunk_disjoint (k k' : Fin 22) (h : k ≠ k') : Disjoint (chunk b k).view.set (chunk b k').view.set := by
  rw [Finset.disjoint_left]
  intro i hi hi'
  obtain ⟨y, -, rfl⟩ := Finset.mem_map.mp hi
  obtain ⟨y', -, he⟩ := Finset.mem_map.mp hi'
  have he' : (cRect k').emb y' = (cRect k).emb y := b.view.emb.injective he
  have h0 := congrArg Fin.val (congrFun he' 0)
  have e1 : ((cRect k').emb y' 0).val = 512 * k'.val + 1 * (y' 0).val := rfl
  have e2 : ((cRect k).emb y 0).val = 512 * k.val + 1 * (y 0).val := rfl
  have l1 : (y' 0).val < 512 := (y' 0).isLt
  have l2 : (y 0).val < 512 := (y 0).isLt
  rw [e1, e2] at h0
  exact h (Fin.ext (by omega))

theorem chunk_union (hb : b.IsWhole) : Finset.biUnion (β := b.view.ty.Idx) Finset.univ (fun k : Fin 22 => (chunk b k).view.set) = Finset.univ := by
  rw [Finset.eq_univ_iff_forall]
  intro i
  have hi : i ∈ b.view.set := by rw [hb.set_eq_univ]; exact Finset.mem_univ i
  obtain ⟨x, -, rfl⟩ := Finset.mem_map.mp hi
  obtain ⟨k, y, rfl⟩ := chunk_cover x
  exact Finset.mem_biUnion.mpr ⟨k, Finset.mem_univ _, Finset.mem_map.mpr ⟨y, Finset.mem_univ _, rfl⟩⟩

/-- What a pass reads lies in the trip's chunk. -/
theorem wRect_chunk (k : Fin k0_t1_loop.trips) (i : Fin 4) (t : Fin 8) (j : S128x256.Idx) :
    ∃ y, (cRect ⟨k.val, k.isLt⟩).emb y = (wRect k i t).emb j := by
  have hi := i.isLt; have ht := t.isLt
  have j0 : (j 0).val < 128 := (j 0).isLt
  have j1 : (j 1).val < 256 := (j 1).isLt
  have e0 : ((wRect k i t).emb j 0).val = offW k i t 0 + 1 * (j 0).val := rfl
  have e1 : ((wRect k i t).emb j 1).val = offW k i t 1 + 1 * (j 1).val := rfl
  have o0 : offW k i t 0 = 512 * k.val + 128 * i.val := by rw [offW_eq]; rfl
  have o1 : offW k i t 1 = 256 * t.val := by rw [offW_eq]; rfl
  refine ⟨ix2 (⟨128 * i.val + (j 0).val, by omega⟩ : Fin 512) (⟨256 * t.val + (j 1).val, by omega⟩ : Fin 2048), ?_⟩
  funext a
  match a with
  | ⟨0, _⟩ => exact Fin.ext (by rw [show (⟨0, _⟩ : Fin 2) = 0 from rfl, e0, o0]; show 512 * k.val + 1 * (128 * i.val + (j 0).val) = _; omega)
  | ⟨1, _⟩ => exact Fin.ext (by rw [show (⟨1, _⟩ : Fin 2) = 1 from rfl, e1, o1]; show 0 + 1 * (256 * t.val + (j 1).val) = _; omega)

theorem wRect_sub (k : Fin k0_t1_loop.trips) (i : Fin 4) (t : Fin 8) :
    (b.access (wRect k i t)).set ⊆ (chunk b ⟨k.val, k.isLt⟩).view.set := by
  intro x hx
  obtain ⟨j, -, rfl⟩ := Finset.mem_map.mp hx
  obtain ⟨y, hy⟩ := wRect_chunk k i t j
  exact Finset.mem_map.mpr ⟨y, Finset.mem_univ _, congrArg b.view.emb hy⟩

theorem chunk_read (c : Dev nD) (src : Memref sig .tc .hbm S11264x2048 .i8) (fs : Buf (Elt F) (src.view.loc (c : Thread nD τ)))
    (fd : Buf (Elt F) (b.view.loc (c : Thread nD τ))) (k : Fin k0_t1_loop.trips) (i : Fin 4) (t : Fin 8) (j : S128x256.Idx) :
    b.view.read (Elt F) ((chunk b ⟨k.val, k.isLt⟩).view.write (Elt F) fd ((chunk src ⟨k.val, k.isLt⟩).view.read (Elt F) fs) Finset.univ) ((wRect k i t).emb j)
      = src.view.read (Elt F) fs ((wRect k i t).emb j) := by
  obtain ⟨y, hy⟩ := wRect_chunk k i t j
  rw [← hy]
  exact View.read_slice_write_emb (v := b.view) (cRect ⟨k.val, k.isLt⟩) fd _ (Finset.mem_univ y)

end split

end Cert.Kernel.Steps

end
-- ==== Proof.WordFront.lean ====
module

public import proofs.«01_k».proof.Proof.WordChunks

/-! # The whole kernel: what it leaves -/

@[expose] public section

set_option synthInstance.maxSize 4096

noncomputable section

namespace Cert.Kernel.Steps

open Cert.Kernel Cert.Kernel.Canon
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open K0.Facts₀ Shapes1.Facts₀ Shapes2.Facts₀
open Cert.Kernel.Gen (facts₀ k0_off6_inb k0_off1_inb k0_off3_inb k0_off2_inb)

variable {F : FTy → Type} [BitOps F] {α : Type}

local notation "𝕄" => MT nD τ sig Unit (Elt F) ℕ (Pipeline.UD sig nD τ) ℕ

theorem wp_done (c : Dev nD) (a : α) (Q : α → sProp 𝕄) : Q a ⊢ WP c (.ret a) Q := by
  unfold WP
  rw [wp_ret]
  iintro H
  imodintro
  iexact H

theorem stage_22 (A B : Fin 22 → sProp 𝕄) : stage A B (0 + 22) = bigSep Finset.univ B := stage_full A B

section
variable (c : Dev nD) (arg0 : Memref sig .tc .hbm S16x11264 .bf16) (harg0 : arg0.IsWhole) (arg1 : Memref sig .tc .hbm S11264x2048 .i8) (harg1 : arg1.IsWhole) (arg2 : Memref sig .tc .hbm S88x4096 .bf16) (harg2 : arg2.IsWhole) (arg3 : Memref sig .tc .hbm S11264x2048 .i8) (harg3 : arg3.IsWhole) (arg4 : Memref sig .tc .hbm S88x4096 .bf16) (harg4 : arg4.IsWhole) (arg5 : Memref sig .tc .vmem S16x4096 .bf16) (harg5 : arg5.IsWhole) (arg6 : Memref sig .tc .vmem S16x11264 .bf16) (harg6 : arg6.IsWhole) (arg7 : Memref sig .tc .vmem S11264x2048 .i8) (harg7 : arg7.IsWhole) (arg8 : Memref sig .tc .vmem S11264x2048 .i8) (harg8 : arg8.IsWhole) (arg9 : Memref sig .tc .vmem S88x4096 .bf16) (harg9 : arg9.IsWhole) (arg10 : Memref sig .tc .vmem S88x4096 .bf16) (harg10 : arg10.IsWhole) (arg11 : Memref sig .tc .vmem S2x44x2048 .i32) (harg11 : arg11.IsWhole) (arg12 : Memref sig .tc .vmem S2x44x2048 .i32) (harg12 : arg12.IsWhole) (arg13 : Memref sig .tc .vmem S88x32x256 .bf16) (harg13 : arg13.IsWhole) (arg14 : DmaSems sig S3) (arg15 : DmaSems sig S2x22)
  (f0 : Buf (Elt F) (arg0.view.loc (c : Thread nD τ))) (f1 : Buf (Elt F) (arg1.view.loc (c : Thread nD τ)))
  (f2 : Buf (Elt F) (arg2.view.loc (c : Thread nD τ))) (f3 : Buf (Elt F) (arg3.view.loc (c : Thread nD τ)))
  (f4 : Buf (Elt F) (arg4.view.loc (c : Thread nD τ))) (f6 : Buf (Elt F) (arg6.view.loc (c : Thread nD τ)))
  (f7 : Buf (Elt F) (arg7.view.loc (c : Thread nD τ))) (f8 : Buf (Elt F) (arg8.view.loc (c : Thread nD τ)))
  (f9 : Buf (Elt F) (arg9.view.loc (c : Thread nD τ))) (f10 : Buf (Elt F) (arg10.view.loc (c : Thread nD τ)))

theorem wp_wStarts (K : PR F α) (Q : α → sProp 𝕄) : ∀ (n k : ℕ) (h : k + n ≤ 22),
    iprop(stage (before c arg1 arg7 arg15 0 f1 f7) (during c arg1 arg7 arg15 0 f1 f7) k
      ∗ stage (before c arg3 arg8 arg15 1 f3 f8) (during c arg3 arg8 arg15 1 f3 f8) k)
    ⊢ iprop((iprop(stage (before c arg1 arg7 arg15 0 f1 f7) (during c arg1 arg7 arg15 0 f1 f7) (k + n)
        ∗ stage (before c arg3 arg8 arg15 1 f3 f8) (during c arg3 arg8 arg15 1 f3 f8) (k + n)) -∗ WP c K Q)
      -∗ WP c (wStarts arg1 harg1 arg3 harg3 arg7 harg7 arg8 harg8 arg15 n k h K) Q) := by
  intro n
  induction n with
  | zero => intro k h; iintro H Hk; iapply Hk; iexact H
  | succ n ih =>
    intro k h
    have hk : k < 22 := by omega
    unfold wStarts
    iintro ⟨H0, H1⟩ Hk
    ihave ⟨HA, HR⟩ := (stage_step (before c arg1 arg7 arg15 0 f1 f7) (during c arg1 arg7 arg15 0 f1 f7) ⟨k, hk⟩) $$ H0
    iapply (wp_wStart c arg1 harg1 arg7 harg7 arg15 0 f1 f7 ⟨k, hk⟩) $$ HA
    iintro HA
    ihave H0 := HR $$ HA
    ihave ⟨HA, HR⟩ := (stage_step (before c arg3 arg8 arg15 1 f3 f8) (during c arg3 arg8 arg15 1 f3 f8) ⟨k, hk⟩) $$ H1
    iapply (wp_wStart c arg3 harg3 arg8 harg8 arg15 1 f3 f8 ⟨k, hk⟩) $$ HA
    iintro HA
    ihave H1 := HR $$ HA
    iapply (ih (k + 1) _) $$ [H0 H1]
    · isplitl [H0]; · iexact H0
      iexact H1
    rw [show k + 1 + n = k + (n + 1) from by omega]
    iexact Hk

/-- Two buffers and a transfer's cell, before the transfer. -/
def small {s : Shape} {e : EltTy} (src : Memref sig .tc .hbm s e) (dst : Memref sig .tc .vmem s e) (sm : DmaSem sig)
    (fs : Buf (Elt F) (src.view.loc (c : Thread nD τ))) (fd : Buf (Elt F) (dst.view.loc (c : Thread nD τ))) : sProp 𝕄 :=
  iprop((src.view.loc (c : Thread nD τ) ↦[src.view.set]{fullShare} fs) ∗ (dst.view.loc (c : Thread nD τ) ↦[dst.view.set]{fullShare} fd) ∗ semVal ((c : Thread nD τ), .dma sm) 0)

/-- The data the loop reads. -/
def dataOf : Data F where
  w q := if q = 0 then arg1.view.read (Elt F) f1 else arg3.view.read (Elt F) f3
  s q := if q = 0 then sT (arg2.view.read (Elt F) f2) else sT (arg4.view.read (Elt F) f4)
  x := xT (arg0.view.read (Elt F) f0)

theorem wp_starts (K : PR F α) (Q : α → sProp 𝕄) :
    iprop(small c arg0 arg6 (semA arg14 0) f0 f6 ∗ small c arg2 arg9 (semA arg14 1) f2 f9 ∗ small c arg4 arg10 (semA arg14 2) f4 f10
      ∗ bigSep Finset.univ (before c arg1 arg7 arg15 0 f1 f7) ∗ bigSep Finset.univ (before c arg3 arg8 arg15 1 f3 f8))
    ⊢ iprop((iprop(flying c arg0 arg6 (semA arg14 0) f0 f6 ∗ flying c arg2 arg9 (semA arg14 1) f2 f9 ∗ flying c arg4 arg10 (semA arg14 2) f4 f10
      ∗ bigSep Finset.univ (during c arg1 arg7 arg15 0 f1 f7) ∗ bigSep Finset.univ (during c arg3 arg8 arg15 1 f3 f8)) -∗ WP c K Q)
      -∗ WP c (starts arg0 harg0 arg1 harg1 arg2 harg2 arg3 harg3 arg4 harg4 arg6 harg6 arg7 harg7 arg8 harg8 arg9 harg9 arg10 harg10 arg14 arg15 K) Q) := by
  have key := wp_wStarts c arg1 harg1 arg3 harg3 arg7 harg7 arg8 harg8 arg15 f1 f3 f7 f8 K Q 22 0 (by omega)
  rw [stage_zero, stage_zero, stage_22, stage_22] at key
  unfold starts small
  iintro ⟨HA, HB, HC, H0, H1⟩ Hk
  iapply (wp_start c arg0 arg6 (semA arg14 0) (by decide) f0 f6) $$ HA
  iintro HA
  iapply (wp_start c arg2 arg9 (semA arg14 1) (by decide) f2 f9) $$ HB
  iintro HB
  iapply (wp_start c arg4 arg10 (semA arg14 2) (by decide) f4 f10) $$ HC
  iintro HC
  iapply key $$ [H0 H1]
  · isplitl [H0]; · iexact H0
    iexact H1
  iintro ⟨H0, H1⟩
  iapply Hk
  isplitl [HA]; · iexact HA
  isplitl [HB]; · iexact HB
  isplitl [HC]; · iexact HC
  isplitl [H0]; · iexact H0
  iexact H1

/-- The same after it. -/
def copied {s : Shape} {e : EltTy} (src : Memref sig .tc .hbm s e) (dst : Memref sig .tc .vmem s e) (sm : DmaSem sig)
    (fs : Buf (Elt F) (src.view.loc (c : Thread nD τ))) (fd : Buf (Elt F) (dst.view.loc (c : Thread nD τ))) : sProp 𝕄 :=
  iprop(got c src dst fs fd ∗ semVal ((c : Thread nD τ), .dma sm) 0)

attribute [local irreducible] xGroups in
theorem wp_xGroups_of (c : Dev nD) (arg6 : Memref sig .tc .vmem S16x11264 .bf16) (arg13 : Memref sig .tc .vmem S88x32x256 .bf16) (harg13 : arg13.IsWhole)
    (f6 : Buf (Elt F) (arg6.view.loc (c : Thread nD τ))) (x : Vec F S16x11264 .bf16) (hx : arg6.view.read (Elt F) f6 = x) (K : PR F α) (Q : α → sProp 𝕄) :
    iprop((arg6.view.loc (c : Thread nD τ) ↦[arg6.view.set]{fullShare} f6) ∗ held c arg13 (fun i => (i 0).val < 0) (xT x))
    ⊢ iprop((iprop((arg6.view.loc (c : Thread nD τ) ↦[arg6.view.set]{fullShare} f6) ∗ held c arg13 (fun i => (i 0).val < 0 + 88) (xT x)) -∗ WP c K Q)
      -∗ WP c (xGroups arg6 arg13 harg13 88 0 (by omega) K) Q) := by
  subst hx
  exact wp_xGroups c arg6 arg13 harg13 f6 K Q 88 0 (by omega)

theorem wp_sCols_of (c : Dev nD) (src : Memref sig .tc .vmem S88x4096 .bf16) (dst : Memref sig .tc .vmem S2x44x2048 .i32) (hd : dst.IsWhole)
    (f : Buf (Elt F) (src.view.loc (c : Thread nD τ))) (s : Vec F S88x4096 .bf16) (hs : src.view.read (Elt F) f = s) (K : PR F α) (Q : α → sProp 𝕄) :
    iprop((src.view.loc (c : Thread nD τ) ↦[src.view.set]{fullShare} f) ∗ held c dst (fun i => (i 2).val / 128 < 0) (sT s))
    ⊢ iprop((iprop((src.view.loc (c : Thread nD τ) ↦[src.view.set]{fullShare} f) ∗ held c dst (fun i => (i 2).val / 128 < 0 + 16) (sT s)) -∗ WP c K Q)
      -∗ WP c (sCols src dst hd 16 0 (by omega) K) Q) := by
  subst hs
  exact wp_sCols c src dst hd f K Q 16 0 (by omega)

attribute [local irreducible] xGroups in
theorem wp_front (K : PR F α) (Q : α → sProp 𝕄) :
    iprop(small c arg0 arg6 (semA arg14 0) f0 f6 ∗ small c arg2 arg9 (semA arg14 1) f2 f9 ∗ small c arg4 arg10 (semA arg14 2) f4 f10
      ∗ bigSep Finset.univ (before c arg1 arg7 arg15 0 f1 f7) ∗ bigSep Finset.univ (before c arg3 arg8 arg15 1 f3 f8)
      ∗ held c arg11 (fun i => (i 2).val / 128 < 0) (sT (arg2.view.read (Elt F) f2)) ∗ held c arg12 (fun i => (i 2).val / 128 < 0) (sT (arg4.view.read (Elt F) f4))
      ∗ held c arg13 (fun i => (i 0).val < 0) (xT (arg0.view.read (Elt F) f0)) ∗ waited (F := F) c)
    ⊢ iprop((iprop(copied c arg0 arg6 (semA arg14 0) f0 f6 ∗ copied c arg2 arg9 (semA arg14 1) f2 f9 ∗ copied c arg4 arg10 (semA arg14 2) f4 f10
      ∗ bigSep Finset.univ (during c arg1 arg7 arg15 0 f1 f7) ∗ bigSep Finset.univ (during c arg3 arg8 arg15 1 f3 f8)
      ∗ held c arg11 (fun i => (i 2).val / 128 < 0 + 16) (sT (arg2.view.read (Elt F) f2)) ∗ held c arg12 (fun i => (i 2).val / 128 < 0 + 16) (sT (arg4.view.read (Elt F) f4))
      ∗ held c arg13 (fun i => (i 0).val < 0 + 88) (xT (arg0.view.read (Elt F) f0)) ∗ waited (F := F) c) -∗ WP c K Q)
      -∗ WP c (front arg0 harg0 arg1 harg1 arg2 harg2 arg3 harg3 arg4 harg4 arg6 harg6 arg7 harg7 arg8 harg8 arg9 harg9 arg10 harg10 arg11 harg11 arg12 harg12 arg13 harg13 arg14 arg15 K) Q) := by
  have e6 : arg6.view.read (Elt F) (arg6.view.write (Elt F) f6 (arg0.view.read (Elt F) f0) Finset.univ) = arg0.view.read (Elt F) f0 := View.read_write_univ _ _
  have e9 : arg9.view.read (Elt F) (arg9.view.write (Elt F) f9 (arg2.view.read (Elt F) f2) Finset.univ) = arg2.view.read (Elt F) f2 := View.read_write_univ _ _
  have e10 : arg10.view.read (Elt F) (arg10.view.write (Elt F) f10 (arg4.view.read (Elt F) f4) Finset.univ) = arg4.view.read (Elt F) f4 := View.read_write_univ _ _
  unfold front
  iintro ⟨HA, HB, HC, H0, H1, H11, H12, H13, HW⟩ Hk
  iapply (wp_starts c arg0 harg0 arg1 harg1 arg2 harg2 arg3 harg3 arg4 harg4 arg6 harg6 arg7 harg7 arg8 harg8 arg9 harg9 arg10 harg10 arg14 arg15 f0 f1 f2 f3 f4 f6 f7 f8 f9 f10) $$ [HA HB HC H0 H1]
  · isplitl [HA]; · iexact HA
    isplitl [HB]; · iexact HB
    isplitl [HC]; · iexact HC
    isplitl [H0]; · iexact H0
    iexact H1
  iintro ⟨HA, HB, HC, H0, H1⟩
  iapply (wp_wait c arg0 arg6 (semA arg14 0) f0 f6 arg0 arg6 rfl) $$ [HA HW]
  · isplitl [HA]; · iexact HA
    iexact HW
  unfold got
  iintro ⟨⟨H6, HA⟩, SA, HW⟩
  iapply (wp_xGroups_of c arg6 arg13 harg13 _ _ e6) $$ [H6 H13]
  · isplitl [H6]; · iexact H6
    iexact H13
  iintro ⟨H6, H13⟩
  unfold sWaits
  iapply (wp_wait c arg2 arg9 (semA arg14 1) f2 f9 arg2 arg9 rfl) $$ [HB HW]
  · isplitl [HB]; · iexact HB
    iexact HW
  unfold got
  iintro ⟨⟨H9, HB⟩, SB, HW⟩
  iapply (wp_wait c arg4 arg10 (semA arg14 2) f4 f10 arg4 arg10 rfl) $$ [HC HW]
  · isplitl [HC]; · iexact HC
    iexact HW
  unfold got
  iintro ⟨⟨H10, HC⟩, SC, HW⟩
  iapply (wp_sCols_of c arg9 arg11 harg11 _ _ e9) $$ [H9 H11]
  · isplitl [H9]; · iexact H9
    iexact H11
  iintro ⟨H9, H11⟩
  iapply (wp_sCols_of c arg10 arg12 harg12 _ _ e10) $$ [H10 H12]
  · isplitl [H10]; · iexact H10
    iexact H12
  iintro ⟨H10, H12⟩
  iapply Hk
  unfold copied got
  isplitl [H6 HA SA]
  · isplitl [H6 HA]
    · isplitl [H6]; · iexact H6
      iexact HA
    iexact SA
  isplitl [H9 HB SB]
  · isplitl [H9 HB]
    · isplitl [H9]; · iexact H9
      iexact HB
    iexact SB
  isplitl [H10 HC SC]
  · isplitl [H10 HC]
    · isplitl [H10]; · iexact H10
      iexact HC
    iexact SC
  isplitl [H0]; · iexact H0
  isplitl [H1]; · iexact H1
  isplitl [H11]; · iexact H11
  isplitl [H12]; · iexact H12
  isplitl [H13]; · iexact H13
  iexact HW

end

end Cert.Kernel.Steps

end
-- ==== Proof.WordLoop.lean ====
module

public import proofs.«01_k».proof.Proof.WordFront

/-! # The loop, and the whole kernel -/

@[expose] public section

set_option synthInstance.maxSize 4096

noncomputable section

namespace Cert.Kernel.Steps

open Cert.Kernel Cert.Kernel.Canon
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open K0.Facts₀ Shapes1.Facts₀ Shapes2.Facts₀
open Cert.Kernel.Gen (facts₀ k0_off6_inb k0_off1_inb k0_off3_inb k0_off2_inb)

variable {F : FTy → Type} [BitOps F] {α : Type}

local notation "𝕄" => MT nD τ sig Unit (Elt F) ℕ (Pipeline.UD sig nD τ) ℕ

section
variable (c : Dev nD) (arg0 : Memref sig .tc .hbm S16x11264 .bf16) (harg0 : arg0.IsWhole) (arg1 : Memref sig .tc .hbm S11264x2048 .i8) (harg1 : arg1.IsWhole) (arg2 : Memref sig .tc .hbm S88x4096 .bf16) (harg2 : arg2.IsWhole) (arg3 : Memref sig .tc .hbm S11264x2048 .i8) (harg3 : arg3.IsWhole) (arg4 : Memref sig .tc .hbm S88x4096 .bf16) (harg4 : arg4.IsWhole) (arg5 : Memref sig .tc .vmem S16x4096 .bf16) (harg5 : arg5.IsWhole) (arg6 : Memref sig .tc .vmem S16x11264 .bf16) (harg6 : arg6.IsWhole) (arg7 : Memref sig .tc .vmem S11264x2048 .i8) (harg7 : arg7.IsWhole) (arg8 : Memref sig .tc .vmem S11264x2048 .i8) (harg8 : arg8.IsWhole) (arg9 : Memref sig .tc .vmem S88x4096 .bf16) (harg9 : arg9.IsWhole) (arg10 : Memref sig .tc .vmem S88x4096 .bf16) (harg10 : arg10.IsWhole) (arg11 : Memref sig .tc .vmem S2x44x2048 .i32) (harg11 : arg11.IsWhole) (arg12 : Memref sig .tc .vmem S2x44x2048 .i32) (harg12 : arg12.IsWhole) (arg13 : Memref sig .tc .vmem S88x32x256 .bf16) (harg13 : arg13.IsWhole) (arg14 : DmaSems sig S3) (arg15 : DmaSems sig S2x22)
  (f0 : Buf (Elt F) (arg0.view.loc (c : Thread nD τ))) (f1 : Buf (Elt F) (arg1.view.loc (c : Thread nD τ)))
  (f2 : Buf (Elt F) (arg2.view.loc (c : Thread nD τ))) (f3 : Buf (Elt F) (arg3.view.loc (c : Thread nD τ)))
  (f4 : Buf (Elt F) (arg4.view.loc (c : Thread nD τ))) (f6 : Buf (Elt F) (arg6.view.loc (c : Thread nD τ)))
  (f7 : Buf (Elt F) (arg7.view.loc (c : Thread nD τ))) (f8 : Buf (Elt F) (arg8.view.loc (c : Thread nD τ)))
  (f9 : Buf (Elt F) (arg9.view.loc (c : Thread nD τ))) (f10 : Buf (Elt F) (arg10.view.loc (c : Thread nD τ)))

variable (g11 : Buf (Elt F) (arg11.view.loc (c : Thread nD τ))) (g12 : Buf (Elt F) (arg12.view.loc (c : Thread nD τ)))
  (g13 : Buf (Elt F) (arg13.view.loc (c : Thread nD τ)))

/-- What a trip of the loop keeps. -/
def loopInv (D : Data F) (K : ℕ) (a : BitVec 32 × Mxu F) : sProp 𝕄 :=
  iprop(⌜a.2 = loopM D K⌝ ∗ stage (during c arg1 arg7 arg15 0 f1 f7) (after c arg1 arg7 arg15 0 f1 f7) K
    ∗ stage (during c arg3 arg8 arg15 1 f3 f8) (after c arg3 arg8 arg15 1 f3 f8) K
    ∗ (arg11.view.loc (c : Thread nD τ) ↦[arg11.view.set]{fullShare} g11) ∗ (arg12.view.loc (c : Thread nD τ) ↦[arg12.view.set]{fullShare} g12)
    ∗ (arg13.view.loc (c : Thread nD τ) ↦[arg13.view.set]{fullShare} g13) ∗ waited (F := F) c)

variable (D : Data F) (hw0 : ∀ j, arg1.view.read (Elt F) f1 j = D.w 0 j) (hw1 : ∀ j, arg3.view.read (Elt F) f3 j = D.w 1 j)
  (h11 : ∀ j, arg11.view.read (Elt F) g11 j = D.s 0 j) (h12 : ∀ j, arg12.view.read (Elt F) g12 j = D.s 1 j)
  (h13 : ∀ j, arg13.view.read (Elt F) g13 j = D.x j)

include hw0 hw1 h11 h12 h13 in
theorem wp_trip (k : Fin k0_t1_loop.trips) (a : BitVec 32 × Mxu F) :
    loopInv c arg1 arg3 arg7 arg8 arg11 arg12 arg13 arg15 f1 f3 f7 f8 g11 g12 g13 D k.val a
    ⊢ WP c (trip arg1 harg1 arg3 harg3 arg7 harg7 arg8 harg8 arg11 arg12 arg13 arg15 k a)
      (loopInv c arg1 arg3 arg7 arg8 arg11 arg12 arg13 arg15 f1 f3 f7 f8 g11 g12 g13 D (k.val + 1)) := by
  have hM : groupsM D k 4 0 (by omega) (loopM D k.val) = loopM D (k.val + 1) := by
    show _ = dite _ _ _
    rw [dif_pos k.isLt]
  unfold loopInv trip
  iintro ⟨%ha, H0, H1, H11, H12, H13, HW⟩
  rw [ha]
  ihave ⟨HA, R0⟩ := (stage_step (during c arg1 arg7 arg15 0 f1 f7) (after c arg1 arg7 arg15 0 f1 f7) ⟨k.val, k.isLt⟩) $$ H0
  iapply (wp_wWait c arg1 harg1 arg7 harg7 arg15 0 f1 f7 (k0_off1 k) (Cert.Kernel.Gen.k0_off1_inb k) k (Cert.Kernel.Gen.k0_off1_eq k)) $$ [HA HW]
  · isplitl [HA]; · iexact HA
    iexact HW
  iintro ⟨A0, HW⟩
  ihave ⟨HA, R1⟩ := (stage_step (during c arg3 arg8 arg15 1 f3 f8) (after c arg3 arg8 arg15 1 f3 f8) ⟨k.val, k.isLt⟩) $$ H1
  iapply (wp_wWait c arg3 harg3 arg8 harg8 arg15 1 f3 f8 (k0_off3 k) (Cert.Kernel.Gen.k0_off3_inb k) k (Cert.Kernel.Gen.k0_off3_eq k)) $$ [HA HW]
  · isplitl [HA]; · iexact HA
    iexact HW
  iintro ⟨A1, HW⟩
  unfold after got
  icases A0 with ⟨⟨B7, S7⟩, V7⟩
  icases A1 with ⟨⟨B8, S8⟩, V8⟩
  iapply (wp_groups c arg7 arg8 arg11 arg12 arg13 D (chunk arg7 ⟨k.val, k.isLt⟩).view.set _ (chunk arg8 ⟨k.val, k.isLt⟩).view.set _ g11 g12 g13 k
    (wRect_sub arg7 k) (wRect_sub arg8 k)
    (fun i t j => (chunk_read arg7 c arg1 f1 f7 k i t j).trans (hw0 _)) (fun i t j => (chunk_read arg8 c arg3 f3 f8 k i t j).trans (hw1 _))
    h11 h12 h13 _ _ 4 0 _ _ (tidy_loopM D k.val)) $$ [B7 B8 H11 H12 H13]
  · unfold tileRes
    isplitl [B7]; · iexact B7
    isplitl [B8]; · iexact B8
    isplitl [H11]; · iexact H11
    isplitl [H12]; · iexact H12
    iexact H13
  unfold tileRes
  iintro ⟨B7, B8, H11, H12, H13⟩
  iapply wp_done
  isplitr
  · ipureintro; exact hM
  isplitl [B7 S7 V7 R0]
  · iapply R0
    isplitl [B7 S7]
    · isplitl [B7]; · iexact B7
      iexact S7
    iexact V7
  isplitl [B8 S8 V8 R1]
  · iapply R1
    isplitl [B8 S8]
    · isplitl [B8]; · iexact B8
      iexact S8
    iexact V8
  isplitl [H11]; · iexact H11
  isplitl [H12]; · iexact H12
  isplitl [H13]; · iexact H13
  iexact HW

attribute [local irreducible] trip loopInv pops in
include hw0 hw1 h11 h12 h13 in
theorem wp_loop (K : BitVec 32 × Mxu F → PR F α) (Q : α → sProp 𝕄) :
    iprop(bigSep Finset.univ (during c arg1 arg7 arg15 0 f1 f7) ∗ bigSep Finset.univ (during c arg3 arg8 arg15 1 f3 f8)
      ∗ (arg11.view.loc (c : Thread nD τ) ↦[arg11.view.set]{fullShare} g11) ∗ (arg12.view.loc (c : Thread nD τ) ↦[arg12.view.set]{fullShare} g12)
      ∗ (arg13.view.loc (c : Thread nD τ) ↦[arg13.view.set]{fullShare} g13) ∗ waited (F := F) c)
    ⊢ iprop((∀ a, iprop(⌜a.2 = loopM D 22⌝ ∗ bigSep Finset.univ (after c arg1 arg7 arg15 0 f1 f7) ∗ bigSep Finset.univ (after c arg3 arg8 arg15 1 f3 f8)
      ∗ (arg11.view.loc (c : Thread nD τ) ↦[arg11.view.set]{fullShare} g11) ∗ (arg12.view.loc (c : Thread nD τ) ↦[arg12.view.set]{fullShare} g12)
      ∗ (arg13.view.loc (c : Thread nD τ) ↦[arg13.view.set]{fullShare} g13) ∗ waited (F := F) c) -∗ WP c (K a) Q)
      -∗ WP c (loop arg1 harg1 arg3 harg3 arg7 harg7 arg8 harg8 arg11 arg12 arg13 arg15 >>= K) Q) := by
  have key := Scf.wp_for_bind frame (wpE (defs₀ (F := F)) Variants.none (c : Thread nD τ) none) Set.univ k0_t1_loop.lb k0_t1_loop.ub k0_t1_loop.st k0_t1_ok
    (0#32, pops 1 8 0 (by omega) (pops 0 8 0 (by omega) Mxu.init)) (trip arg1 harg1 arg3 harg3 arg7 harg7 arg8 harg8 arg11 arg12 arg13 arg15)
    (loopInv c arg1 arg3 arg7 arg8 arg11 arg12 arg13 arg15 f1 f3 f7 f8 g11 g12 g13 D)
    (wp_trip c arg1 harg1 arg3 harg3 arg7 harg7 arg8 harg8 arg11 arg12 arg13 arg15 f1 f3 f7 f8 g11 g12 g13 D hw0 hw1 h11 h12 h13) (kk := K) (Q := Q)
  unfold loop
  iintro ⟨H0, H1, H11, H12, H13, HW⟩ Hk
  iapply key $$ [H0 H1 H11 H12 H13 HW]
  · unfold loopInv
    rw [stage_zero, stage_zero]
    isplitr; · ipureintro; rfl
    isplitl [H0]; · iexact H0
    isplitl [H1]; · iexact H1
    isplitl [H11]; · iexact H11
    isplitl [H12]; · iexact H12
    isplitl [H13]; · iexact H13
    iexact HW
  iintro %a HI
  iapply Hk
  unfold loopInv
  icases HI with ⟨%ha, H0, H1, HR⟩
  isplitr; · ipureintro; exact ha
  isplitl [H0]
  · rw [← stage_full (during c arg1 arg7 arg15 0 f1 f7) (after c arg1 arg7 arg15 0 f1 f7)]; iexact H0
  isplitl [H1]
  · rw [← stage_full (during c arg3 arg8 arg15 1 f3 f8) (after c arg3 arg8 arg15 1 f3 f8)]; iexact H1
  iexact HR

end

end Cert.Kernel.Steps

end
-- ==== Proof.WordWhole.lean ====
module

public import proofs.«01_k».proof.Proof.WordLoop

/-! # The whole kernel -/

@[expose] public section

set_option synthInstance.maxSize 4096

noncomputable section

namespace Cert.Kernel.Steps

open Cert.Kernel Cert.Kernel.Canon
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open K0.Facts₀ Shapes1.Facts₀ Shapes2.Facts₀
open Cert.Kernel.Gen (facts₀ k0_off6_inb k0_off1_inb k0_off3_inb k0_off2_inb)

variable {F : FTy → Type} [BitOps F] {α : Type}

local notation "𝕄" => MT nD τ sig Unit (Elt F) ℕ (Pipeline.UD sig nD τ) ℕ

section
variable (c : Dev nD) (arg0 : Memref sig .tc .hbm S16x11264 .bf16) (harg0 : arg0.IsWhole) (arg1 : Memref sig .tc .hbm S11264x2048 .i8) (harg1 : arg1.IsWhole) (arg2 : Memref sig .tc .hbm S88x4096 .bf16) (harg2 : arg2.IsWhole) (arg3 : Memref sig .tc .hbm S11264x2048 .i8) (harg3 : arg3.IsWhole) (arg4 : Memref sig .tc .hbm S88x4096 .bf16) (harg4 : arg4.IsWhole) (arg5 : Memref sig .tc .vmem S16x4096 .bf16) (harg5 : arg5.IsWhole) (arg6 : Memref sig .tc .vmem S16x11264 .bf16) (harg6 : arg6.IsWhole) (arg7 : Memref sig .tc .vmem S11264x2048 .i8) (harg7 : arg7.IsWhole) (arg8 : Memref sig .tc .vmem S11264x2048 .i8) (harg8 : arg8.IsWhole) (arg9 : Memref sig .tc .vmem S88x4096 .bf16) (harg9 : arg9.IsWhole) (arg10 : Memref sig .tc .vmem S88x4096 .bf16) (harg10 : arg10.IsWhole) (arg11 : Memref sig .tc .vmem S2x44x2048 .i32) (harg11 : arg11.IsWhole) (arg12 : Memref sig .tc .vmem S2x44x2048 .i32) (harg12 : arg12.IsWhole) (arg13 : Memref sig .tc .vmem S88x32x256 .bf16) (harg13 : arg13.IsWhole) (arg14 : DmaSems sig S3) (arg15 : DmaSems sig S2x22)
  (f0 : Buf (Elt F) (arg0.view.loc (c : Thread nD τ))) (f1 : Buf (Elt F) (arg1.view.loc (c : Thread nD τ)))
  (f2 : Buf (Elt F) (arg2.view.loc (c : Thread nD τ))) (f3 : Buf (Elt F) (arg3.view.loc (c : Thread nD τ)))
  (f4 : Buf (Elt F) (arg4.view.loc (c : Thread nD τ))) (f6 : Buf (Elt F) (arg6.view.loc (c : Thread nD τ)))
  (f7 : Buf (Elt F) (arg7.view.loc (c : Thread nD τ))) (f8 : Buf (Elt F) (arg8.view.loc (c : Thread nD τ)))
  (f9 : Buf (Elt F) (arg9.view.loc (c : Thread nD τ))) (f10 : Buf (Elt F) (arg10.view.loc (c : Thread nD τ)))

section chunks
variable {sp : Space} (b : Memref sig .tc sp S11264x2048 .i8)

/-- A chunk's elements, among the buffer's. -/
def cSet (c : Dev nD) (k : Fin 22) : Finset (Idx (b.view.loc (c : Thread nD τ))) := (chunk b k).view.set

theorem cSet_disjoint (c : Dev nD) (k k' : Fin 22) (h : k ≠ k') : Disjoint (cSet b c k) (cSet b c k') := chunk_disjoint b k k' h

theorem cSet_union (c : Dev nD) (hb : b.IsWhole) : Finset.univ.biUnion (cSet b c) = Finset.univ := by
  rw [Finset.eq_univ_iff_forall]
  intro i
  have hi : i ∈ b.view.set := by rw [hb.set_eq_univ]; exact Finset.mem_univ i
  obtain ⟨x, -, rfl⟩ := Finset.mem_map.mp hi
  obtain ⟨k, y, rfl⟩ := chunk_cover x
  exact Finset.mem_biUnion.mpr ⟨k, Finset.mem_univ _, Finset.mem_map.mpr ⟨y, Finset.mem_univ _, rfl⟩⟩

/-- A whole buffer is its 22 chunks. -/
theorem chunks_split (c : Dev nD) (hb : b.IsWhole) (f : Buf (Elt F) (b.view.loc (c : Thread nD τ))) :
    (b.view.loc (c : Thread nD τ) ↦[b.view.set]{fullShare} f : sProp 𝕄)
    = bigSep Finset.univ fun k : Fin 22 => (b.view.loc (c : Thread nD τ) ↦[cSet b c k]{fullShare} f : sProp 𝕄) := by
  rw [hb.set_eq_univ]
  exact Ring.pointsTo_blocks (cSet b c) (cSet_disjoint b c) (cSet_union b c hb) f

theorem chunks_join (c : Dev nD) (hb : b.IsWhole) (fs : Fin 22 → Buf (Elt F) (b.view.loc (c : Thread nD τ))) (f : Buf (Elt F) (b.view.loc (c : Thread nD τ))) :
    (bigSep Finset.univ fun k : Fin 22 => (b.view.loc (c : Thread nD τ) ↦[cSet b c k]{fullShare} fs k : sProp 𝕄))
    ⊢ iprop(∃ g, b.view.loc (c : Thread nD τ) ↦[b.view.set]{fullShare} g) := by
  rw [hb.set_eq_univ]
  exact Ring.pointsTo_blocks_join (cSet b c) (cSet_disjoint b c) (cSet_union b c hb) fs f
end chunks

section wide
variable (c : Dev nD) (src : Memref sig .tc .hbm S11264x2048 .i8) (hs : src.IsWhole) (dst : Memref sig .tc .vmem S11264x2048 .i8) (hd : dst.IsWhole)
  (arg15 : DmaSems sig S2x22) (m : Fin 2) (fs : Buf (Elt F) (src.view.loc (c : Thread nD τ))) (fd : Buf (Elt F) (dst.view.loc (c : Thread nD τ)))

/-- A semaphore of a chunk, at rest. -/
def rest (k : Fin 22) : sProp 𝕄 := semVal ((c : Thread nD τ), .dma (semW arg15 m k)) 0

/-- A weight matrix and the buffer it is copied to, with the semaphores of its chunks. -/
def wide : sProp 𝕄 :=
  iprop((src.view.loc (c : Thread nD τ) ↦[src.view.set]{fullShare} fs) ∗ (dst.view.loc (c : Thread nD τ) ↦[dst.view.set]{fullShare} fd)
    ∗ bigSep Finset.univ (rest c arg15 m))

/-- What a chunk's transfer delivers, at the buffer it lands in. -/
def landed (k : Fin 22) : Buf (Elt F) (dst.view.loc (c : Thread nD τ)) :=
  (chunk dst k).view.write (Elt F) fd ((chunk src k).view.read (Elt F) fs) Finset.univ

theorem before_eq : (bigSep Finset.univ (before c src dst arg15 m fs fd) : sProp 𝕄)
    = iprop((bigSep Finset.univ fun k : Fin 22 => (src.view.loc (c : Thread nD τ) ↦[cSet src c k]{fullShare} fs : sProp 𝕄))
      ∗ (bigSep Finset.univ fun k : Fin 22 => (dst.view.loc (c : Thread nD τ) ↦[cSet dst c k]{fullShare} fd : sProp 𝕄))
      ∗ bigSep Finset.univ (rest c arg15 m)) := by
  rw [← bigSep_sep', ← bigSep_sep']
  rfl

theorem after_eq : (bigSep Finset.univ (after c src dst arg15 m fs fd) : sProp 𝕄)
    = iprop(((bigSep Finset.univ fun k : Fin 22 => (dst.view.loc (c : Thread nD τ) ↦[cSet dst c k]{fullShare} (landed c src dst fs fd k) : sProp 𝕄))
      ∗ (bigSep Finset.univ fun k : Fin 22 => (src.view.loc (c : Thread nD τ) ↦[cSet src c k]{fullShare} fs : sProp 𝕄)))
      ∗ bigSep Finset.univ (rest c arg15 m)) := by
  rw [← bigSep_sep', ← bigSep_sep']
  rfl

include hs hd in
theorem wide_before : wide c src dst arg15 m fs fd ⊢ (bigSep Finset.univ (before c src dst arg15 m fs fd) : sProp 𝕄) := by
  rw [before_eq, ← chunks_split src c hs, ← chunks_split dst c hd]
  exact .rfl

include hs hd in
theorem after_wide : (bigSep Finset.univ (after c src dst arg15 m fs fd) : sProp 𝕄) ⊢ iprop(∃ g, wide c src dst arg15 m fs g) := by
  rw [after_eq, ← chunks_split src c hs]
  unfold wide
  iintro ⟨⟨HD, HS⟩, HV⟩
  ihave HG := (chunks_join dst c hd (landed c src dst fs fd) fd) $$ HD
  icases HG with ⟨%g, HG⟩
  iexists g
  isplitl [HS]; · iexact HS
  isplitl [HG]; · iexact HG
  iexact HV
end wide

/-- A buffer at some contents. -/
def some_ (c : Dev nD) {s : Shape} {e : EltTy} (m : Memref sig .tc .vmem s e) : sProp 𝕄 :=
  iprop(∃ f, m.view.loc (c : Thread nD τ) ↦[m.view.set]{fullShare} f)

theorem some_held (c : Dev nD) {s : Shape} {e : EltTy} (m : Memref sig .tc .vmem s e) (D : s.Idx → Prop) (hD : ∀ i, ¬ D i) (T : s.Idx → Elt F e) :
    some_ c m ⊢ (held c m D T : sProp 𝕄) := by
  unfold some_ held
  iintro ⟨%f, H⟩
  iexists f
  isplitr
  · ipureintro; exact fun i hi => absurd hi (hD i)
  iexact H

theorem held_some (c : Dev nD) {s : Shape} {e : EltTy} (m : Memref sig .tc .vmem s e) (D : s.Idx → Prop) (hD : ∀ i, D i) (T : s.Idx → Elt F e) :
    (held c m D T : sProp 𝕄) ⊢ iprop(∃ f, ⌜∀ i, m.view.read (Elt F) f i = T i⌝ ∗ (m.view.loc (c : Thread nD τ) ↦[m.view.set]{fullShare} f)) := by
  unfold held
  iintro ⟨%f, %h, H⟩
  iexists f
  isplitr
  · ipureintro; exact fun i => h i (hD i)
  iexact H

/-- What the kernel's result holds. -/
def outT (D : Data F) : Vec F S16x4096 .bf16 := oT (yOf (loopM D 22))

attribute [local irreducible] loopM front loop oTiles in
include harg1 harg3 harg7 harg8 in
/-- The kernel runs: its inputs stay, its result is what `outT` says. -/
theorem wp_prog (Q : PUnit → sProp 𝕄) :
    iprop(small c arg0 arg6 (semA arg14 0) f0 f6 ∗ small c arg2 arg9 (semA arg14 1) f2 f9 ∗ small c arg4 arg10 (semA arg14 2) f4 f10
      ∗ wide c arg1 arg7 arg15 0 f1 f7 ∗ wide c arg3 arg8 arg15 1 f3 f8 ∗ some_ c arg5 ∗ some_ c arg11 ∗ some_ c arg12 ∗ some_ c arg13 ∗ waited (F := F) c)
    ⊢ iprop((iprop(copied c arg0 arg6 (semA arg14 0) f0 f6 ∗ copied c arg2 arg9 (semA arg14 1) f2 f9 ∗ copied c arg4 arg10 (semA arg14 2) f4 f10
      ∗ (∃ g, wide c arg1 arg7 arg15 0 f1 g) ∗ (∃ g, wide c arg3 arg8 arg15 1 f3 g)
      ∗ (∃ f, ⌜∀ i, arg5.view.read (Elt F) f i = outT (dataOf c arg0 arg1 arg2 arg3 arg4 f0 f1 f2 f3 f4) i⌝ ∗ (arg5.view.loc (c : Thread nD τ) ↦[arg5.view.set]{fullShare} f))
      ∗ some_ c arg11 ∗ some_ c arg12 ∗ some_ c arg13 ∗ waited (F := F) c) -∗ Q ⟨⟩)
      -∗ WP c (prog arg0 harg0 arg1 harg1 arg2 harg2 arg3 harg3 arg4 harg4 arg5 harg5 arg6 harg6 arg7 harg7 arg8 harg8 arg9 harg9 arg10 harg10 arg11 harg11 arg12 harg12 arg13 harg13 arg14 arg15) Q) := by
  unfold prog
  iintro ⟨HA, HB, HC, H0, H1, H5, H11, H12, H13, HW⟩ Hk
  ihave H0 := (wide_before c arg1 harg1 arg7 harg7 arg15 0 f1 f7) $$ H0
  ihave H1 := (wide_before c arg3 harg3 arg8 harg8 arg15 1 f3 f8) $$ H1
  ihave H11 := (some_held c arg11 (fun i => (i 2).val / 128 < 0) (fun i => Nat.not_lt_zero _) (sT (arg2.view.read (Elt F) f2))) $$ H11
  ihave H12 := (some_held c arg12 (fun i => (i 2).val / 128 < 0) (fun i => Nat.not_lt_zero _) (sT (arg4.view.read (Elt F) f4))) $$ H12
  ihave H13 := (some_held c arg13 (fun i => (i 0).val < 0) (fun i => Nat.not_lt_zero _) (xT (arg0.view.read (Elt F) f0))) $$ H13
  iapply (wp_front c arg0 harg0 arg1 harg1 arg2 harg2 arg3 harg3 arg4 harg4 arg6 harg6 arg7 harg7 arg8 harg8 arg9 harg9 arg10 harg10 arg11 harg11 arg12 harg12 arg13 harg13 arg14 arg15 f0 f1 f2 f3 f4 f6 f7 f8 f9 f10) $$ [HA HB HC H0 H1 H11 H12 H13 HW]
  · isplitl [HA]; · iexact HA
    isplitl [HB]; · iexact HB
    isplitl [HC]; · iexact HC
    isplitl [H0]; · iexact H0
    isplitl [H1]; · iexact H1
    isplitl [H11]; · iexact H11
    isplitl [H12]; · iexact H12
    isplitl [H13]; · iexact H13
    iexact HW
  iintro ⟨HA, HB, HC, H0, H1, H11, H12, H13, HW⟩
  ihave H11 := (held_some c arg11 (fun i => (i 2).val / 128 < 0 + 16) (fun i => by have h : (i 2).val < 2048 := (i 2).isLt; show (i 2).val / 128 < 0 + 16; omega) (sT (arg2.view.read (Elt F) f2))) $$ H11
  ihave H12 := (held_some c arg12 (fun i => (i 2).val / 128 < 0 + 16) (fun i => by have h : (i 2).val < 2048 := (i 2).isLt; show (i 2).val / 128 < 0 + 16; omega) (sT (arg4.view.read (Elt F) f4))) $$ H12
  ihave H13 := (held_some c arg13 (fun i => (i 0).val < 0 + 88) (fun i => by have h : (i 0).val < 88 := (i 0).isLt; show (i 0).val < 0 + 88; omega) (xT (arg0.view.read (Elt F) f0))) $$ H13
  icases H11 with ⟨%g11, %h11, H11⟩
  icases H12 with ⟨%g12, %h12, H12⟩
  icases H13 with ⟨%g13, %h13, H13⟩
  iapply (wp_loop c arg1 harg1 arg3 harg3 arg7 harg7 arg8 harg8 arg11 arg12 arg13 arg15 f1 f3 f7 f8 g11 g12 g13 (dataOf c arg0 arg1 arg2 arg3 arg4 f0 f1 f2 f3 f4)
    (fun _ => rfl) (fun _ => rfl) h11 h12 h13) $$ [H0 H1 H11 H12 H13 HW]
  · isplitl [H0]; · iexact H0
    isplitl [H1]; · iexact H1
    isplitl [H11]; · iexact H11
    isplitl [H12]; · iexact H12
    isplitl [H13]; · iexact H13
    iexact HW
  iintro %a ⟨%ha, H0, H1, H11, H12, H13, HW⟩
  rw [ha]
  ihave H5 := (some_held c arg5 (fun i => (i 1).val / 128 < 4 * 0) (fun i => Nat.not_lt_zero _) (outT (dataOf c arg0 arg1 arg2 arg3 arg4 f0 f1 f2 f3 f4))) $$ H5
  iapply (wp_oTiles c arg5 harg5 (loopM (dataOf c arg0 arg1 arg2 arg3 arg4 f0 f1 f2 f3 f4) 22) (fun M => M.exit >>= fun _ => .ret ⟨⟩) Q 8 0 (by omega)) $$ [H5]
  · iexact H5
  iintro H5
  iapply (Mxu.wp_exit (c := (c : Thread nD τ)) (outM_drained (tidy_loopM (dataOf c arg0 arg1 arg2 arg3 arg4 f0 f1 f2 f3 f4) 22)))
  iapply wp_done
  iapply Hk
  isplitl [HA]; · iexact HA
  isplitl [HB]; · iexact HB
  isplitl [HC]; · iexact HC
  isplitl [H0]; · iapply (after_wide c arg1 harg1 arg7 harg7 arg15 0 f1 f7); iexact H0
  isplitl [H1]; · iapply (after_wide c arg3 harg3 arg8 harg8 arg15 1 f3 f8); iexact H1
  isplitl [H5]
  · iapply (held_some c arg5 (fun i => (i 1).val / 128 < 4 * (0 + 8)) (fun i => by have h : (i 1).val < 4096 := (i 1).isLt; show (i 1).val / 128 < 4 * (0 + 8); omega) (outT (dataOf c arg0 arg1 arg2 arg3 arg4 f0 f1 f2 f3 f4)))
    iexact H5
  unfold some_
  isplitl [H11]; · iexists g11; iexact H11
  isplitl [H12]; · iexists g12; iexact H12
  isplitl [H13]; · iexists g13; iexact H13
  iexact HW

end

end Cert.Kernel.Steps

end
-- ==== Proof.WordRun.lean ====
module

public import proofs.«01_k».proof.Proof.WordWhole
public import proofs.«01_k».proof.Proof.Gen.Kernel.Launch
public import proofs.«01_k».proof.Proof.Gen.Kernel.Points
public import proofs.«01_k».proof.Proof.Gen.Kernel.Frame
public import Idealize.ShloMosaic.Lib.Pipeline.FrameBody
public import Idealize.ShloMosaic.Lib.Pipeline.FrameSuffix
public import Idealize.ShloMosaic.Lib.Ring
public import Idealize.ShloMosaic.Lib.Tactic

/-! # The program around the kernel: it runs, its arguments stay, and what it leaves in its result -/

@[expose] public section

set_option synthInstance.maxSize 4096
set_option maxRecDepth 16384

noncomputable section

namespace Cert.Kernel.Run

open Cert.Kernel Cert.Kernel.Gen Cert.Kernel.Canon Cert.Kernel.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)

/-! ## @main around the region -/

theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The buffers the kernel's own copies read. -/
def H0 : Finset (Ref sig .tc) := {main_v0, main_arg1, main_arg2, main_arg3, main_arg4}
theorem H0_sub : H0 ⊆ Pipeline.restRefs sig spec0 := by decide

/-- The kernel's semaphores: 22 for each weight matrix, three for the activations and the scales. -/
def osem0 : (Fin 22 ⊕ Fin 22) ⊕ Fin 3 → SemLoc sig
  | Sum.inl (Sum.inl k) => SemLoc.dma (semW cc0_scratch9 0 k)
  | Sum.inl (Sum.inr k) => SemLoc.dma (semW cc0_scratch9 1 k)
  | Sum.inr j => SemLoc.dma (semA cc0_scratch8 j)

theorem ownSemFacts0 : Pipeline.OwnSemFacts spec0 osem0 := by decide

theorem ownSems0_eq (c : Dev nD) :
    (Pipeline.ownSems0 (Ix := Unit) (Name := ℕ) (U := Pipeline.UD sig nD τ) (Lvl := ℕ) (Val := Elt F) (τ := τ) osem0 c : sProp 𝕄)
      = iprop((bigSep Finset.univ (rest c cc0_scratch9 0) ∗ bigSep Finset.univ (rest c cc0_scratch9 1))
        ∗ semVal ((c : Thread nD τ), SemLoc.dma (semA cc0_scratch8 0)) 0 ∗ semVal ((c : Thread nD τ), SemLoc.dma (semA cc0_scratch8 1)) 0
        ∗ semVal ((c : Thread nD τ), SemLoc.dma (semA cc0_scratch8 2)) 0) := by
  unfold Pipeline.ownSems0
  rw [BI.bigSep_univ_sum, BI.bigSep_univ_sum, Ring.bigSep_fin3]
  rfl

abbrev pt (c : Dev nD) (b : Ref sig .tc) (f : Buf (Elt F) ((c : Thread nD τ).loc b)) : sProp 𝕄 := ((c : Thread nD τ).loc b) ↦{fullShare} f

theorem hbmPts0_eq (c : Dev nD) :
    (bigSep H0 (fun b => ((c : Thread nD τ).loc b) ↦{fullShare} V m c b) : sProp 𝕄)
      = iprop(pt c main_v0 (V m c main_v0) ∗ pt c main_arg1 (V m c main_arg1) ∗ pt c main_arg2 (V m c main_arg2)
          ∗ pt c main_arg3 (V m c main_arg3) ∗ pt c main_arg4 (V m c main_arg4)) := by
  rw [BI.bigSep_eq_bigSepL_of_eq [main_v0, main_arg1, main_arg2, main_arg3, main_arg4] (by decide) (by decide)]; rfl

theorem PhiD0_eq (c : Dev nD) :
    (Pipeline.ΦD osem0 spec0 H0 (V m) c : sProp 𝕄)
      = iprop(iprop((∃ f, pt c cc0_scratch0 f) ∗ (∃ f, pt c cc0_scratch1 f) ∗ (∃ f, pt c cc0_scratch2 f) ∗ (∃ f, pt c cc0_scratch3 f)
            ∗ (∃ f, pt c cc0_scratch4 f) ∗ (∃ f, pt c cc0_scratch5 f) ∗ (∃ f, pt c cc0_scratch6 f) ∗ (∃ f, pt c cc0_scratch7 f))
          ∗ (∃ r, prngReg c r)
          ∗ iprop((bigSep Finset.univ (rest c cc0_scratch9 0) ∗ bigSep Finset.univ (rest c cc0_scratch9 1))
        ∗ semVal ((c : Thread nD τ), SemLoc.dma (semA cc0_scratch8 0)) 0 ∗ semVal ((c : Thread nD τ), SemLoc.dma (semA cc0_scratch8 1)) 0
        ∗ semVal ((c : Thread nD τ), SemLoc.dma (semA cc0_scratch8 2)) 0)
          ∗ iprop(pt c main_v0 (V m c main_v0) ∗ pt c main_arg1 (V m c main_arg1) ∗ pt c main_arg2 (V m c main_arg2)
          ∗ pt c main_arg3 (V m c main_arg3) ∗ pt c main_arg4 (V m c main_arg4))) := by
  rw [Pipeline.ΦD_eq, scopedRest0_eq, ownSems0_eq, hbmPts0_eq]

/-- What the loop reads, from memory at the region's entry. -/
def dataAt (c : Dev nD) : Data F :=
  dataOf c (Memref.whole main_v0) (Memref.whole main_arg1) (Memref.whole main_arg2) (Memref.whole main_arg3) (Memref.whole main_arg4)
    (V m c main_v0) (V m c main_arg1) (V m c main_arg2) (V m c main_arg3) (V m c main_arg4)

def dats (_ : Fin 1) (c : Dev nD) : Dat τ (Elt F) Unit ℕ (Pipeline.UD sig nD τ) ℕ cfg0 c where
  A w := V m c (Pipeline.arrRef spec0 w)
  after w t := match w with
    | ⟨0, _⟩ => outT (dataAt m c)
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = outT (dataAt m c) := by dsimp only [dats]

abbrev ms0_0 (t : Fin cfg0.N) : Memref sig .tc .vmem S16x4096 .bf16 := win0_0.stage (cfg0.slots t 0)
abbrev hs0_0 (t : Fin cfg0.N) : (ms0_0 t).IsWhole := hstage0_0 0

/-- A whole buffer, as the kernel's steps hold it. -/
theorem pt_whole (c : Dev nD) (b : Ref sig .tc) (f : Buf (Elt F) ((c : Thread nD τ).loc b)) :
    (((Memref.whole b).view.loc (c : Thread nD τ)) ↦[(Memref.whole b).view.set]{fullShare} f : sProp 𝕄) = pt c b f := by
  rw [(Memref.isWhole_whole b).set_eq_univ]

theorem some_whole (c : Dev nD) {s : Shape} {e : EltTy} (mm : Memref sig .tc .vmem s e) (h : mm.IsWhole) :
    (some_ c mm : sProp 𝕄) = iprop(∃ f, (mm.view.loc (c : Thread nD τ)) ↦{fullShare} f) := by
  unfold some_; rw [h.set_eq_univ]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t))

attribute [local irreducible] prog outT in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [cc0_eq]
  rw [show (dats m 0 c).Φ t.succ = (dats m 0 c).Φ t.castSucc from rfl, after0_0]
  rw [show (dats m 0 c).Φ t.castSucc = Pipeline.ΦD osem0 spec0 H0 (V m) c from rfl, PhiD0_eq]
  simp only [← pt_whole]
  unfold Dat.owesAt Pipeline.owesWithin owns
  rw [show (dats m 0 c).owed t.castSucc = 0 from rfl, show (dats m 0 c).owed t.succ = 0 from rfl]
  iintro ⟨⟨⟨⟨%f6, H6⟩, ⟨%f7, H7⟩, ⟨%f8, H8⟩, ⟨%f9, H9⟩, ⟨%f10, H10⟩, H11, H12, H13⟩, Hg, ⟨⟨HV0, HV1⟩, HA, HB, HC⟩, ⟨G0, G1, G2, G3, G4⟩⟩, ⟨%W, -, HW⟩, ⟨%d0, %f5, -, H5⟩⟩
  iapply (wp_prog c (Memref.whole main_v0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (ms0_0 t) (hstage0_0 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9
    (V m c main_v0) (V m c main_arg1) (V m c main_arg2) (V m c main_arg3) (V m c main_arg4) f6 f7 f8 f9 f10) $$ [H6 H7 H8 H9 H10 H11 H12 H13 HV0 HV1 HA HB HC G0 G1 G2 G3 G4 HW H5]
  · unfold small wide some_ waited
    isplitl [G0 H6 HA]
    · isplitl [G0]; · iexact G0
      isplitl [H6]; · iexact H6
      iexact HA
    isplitl [G2 H9 HB]
    · isplitl [G2]; · iexact G2
      isplitl [H9]; · iexact H9
      iexact HB
    isplitl [G4 H10 HC]
    · isplitl [G4]; · iexact G4
      isplitl [H10]; · iexact H10
      iexact HC
    isplitl [G1 H7 HV0]
    · isplitl [G1]; · iexact G1
      isplitl [H7]; · iexact H7
      iexact HV0
    isplitl [G3 H8 HV1]
    · isplitl [G3]; · iexact G3
      isplitl [H8]; · iexact H8
      iexact HV1
    isplitl [H5]; · iexists f5; iexact H5
    isplitl [H11]; · iexact H11
    isplitl [H12]; · iexact H12
    isplitl [H13]; · iexact H13
    iexists W; iexact HW
  unfold copied got wide some_ waited
  iintro ⟨⟨⟨H6, G0⟩, HA⟩, ⟨⟨H9, G2⟩, HB⟩, ⟨⟨H10, G4⟩, HC⟩, ⟨%g7, G1, H7, HV0⟩, ⟨%g8, G3, H8, HV1⟩, ⟨%f5', %h5, H5⟩, H11, H12, H13, ⟨%W', HW'⟩⟩
  isplitl [H6 H7 H8 H9 H10 H11 H12 H13 Hg HV0 HV1 HA HB HC G0 G1 G2 G3 G4]
  · isplitl [H6 H7 H8 H9 H10 H11 H12 H13]
    · isplitl [H6]; · iexists _; iexact H6
      isplitl [H7]; · iexists _; iexact H7
      isplitl [H8]; · iexists _; iexact H8
      isplitl [H9]; · iexists _; iexact H9
      isplitl [H10]; · iexists _; iexact H10
      isplitl [H11]; · iexact H11
      isplitl [H12]; · iexact H12
      iexact H13
    isplitl [Hg]; · iexact Hg
    isplitl [HV0 HV1 HA HB HC]
    · isplitl [HV0 HV1]
      · isplitl [HV0]; · iexact HV0
        iexact HV1
      isplitl [HA]; · iexact HA
      isplitl [HB]; · iexact HB
      iexact HC
    isplitl [G0]; · iexact G0
    isplitl [G1]; · iexact G1
    isplitl [G2]; · iexact G2
    isplitl [G3]; · iexact G3
    iexact G4
  isplitl [HW']
  · iexists W'; isplitr; · ipureintro; exact fun _ _ => Or.inl trivial
    iexact HW'
  iexists f5'; isplitr
  swap; · iexact H5
  ipureintro; exact funext h5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem tail_sub : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  subst hops
  simp only [hostOps1, List.mem_cons, List.mem_nil_iff, or_false] at hop
  subst hop
  refine Pipeline.sub_tailRefsBut _ _ _ _ (StableHlo.reshape_bufs_sub ..) (fun k => k.elim0) fun b hb hm => ?_
  have hb' : b ≠ main_v1 ∧ b ≠ main_v2 := by clear hm; revert b; decide
  rcases Finset.mem_insert.mp hm with h | h
  · exact StableHlo.devRef_ne_of_ne hb'.1 h
  · exact StableHlo.devRef_ne_of_ne hb'.2 (Finset.mem_singleton.mp h)

abbrev tail (c : Dev nD) : (b : Ref sig .tc) → Buf (Elt F) ((c : Thread nD τ).loc b) := Pipeline.afterTail₀ cfgs (dats m) 0 (V0 m) [hostOps1] c

set_option backward.isDefEq.respectTransparency.types false in
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := tail_sub) (hfresh := sfx_fresh) (hkeep := sfx_keeps)
    (hmain := hmain m Variants.none) (hA := A_eq m) (hin := fun _ => .rfl) (hout := fun _ => .rfl)

/-- A buffer no line writes ends as the region found it. -/
theorem tail_of_ne (c : Dev nD) (b : Ref sig .tc) (h1 : b ≠ main_v2) (h2 : ∀ w, Pipeline.arrRef spec0 w ≠ b) :
    Pipeline.afterTail₀ cfgs (dats m) 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne h1)),
    Pipeline.withArrays_of_ne _ c (V0 m c) _ b h2]

/-- The arguments end as they were. -/
theorem args_of {r : PUnit × MemSt nD τ sig (Elt F)}
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(((h c).2 main_arg0 (Pipeline.mem_restRefs_of main_arg0 (by decide) (by decide))).trans (tail_of_ne m c main_arg0 (by decide) (by decide))).trans (V_main_arg0 m c),
   (((h c).2 main_arg1 (Pipeline.mem_restRefs_of main_arg1 (by decide) (by decide))).trans (tail_of_ne m c main_arg1 (by decide) (by decide))).trans (V_main_arg1 m c),
   (((h c).2 main_arg2 (Pipeline.mem_restRefs_of main_arg2 (by decide) (by decide))).trans (tail_of_ne m c main_arg2 (by decide) (by decide))).trans (V_main_arg2 m c),
   (((h c).2 main_arg3 (Pipeline.mem_restRefs_of main_arg3 (by decide) (by decide))).trans (tail_of_ne m c main_arg3 (by decide) (by decide))).trans (V_main_arg3 m c),
   (((h c).2 main_arg4 (Pipeline.mem_restRefs_of main_arg4 (by decide) (by decide))).trans (tail_of_ne m c main_arg4 (by decide) (by decide))).trans (V_main_arg4 m c)⟩

/-- The program runs, its arguments stay and its semaphores end at rest. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => args_of m h.1 c, h.2⟩) (run_main m ρ)

end Cert.Kernel.Run

end
-- ==== Proof.WordQuiescent.lean ====
module

public import proofs.«01_k».proof.Defs
public import proofs.«01_k».proof.Proof.WordRun

/-! # The kernel's program runs to its end -/

@[expose] public section

noncomputable section

namespace Cert.Proof

open Idealize.ShloMosaic Idealize.SL.Sem

/-- The kernel's program terminates, leaves its arguments as they were, and every semaphore at rest. -/
theorem quiescentKernel : @Cert.quiescent_Kernel Cert.Kernel.Gen.facts := fun m g _ => Cert.Kernel.Run.frame m g

end Cert.Proof

end
-- ==== Proof.Preserves.lean ====
module

public import proofs.«01_k».proof.Defs
public import Idealize.ShloMosaic.Lib.Bf16PairInverse

/-! # The idealized kernel keeps what the kernel does

Each conjunct is one rule of the idealization at the shapes the kernel uses it at. -/

@[expose] public section

noncomputable section

namespace Cert.Proof

open Idealize.ShloMosaic

theorem preserves_ : Cert.preserves_Kernel_KernelIdeal :=
  ⟨IdealRules.bf16_pair.bufferStatement _ _, IdealRules.bf16_pair.statement _ _, IdealRules.bf16_pair.packStatement _,
   IdealRules.bf16_pair.statement _ _, IdealRules.bf16_pair.packStatement _, IdealRules.bf16_pair.statement _ _,
   IdealRules.bf16_pair.statement _ _, IdealRules.bf16_pair.statement _ _, IdealRules.bf16_pair.packStatement _,
   IdealRules.bf16_pair.statement _ _, IdealRules.truncf_extf.statement _ .f32 .bf16⟩

end Cert.Proof

end
-- ==== Proof.Result.lean ====
module

public import proofs.«01_k».proof.Proof.Run
public import Idealize.ShloMosaic.Lib.Pipeline.ValueKit
public import Idealize.ShloMosaic.Lib.StableHlo.Run

/-! # What the kernel's program returns

Its result is the region's array reshaped, and the array is what the region's one point wrote. -/

@[expose] public section

set_option synthInstance.maxSize 4096

noncomputable section

namespace Cert.KernelIdeal.Run

open Cert.KernelIdeal Cert.KernelIdeal.Gen Cert.KernelIdeal.Steps
open Idealize.ShloMosaic Idealize.SL.Sem

variable {F : FTy → Type} [FloatOps F]
variable (m : (ℓ : Loc nD τ sig) → Buf (Elt F) ℓ) (ρ : Dev nD → PrngReg)

attribute [local irreducible] outT in
/-- The region's array at its end. -/
theorem arr_out (c : Dev nD) : (dats m 0 c).arrAt 0 cfg0.N = outT (dataAt m c) :=
  (dats m 0 c).arrAt_eq_of_after_last 0 ⟨0, by decide⟩ (by decide +kernel) _ fun j => by
    rw [after0_0]
    refine congrArg (outT (dataAt m c)) (funext fun a => Fin.ext ?_)
    blk_simp

attribute [local irreducible] outT in
/-- The program's result. -/
theorem tail_out (c : Dev nD) :
    Pipeline.afterTail₀ cfgs (dats m) 0 (V0 m) [hostOps1] c main_v2 = shapeCast S16x1x4096 (outT (dataAt m c)) shapeCasts_S16x4096_S16x1x4096 := by
  unfold Pipeline.afterTail₀
  simp only [hostOps1, List.flatten_cons, List.flatten_nil, List.append_nil, StableHlo.after_cons, StableHlo.after_nil, StableHlo.reshape_result']
  have h := Pipeline.withArrays_arr spec0 launch0.win.arr_inj c (V0 m c) (fun w => (dats m 0 c).arrAt w cfg0.N) 0
  rw [arr_out] at h
  exact congrArg (fun x : Vec F S16x4096 .bf16 => shapeCast S16x1x4096 x shapeCasts_S16x4096_S16x1x4096) h

/-- What the region finds in the reshaped activations. -/
theorem V_v0 (c : Dev nD) : V m c main_v0 = shapeCast S16x11264 (m ((c.tc : Thread nD τ).loc main_arg0)) shapeCasts_S16x1x11264_S16x11264 := by
  show StableHlo.after (List.flatten [hostOps0]) (fun b => m (c, b)) (Proc.devRef .tc main_v0) = _
  simp only [hostOps0, List.flatten_cons, List.flatten_nil, List.append_nil, StableHlo.after_cons, StableHlo.after_nil, StableHlo.reshape_result']
  rfl

/-- The program runs, returns the reshaped array, and its arguments stay. -/
theorem run_out : θ_run defs (onTc (τ := τ) (main (F := F))) ⟨m, fun _ => 0, ρ⟩ (fun r => ∀ c : Dev nD,
      r.2.mem ((c.tc : Thread nD τ).loc main_v2) = shapeCast S16x1x4096 (outT (dataAt m c)) shapeCasts_S16x4096_S16x1x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).2 main_v2 (Pipeline.mem_restRefs_of main_v2 (by decide) (by decide))).trans (tail_out m c), args_of m h.1 c⟩) (run_main m ρ)

end Cert.KernelIdeal.Run

end
-- ==== Proof.Accum.lean ====
module

public import proofs.«01_k».proof.Proof.Body
public import Idealize.ShloMosaic.Lib.Pointwise

/-! # The accumulated rows are sums

Over the extended reals, an accumulated row is the sum of the passes deposited into it. A row that is not
live counts as zero, whatever it holds. -/

@[expose] public section

set_option synthInstance.maxSize 4096

noncomputable section

namespace Cert.KernelIdeal.Accum

open Cert.KernelIdeal Cert.KernelIdeal.Canon Cert.KernelIdeal.Steps
open Idealize.ShloMosaic Idealize.SL.Sem
open K0.Facts₀ Shapes1.Facts₀ Shapes2.Facts₀

/-- A tile's rows of a unit, zero where not live. -/
def val (M : Mxu Ideal) (q : Fin 2) (t : Fin 8) (i : S32x256.Idx) : EReal :=
  if M.live q (Mxu.row (fits8 t) (i 0)) then M.read q (8 * t.val) (fits8 t) i else 0

/-- One pass's product. -/
def prod (D : Data Ideal) (q : Fin 2) (k : Fin k0_t1_loop.trips) (i : Fin 4) (t : Fin 8) : FVec Ideal S32x256 .f32 :=
  FloatOps.mxuPass (φ₁ := .bf16) (DotDims.plain 32 256 256)
    (shapeCast S32x256 (fun j => D.x ((gRect k i).emb j) : Vec Ideal S1x32x256 .bf16) shapeCasts_S1x32x256_S32x256 : FVec Ideal S32x256 .bf16)
    (wPay (fun j => D.w q ((wRect k i t).emb j)) (fun j => D.s q ((sRect k i t).emb j)))

theorem read_passM (D : Data Ideal) (q : Fin 2) (k : Fin k0_t1_loop.trips) (i : Fin 4) (t : Fin 8) (M : Mxu Ideal) (hM : Tidy M) (j : S32x256.Idx) :
    (passM D q k i t M).read q (8 * t.val) (fits8 t) j = val M q t j + prod D q k i t j := by
  unfold passM
  rw [Mxu.read_accLhs]
  show Mxu.deposit _ _ _ = _
  rw [Mxu.live_pushed, Mxu.read_pushed, Mxu.staged_eq, Mxu.reg_pushed_of_none _ _ _ _ _ (hM.1 q (reg8 t))]
  show Mxu.deposit _ _ (prod D q k i t j) = _
  unfold val
  cases M.live q (Mxu.row (fits8 t) (j 0))
  · simp
  · simp

theorem live_passM (D : Data Ideal) (q : Fin 2) (k : Fin k0_t1_loop.trips) (i : Fin 4) (t : Fin 8) (M : Mxu Ideal) (r : Fin 32) :
    (passM D q k i t M).live q (Mxu.row (fits8 t) r) = true := by
  unfold passM
  exact Mxu.live_accLhs_row ..

theorem val_passM (D : Data Ideal) (q : Fin 2) (k : Fin k0_t1_loop.trips) (i : Fin 4) (t : Fin 8) (M : Mxu Ideal) (hM : Tidy M) (j : S32x256.Idx) :
    val (passM D q k i t M) q t j = val M q t j + prod D q k i t j := by
  rw [← read_passM D q k i t M hM j]
  unfold val
  rw [if_pos (live_passM D q k i t M (j 0))]

theorem val_passM_ne (D : Data Ideal) (q q' : Fin 2) (k : Fin k0_t1_loop.trips) (i : Fin 4) (t t' : Fin 8) (M : Mxu Ideal) (j : S32x256.Idx)
    (h : q' ≠ q ∨ t' ≠ t) : val (passM D q k i t M) q' t' j = val M q' t' j := by
  have hj : (j 0).val < 32 := (j 0).isLt
  unfold val passM
  have ht : q' ≠ q ∨ t'.val < t.val ∨ t.val < t'.val := by
    rcases h with h | h
    · exact .inl h
    · exact .inr (by have := Fin.val_ne_of_ne h; omega)
  rw [Mxu.live_accLhs, Mxu.live_pushed, Mxu.read_accLhs_ne _ _ _ _ _ _ _ _ _ (by omega), Mxu.read_pushed, if_neg (c := q' = q ∧ _ ∧ _)]
  rintro ⟨h1, h2, h3⟩
  have : (Mxu.row (fits8 t') (j 0)).val = 4 * (8 * t'.val) + (j 0).val := rfl
  rcases ht with h | h | h
  · exact h h1
  · omega
  · omega

theorem val_tileM (D : Data Ideal) (q : Fin 2) (k : Fin k0_t1_loop.trips) (i : Fin 4) (t : Fin 8) (M : Mxu Ideal) (hM : Tidy M) (j : S32x256.Idx) :
    val (tileM D k i t M) q t j = val M q t j + prod D q k i t j := by
  unfold tileM
  have h01 : (0 : Fin 2) ≠ 1 := by decide
  fin_cases q
  · show val (passM D 1 k i t (passM D 0 k i t M)) 0 t j = _
    rw [val_passM_ne _ _ _ _ _ _ _ _ _ (.inl h01), val_passM _ _ _ _ _ _ hM]; rfl
  · show val (passM D 1 k i t (passM D 0 k i t M)) 1 t j = _
    rw [val_passM _ _ _ _ _ _ (hM.pass D 0 k i t), val_passM_ne _ _ _ _ _ _ _ _ _ (.inl h01.symm)]; rfl

theorem val_tileM_ne (D : Data Ideal) (q : Fin 2) (k : Fin k0_t1_loop.trips) (i : Fin 4) (t t' : Fin 8) (M : Mxu Ideal) (j : S32x256.Idx)
    (h : t' ≠ t) : val (tileM D k i t M) q t' j = val M q t' j := by
  unfold tileM
  rw [val_passM_ne _ _ _ _ _ _ _ _ _ (.inr h), val_passM_ne _ _ _ _ _ _ _ _ _ (.inr h)]

theorem val_tilesM (D : Data Ideal) (q : Fin 2) (k : Fin k0_t1_loop.trips) (i : Fin 4) (t' : Fin 8) (j : S32x256.Idx) :
    ∀ (n t : ℕ) (ht : t + n ≤ 8) (M : Mxu Ideal), Tidy M →
      val (tilesM D k i n t ht M) q t' j = val M q t' j + if t ≤ t'.val ∧ t'.val < t + n then prod D q k i t' j else 0
  | 0, t, ht, M, hM => by
    rw [if_neg (by omega), add_zero]; rfl
  | n + 1, t, ht, M, hM => by
    show val (tilesM D k i n (t + 1) _ (tileM D k i ⟨t, _⟩ M)) q t' j = _
    rw [val_tilesM D q k i t' j n (t + 1) (by omega) _ (hM.tile D k i ⟨t, by omega⟩)]
    by_cases h : t' = ⟨t, by omega⟩
    · subst h
      rw [val_tileM _ _ _ _ _ _ hM, if_neg (by simp), if_pos (by simp), add_zero]
    · have hv : t'.val ≠ t := fun e => h (Fin.ext e)
      rw [val_tileM_ne _ _ _ _ _ _ _ _ h]
      congr 1
      exact if_congr (by omega) rfl rfl

theorem val_groupsM (D : Data Ideal) (q : Fin 2) (k : Fin k0_t1_loop.trips) (t' : Fin 8) (j : S32x256.Idx) :
    ∀ (n i : ℕ) (hi : i + n ≤ 4) (M : Mxu Ideal), Tidy M →
      val (groupsM D k n i hi M) q t' j = val M q t' j + ∑ a : Fin n, prod D q k ⟨i + a.val, by omega⟩ t' j
  | 0, i, hi, M, hM => by simp; rfl
  | n + 1, i, hi, M, hM => by
    show val (groupsM D k n (i + 1) _ (tilesM D k ⟨i, _⟩ 8 0 _ M)) q t' j = _
    rw [val_groupsM D q k t' j n (i + 1) (by omega) _ (Tidy.tiles D k _ 8 0 (by omega) _ hM),
      val_tilesM D q k _ t' j 8 0 (by omega) _ hM, if_pos (by omega), Fin.sum_univ_succ, add_assoc]
    congr 2
    exact Finset.sum_congr rfl fun a _ => congrArg (fun b => prod D q k b t' j) (Fin.ext (by show i + 1 + a.val = i + (a.val + 1); omega))

theorem val_loopM (D : Data Ideal) (q : Fin 2) (t : Fin 8) (j : S32x256.Idx) : ∀ (K : ℕ) (hK : K ≤ 22),
    val (loopM D K) q t j = ∑ k : Fin K, ∑ a : Fin 4, prod D q ⟨k.val, by have : k0_t1_loop.trips = 22 := rfl; omega⟩ a t j
  | 0, _ => by
    unfold val
    rw [if_neg, Finset.univ_eq_empty, Finset.sum_empty]
    have hl : ∀ (q : Fin 2) (n t : ℕ) (ht : t + n ≤ 8) (M : Mxu Ideal), (∀ q R, M.live q R = false) → ∀ q' R, (pops q n t ht M).live q' R = false := by
      intro q n
      induction n with
      | zero => intro t ht M h; exact h
      | succ n ih => intro t ht M h; exact ih _ _ _ fun q' R => by rw [Mxu.live_pop]; split; rfl; exact h q' R
    rw [show loopM D 0 = pops 1 8 0 (by omega) (pops 0 8 0 (by omega) Mxu.init) from rfl,
      hl _ _ _ _ _ (hl _ _ _ _ _ fun _ _ => rfl)]
    simp
  | K + 1, hK => by
    have hk : K < k0_t1_loop.trips := by have : k0_t1_loop.trips = 22 := rfl; omega
    rw [show loopM D (K + 1) = groupsM D ⟨K, hk⟩ 4 0 (by omega) (loopM D K) from dif_pos hk,
      val_groupsM D q _ t j 4 0 (by omega) _ (tidy_loopM D K), val_loopM D q t j K (by omega)]
    refine Eq.trans ?_ (Fin.sum_univ_castSucc _).symm
    refine congrArg₂ (fun a b : EReal => a + b) rfl ?_
    exact Finset.sum_congr rfl fun a _ => congrArg (fun b => prod D q _ b t j) (Fin.ext (by simp))

/-! ## Once a row is live it stays live -/

theorem live_mono_passM (D : Data Ideal) (q : Fin 2) (k : Fin k0_t1_loop.trips) (i : Fin 4) (t : Fin 8) (M : Mxu Ideal) (q' : Fin 2) (R : Fin 1024)
    (h : M.live q' R = true) : (passM D q k i t M).live q' R = true := by
  unfold passM
  rw [Mxu.live_accLhs, Mxu.live_pushed]
  split
  · rfl
  · exact h

theorem live_tileM (D : Data Ideal) (q : Fin 2) (k : Fin k0_t1_loop.trips) (i : Fin 4) (t : Fin 8) (M : Mxu Ideal) (r : Fin 32) :
    (tileM D k i t M).live q (Mxu.row (fits8 t) r) = true := by
  unfold tileM
  fin_cases q
  · exact live_mono_passM _ _ _ _ _ _ _ _ (live_passM _ _ _ _ _ _ _)
  · exact live_passM _ _ _ _ _ _ _

theorem live_mono_tilesM (D : Data Ideal) (k : Fin k0_t1_loop.trips) (i : Fin 4) (q' : Fin 2) (R : Fin 1024) :
    ∀ (n t : ℕ) (ht : t + n ≤ 8) (M : Mxu Ideal), M.live q' R = true → (tilesM D k i n t ht M).live q' R = true
  | 0, _, _, _, h => h
  | n + 1, t, ht, M, h => live_mono_tilesM D k i q' R n (t + 1) (by omega) _ (live_mono_passM _ _ _ _ _ _ _ _ (live_mono_passM _ _ _ _ _ _ _ _ h))

theorem live_tilesM (D : Data Ideal) (q : Fin 2) (k : Fin k0_t1_loop.trips) (i : Fin 4) (t' : Fin 8) (r : Fin 32) :
    ∀ (n t : ℕ) (ht : t + n ≤ 8) (M : Mxu Ideal), t ≤ t'.val → t'.val < t + n → (tilesM D k i n t ht M).live q (Mxu.row (fits8 t') r) = true
  | 0, t, _, _, h1, h2 => by omega
  | n + 1, t, ht, M, h1, h2 => by
    by_cases hv : t = t'.val
    · subst hv
      exact live_mono_tilesM D k i q _ n (t'.val + 1) (by omega) _ (live_tileM D q k i t' M r)
    · exact live_tilesM D q k i t' r n (t + 1) (by omega) _ (by omega) (by omega)

theorem live_loopM (D : Data Ideal) (q : Fin 2) (t : Fin 8) (r : Fin 32) (K : ℕ) (hK : K < 22) :
    (loopM D (K + 1)).live q (Mxu.row (fits8 t) r) = true := by
  have hk : K < k0_t1_loop.trips := hK
  rw [show loopM D (K + 1) = groupsM D ⟨K, hk⟩ 4 0 (by omega) (loopM D K) from dif_pos hk]
  exact live_tilesM D q _ _ t r 8 0 (by omega) _ (by omega) (by omega)

theorem read_outM (M : Mxu Ideal) (q : Fin 2) (t : Fin 8) : ∀ (n : ℕ) (hn : n ≤ 8), n ≤ t.val →
    (outM M n hn).read q (8 * t.val) (fits8 t) = M.read q (8 * t.val) (fits8 t)
  | 0, _, _ => rfl
  | n + 1, hn, h => by
    unfold outM
    rw [Mxu.read_pop_ne _ _ _ _ _ _ _ (.inr (.inr (by omega))), Mxu.read_pop_ne _ _ _ _ _ _ _ (.inr (.inr (by omega)))]
    exact read_outM M q t n (by omega) (by omega)

/-- A unit's sum for a tile, over all groups. -/
def total (D : Data Ideal) (q : Fin 2) (t : Fin 8) : FVec Ideal S32x256 .f32 := fun j =>
  ∑ k : Fin 22, ∑ a : Fin 4, prod D q ⟨k.val, k.isLt⟩ a t j

attribute [local irreducible] loopM in
theorem read_loopM (D : Data Ideal) (q : Fin 2) (t : Fin 8) : (loopM D 22).read q (8 * t.val) (fits8 t) = total D q t := by
  funext j
  have h := val_loopM D q t j 22 le_rfl
  unfold val at h
  rw [if_pos (live_loopM D q t (j 0) 21 (by omega))] at h
  exact h

attribute [local irreducible] loopM in
/-- The tile's value: the activated product of the two sums. -/
theorem yOf_loopM (D : Data Ideal) (t : Fin 8) : yOf (loopM D 22) t = glu (total D 0 t) (total D 1 t) := by
  unfold yOf
  rw [Mxu.read_pop_ne _ _ _ _ _ _ _ (.inl (by decide)), read_outM _ _ _ _ _ le_rfl, read_outM _ _ _ _ _ le_rfl, read_loopM, read_loopM]

end Cert.KernelIdeal.Accum
-- ==== Proof.Lanes.lean ====
module

public import proofs.«01_k».proof.Proof.Canon
public import Idealize.ShloMosaic.Lib.Pointwise

/-! # The lane numbers

The kernel computes which lane each lane reads from with integer operations; here are the numbers they give. -/

@[expose] public section

set_option synthInstance.maxSize 4096

noncomputable section

namespace Cert.KernelIdeal.Values

open Idealize.ShloMosaic Idealize.SL.Sem
open Cert.KernelIdeal.Canon
open K0.Facts₀ Shapes1.Facts₀ Shapes2.Facts₀

theorem dupIdx_apply (h : Fin 2) (a : Fin 8) (b : Fin 128) :
    (normIdx (dupIdx h) (Idealize.ShloMosaic.ix2 a b)).toNat = 64 * h.val + b.val / 2 := by
  revert h a b; decide +kernel

theorem laneParity_apply (a : Fin 16) (b : Fin 128) :
    laneParity (Idealize.ShloMosaic.ix2 a b) = BitVec.ofNat 32 (b.val % 2) := by
  revert a b; decide +kernel

/-- The lane indices of the results' gather, brought into range. -/
def outWrap (d : IVec S16x128 32) : IVec S16x128 32 :=
  shapeCast S16x128 (shapeCast S16x128x1 (select (cmpi .slt d (broadcast S16x128 0#32)) (addi d (broadcast S16x128 128#32)) d) shapeCasts_S16x128_S16x128x1) shapeCasts_S16x128x1_S16x128

theorem outIdx_apply (h : Fin 2) (a : Fin 16) (b : Fin 128) :
    (outWrap (outIdx h) (Idealize.ShloMosaic.ix2 a b)).toNat = 64 * h.val + b.val / 2 := by
  revert h a b; decide +kernel

end Cert.KernelIdeal.Values
-- ==== Proof.Values.lean ====
module

public import proofs.«01_k».proof.Proof.Body
public import proofs.«01_k».proof.Proof.Lanes
public import Idealize.ShloMosaic.Lib.Pointwise
public import Idealize.ShloMosaic.Lib.BitcastFour

/-! # What the kernel's vectors are, element by element

Each of the kernel's re-arrangements of lanes and rows, read at one index, over the extended reals. -/

@[expose] public section

set_option synthInstance.maxSize 4096

noncomputable section

namespace Cert.KernelIdeal.Values

open Cert.KernelIdeal Cert.KernelIdeal.Canon
open Idealize.ShloMosaic Idealize.SL.Sem
open K0.Facts₀ Shapes1.Facts₀ Shapes2.Facts₀

attribute [local irreducible] dupIdx outIdx laneParity normIdx

/-! ## The activations -/

theorem dupHalf_apply (h : Fin 2) (v : FVec Ideal S8x128 .bf16) (a : Fin 8) (b : Fin 128) :
    dupHalf (dupIdx h) v (ix2 a b) = v (ix2 a (⟨64 * h.val + b.val / 2, by omega⟩ : Fin 128)) := by
  unfold dupHalf
  show v _ = _
  congr 1
  funext c
  match c with
  | ⟨0, _⟩ => rfl
  | ⟨1, _⟩ => exact Fin.ext (by show (normIdx (dupIdx h) (ix2 a b)).toNat % 128 = _; rw [dupIdx_apply]; show (64 * h.val + b.val / 2) % 128 = 64 * h.val + b.val / 2; omega)

theorem dup_apply (h : Fin 2) (v : Vec Ideal S16x128 .bf16) (a : Fin 16) (b : Fin 128) :
    dup (dupIdx h) v (ix2 a b) = v (ix2 a (⟨64 * h.val + b.val / 2, by omega⟩ : Fin 128)) := by
  unfold dup
  have ha := a.isLt
  rw [interleaveRows_apply]
  have hr : S16x128.row (ix2 a b) = a.val := rfl
  rw [hr]
  by_cases h2 : a.val % 2 = 0
  · rw [if_pos h2]
    refine Eq.trans (b := dupHalf (dupIdx h) (rowsOfParity 0 S8x128 v bitcasts_S16x128_w16_S8x128_w32) (ix2 (⟨a.val / 2, by omega⟩ : Fin 8) b)) ?_ ?_
    · congr 1; funext c; match c with | ⟨0, _⟩ => rfl | ⟨1, _⟩ => rfl
    · rw [dupHalf_apply, rowsOfParity_apply]
      congr 1; funext c
      match c with
      | ⟨0, _⟩ => exact Fin.ext (by show 2 * (a.val / 2) + 0 = a.val; omega)
      | ⟨1, _⟩ => rfl
  · rw [if_neg h2]
    refine Eq.trans (b := dupHalf (dupIdx h) (rowsOfParity 1 S8x128 v bitcasts_S16x128_w16_S8x128_w32) (ix2 (⟨a.val / 2, by omega⟩ : Fin 8) b)) ?_ ?_
    · congr 1; funext c; match c with | ⟨0, _⟩ => rfl | ⟨1, _⟩ => rfl
    · rw [dupHalf_apply, rowsOfParity_apply]
      congr 1; funext c
      match c with
      | ⟨0, _⟩ => exact Fin.ext (by show 2 * (a.val / 2) + 1 = a.val; omega)
      | ⟨1, _⟩ => rfl

theorem ofNat_eq_iff (a b : ℕ) (ha : a < 2) (hb : b < 2) : IntOp.cmpi .eq (BitVec.ofNat 32 a) (BitVec.ofNat 32 b) = if a = b then 1#1 else 0#1 := by
  have h : ∀ a b : Fin 2, IntOp.cmpi .eq (BitVec.ofNat 32 a.val) (BitVec.ofNat 32 b.val) = if a.val = b.val then 1#1 else 0#1 := by decide
  exact h ⟨a, ha⟩ ⟨b, hb⟩

theorem xPay_apply (X h : Fin 2) (v : Vec Ideal S16x128 .bf16) (a : Fin 16) (b : Fin 128) :
    xPay X h v (ix3 (0 : Fin 1) a b) = if b.val % 2 = X.val then v (ix2 a (⟨64 * h.val + b.val / 2, by omega⟩ : Fin 128)) else (0 : EReal) := by
  unfold xPay
  rw [shapeCast_apply _ _ _ (ix2 a b) (by
    rw [Shape.rowMajor_val_two, Shape.rowMajor_val_three]
    show a.val * 128 + b.val = (0 * 16 + a.val) * 128 + b.val
    omega)]
  · show Scalar.select (IntOp.cmpi .eq (laneParity (ix2 a b)) (BitVec.ofNat 32 X.val)) (dup (dupIdx h) v (ix2 a b)) (Scalar.ofBits .bf16 0x0000#16) = _
    rw [laneParity_apply, dup_apply, ofNat_eq_iff _ _ (by omega) X.isLt]
    split
    · rfl
    · show (Ideal.ofBits .bf16 0x0000#16 : EReal) = 0
      simp

/-- The spread activations at an index. -/
theorem xT_apply (x : Vec Ideal S16x11264 .bf16) (g : Fin 88) (R : Fin 32) (c : Fin 256) :
    Steps.xT x (ix3 g R c) = if c.val % 2 = R.val / 16 then x (ix2 (⟨R.val % 16, by omega⟩ : Fin 16) (⟨128 * g.val + c.val / 2, by omega⟩ : Fin 11264)) else (0 : EReal) := by
  unfold Steps.xT
  refine Eq.trans (xPay_apply _ _ _ (Fin.ofNat 16 R.val) (Fin.ofNat 128 c.val)) ?_
  have e1 : (Fin.ofNat 128 c.val).val % 2 = c.val % 2 := by simp only [Fin.ofNat]; omega
  have e2 : (Fin.ofNat 2 (R.val / 16)).val = R.val / 16 := by simp only [Fin.ofNat]; omega
  refine if_congr (by show (Fin.ofNat 128 c.val).val % 2 = (Fin.ofNat 2 (R.val / 16)).val ↔ _; rw [e1, e2]) ?_ rfl
  congr 1
  funext a
  match a with
  | ⟨0, _⟩ => exact Fin.ext (by show 0 + 1 * (R.val % 16) = R.val % 16; omega)
  | ⟨1, _⟩ => exact Fin.ext (by show 128 * g.val + 1 * (64 * (c.val / 128 % 2) + c.val % 128 / 2) = 128 * g.val + c.val / 2; omega)

/-! ## The results -/

theorem outGather_apply (h : Fin 2) (y : FVec Ideal S16x128 .f32) (a : Fin 16) (b : Fin 128) :
    outGather (outIdx h) y (ix2 a b) = y (ix2 a (⟨64 * h.val + b.val / 2, by omega⟩ : Fin 128)) := by
  unfold outGather
  show y _ = _
  congr 1
  funext c
  match c with
  | ⟨0, _⟩ => rfl
  | ⟨1, _⟩ => exact Fin.ext (by
      show (outWrap (outIdx h) (ix2 a b)).toNat % 128 = _
      rw [outIdx_apply]; show (64 * h.val + b.val / 2) % 128 = 64 * h.val + b.val / 2; omega)

theorem oPay_apply (p h : Fin 2) (y : FVec Ideal S32x256 .f32) (a : Fin 16) (b : Fin 128) :
    oPay p h y (ix2 a b) = y (ix2 (⟨16 * (b.val % 2) + a.val, by omega⟩ : Fin 32) (⟨128 * p.val + (64 * h.val + b.val / 2), by omega⟩ : Fin 256)) := by
  unfold oPay
  show Scalar.select (IntOp.cmpi .eq (laneParity (ix2 a b)) (BitVec.ofNat 32 0)) (outGather (outIdx h) _ (ix2 a b)) (outGather (outIdx h) _ (ix2 a b)) = _
  rw [laneParity_apply, ofNat_eq_iff _ _ (by omega) (by omega), outGather_apply, outGather_apply]
  split
  · refine Eq.trans (b := y _) rfl ?_
    congr 1; funext c
    match c with
    | ⟨0, _⟩ => exact Fin.ext (by show 16 * 0 + a.val = 16 * (b.val % 2) + a.val; omega)
    | ⟨1, _⟩ => rfl
  · refine Eq.trans (b := y _) rfl ?_
    congr 1; funext c
    match c with
    | ⟨0, _⟩ => exact Fin.ext (by show 16 * 1 + a.val = 16 * (b.val % 2) + a.val; omega)
    | ⟨1, _⟩ => rfl

/-- The result at an index. -/
theorem oT_apply (y : Fin 8 → FVec Ideal S32x256 .f32) (r : Fin 16) (n : Fin 4096) :
    Steps.oT y (ix2 r n) = y (⟨n.val / 512, by omega⟩ : Fin 8) (ix2 (⟨16 * (n.val % 2) + r.val, by omega⟩ : Fin 32) (⟨n.val % 512 / 2, by omega⟩ : Fin 256)) := by
  unfold Steps.oT
  refine Eq.trans (oPay_apply _ _ _ r (Fin.ofNat 128 n.val)) ?_
  have e : Fin.ofNat 8 (n.val / 512) = (⟨n.val / 512, by omega⟩ : Fin 8) := Fin.ext (by show n.val / 512 % 8 = n.val / 512; omega)
  show y (Fin.ofNat 8 (n.val / 512)) _ = _
  rw [e]
  congr 1
  funext c
  match c with
  | ⟨0, _⟩ => exact Fin.ext (by show 16 * (n.val % 128 % 2) + r.val = 16 * (n.val % 2) + r.val; omega)
  | ⟨1, _⟩ => exact Fin.ext (by show 128 * (n.val / 256 % 2) + (64 * (n.val / 128 % 2) + n.val % 128 / 2) = n.val % 512 / 2; omega)

end Cert.KernelIdeal.Values
-- ==== Proof.ScaleLanes.lean ====
module

public import proofs.«01_k».proof.Proof.Canon
public import Idealize.ShloMosaic.Lib.Pointwise

/-! # The lane numbers of the scales

The kernel computes which lane each lane reads from with integer operations; here are the numbers they give. -/

@[expose] public section

set_option synthInstance.maxSize 4096

noncomputable section

namespace Cert.KernelIdeal.Values

open Idealize.ShloMosaic Idealize.SL.Sem
open Cert.KernelIdeal.Canon
open K0.Facts₀ Shapes1.Facts₀ Shapes2.Facts₀

/-- The lane indices of the scales' gather, brought into range. -/
def sWrap (d : IVec S44x128 32) : IVec S44x128 32 :=
  shapeCast S44x128 (shapeCast S44x128x1 (select (cmpi .slt d (broadcast S44x128 0#32)) (addi d (broadcast S44x128 128#32)) d) shapeCasts_S44x128_S44x128x1) shapeCasts_S44x128x1_S44x128

theorem sEven_apply (a : Fin 44) (b : Fin 128) :
    (sWrap sEven (Idealize.ShloMosaic.ix2 a b)).toNat = 2 * (b.val % 64) := by
  revert a b; decide +kernel

theorem sOdd_apply (a : Fin 44) (b : Fin 128) :
    (sWrap sOdd (Idealize.ShloMosaic.ix2 a b)).toNat = 2 * (b.val % 64) + 1 := by
  revert a b; decide +kernel

theorem sFirst_apply (a : Fin 44) (b : Fin 128) :
    sFirst (Idealize.ShloMosaic.ix2 a b) = if b.val < 64 then 1#1 else 0#1 := by
  revert a b; decide +kernel

end Cert.KernelIdeal.Values
-- ==== Proof.Scales.lean ====
module

public import proofs.«01_k».proof.Proof.Body
public import proofs.«01_k».proof.Proof.ScaleLanes
public import Idealize.ShloMosaic.Lib.Pointwise

/-! # The pairs of scales, element by element -/

@[expose] public section

set_option synthInstance.maxSize 4096

noncomputable section

namespace Cert.KernelIdeal.Values

open Cert.KernelIdeal Cert.KernelIdeal.Canon
open Idealize.ShloMosaic Idealize.SL.Sem
open K0.Facts₀ Shapes1.Facts₀ Shapes2.Facts₀

attribute [local irreducible] sEven sOdd sFirst

/-- A gather of a scales' block by lanes whose numbers are known. -/
theorem sGather_apply (d : IVec S44x128 32) (par : Fin 2) (v : Vec Ideal S88x128 .bf16) (a : Fin 44) (b : Fin 128) (n : ℕ) (hn : n < 128)
    (h : (sWrap d (ix2 a b)).toNat = n) :
    sGather d par v (ix2 a b) = v (ix2 (⟨2 * a.val + par.val, by omega⟩ : Fin 88) (⟨n, hn⟩ : Fin 128)) := by
  unfold sGather
  show v _ = _
  congr 1
  funext c
  match c with
  | ⟨0, _⟩ => rfl
  | ⟨1, _⟩ => exact Fin.ext (by
      show (sWrap d (ix2 a b)).toNat % 128 = n
      rw [h]; omega)

theorem sPick_apply (d : IVec S44x128 32) (half par : Fin 2) (a b : Vec Ideal S88x128 .bf16) (g : Fin 44) (l : Fin 128)
    (h : (sWrap d (ix2 g l)).toNat = 2 * (l.val % 64) + half.val) :
    sPick d par a b (ix2 g l) = (if l.val < 64 then a else b) (ix2 (⟨2 * g.val + par.val, by omega⟩ : Fin 88) (⟨2 * (l.val % 64) + half.val, by omega⟩ : Fin 128)) := by
  unfold sPick
  show Scalar.select (sFirst (ix2 g l)) _ _ = _
  rw [sFirst_apply, sGather_apply d par a g l _ (by omega) h, sGather_apply d par b g l _ (by omega) h]
  split <;> rfl

/-- A vector with a row axis of one put in. -/
theorem sCast_apply (v : FVec Ideal S44x128 .bf16) (g : Fin 44) (l : Fin 128) :
    shapeCast S1x44x1x128 (shapeCast S1x44x128 v shapeCasts_S44x128_S1x44x128) shapeCasts_S1x44x128_S1x44x1x128 (ix4 (0 : Fin 1) g (0 : Fin 1) l) = v (ix2 g l) := by
  rw [shapeCast_apply _ _ _ (ix3 (0 : Fin 1) g l) (by
    rw [Shape.rowMajor_val_three, Shape.rowMajor_val_four]
    show (0 * 44 + g.val) * 128 + l.val = ((0 * 44 + g.val) * 1 + 0) * 128 + l.val
    omega), shapeCast_apply _ _ _ (ix2 g l) (by
    rw [Shape.rowMajor_val_two, Shape.rowMajor_val_three]
    show g.val * 128 + l.val = (0 * 44 + g.val) * 128 + l.val
    omega)]

theorem sPay_apply (par half : Fin 2) (a b : Vec Ideal S88x128 .bf16) (g : Fin 44) (l : Fin 128) :
    sPay par a b (ix4 (0 : Fin 1) g half l)
      = (if l.val < 64 then a else b) (ix2 (⟨2 * g.val + par.val, by omega⟩ : Fin 88) (⟨2 * (l.val % 64) + half.val, by omega⟩ : Fin 128)) := by
  unfold sPay
  rw [interleaveRows_apply]
  have hr : S1x44x2x128.row (ix4 (0 : Fin 1) g half l) = half.val := rfl
  rw [hr]
  have hix : ∀ v : FVec Ideal S1x44x1x128 .bf16, ∀ i : S1x44x1x128.Idx, (i 1).val = g.val → (i 3).val = l.val → v i = v (ix4 (0 : Fin 1) g (0 : Fin 1) l) := by
    intro v i h1 h3
    congr 1; funext c
    match c with
    | ⟨0, _⟩ => exact Fin.ext (by have : (i 0).val < 1 := (i 0).isLt; show (i 0).val = 0; omega)
    | ⟨1, _⟩ => exact Fin.ext h1
    | ⟨2, _⟩ => exact Fin.ext (by have : (i 2).val < 1 := (i 2).isLt; show (i 2).val = 0; omega)
    | ⟨3, _⟩ => exact Fin.ext h3
  by_cases h2 : half.val % 2 = 0
  · have h0 : half.val = 0 := by omega
    rw [if_pos h2]
    refine (hix _ _ rfl rfl).trans ?_
    rw [sCast_apply]
    exact sPick_apply sEven half par a b g l (by rw [sEven_apply, h0, Nat.add_zero])
  · have h1 : half.val = 1 := by omega
    rw [if_neg h2]
    refine (hix _ _ rfl rfl).trans ?_
    rw [sCast_apply]
    exact sPick_apply sOdd half par a b g l (by rw [sOdd_apply, h1])

/-- The pairs of scales at an index. -/
theorem sT_apply (s : Vec Ideal S88x4096 .bf16) (par half : Fin 2) (g : Fin 44) (j : Fin 2048) :
    Steps.sT s (ix4 par g half j) = s (ix2 (⟨2 * g.val + par.val, by omega⟩ : Fin 88) (⟨2 * j.val + half.val, by omega⟩ : Fin 4096)) := by
  unfold Steps.sT
  refine Eq.trans (sPay_apply par half _ _ g (Fin.ofNat 128 j.val)) ?_
  have e : (Fin.ofNat 128 j.val).val = j.val % 128 := rfl
  by_cases h : (Fin.ofNat 128 j.val).val < 64
  · rw [if_pos h]
    congr 1; funext c
    match c with
    | ⟨0, _⟩ => exact Fin.ext (by show 0 + 1 * (2 * g.val + par.val) = 2 * g.val + par.val; omega)
    | ⟨1, _⟩ => exact Fin.ext (by
        show 128 * (2 * (j.val / 128) % 32) + 1 * (2 * (j.val % 128 % 64) + half.val) = 2 * j.val + half.val
        omega)
  · rw [if_neg h]
    congr 1; funext c
    match c with
    | ⟨0, _⟩ => exact Fin.ext (by show 0 + 1 * (2 * g.val + par.val) = 2 * g.val + par.val; omega)
    | ⟨1, _⟩ => exact Fin.ext (by
        show 128 * ((2 * (j.val / 128) + 1) % 32) + 1 * (2 * (j.val % 128 % 64) + half.val) = 2 * j.val + half.val
        omega)

end Cert.KernelIdeal.Values
-- ==== Proof.Weights.lean ====
module

public import proofs.«01_k».proof.Proof.Body
public import Idealize.ShloMosaic.Lib.Pointwise
public import Idealize.ShloMosaic.Lib.BitcastFour

/-! # A tile's weights, element by element

A byte holds two four-bit codes. The kernel flips each code's top bit and reads it as a signed number, which
is the code less eight; the reference subtracts eight. -/

@[expose] public section

set_option synthInstance.maxSize 4096

noncomputable section

namespace Cert.KernelIdeal.Values

open Cert.KernelIdeal Cert.KernelIdeal.Canon
open Idealize.ShloMosaic Idealize.SL.Sem
open K0.Facts₀ Shapes1.Facts₀ Shapes2.Facts₀

/-- The low or the high code of a byte, less eight. -/
def nib (p : ℕ) (b : BitVec 8) : EReal := (((((if p = 0 then b.toNat % 16 else b.toNat / 16 : ℕ) : ℤ) - 8 : ℤ) : ℝ) : EReal)

theorem srcIdx_two {A B C D : ℕ} {v w : ℕ} (h : (⟨2, ![A, B]⟩ : Shape).Bitcasts v ⟨2, ![C, D]⟩ w) (k : Fin C) (c : Fin D) (p : ℕ) (hp) (k' : Fin A) (c' : Fin B)
    (hk : k'.val = p) (hc : c'.val = c.val) : h.srcIdx (ix2 k c) p hp = ix2 k' c' := by
  funext a
  match a with
  | ⟨0, _⟩ => exact Fin.ext ((h.srcIdx_row _ _ _ ⟨0, Nat.zero_lt_two⟩ rfl).trans hk.symm)
  | ⟨1, _⟩ => exact Fin.ext ((h.srcIdx_other _ _ _ ⟨1, Nat.one_lt_two⟩ (by show ¬ 1 + 2 = 2; omega)).trans hc.symm)

theorem bit88 (p : Fin 32) : (2290649224#32).getLsbD p.val = (136#8).getLsbD (p.val % 8) := by
  revert p; decide +kernel

/-- The words' exclusive or, seen on a byte. -/
theorem xor88 (w : Vec Ideal S128x256 .i8) (k : Fin 128) (c : Fin 256) :
    bitcast S128x256 8 (xori (bitcast S32x256 32 w bitcasts_S128x256_w8_S32x256_w32) (broadcast S32x256 2290649224#32)) bitcasts_S32x256_w32_S128x256_w8 (ix2 k c)
      = IntOp.xori (w (ix2 k c)) 136#8 := by
  have hk := k.isLt
  apply BitVec.eq_of_getLsbD_eq
  intro q hq
  rw [bitcast_getLsbD _ _ _ q hq (by decide)]
  have hr : S128x256.row (ix2 k c) = k.val := rfl
  rw [srcIdx_two bitcasts_S32x256_w32_S128x256_w8 k c _ _ (⟨k.val / 4, by omega⟩ : Fin 32) c (by
    show k.val / 4 = (S128x256.row (ix2 k c) * 8 + q) / 32; rw [hr]; omega) rfl]
  show (bitcast S32x256 32 w _ (ix2 (⟨k.val / 4, by omega⟩ : Fin 32) c) ^^^ 2290649224#32).getLsbD _ = (w (ix2 k c) ^^^ 136#8).getLsbD q
  rw [hr, BitVec.getLsbD_xor, BitVec.getLsbD_xor, bitcast_getLsbD _ _ _ _ (by omega : (k.val * 8 + q) % 32 < 32) (by decide)]
  have hr2 : S32x256.row (ix2 (⟨k.val / 4, by omega⟩ : Fin 32) c) = k.val / 4 := rfl
  rw [srcIdx_two bitcasts_S128x256_w8_S32x256_w32 (⟨k.val / 4, by omega⟩ : Fin 32) c _ _ k c (by rw [hr2]; omega) rfl, hr2,
    bit88 ⟨(k.val * 8 + q) % 32, by omega⟩]
  have e1 : (k.val / 4 * 32 + (k.val * 8 + q) % 32) % 8 = q := by omega
  have e2 : (k.val * 8 + q) % 32 % 8 = q := by omega
  rw [e1]
  show _ = (_ ^^ (136#8).getLsbD q)
  congr 1
  exact congrArg _ e2

/-- The word a byte's two codes are spread to. -/
def spread (b : BitVec 8) : BitVec 32 :=
  have e : BitVec 32 := (IntOp.xori b 136#8).signExtend 32
  IntOp.ori (IntOp.andi (IntOp.shrsi .vector (IntOp.shli .vector e 28#32) 28#32) 65535#32) (IntOp.shli .vector (IntOp.shrsi .vector e 4#32) 16#32)

theorem spread_toInt : ∀ (b : Fin 256) (p : Fin 2), ((spread (BitVec.ofNat 8 b.val)).extractLsb' (16 * p.val) 16).toInt
    = ((if p.val = 0 then b.val % 16 else b.val / 16 : ℕ) : ℤ) - 8 := by
  decide +kernel

/-- The codes' words, read as half words. -/
def codes (w : Vec Ideal S128x256 .i8) : IVec S256x256 16 :=
  have e : IVec S128x256 32 := extsi 32 (bitcast S128x256 8 (xori (bitcast S32x256 32 w bitcasts_S128x256_w8_S32x256_w32) (broadcast S32x256 2290649224#32)) bitcasts_S32x256_w32_S128x256_w8) natLt_8_32
  bitcast S256x256 16 (ori (andi (shrsi (shli e (broadcast S128x256 28#32)) (broadcast S128x256 28#32)) (broadcast S128x256 65535#32)) (shli (shrsi e (broadcast S128x256 4#32)) (broadcast S128x256 16#32))) bitcasts_S128x256_w32_S256x256_w16

theorem codes_apply (w : Vec Ideal S128x256 .i8) (k : Fin 256) (c : Fin 256) :
    codes w (ix2 k c) = (spread (w (ix2 (⟨k.val / 2, by omega⟩ : Fin 128) c))).extractLsb' (16 * (k.val % 2)) 16 := by
  unfold codes
  rw [bitcast_32_16]
  have hr : S256x256.row (ix2 k c) = k.val := rfl
  rw [srcIdx_two bitcasts_S128x256_w32_S256x256_w16 k c _ _ (⟨k.val / 2, by omega⟩ : Fin 128) c (by rw [hr]) rfl, hr]
  refine congrArg (fun x : BitVec 32 => x.extractLsb' (16 * (k.val % 2)) 16) ?_
  unfold spread
  rw [← xor88]
  rfl

theorem sitofp_codes (w : Vec Ideal S128x256 .i8) (k : Fin 256) (c : Fin 256) :
    (sitofp .bf16 (codes w) : FVec Ideal S256x256 .bf16) (ix2 k c) = nib (k.val % 2) (w (ix2 (⟨k.val / 2, by omega⟩ : Fin 128) c)) := by
  show (((codes w (ix2 k c)).toInt : ℝ) : EReal) = _
  rw [codes_apply]
  unfold nib
  have h := spread_toInt ⟨(w (ix2 (⟨k.val / 2, by omega⟩ : Fin 128) c)).toNat, (w (ix2 (⟨k.val / 2, by omega⟩ : Fin 128) c)).isLt⟩ ⟨k.val % 2, by omega⟩
  dsimp only at h
  rw [BitVec.ofNat_toNat, BitVec.setWidth_eq] at h
  rw [h]

/-- A row of scales down a block. -/
def sRow (p : Fin 2) (s : Vec Ideal S1x1x2x256 .bf16) : FVec Ideal S128x256 .bf16 :=
  truncf .bf16 (broadcastTo S128x256 (shapeCast S1x256 (extf .f32 (shapeCast S1x256 (shapeCast S1x1x256 (rowsOfParity p S1x1x1x256 s bitcasts_S1x1x2x256_w16_S1x1x1x256_w32) shapeCasts_S1x1x1x256_S1x1x256) shapeCasts_S1x1x256_S1x256 : FVec Ideal S1x256 .bf16)) shapeCasts_S1x256_S1x256) broadcasts_S1x256_S128x256)

theorem sRow_apply (p : Fin 2) (s : Vec Ideal S1x1x2x256 .bf16) (k : Fin 128) (c : Fin 256) : sRow p s (ix2 k c) = s (ix4 (0 : Fin 1) (0 : Fin 1) p c) := by
  pointwise [sRow]

/-- A tile's weights at an index. -/
theorem wPay_apply (w : Vec Ideal S128x256 .i8) (s : Vec Ideal S1x1x2x256 .bf16) (k : Fin 256) (c : Fin 256) :
    wPay w s (ix2 k c) = nib (k.val % 2) (w (ix2 (⟨k.val / 2, by omega⟩ : Fin 128) c)) * s (ix4 (0 : Fin 1) (0 : Fin 1) (⟨k.val % 2, by omega⟩ : Fin 2) c) := by
  have e : wPay w s = mulf (sitofp .bf16 (codes w)) (interleaveRows S256x256 (sRow 0 s) (sRow 1 s) bitcasts_S256x256_w16_S128x256_w32) := rfl
  rw [e]
  show (sitofp .bf16 (codes w) : FVec Ideal S256x256 .bf16) (ix2 k c) * interleaveRows S256x256 (sRow 0 s) (sRow 1 s) bitcasts_S256x256_w16_S128x256_w32 (ix2 k c) = _
  rw [sitofp_codes, interleaveRows_apply]
  have hr : S256x256.row (ix2 k c) = k.val := rfl
  have hix : ∀ v : FVec Ideal S128x256 .bf16, ∀ i : S128x256.Idx, (i 0).val = k.val / 2 → (i 1).val = c.val → v i = v (ix2 (⟨k.val / 2, by omega⟩ : Fin 128) c) := by
    intro v i h0 h1
    congr 1; funext a
    match a with
    | ⟨0, _⟩ => exact Fin.ext h0
    | ⟨1, _⟩ => exact Fin.ext h1
  rw [hr]
  congr 1
  by_cases h : k.val % 2 = 0
  · rw [if_pos h]
    refine (hix _ _ rfl rfl).trans ((sRow_apply _ _ _ _).trans ?_)
    exact congrArg (fun p => s (ix4 (0 : Fin 1) (0 : Fin 1) p c)) (Fin.ext h.symm)
  · rw [if_neg h]
    refine (hix _ _ rfl rfl).trans ((sRow_apply _ _ _ _).trans ?_)
    exact congrArg (fun p => s (ix4 (0 : Fin 1) (0 : Fin 1) p c)) (Fin.ext (by show 1 = k.val % 2; omega))

end Cert.KernelIdeal.Values
-- ==== Proof.RefValue.lean ====
module

public import proofs.«01_k».proof.Proof.Gen.ReferenceIdeal.Run
public import proofs.«01_k».proof.Proof.Weights
public import Idealize.ShloMosaic.Lib.Pointwise
public import Idealize.ShloMosaic.Lib.StackMember

/-! # The reference's result, element by element -/

@[expose] public section

set_option synthInstance.maxSize 4096

noncomputable section

namespace Cert.ReferenceIdeal.Values

open Cert.ReferenceIdeal Cert.ReferenceIdeal.Gen
open Idealize.ShloMosaic Idealize.SL.Sem
open Cert.KernelIdeal.Values (nib)

theorem eight : Ideal.ofBits .bf16 0x4100#16 = ((8 : ℝ) : EReal) := by
  simp [Ideal.ofBits, Ideal.ieee]
  norm_cast
  norm_num

theorem one : Ideal.ofBits .f32 0x3F800000#32 = 1 := by
  simp [Ideal.ofBits, Ideal.ieee]
  norm_cast
  norm_num

theorem lo_toInt : ∀ b : Fin 256, (IntOp.andi ((BitVec.ofNat 8 b.val).setWidth 32) 15#32).toInt = ((b.val % 16 : ℕ) : ℤ) := by
  decide +kernel
theorem hi_toInt : ∀ b : Fin 256, (IntOp.shrsi .host ((BitVec.ofNat 8 b.val).setWidth 32) 4#32).toInt = ((b.val / 16 : ℕ) : ℤ) := by
  decide +kernel

/-- The low codes. -/
def lo (w : IVec S11264x2048 8) : IVec S11264x2048 32 :=
  andi (extui 32 w natLt_8_32) (broadcastInDim S11264x2048 ![] bcast_S_S11264x2048 (constantI S_ 32 15#32))
/-- The high codes. -/
def hi (w : IVec S11264x2048 8) : IVec S11264x2048 32 :=
  Host.shrsi (extui 32 w natLt_8_32) (broadcastInDim S11264x2048 ![] bcast_S_S11264x2048 (constantI S_ 32 4#32))

/-- The codes less eight. -/
def less (e : IVec S11264x2048 32) : FVec Ideal S11264x2048 .bf16 :=
  subf (sitofp .bf16 e) (broadcastInDim S11264x2048 ![] bcast_S_S11264x2048 (constant S_ .bf16 0x4100#16))

theorem less_lo (w : IVec S11264x2048 8) (i : S11264x2048.Idx) : less (lo w) i = nib 0 (w i) := by
  show ((((lo w i).toInt : ℝ) : EReal) - Ideal.ofBits .bf16 0x4100#16 : EReal) = _
  have h := lo_toInt ⟨(w i).toNat, (w i).isLt⟩
  dsimp only at h
  rw [BitVec.ofNat_toNat, BitVec.setWidth_eq] at h
  have h' : (lo w i).toInt = (((w i).toNat % 16 : ℕ) : ℤ) := h
  rw [eight, h', nib, if_pos rfl, ← EReal.coe_sub]
  push_cast
  rfl

theorem less_hi (w : IVec S11264x2048 8) (i : S11264x2048.Idx) : less (hi w) i = nib 1 (w i) := by
  show ((((hi w i).toInt : ℝ) : EReal) - Ideal.ofBits .bf16 0x4100#16 : EReal) = _
  have h := hi_toInt ⟨(w i).toNat, (w i).isLt⟩
  dsimp only at h
  rw [BitVec.ofNat_toNat, BitVec.setWidth_eq] at h
  have h' : (hi w i).toInt = (((w i).toNat / 16 : ℕ) : ℤ) := h
  rw [eight, h', nib, if_neg (by decide), ← EReal.coe_sub]
  push_cast
  rfl

/-- Weights scaled, a group's rows by one row of scales. -/
def scaled (e : FVec Ideal S11264x2048 .bf16) (s : FVec Ideal S88x2048 .bf16) : FVec Ideal S11264x2048 .bf16 :=
  shapeCast _ (mulf (shapeCast _ e shapeCasts_S11264x2048_S88x128x2048) (broadcastInDim S88x128x2048 ![0, 1, 2] bcast_S88x1x2048_S88x128x2048_0_1_2 (broadcastInDim S88x1x2048 ![0, 2] bcast_S88x2048_S88x1x2048_0_2 s))) shapeCasts_S88x128x2048_S11264x2048

theorem scaled_apply (e : FVec Ideal S11264x2048 .bf16) (s : FVec Ideal S88x2048 .bf16) (κ : Fin 11264) (c : Fin 2048) :
    scaled e s (ix2 κ c) = e (ix2 κ c) * s (ix2 (⟨κ.val / 128, by omega⟩ : Fin 88) c) := by
  unfold scaled
  rw [shapeCast_apply _ _ _ (ix3 (⟨κ.val / 128, by omega⟩ : Fin 88) (⟨κ.val % 128, by omega⟩ : Fin 128) c) (by
    rw [Shape.rowMajor_val_two, Shape.rowMajor_val_three]
    show (κ.val / 128 * 128 + κ.val % 128) * 2048 + c.val = κ.val * 2048 + c.val
    omega)]
  show shapeCast S88x128x2048 e shapeCasts_S11264x2048_S88x128x2048 _ * _ = _
  rw [shapeCast_apply _ _ _ (ix2 κ c) (by
    rw [Shape.rowMajor_val_two, Shape.rowMajor_val_three]
    show κ.val * 2048 + c.val = (κ.val / 128 * 128 + κ.val % 128) * 2048 + c.val
    omega)]
  congr 1
  pointwise

/-- One parity's columns of a projection. -/
def half (x : FVec Ideal S16x11264 .bf16) (e : FVec Ideal S11264x2048 .bf16) (s : FVec Ideal S88x2048 .bf16) : FVec Ideal S16x2048 .f32 :=
  Host.dotGeneral dot_S16x11264_S11264x2048_S16x2048_1_0_0_1_n_n none x (scaled e s)

theorem half_apply (x : FVec Ideal S16x11264 .bf16) (e : FVec Ideal S11264x2048 .bf16) (s : FVec Ideal S88x2048 .bf16) (r : Fin 16) (c : Fin 2048) :
    half x e s (ix2 r c) = ∑ κ : Fin 11264, x (ix2 r κ) * (e (ix2 κ c) * s (ix2 (⟨κ.val / 128, by omega⟩ : Fin 88) c)) := by
  unfold half
  pointwise
  exact Finset.sum_congr rfl fun κ _ => by rw [scaled_apply]

/-- A projection: the two parities' columns beside each other. -/
def proj (x : FVec Ideal S16x11264 .bf16) (w : IVec S11264x2048 8) (s : FVec Ideal S88x4096 .bf16) : FVec Ideal S16x4096 .f32 :=
  shapeCast _ (concatenate S16x2048x2 2 [⟨S16x2048x1, broadcastInDim S16x2048x1 ![0, 1] bcast_S16x2048_S16x2048x1_0_1 (half x (less (lo w)) (Host.slice S88x2048 ![0, 0] ![1, 2] s slicesBy_S88x4096_S88x2048_0s1_0s2))⟩,
    ⟨S16x2048x1, broadcastInDim S16x2048x1 ![0, 1] bcast_S16x2048_S16x2048x1_0_1 (half x (less (hi w)) (Host.slice S88x2048 ![0, 1] ![1, 2] s slicesBy_S88x4096_S88x2048_0s1_1s2))⟩] concatenates_S16x2048x1_S16x2048x1_S16x2048x2_d2) shapeCasts_S16x2048x2_S16x4096

/-- The reference's result. -/
theorem res_eq (m : (ℓ : Loc nD τ sig) → Buf (Elt Ideal) ℓ) (c : Dev nD) :
    Cert.ReferenceIdeal.Value.res_main_v62 m c = shapeCast _ (truncf .bf16
      (mulf (mulf (proj (shapeCast _ (m ((c.tc : Thread nD τ).loc main_arg0)) shapeCasts_S16x1x11264_S16x11264) (m ((c.tc : Thread nD τ).loc main_arg1)) (m ((c.tc : Thread nD τ).loc main_arg2)))
        (Host.divf (broadcastInDim S16x4096 ![] bcast_S_S16x4096 (constant S_ .f32 0x3F800000#32)) (addf (broadcastInDim S16x4096 ![] bcast_S_S16x4096 (constant S_ .f32 0x3F800000#32)) (Host.exp (Host.negf
          (proj (shapeCast _ (m ((c.tc : Thread nD τ).loc main_arg0)) shapeCasts_S16x1x11264_S16x11264) (m ((c.tc : Thread nD τ).loc main_arg1)) (m ((c.tc : Thread nD τ).loc main_arg2))))))))
        (proj (shapeCast _ (m ((c.tc : Thread nD τ).loc main_arg0)) shapeCasts_S16x1x11264_S16x11264) (m ((c.tc : Thread nD τ).loc main_arg3)) (m ((c.tc : Thread nD τ).loc main_arg4)))) bitsLt_bf16_f32) shapeCasts_S16x4096_S16x1x4096 := rfl

theorem proj_apply (x : FVec Ideal S16x11264 .bf16) (w : IVec S11264x2048 8) (s : FVec Ideal S88x4096 .bf16) (r : Fin 16) (n : Fin 4096) :
    proj x w s (ix2 r n) = ∑ κ : Fin 11264, x (ix2 r κ) * (nib (n.val % 2) (w (ix2 κ (⟨n.val / 2, by omega⟩ : Fin 2048))) * s (ix2 (⟨κ.val / 128, by omega⟩ : Fin 88) n)) := by
  unfold proj
  rw [shapeCast_apply _ _ _ (ix3 r (⟨n.val / 2, by omega⟩ : Fin 2048) (⟨n.val % 2, by omega⟩ : Fin 2)) (by
    rw [Shape.rowMajor_val_two, Shape.rowMajor_val_three]
    show (r.val * 2048 + n.val / 2) * 2 + n.val % 2 = r.val * 4096 + n.val
    omega)]
  pointwise
  by_cases h : n.val % 2 = 0
  · rw [dif_pos (by omega), half_apply]
    refine Finset.sum_congr rfl fun κ _ => ?_
    rw [less_lo, show nib (n.val % 2) = nib 0 from congrArg nib h]
    refine congrArg (x (ix2 r κ) * ·) (congrArg (nib 0 (w (ix2 κ ⟨n.val / 2, by omega⟩)) * ·) ?_)
    pointwise
    refine congrArg (fun b => s (ix2 _ b)) ?_
    exact Fin.ext (by show 2 * (n.val / 2) = n.val; omega)
  · rw [dif_neg (by omega), half_apply]
    refine Finset.sum_congr rfl fun κ _ => ?_
    have h1 : n.val % 2 = 1 := by omega
    rw [less_hi, show nib (n.val % 2) = nib 1 from congrArg nib h1]
    refine congrArg (x (ix2 r κ) * ·) (congrArg (nib 1 (w (ix2 κ ⟨n.val / 2, by omega⟩)) * ·) ?_)
    pointwise
    refine congrArg (fun b => s (ix2 _ b)) ?_
    exact Fin.ext (by show 1 + 2 * (n.val / 2) = n.val; omega)

end Cert.ReferenceIdeal.Values
-- ==== Proof.Total.lean ====
module

public import proofs.«01_k».proof.Proof.Accum
public import proofs.«01_k».proof.Proof.Values
public import proofs.«01_k».proof.Proof.Scales
public import proofs.«01_k».proof.Proof.RefValue

/-! # The kernel's sums are the reference's projections

A pass contracts 256 positions, two to a weight byte. Of each two, the activations are zero at the one whose
parity is not the row's, so a row's sum runs over the 128 bytes of a group, and over all the groups it is the
reference's sum. -/

@[expose] public section

set_option synthInstance.maxSize 4096

noncomputable section

namespace Cert.KernelIdeal.Values

open Cert.KernelIdeal Cert.KernelIdeal.Canon Cert.KernelIdeal.Accum
open Cert.KernelIdeal.Steps (Data gRect wRect sRect)
open Idealize.ShloMosaic Idealize.SL.Sem
open K0.Facts₀ Shapes1.Facts₀ Shapes2.Facts₀

/-- A pass's product at an index is a plain sum. -/
theorem mxuPass_apply {φ₁ φ₂ : FTy} {m : ℕ} (A : FVec Ideal ⟨2, ![m, 256]⟩ φ₁) (B : FVec Ideal ⟨2, ![256, 256]⟩ φ₂) (a : Fin m) (b : Fin 256) :
    FloatOps.mxuPass (F := Ideal) (DotDims.plain m 256 256) A B (ix2 a b) = ∑ c : Fin 256, A (ix2 a c) * B (ix2 c b) :=
  Eq.trans (zero_add _).symm (StackMember.dotGeneral_plain_apply none A B a b)

/-- One summand: position `κ` of the contraction, for the output column `2 * C + p`. -/
def term (x : Vec Ideal S16x11264 .bf16) (w : Vec Ideal S11264x2048 .i8) (s : Vec Ideal S88x4096 .bf16) (r : Fin 16) (p : Fin 2) (C : Fin 2048) (κ : Fin 11264) : EReal :=
  x (ix2 r κ) * (nib p.val (w (ix2 κ C)) * s (ix2 (⟨κ.val / 128, by omega⟩ : Fin 88) (⟨2 * C.val + p.val, by omega⟩ : Fin 4096)))

theorem x_at (x : Vec Ideal S16x11264 .bf16) (k : Fin k0_t1_loop.trips) (i : Fin 4) (R : Fin 32) (c : Fin 256) (hg : 4 * k.val + i.val < 88) :
    (shapeCast S32x256 (fun j => Steps.xT x ((gRect k i).emb j) : Vec Ideal S1x32x256 .bf16) shapeCasts_S1x32x256_S32x256 : FVec Ideal S32x256 .bf16) (ix2 R c)
      = Steps.xT x (ix3 (⟨4 * k.val + i.val, hg⟩ : Fin 88) R c) := by
  rw [shapeCast_apply _ _ _ (ix3 (0 : Fin 1) R c) (by
    rw [Shape.rowMajor_val_two, Shape.rowMajor_val_three]
    show (0 * 32 + R.val) * 256 + c.val = R.val * 256 + c.val
    omega)]
  show Steps.xT x _ = _
  refine congrArg (Steps.xT x) (funext fun a => Fin.ext ?_)
  have ho := Cert.KernelIdeal.Gen.k0_off6_eq k i
  rw [Rect.emb_apply]
  show k0_off6 k (BitVec.ofNat 32 i.val) a + 1 * _ = _
  rw [ho]
  match a with
  | ⟨0, _⟩ => show 4 * k.val + i.val + 1 * 0 = 4 * k.val + i.val; omega
  | ⟨1, _⟩ => show 0 + 1 * R.val = R.val; omega
  | ⟨2, _⟩ => show 0 + 1 * c.val = c.val; omega

theorem w_at (w : Vec Ideal S11264x2048 .i8) (k : Fin k0_t1_loop.trips) (i : Fin 4) (t : Fin 8) (j : Fin 128) (c : Fin 256)
    (h1 : 512 * k.val + 128 * i.val + j.val < 11264) (h2 : 256 * t.val + c.val < 2048) :
    w ((wRect k i t).emb (ix2 j c)) = w (ix2 (⟨512 * k.val + 128 * i.val + j.val, h1⟩ : Fin 11264) (⟨256 * t.val + c.val, h2⟩ : Fin 2048)) := by
  refine congrArg w (funext fun a => Fin.ext ?_)
  rw [Rect.emb_apply]
  show offW k i t a + 1 * _ = _
  rw [offW_eq]
  match a with
  | ⟨0, _⟩ => show 512 * k.val + 128 * i.val + 1 * j.val = _; exact congrArg _ (Nat.one_mul _)
  | ⟨1, _⟩ => show 256 * t.val + 1 * c.val = _; exact congrArg _ (Nat.one_mul _)

theorem s_at (s : Vec Ideal S88x4096 .bf16) (k : Fin k0_t1_loop.trips) (i : Fin 4) (t : Fin 8) (p : Fin 2) (c : Fin 256)
    (h1 : 4 * k.val + i.val < 88) (h2 : 2 * (256 * t.val + c.val) + p.val < 4096) :
    Steps.sT s ((sRect k i t).emb (ix4 (0 : Fin 1) (0 : Fin 1) p c)) = s (ix2 (⟨4 * k.val + i.val, h1⟩ : Fin 88) (⟨2 * (256 * t.val + c.val) + p.val, h2⟩ : Fin 4096)) := by
  have e : (sRect k i t).emb (ix4 (0 : Fin 1) (0 : Fin 1) p c)
      = ix4 (⟨i.val % 2, by omega⟩ : Fin 2) (⟨2 * k.val + i.val / 2, by omega⟩ : Fin 44) p (⟨256 * t.val + c.val, by omega⟩ : Fin 2048) := by
    refine funext fun a => Fin.ext ?_
    rw [Rect.emb_apply]
    show offS k i t a + 1 * _ = _
    rw [offS_eq]
    match a with
    | ⟨0, _⟩ => rfl
    | ⟨1, _⟩ => rfl
    | ⟨2, _⟩ => show 0 + 1 * p.val = p.val; omega
    | ⟨3, _⟩ => show 256 * t.val + 1 * c.val = _; exact congrArg _ (Nat.one_mul _)
  rw [e, sT_apply]
  refine congrArg (fun g => s (ix2 g _)) (Fin.ext ?_)
  show 2 * (2 * k.val + i.val / 2) + i.val % 2 = 4 * k.val + i.val
  omega

section
variable (x : Vec Ideal S16x11264 .bf16) (w : Vec Ideal S11264x2048 .i8) (s : Vec Ideal S88x4096 .bf16) (D : Data Ideal) (q : Fin 2)
  (hx : D.x = Steps.xT x) (hw : D.w q = w) (hs : D.s q = Steps.sT s)

include hx hw hs in
theorem prod_apply (k : Fin k0_t1_loop.trips) (hk : k.val < 22) (i : Fin 4) (t : Fin 8) (p : Fin 2) (r : Fin 16) (c : Fin 256) :
    prod D q k i t (ix2 (⟨16 * p.val + r.val, by omega⟩ : Fin 32) c)
      = ∑ j : Fin 128, term x w s r p (⟨256 * t.val + c.val, by omega⟩ : Fin 2048) (⟨512 * k.val + 128 * i.val + j.val, by omega⟩ : Fin 11264) := by
  unfold prod
  rw [mxuPass_apply, Fin.sum_univ_tiles 128 2 rfl]
  refine Finset.sum_congr rfl fun j _ => ?_
  have hi := i.isLt
  have hg : 4 * k.val + i.val < 88 := by omega
  have one : ∀ b : Fin 2, (shapeCast S32x256 (fun j => D.x ((gRect k i).emb j) : Vec Ideal S1x32x256 .bf16) shapeCasts_S1x32x256_S32x256 : FVec Ideal S32x256 .bf16)
        (ix2 (⟨16 * p.val + r.val, by omega⟩ : Fin 32) (⟨j.val * 2 + b.val, by omega⟩ : Fin 256))
      * wPay (fun j => D.w q ((wRect k i t).emb j)) (fun j => D.s q ((sRect k i t).emb j)) (ix2 (⟨j.val * 2 + b.val, by omega⟩ : Fin 256) c)
      = if b = p then term x w s r p (⟨256 * t.val + c.val, by omega⟩ : Fin 2048) (⟨512 * k.val + 128 * i.val + j.val, by omega⟩ : Fin 11264) else 0 := by
    intro b
    rw [hx, hw, hs, x_at x _ _ _ _ hg, xT_apply]
    have hb : (j.val * 2 + b.val) % 2 = b.val := by omega
    have hp : (16 * p.val + r.val) / 16 = p.val := by omega
    by_cases h : b = p
    · subst h
      rw [if_pos rfl, if_pos (hb.trans hp.symm), wPay_apply, w_at w _ _ _ _ _ (by dsimp only; omega) (by omega), s_at s _ _ _ _ _ hg (by dsimp only; omega)]
      unfold term
      have e1 : (j.val * 2 + b.val) / 2 = j.val := by omega
      have e2 : (16 * b.val + r.val) % 16 = r.val := by omega
      have e3 : (512 * k.val + 128 * i.val + j.val) / 128 = 4 * k.val + i.val := by omega
      have e4 : 128 * (4 * k.val + i.val) + j.val = 512 * k.val + 128 * i.val + j.val := by omega
      simp only [hb, e1, e2, e3, e4]
    · rw [if_neg h, if_neg (by dsimp only; rw [hb, hp]; exact fun e => h (Fin.ext e)), zero_mul]
  rw [Fin.sum_univ_two]
  refine (congrArg₂ (· + ·) (one 0) (one 1)).trans ?_
  fin_cases p
  · show (if (0 : Fin 2) = 0 then _ else _) + (if (1 : Fin 2) = 0 then _ else _) = _
    rw [if_pos rfl, if_neg (by decide), add_zero]
  · show (if (0 : Fin 2) = 1 then _ else _) + (if (1 : Fin 2) = 1 then _ else _) = _
    rw [if_pos rfl, if_neg (by decide), zero_add]

include hx hw hs in
theorem total_apply (r : Fin 16) (n : Fin 4096) :
    total D q (⟨n.val / 512, by omega⟩ : Fin 8) (ix2 (⟨16 * (n.val % 2) + r.val, by omega⟩ : Fin 32) (⟨n.val % 512 / 2, by omega⟩ : Fin 256))
      = Cert.ReferenceIdeal.Values.proj x w s (ix2 r n) := by
  have e1 : 256 * (n.val / 512) + n.val % 512 / 2 = n.val / 2 := by omega
  have e2 : 2 * (n.val / 2) + n.val % 2 = n.val := by omega
  rw [Cert.ReferenceIdeal.Values.proj_apply, Fin.sum_univ_tiles 22 512 rfl]
  unfold total
  refine Finset.sum_congr rfl fun k _ => ?_
  rw [Fin.sum_univ_tiles 4 128 rfl]
  refine Finset.sum_congr rfl fun i _ => ?_
  refine (prod_apply x w s D q hx hw hs ⟨k.val, k.isLt⟩ k.isLt i _ ⟨n.val % 2, by omega⟩ r _).trans (Finset.sum_congr rfl fun j _ => ?_)
  have e3 : 512 * k.val + 128 * i.val + j.val = k.val * 512 + (i.val * 128 + j.val) := by omega
  unfold term
  simp only [e1, e2, e3]

end

end Cert.KernelIdeal.Values
-- ==== Proof.Algebraic.lean ====
module

public import proofs.«01_k».proof.Defs
public import proofs.«01_k».proof.Proof.Result
public import proofs.«01_k».proof.Proof.Total

/-! # Kernel and reference return the same extended reals -/

@[expose] public section

set_option synthInstance.maxSize 4096

noncomputable section

namespace Cert.Proof

open Idealize.ShloMosaic Idealize.SL.Sem
open Cert.KernelIdeal.Steps (Data outT yOf loopM)
open Cert.KernelIdeal.Values Cert.KernelIdeal.Accum Cert.ReferenceIdeal.Values

/-- The reference's result before its last reshape. -/
def activated (G U : FVec Ideal Cert.ReferenceIdeal.S16x4096 .f32) : FVec Ideal Cert.ReferenceIdeal.S16x4096 .bf16 :=
  truncf .bf16 (mulf (mulf G
    (Host.divf (broadcastInDim Cert.ReferenceIdeal.S16x4096 ![] Cert.ReferenceIdeal.Gen.bcast_S_S16x4096 (constant Cert.ReferenceIdeal.S_ .f32 0x3F800000#32))
      (addf (broadcastInDim Cert.ReferenceIdeal.S16x4096 ![] Cert.ReferenceIdeal.Gen.bcast_S_S16x4096 (constant Cert.ReferenceIdeal.S_ .f32 0x3F800000#32)) (Host.exp (Host.negf G))))) U) Cert.ReferenceIdeal.Gen.bitsLt_bf16_f32

theorem activated_apply (G U : FVec Ideal Cert.ReferenceIdeal.S16x4096 .f32) (j : Cert.ReferenceIdeal.S16x4096.Idx) :
    activated G U j = G j * Ideal.div 1 (1 + Ideal.exp (-(G j))) * U j := by
  rw [← one]
  rfl

theorem glu_apply (G U : FVec Ideal Cert.KernelIdeal.S32x256 .f32) (j : Cert.KernelIdeal.S32x256.Idx) :
    Cert.KernelIdeal.Canon.glu G U j = G j * Ideal.div 1 (1 + Ideal.exp (-(G j))) * U j := rfl

attribute [local irreducible] loopM in
/-- What the kernel writes is the reference's value. -/
theorem outT_eq (D : Data Ideal) (x : Vec Ideal Cert.KernelIdeal.S16x11264 .bf16) (w : Fin 2 → Vec Ideal Cert.KernelIdeal.S11264x2048 .i8) (s : Fin 2 → Vec Ideal Cert.KernelIdeal.S88x4096 .bf16)
    (hx : D.x = Cert.KernelIdeal.Steps.xT x) (hw : ∀ q, D.w q = w q) (hs : ∀ q, D.s q = Cert.KernelIdeal.Steps.sT (s q)) :
    outT D = activated (proj x (w 0) (s 0)) (proj x (w 1) (s 1)) := by
  funext j
  obtain ⟨r, n, rfl⟩ : ∃ (r : Fin 16) (n : Fin 4096), j = ix2 r n := ⟨j 0, j 1, eq_ix2 j⟩
  rw [activated_apply]
  unfold outT
  rw [oT_apply, yOf_loopM, glu_apply, total_apply x (w 0) (s 0) D 0 hx (hw 0) (hs 0) r n, total_apply x (w 1) (s 1) D 1 hx (hw 1) (hs 1) r n]

attribute [local irreducible] loopM outT in
theorem algebraic : @Cert.algebraic_KernelIdeal_ReferenceIdeal Cert.KernelIdeal.Gen.facts Cert.ReferenceIdeal.Gen.facts := by
  intro m g m' g' _ hm
  refine ⟨fun c => shapeCast Cert.KernelIdeal.S16x1x4096 (outT (Cert.KernelIdeal.Run.dataAt m c)) Cert.KernelIdeal.Gen.shapeCasts_S16x4096_S16x1x4096,
    Cert.KernelIdeal.Run.run_out m g, (θ_run _ _ _).mono (fun r h c => ⟨(h c).1.trans ?_, (h c).2⟩) (Cert.ReferenceIdeal.Value.run m' g')⟩
  obtain ⟨h0, h1, h2, h3, h4⟩ := hm c
  rw [res_eq, h0, h1, h2, h3, h4]
  refine congrArg (fun v : FVec Ideal Cert.ReferenceIdeal.S16x4096 .bf16 => shapeCast Cert.ReferenceIdeal.S16x1x4096 v Cert.ReferenceIdeal.Gen.shapeCasts_S16x4096_S16x1x4096) ?_
  refine (outT_eq (Cert.KernelIdeal.Run.dataAt m c) _
    (fun q => if q = 0 then m ((c.tc : Thread Cert.KernelIdeal.nD Cert.KernelIdeal.τ).loc Cert.KernelIdeal.main_arg1) else m ((c.tc : Thread Cert.KernelIdeal.nD Cert.KernelIdeal.τ).loc Cert.KernelIdeal.main_arg3))
    (fun q => if q = 0 then m ((c.tc : Thread Cert.KernelIdeal.nD Cert.KernelIdeal.τ).loc Cert.KernelIdeal.main_arg2) else m ((c.tc : Thread Cert.KernelIdeal.nD Cert.KernelIdeal.τ).loc Cert.KernelIdeal.main_arg4))
    (congrArg Cert.KernelIdeal.Steps.xT (Cert.KernelIdeal.Run.V_v0 m c)) (fun q => ?_) (fun q => ?_)).symm
  · fin_cases q
    · exact Cert.KernelIdeal.Gen.V_main_arg1 m c
    · exact Cert.KernelIdeal.Gen.V_main_arg3 m c
  · fin_cases q
    · exact congrArg Cert.KernelIdeal.Steps.sT (Cert.KernelIdeal.Gen.V_main_arg2 m c)
    · exact congrArg Cert.KernelIdeal.Steps.sT (Cert.KernelIdeal.Gen.V_main_arg4 m c)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Quiescent
public import proofs.«01_k».proof.Proof.Reference
public import proofs.«01_k».proof.Proof.WordQuiescent
public import proofs.«01_k».proof.Proof.Preserves
public import proofs.«01_k».proof.Proof.Algebraic

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, quiescentKernel, quiescentKernelIdeal,
    quiescentReference, preserves_, algebraic⟩

end Cert.Proof

end
